-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmRefIdeal (m : (ℓ : Loc Cert.MlstmRefIdeal.nD Cert.MlstmRefIdeal.τ Cert.MlstmRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2)
      ∧ r.2.mem ((c.tc : Thread Cert.ProjIn.nD Cert.ProjIn.τ).loc Cert.ProjIn.main_arg3) = m ((c.tc : Thread Cert.ProjIn.nD Cert.ProjIn.τ).loc Cert.ProjIn.main_arg3)
      ∧ r.2.mem ((c.tc : Thread Cert.ProjIn.nD Cert.ProjIn.τ).loc Cert.ProjIn.main_arg4) = m ((c.tc : Thread Cert.ProjIn.nD Cert.ProjIn.τ).loc Cert.ProjIn.main_arg4))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
      ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1)
      ∧ r.2.mem ((c.tc : Thread Cert.ProjInRefIdeal.nD Cert.ProjInRefIdeal.τ).loc Cert.ProjInRefIdeal.main_arg2) = m ((c.tc : Thread Cert.ProjInRefIdeal.nD Cert.ProjInRefIdeal.τ).loc Cert.ProjInRefIdeal.main_arg2)
      ∧ r.2.mem ((c.tc : Thread Cert.ProjInRefIdeal.nD Cert.ProjInRefIdeal.τ).loc Cert.ProjInRefIdeal.main_arg3) = m ((c.tc : Thread Cert.ProjInRefIdeal.nD Cert.ProjInRefIdeal.τ).loc Cert.ProjInRefIdeal.main_arg3)
      ∧ r.2.mem ((c.tc : Thread Cert.ProjInRefIdeal.nD Cert.ProjInRefIdeal.τ).loc Cert.ProjInRefIdeal.main_arg4) = m ((c.tc : Thread Cert.ProjInRefIdeal.nD Cert.ProjInRefIdeal.τ).loc Cert.ProjInRefIdeal.main_arg4))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2)
      ∧ r.2.mem ((c.tc : Thread Cert.ProjOut.nD Cert.ProjOut.τ).loc Cert.ProjOut.main_arg3) = m ((c.tc : Thread Cert.ProjOut.nD Cert.ProjOut.τ).loc Cert.ProjOut.main_arg3)
      ∧ r.2.mem ((c.tc : Thread Cert.ProjOut.nD Cert.ProjOut.τ).loc Cert.ProjOut.main_arg4) = m ((c.tc : Thread Cert.ProjOut.nD Cert.ProjOut.τ).loc Cert.ProjOut.main_arg4)
      ∧ r.2.mem ((c.tc : Thread Cert.ProjOut.nD Cert.ProjOut.τ).loc Cert.ProjOut.main_arg5) = m ((c.tc : Thread Cert.ProjOut.nD Cert.ProjOut.τ).loc Cert.ProjOut.main_arg5)
      ∧ r.2.mem ((c.tc : Thread Cert.ProjOut.nD Cert.ProjOut.τ).loc Cert.ProjOut.main_arg6) = m ((c.tc : Thread Cert.ProjOut.nD Cert.ProjOut.τ).loc Cert.ProjOut.main_arg6)
      ∧ r.2.mem ((c.tc : Thread Cert.ProjOut.nD Cert.ProjOut.τ).loc Cert.ProjOut.main_arg7) = m ((c.tc : Thread Cert.ProjOut.nD Cert.ProjOut.τ).loc Cert.ProjOut.main_arg7))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
      ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
      ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5)
      ∧ r.2.mem ((c.tc : Thread Cert.ProjOutIdeal.nD Cert.ProjOutIdeal.τ).loc Cert.ProjOutIdeal.main_arg6) = m ((c.tc : Thread Cert.ProjOutIdeal.nD Cert.ProjOutIdeal.τ).loc Cert.ProjOutIdeal.main_arg6)
      ∧ r.2.mem ((c.tc : Thread Cert.ProjOutIdeal.nD Cert.ProjOutIdeal.τ).loc Cert.ProjOutIdeal.main_arg7) = m ((c.tc : Thread Cert.ProjOutIdeal.nD Cert.ProjOutIdeal.τ).loc Cert.ProjOutIdeal.main_arg7))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1)
      ∧ r.2.mem ((c.tc : Thread Cert.ProjOutRefIdeal.nD Cert.ProjOutRefIdeal.τ).loc Cert.ProjOutRefIdeal.main_arg2) = m ((c.tc : Thread Cert.ProjOutRefIdeal.nD Cert.ProjOutRefIdeal.τ).loc Cert.ProjOutRefIdeal.main_arg2)
      ∧ r.2.mem ((c.tc : Thread Cert.ProjOutRefIdeal.nD Cert.ProjOutRefIdeal.τ).loc Cert.ProjOutRefIdeal.main_arg3) = m ((c.tc : Thread Cert.ProjOutRefIdeal.nD Cert.ProjOutRefIdeal.τ).loc Cert.ProjOutRefIdeal.main_arg3)
      ∧ r.2.mem ((c.tc : Thread Cert.ProjOutRefIdeal.nD Cert.ProjOutRefIdeal.τ).loc Cert.ProjOutRefIdeal.main_arg4) = m ((c.tc : Thread Cert.ProjOutRefIdeal.nD Cert.ProjOutRefIdeal.τ).loc Cert.ProjOutRefIdeal.main_arg4)
      ∧ r.2.mem ((c.tc : Thread Cert.ProjOutRefIdeal.nD Cert.ProjOutRefIdeal.τ).loc Cert.ProjOutRefIdeal.main_arg5) = m ((c.tc : Thread Cert.ProjOutRefIdeal.nD Cert.ProjOutRefIdeal.τ).loc Cert.ProjOutRefIdeal.main_arg5)
      ∧ r.2.mem ((c.tc : Thread Cert.ProjOutRefIdeal.nD Cert.ProjOutRefIdeal.τ).loc Cert.ProjOutRefIdeal.main_arg6) = m ((c.tc : Thread Cert.ProjOutRefIdeal.nD Cert.ProjOutRefIdeal.τ).loc Cert.ProjOutRefIdeal.main_arg6)
      ∧ r.2.mem ((c.tc : Thread Cert.ProjOutRefIdeal.nD Cert.ProjOutRefIdeal.τ).loc Cert.ProjOutRefIdeal.main_arg7) = m ((c.tc : Thread Cert.ProjOutRefIdeal.nD Cert.ProjOutRefIdeal.τ).loc Cert.ProjOutRefIdeal.main_arg7))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5)
      ∧ r.2.mem ((c.tc : Thread Cert.Mlstm.nD Cert.Mlstm.τ).loc Cert.Mlstm.main_arg6) = m ((c.tc : Thread Cert.Mlstm.nD Cert.Mlstm.τ).loc Cert.Mlstm.main_arg6)
      ∧ r.2.mem ((c.tc : Thread Cert.Mlstm.nD Cert.Mlstm.τ).loc Cert.Mlstm.main_arg7) = m ((c.tc : Thread Cert.Mlstm.nD Cert.Mlstm.τ).loc Cert.Mlstm.main_arg7)
      ∧ r.2.mem ((c.tc : Thread Cert.Mlstm.nD Cert.Mlstm.τ).loc Cert.Mlstm.main_arg8) = m ((c.tc : Thread Cert.Mlstm.nD Cert.Mlstm.τ).loc Cert.Mlstm.main_arg8)
      ∧ r.2.mem ((c.tc : Thread Cert.Mlstm.nD Cert.Mlstm.τ).loc Cert.Mlstm.main_arg9) = m ((c.tc : Thread Cert.Mlstm.nD Cert.Mlstm.τ).loc Cert.Mlstm.main_arg9))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
      ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
      ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7)
      ∧ r.2.mem ((c.tc : Thread Cert.MlstmIdeal.nD Cert.MlstmIdeal.τ).loc Cert.MlstmIdeal.main_arg8) = m ((c.tc : Thread Cert.MlstmIdeal.nD Cert.MlstmIdeal.τ).loc Cert.MlstmIdeal.main_arg8)
      ∧ r.2.mem ((c.tc : Thread Cert.MlstmIdeal.nD Cert.MlstmIdeal.τ).loc Cert.MlstmIdeal.main_arg9) = m ((c.tc : Thread Cert.MlstmIdeal.nD Cert.MlstmIdeal.τ).loc Cert.MlstmIdeal.main_arg9))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5)
      ∧ r.2.mem ((c.tc : Thread Cert.MlstmRefIdeal.nD Cert.MlstmRefIdeal.τ).loc Cert.MlstmRefIdeal.main_arg6) = m ((c.tc : Thread Cert.MlstmRefIdeal.nD Cert.MlstmRefIdeal.τ).loc Cert.MlstmRefIdeal.main_arg6)
      ∧ r.2.mem ((c.tc : Thread Cert.MlstmRefIdeal.nD Cert.MlstmRefIdeal.τ).loc Cert.MlstmRefIdeal.main_arg7) = m ((c.tc : Thread Cert.MlstmRefIdeal.nD Cert.MlstmRefIdeal.τ).loc Cert.MlstmRefIdeal.main_arg7)
      ∧ r.2.mem ((c.tc : Thread Cert.MlstmRefIdeal.nD Cert.MlstmRefIdeal.τ).loc Cert.MlstmRefIdeal.main_arg8) = m ((c.tc : Thread Cert.MlstmRefIdeal.nD Cert.MlstmRefIdeal.τ).loc Cert.MlstmRefIdeal.main_arg8)
      ∧ r.2.mem ((c.tc : Thread Cert.MlstmRefIdeal.nD Cert.MlstmRefIdeal.τ).loc Cert.MlstmRefIdeal.main_arg9) = m ((c.tc : Thread Cert.MlstmRefIdeal.nD Cert.MlstmRefIdeal.τ).loc Cert.MlstmRefIdeal.main_arg9))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v98) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)
      ∧ m' ((c.tc : Thread Cert.ProjInRefIdeal.nD Cert.ProjInRefIdeal.τ).loc Cert.ProjInRefIdeal.main_arg2) = m ((c.tc : Thread Cert.ProjInIdeal.nD Cert.ProjInIdeal.τ).loc Cert.ProjInIdeal.main_arg2)
      ∧ m' ((c.tc : Thread Cert.ProjInRefIdeal.nD Cert.ProjInRefIdeal.τ).loc Cert.ProjInRefIdeal.main_arg3) = m ((c.tc : Thread Cert.ProjInIdeal.nD Cert.ProjInIdeal.τ).loc Cert.ProjInIdeal.main_arg3)
      ∧ m' ((c.tc : Thread Cert.ProjInRefIdeal.nD Cert.ProjInRefIdeal.τ).loc Cert.ProjInRefIdeal.main_arg4) = m ((c.tc : Thread Cert.ProjInIdeal.nD Cert.ProjInIdeal.τ).loc Cert.ProjInIdeal.main_arg4)) →
    ∃ (v0 : (c : Dev Cert.ProjInIdeal.nD) → Buf (Elt Ideal) ((c.tc : Thread Cert.ProjInIdeal.nD Cert.ProjInIdeal.τ).loc Cert.ProjInIdeal.main_v0_0)) (v1 : (c : Dev Cert.ProjInIdeal.nD) → Buf (Elt Ideal) ((c.tc : Thread Cert.ProjInIdeal.nD Cert.ProjInIdeal.τ).loc Cert.ProjInIdeal.main_v0_1)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0_0) = v0 c
          ∧ r.2.mem ((c.tc : Thread Cert.ProjInIdeal.nD Cert.ProjInIdeal.τ).loc Cert.ProjInIdeal.main_v0_1) = v1 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
          ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
          ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v26) = v0 c
          ∧ r.2.mem ((c.tc : Thread Cert.ProjInRefIdeal.nD Cert.ProjInRefIdeal.τ).loc Cert.ProjInRefIdeal.main_v28) = v1 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1)
          ∧ r.2.mem ((c.tc : Thread Cert.ProjInRefIdeal.nD Cert.ProjInRefIdeal.τ).loc Cert.ProjInRefIdeal.main_arg2) = m' ((c.tc : Thread Cert.ProjInRefIdeal.nD Cert.ProjInRefIdeal.τ).loc Cert.ProjInRefIdeal.main_arg2)
          ∧ r.2.mem ((c.tc : Thread Cert.ProjInRefIdeal.nD Cert.ProjInRefIdeal.τ).loc Cert.ProjInRefIdeal.main_arg3) = m' ((c.tc : Thread Cert.ProjInRefIdeal.nD Cert.ProjInRefIdeal.τ).loc Cert.ProjInRefIdeal.main_arg3)
          ∧ r.2.mem ((c.tc : Thread Cert.ProjInRefIdeal.nD Cert.ProjInRefIdeal.τ).loc Cert.ProjInRefIdeal.main_arg4) = m' ((c.tc : Thread Cert.ProjInRefIdeal.nD Cert.ProjInRefIdeal.τ).loc Cert.ProjInRefIdeal.main_arg4))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)
      ∧ m' ((c.tc : Thread Cert.ProjOutRefIdeal.nD Cert.ProjOutRefIdeal.τ).loc Cert.ProjOutRefIdeal.main_arg3) = m ((c.tc : Thread Cert.ProjOutIdeal.nD Cert.ProjOutIdeal.τ).loc Cert.ProjOutIdeal.main_arg3)
      ∧ m' ((c.tc : Thread Cert.ProjOutRefIdeal.nD Cert.ProjOutRefIdeal.τ).loc Cert.ProjOutRefIdeal.main_arg4) = m ((c.tc : Thread Cert.ProjOutIdeal.nD Cert.ProjOutIdeal.τ).loc Cert.ProjOutIdeal.main_arg4)
      ∧ m' ((c.tc : Thread Cert.ProjOutRefIdeal.nD Cert.ProjOutRefIdeal.τ).loc Cert.ProjOutRefIdeal.main_arg5) = m ((c.tc : Thread Cert.ProjOutIdeal.nD Cert.ProjOutIdeal.τ).loc Cert.ProjOutIdeal.main_arg5)
      ∧ m' ((c.tc : Thread Cert.ProjOutRefIdeal.nD Cert.ProjOutRefIdeal.τ).loc Cert.ProjOutRefIdeal.main_arg6) = m ((c.tc : Thread Cert.ProjOutIdeal.nD Cert.ProjOutIdeal.τ).loc Cert.ProjOutIdeal.main_arg6)
      ∧ m' ((c.tc : Thread Cert.ProjOutRefIdeal.nD Cert.ProjOutRefIdeal.τ).loc Cert.ProjOutRefIdeal.main_arg7) = m ((c.tc : Thread Cert.ProjOutIdeal.nD Cert.ProjOutIdeal.τ).loc Cert.ProjOutIdeal.main_arg7)) →
    ∃ (v0 : (c : Dev Cert.ProjOutIdeal.nD) → Buf (Elt Ideal) ((c.tc : Thread Cert.ProjOutIdeal.nD Cert.ProjOutIdeal.τ).loc Cert.ProjOutIdeal.main_v0)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v0) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
          ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
          ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
          ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5)
          ∧ r.2.mem ((c.tc : Thread Cert.ProjOutIdeal.nD Cert.ProjOutIdeal.τ).loc Cert.ProjOutIdeal.main_arg6) = m ((c.tc : Thread Cert.ProjOutIdeal.nD Cert.ProjOutIdeal.τ).loc Cert.ProjOutIdeal.main_arg6)
          ∧ r.2.mem ((c.tc : Thread Cert.ProjOutIdeal.nD Cert.ProjOutIdeal.τ).loc Cert.ProjOutIdeal.main_arg7) = m ((c.tc : Thread Cert.ProjOutIdeal.nD Cert.ProjOutIdeal.τ).loc Cert.ProjOutIdeal.main_arg7))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v32) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1)
          ∧ r.2.mem ((c.tc : Thread Cert.ProjOutRefIdeal.nD Cert.ProjOutRefIdeal.τ).loc Cert.ProjOutRefIdeal.main_arg2) = m' ((c.tc : Thread Cert.ProjOutRefIdeal.nD Cert.ProjOutRefIdeal.τ).loc Cert.ProjOutRefIdeal.main_arg2)
          ∧ r.2.mem ((c.tc : Thread Cert.ProjOutRefIdeal.nD Cert.ProjOutRefIdeal.τ).loc Cert.ProjOutRefIdeal.main_arg3) = m' ((c.tc : Thread Cert.ProjOutRefIdeal.nD Cert.ProjOutRefIdeal.τ).loc Cert.ProjOutRefIdeal.main_arg3)
          ∧ r.2.mem ((c.tc : Thread Cert.ProjOutRefIdeal.nD Cert.ProjOutRefIdeal.τ).loc Cert.ProjOutRefIdeal.main_arg4) = m' ((c.tc : Thread Cert.ProjOutRefIdeal.nD Cert.ProjOutRefIdeal.τ).loc Cert.ProjOutRefIdeal.main_arg4)
          ∧ r.2.mem ((c.tc : Thread Cert.ProjOutRefIdeal.nD Cert.ProjOutRefIdeal.τ).loc Cert.ProjOutRefIdeal.main_arg5) = m' ((c.tc : Thread Cert.ProjOutRefIdeal.nD Cert.ProjOutRefIdeal.τ).loc Cert.ProjOutRefIdeal.main_arg5)
          ∧ r.2.mem ((c.tc : Thread Cert.ProjOutRefIdeal.nD Cert.ProjOutRefIdeal.τ).loc Cert.ProjOutRefIdeal.main_arg6) = m' ((c.tc : Thread Cert.ProjOutRefIdeal.nD Cert.ProjOutRefIdeal.τ).loc Cert.ProjOutRefIdeal.main_arg6)
          ∧ r.2.mem ((c.tc : Thread Cert.ProjOutRefIdeal.nD Cert.ProjOutRefIdeal.τ).loc Cert.ProjOutRefIdeal.main_arg7) = m' ((c.tc : Thread Cert.ProjOutRefIdeal.nD Cert.ProjOutRefIdeal.τ).loc Cert.ProjOutRefIdeal.main_arg7))

def preserves_Mlstm_MlstmIdeal : Prop :=
  IdealRules.named_const.Statement Cert.MlstmIdeal.κ "mask" .f32 0xF149F2CA#32 ⊥

def algebraic_MlstmIdeal_MlstmRefIdeal [hMlstmIdeal : Cert.MlstmIdeal.Facts] [hMlstmRefIdeal : Cert.MlstmRefIdeal.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)
      ∧ m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3)
      ∧ m' ((c.tc : Thread Cert.MlstmRefIdeal.nD Cert.MlstmRefIdeal.τ).loc Cert.MlstmRefIdeal.main_arg4) = m ((c.tc : Thread Cert.MlstmIdeal.nD Cert.MlstmIdeal.τ).loc Cert.MlstmIdeal.main_arg4)
      ∧ m' ((c.tc : Thread Cert.MlstmRefIdeal.nD Cert.MlstmRefIdeal.τ).loc Cert.MlstmRefIdeal.main_arg5) = m ((c.tc : Thread Cert.MlstmIdeal.nD Cert.MlstmIdeal.τ).loc Cert.MlstmIdeal.main_arg5)
      ∧ m' ((c.tc : Thread Cert.MlstmRefIdeal.nD Cert.MlstmRefIdeal.τ).loc Cert.MlstmRefIdeal.main_arg6) = m ((c.tc : Thread Cert.MlstmIdeal.nD Cert.MlstmIdeal.τ).loc Cert.MlstmIdeal.main_arg6)
      ∧ m' ((c.tc : Thread Cert.MlstmRefIdeal.nD Cert.MlstmRefIdeal.τ).loc Cert.MlstmRefIdeal.main_arg7) = m ((c.tc : Thread Cert.MlstmIdeal.nD Cert.MlstmIdeal.τ).loc Cert.MlstmIdeal.main_arg7)
      ∧ m' ((c.tc : Thread Cert.MlstmRefIdeal.nD Cert.MlstmRefIdeal.τ).loc Cert.MlstmRefIdeal.main_arg8) = m ((c.tc : Thread Cert.MlstmIdeal.nD Cert.MlstmIdeal.τ).loc Cert.MlstmIdeal.main_arg8)
      ∧ m' ((c.tc : Thread Cert.MlstmRefIdeal.nD Cert.MlstmRefIdeal.τ).loc Cert.MlstmRefIdeal.main_arg9) = m ((c.tc : Thread Cert.MlstmIdeal.nD Cert.MlstmIdeal.τ).loc Cert.MlstmIdeal.main_arg9)) →
    ∃ (v0 : (c : Dev Cert.MlstmIdeal.nD) → Buf (Elt Ideal) ((c.tc : Thread Cert.MlstmIdeal.nD Cert.MlstmIdeal.τ).loc Cert.MlstmIdeal.main_v12_0)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v12_0) = v0 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
          ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
          ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
          ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7)
          ∧ r.2.mem ((c.tc : Thread Cert.MlstmIdeal.nD Cert.MlstmIdeal.τ).loc Cert.MlstmIdeal.main_arg8) = m ((c.tc : Thread Cert.MlstmIdeal.nD Cert.MlstmIdeal.τ).loc Cert.MlstmIdeal.main_arg8)
          ∧ r.2.mem ((c.tc : Thread Cert.MlstmIdeal.nD Cert.MlstmIdeal.τ).loc Cert.MlstmIdeal.main_arg9) = m ((c.tc : Thread Cert.MlstmIdeal.nD Cert.MlstmIdeal.τ).loc Cert.MlstmIdeal.main_arg9))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v130) = v0 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2)
          ∧ r.2.mem ((c.tc : Thread Cert.MlstmRefIdeal.nD Cert.MlstmRefIdeal.τ).loc Cert.MlstmRefIdeal.main_arg3) = m' ((c.tc : Thread Cert.MlstmRefIdeal.nD Cert.MlstmRefIdeal.τ).loc Cert.MlstmRefIdeal.main_arg3)
          ∧ r.2.mem ((c.tc : Thread Cert.MlstmRefIdeal.nD Cert.MlstmRefIdeal.τ).loc Cert.MlstmRefIdeal.main_arg4) = m' ((c.tc : Thread Cert.MlstmRefIdeal.nD Cert.MlstmRefIdeal.τ).loc Cert.MlstmRefIdeal.main_arg4)
          ∧ r.2.mem ((c.tc : Thread Cert.MlstmRefIdeal.nD Cert.MlstmRefIdeal.τ).loc Cert.MlstmRefIdeal.main_arg5) = m' ((c.tc : Thread Cert.MlstmRefIdeal.nD Cert.MlstmRefIdeal.τ).loc Cert.MlstmRefIdeal.main_arg5)
          ∧ r.2.mem ((c.tc : Thread Cert.MlstmRefIdeal.nD Cert.MlstmRefIdeal.τ).loc Cert.MlstmRefIdeal.main_arg6) = m' ((c.tc : Thread Cert.MlstmRefIdeal.nD Cert.MlstmRefIdeal.τ).loc Cert.MlstmRefIdeal.main_arg6)
          ∧ r.2.mem ((c.tc : Thread Cert.MlstmRefIdeal.nD Cert.MlstmRefIdeal.τ).loc Cert.MlstmRefIdeal.main_arg7) = m' ((c.tc : Thread Cert.MlstmRefIdeal.nD Cert.MlstmRefIdeal.τ).loc Cert.MlstmRefIdeal.main_arg7)
          ∧ r.2.mem ((c.tc : Thread Cert.MlstmRefIdeal.nD Cert.MlstmRefIdeal.τ).loc Cert.MlstmRefIdeal.main_arg8) = m' ((c.tc : Thread Cert.MlstmRefIdeal.nD Cert.MlstmRefIdeal.τ).loc Cert.MlstmRefIdeal.main_arg8)
          ∧ r.2.mem ((c.tc : Thread Cert.MlstmRefIdeal.nD Cert.MlstmRefIdeal.τ).loc Cert.MlstmRefIdeal.main_arg9) = m' ((c.tc : Thread Cert.MlstmRefIdeal.nD Cert.MlstmRefIdeal.τ).loc Cert.MlstmRefIdeal.main_arg9))

def Claim : Prop :=
  ∃ (hFfn : Cert.Ffn.Facts) (hFfnIdeal : Cert.FfnIdeal.Facts) (hFfnRefIdeal : Cert.FfnRefIdeal.Facts) (hProjIn : Cert.ProjIn.Facts) (hProjInIdeal : Cert.ProjInIdeal.Facts) (hProjInRefIdeal : Cert.ProjInRefIdeal.Facts) (hProjOut : Cert.ProjOut.Facts) (hProjOutIdeal : Cert.ProjOutIdeal.Facts) (hProjOutRefIdeal : Cert.ProjOutRefIdeal.Facts) (hMlstm : Cert.Mlstm.Facts) (hMlstmIdeal : Cert.MlstmIdeal.Facts) (hMlstmRefIdeal : Cert.MlstmRefIdeal.Facts),
    quiescent_Ffn (hFfn := hFfn)
    ∧ quiescent_FfnIdeal (hFfnIdeal := hFfnIdeal)
    ∧ quiescent_FfnRefIdeal (hFfnRefIdeal := hFfnRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_Mlstm (hMlstm := hMlstm)
    ∧ quiescent_MlstmIdeal (hMlstmIdeal := hMlstmIdeal)
    ∧ quiescent_MlstmRefIdeal (hMlstmRefIdeal := hMlstmRefIdeal)
    ∧ preserves_Ffn_FfnIdeal
    ∧ algebraic_FfnIdeal_FfnRefIdeal (hFfnIdeal := hFfnIdeal) (hFfnRefIdeal := hFfnRefIdeal)
    ∧ preserves_ProjIn_ProjInIdeal
    ∧ algebraic_ProjInIdeal_ProjInRefIdeal (hProjInIdeal := hProjInIdeal) (hProjInRefIdeal := hProjInRefIdeal)
    ∧ preserves_ProjOut_ProjOutIdeal
    ∧ algebraic_ProjOutIdeal_ProjOutRefIdeal (hProjOutIdeal := hProjOutIdeal) (hProjOutRefIdeal := hProjOutRefIdeal)
    ∧ preserves_Mlstm_MlstmIdeal
    ∧ algebraic_MlstmIdeal_MlstmRefIdeal (hMlstmIdeal := hMlstmIdeal) (hMlstmRefIdeal := hMlstmRefIdeal)
-- ==== Ffn.lean ====
abbrev S16x4096x1024 : Shape := ⟨3, ![16, 4096, 1024]⟩
abbrev S16x1x1024 : Shape := ⟨3, ![16, 1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S1x512x1024 : Shape := ⟨3, ![1, 512, 1024]⟩
abbrev S1x8x1024 : Shape := ⟨3, ![1, 8, 1024]⟩
abbrev S1x1x1024 : Shape := ⟨3, ![1, 1, 1024]⟩
abbrev S528x256 : Shape := ⟨2, ![528, 256]⟩
abbrev S512x2816 : Shape := ⟨2, ![512, 2816]⟩
abbrev S512x1024 : Shape := ⟨2, ![512, 1024]⟩
abbrev S8x1024 : Shape := ⟨2, ![8, 1024]⟩
abbrev S8 : Shape := ⟨1, ![8]⟩
abbrev S8x1 : Shape := ⟨2, ![8, 1]⟩
abbrev S512 : Shape := ⟨1, ![512]⟩
abbrev S512x1 : Shape := ⟨2, ![512, 1]⟩
abbrev S528x1024 : Shape := ⟨2, ![528, 1024]⟩
abbrev S1024x256 : Shape := ⟨2, ![1024, 256]⟩
abbrev S3x256 : Shape := ⟨2, ![3, 256]⟩
abbrev S512x256 : Shape := ⟨2, ![512, 256]⟩
abbrev S1x256 : Shape := ⟨2, ![1, 256]⟩

abbrev nBuf : Space → Nat
  | .hbm => 11
  | .vmem => 23
  | .smem => 0
  | _ => 0

abbrev bufTy : (tb : Table) → Fin (tcTables nBuf tb) → BufTy
  | .hbm, ⟨0, _⟩ => ⟨S16x4096x1024, .f32⟩
  | .hbm, ⟨1, _⟩ => ⟨S16x1x1024, .f32⟩
  | .hbm, ⟨2, _⟩ => ⟨S16x1x1024, .f32⟩
  | .hbm, ⟨3, _⟩ => ⟨S16x1x1024, .f32⟩
  | .hbm, ⟨4, _⟩ => ⟨S1024x5632, .bf16⟩
  | .hbm, ⟨5, _⟩ => ⟨S3x5632, .f32⟩
  | .hbm, ⟨6, _⟩ => ⟨S1x5632, .f32⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x5632, .bf16⟩
  | .local _ .vmem, ⟨13, _⟩ => ⟨S3x5632, .f32⟩
  | .local _ .vmem, ⟨14, _⟩ => ⟨S1x5632, .f32⟩
  | .local _ .vmem, ⟨15, _⟩ => ⟨S2816x1024, .bf16⟩
  | .local _ .vmem, ⟨16, _⟩ => ⟨S1x1024, .f32⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S528x256, .f32⟩
  | .local _ .vmem, ⟨21, _⟩ => ⟨S528x256, .f32⟩
  | .local _ .vmem, ⟨22, _⟩ => ⟨S512x2816, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== FfnRefIdeal.lean ====
abbrev S16x4096x1024 : Shape := ⟨3, ![16, 4096, 1024]⟩
abbrev S16x1x1024 : Shape := ⟨3, ![16, 1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S_ : Shape := ⟨0, ![]⟩
abbrev S16x4096 : Shape := ⟨2, ![16, 4096]⟩
abbrev S16x4096x1 : Shape := ⟨3, ![16, 4096, 1]⟩
abbrev S16x4096x5632 : Shape := ⟨3, ![16, 4096, 5632]⟩
abbrev S16x4098x5632 : Shape := ⟨3, ![16, 4098, 5632]⟩
abbrev S5632 : Shape := ⟨1, ![5632]⟩
abbrev S1x1x5632 : Shape := ⟨3, ![1, 1, 5632]⟩
abbrev S16x4096x2816 : Shape := ⟨3, ![16, 4096, 2816]⟩
abbrev S1x1x1024 : Shape := ⟨3, ![1, 1, 1024]⟩

abbrev nBuf : Space → Nat
  | .hbm => 128
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x1x1024, .f32⟩
  | .hbm, ⟨2, _⟩ => ⟨S16x1x1024, .f32⟩
  | .hbm, ⟨3, _⟩ => ⟨S16x1x1024, .f32⟩
  | .hbm, ⟨4, _⟩ => ⟨S1024x5632, .bf16⟩
  | .hbm, ⟨5, _⟩ => ⟨S3x5632, .f32⟩
  | .hbm, ⟨6, _⟩ => ⟨S1x5632, .f32⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S1024x5632, .f32⟩
  | .hbm, ⟨11, _⟩ => ⟨S2816x1024, .f32⟩
  | .hbm, ⟨12, _⟩ => ⟨S_, .f32⟩
  | .hbm, ⟨13, _⟩ => ⟨S16x4096, .f32⟩
  | .hbm, ⟨14, _⟩ => ⟨S16x4096x1, .f32⟩
  | .hbm, ⟨15, _⟩ => ⟨S_, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S16x4096x1024, .f32⟩
  | .hbm, ⟨21, _⟩ => ⟨S_, .f32⟩
  | .hbm, ⟨22, _⟩ => ⟨S16x4096, .f32⟩
  | .hbm, ⟨23, _⟩ => ⟨S16x4096x1, .f32⟩
  | .hbm, ⟨24, _⟩ => ⟨S_, .f32⟩
  | .hbm, ⟨25, _⟩ => ⟨S16x4096x1, .f32⟩
  | .hbm, ⟨26, _⟩ => ⟨S16x4096x1, .f32⟩
  | .hbm, ⟨27, _⟩ => ⟨S16x4096x1024, .f32⟩
  | .hbm, ⟨28, _⟩ => ⟨S16x4096x1024, .f32⟩
  | .hbm, ⟨29, _⟩ => ⟨S_, .f32⟩
  | .hbm, ⟨30, _⟩ => ⟨S16x4096x1, .f32⟩
  | .hbm, ⟨31, _⟩ => ⟨S16x4096x1, .f32⟩
  | .hbm, ⟨32, _⟩ => ⟨S16x4096x1, .f32⟩
  | .hbm, ⟨33, _⟩ => ⟨S16x4096x1024, .f32⟩
  | .hbm, ⟨34, _⟩ => ⟨S16x4096x1024, .f32⟩
  | .hbm, ⟨35, _⟩ => ⟨S_, .f32⟩
  | .hbm, ⟨36, _⟩ => ⟨S16x1x1024, .f32⟩
  | .hbm, ⟨37, _⟩ => ⟨S16x1x1024, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S16x4096x5632, .f32⟩
  | .hbm, ⟨43, _⟩ => ⟨S_, .i32⟩
  | .hbm, ⟨44, _⟩ => ⟨S_, .f32⟩
  | .hbm, ⟨45, _⟩ => ⟨S16x4098x5632, .f32⟩
  | .hbm, ⟨46, _⟩ => ⟨S16x4096x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S16x4096x5632, .f32⟩
  | .hbm, ⟨51, _⟩ => ⟨S16x4096x5632, .f32⟩
  | .hbm, ⟨52, _⟩ => ⟨S_, .f32⟩
  | .hbm, ⟨53, _⟩ => ⟨S16x4096x5632, .f32⟩
  | .hbm, ⟨54, _⟩ => ⟨S16x4096x5632, .f32⟩
  | .hbm, ⟨55, _⟩ => ⟨S16x4096x5632, .f32⟩
  | .hbm, ⟨56, _⟩ => ⟨S1x5632, .f32⟩
  | .hbm, ⟨57, _⟩ => ⟨S5632, .f32⟩
  | .hbm, ⟨58, _⟩ => ⟨S1x1x5632, .f32⟩
  | .hbm, ⟨59, _⟩ => ⟨S16x4096x5632, .f32⟩
  | .hbm, ⟨60, _⟩ => ⟨S16x4096x5632, .f32⟩
  | .hbm, ⟨61, _⟩ => ⟨S16x4096x5632, .f32⟩
  | .hbm, ⟨62, _⟩ => ⟨S16x4096x5632, .f32⟩
  | .hbm, ⟨63, _⟩ => ⟨S1x5632, .f32⟩
  | .hbm, ⟨64, _⟩ => ⟨S5632, .f32⟩
  | .hbm, ⟨65, _⟩ => ⟨S1x1x5632, .f32⟩
  | .hbm, ⟨66, _⟩ => ⟨S16x4096x5632, .f32⟩
  | .hbm, ⟨67, _⟩ => ⟨S16x4096x5632, .f32⟩
  | .hbm, ⟨68, _⟩ => ⟨S16x4096x5632, .f32⟩
  | .hbm, ⟨69, _⟩ => ⟨S1x1x5632, .f32⟩
  | .hbm, ⟨70, _⟩ => ⟨S16x4096x5632, .f32⟩
  | .hbm, ⟨71, _⟩ => ⟨S16x4096x5632, .f32⟩
  | .hbm, ⟨72, _⟩ => ⟨S16x4096x2816, .f32⟩
  | .hbm, ⟨73, _⟩ => ⟨S16x4096x2816, .f32⟩
  | .hbm, ⟨74, _⟩ => ⟨S16x4096x2816, .f32⟩
  | .hbm, ⟨75, _⟩ => ⟨S16x4096x2816, .f32⟩
  | .hbm, ⟨76, _⟩ => ⟨S_, .f32⟩
  | .hbm, ⟨77, _⟩ => ⟨S16x4096x2816, .f32⟩
  | .hbm, ⟨78, _⟩ => ⟨S16x4096x2816, .f32⟩
  | .hbm, ⟨79, _⟩ => ⟨S16x4096x2816, .f32⟩
  | .hbm, ⟨80, _⟩ => ⟨S_, .f32⟩
  | .hbm, ⟨81, _⟩ => ⟨S16x4096x2816, .f32⟩
  | .hbm, ⟨82, _⟩ => ⟨S16x4096x2816, .f32⟩
  | .hbm, ⟨83, _⟩ => ⟨S16x4096x2816, .f32⟩
  | .hbm, ⟨84, _⟩ => ⟨S_, .f32⟩
  | .hbm, ⟨85, _⟩ => ⟨S16x4096x2816, .f32⟩
  | .hbm, ⟨86, _⟩ => ⟨S16x4096x2816, .f32⟩
  | .hbm, ⟨87, _⟩ => ⟨S_, .f32⟩
  | .hbm, ⟨88, _⟩ => ⟨S16x4096x2816, .f32⟩
  | .hbm, ⟨89, _⟩ => ⟨S16x4096x2816, .f32⟩
  | .hbm, ⟨90, _⟩ => ⟨S16x4096x2816, .f32⟩
  | .hbm, ⟨91, _⟩ => ⟨S16x4096x2816, .f32⟩
  | .hbm, ⟨92, _⟩ => ⟨S16x4096x1024, .f32⟩
  | .hbm, ⟨93, _⟩ => ⟨S_, .f32⟩
  | .hbm, ⟨94, _⟩ => ⟨S16x4096x1024, .f32⟩
  | .hbm, ⟨95, _⟩ => ⟨S16x4096x1024, .f32⟩
  | .hbm, ⟨96, _⟩ => ⟨S16x4096x1024, .f32⟩
  | .hbm, ⟨97, _⟩ => ⟨S16x4096x1024, .f32⟩
  | .hbm, ⟨98, _⟩ => ⟨S16x4096x1024, .f32⟩
  | .hbm, ⟨99, _⟩ => ⟨S_, .f32⟩
  | .hbm, ⟨100, _⟩ => ⟨S16x4096, .f32⟩
  | .hbm, ⟨101, _⟩ => ⟨S16x4096x1, .f32⟩
  | .hbm, ⟨102, _⟩ => ⟨S_, .f32⟩
  | .hbm, ⟨103, _⟩ => ⟨S16x4096x1, .f32⟩
  | .hbm, ⟨104, _⟩ => ⟨S16x4096x1, .f32⟩
  | .hbm, ⟨105, _⟩ => ⟨S16x4096x1024, .f32⟩
  | .hbm, ⟨106, _⟩ => ⟨S16x4096x1024, .f32⟩
  | .hbm, ⟨107, _⟩ => ⟨S16x4096x1024, .f32⟩
  | .hbm, ⟨108, _⟩ => ⟨S_, .f32⟩
  | .hbm, ⟨109, _⟩ => ⟨S16x4096, .f32⟩
  | .hbm, ⟨110, _⟩ => ⟨S16x4096x1, .f32⟩
  | .hbm, ⟨111, _⟩ => ⟨S_, .f32⟩
  | .hbm, ⟨112, _⟩ => ⟨S16x4096x1, .f32⟩
  | .hbm, ⟨113, _⟩ => ⟨S16x4096x1, .f32⟩
  | .hbm, ⟨114, _⟩ => ⟨S16x4096x1024, .f32⟩
  | .hbm, ⟨115, _⟩ => ⟨S16x4096x1024, .f32⟩
  | .hbm, ⟨116, _⟩ => ⟨S_, .f32⟩
  | .hbm, ⟨117, _⟩ => ⟨S16x4096x1, .f32⟩
  | .hbm, ⟨118, _⟩ => ⟨S16x4096x1, .f32⟩
  | .hbm, ⟨119, _⟩ => ⟨S16x4096x1, .f32⟩
  | .hbm, ⟨120, _⟩ => ⟨S16x4096x1024, .f32⟩
  | .hbm, ⟨121, _⟩ => ⟨S16x4096x1024, .f32⟩
  | .hbm, ⟨122, _⟩ => ⟨S1x1x1024, .f32⟩
  | .hbm, ⟨123, _⟩ => ⟨S16x4096x1024, .f32⟩
  | .hbm, ⟨124, _⟩ => ⟨S16x4096x1024, .f32⟩
  | .hbm, ⟨125, _⟩ => ⟨S1x1x1024, .f32⟩
  | .hbm, ⟨126, _⟩ => ⟨S16x4096x1024, .f32⟩
  | .hbm, ⟨127, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_call0_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_7 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_8 : Ref sig .tc := ⟨.hbm, 84, rfl⟩
abbrev main_v63 : Ref sig .tc := ⟨.hbm, 85, rfl⟩
abbrev main_v64 : Ref sig .tc := ⟨.hbm, 86, rfl⟩
abbrev main_cst_9 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_10 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_11 : Ref sig .tc := ⟨.hbm, 99, rfl⟩
abbrev main_v75 : Ref sig .tc := ⟨.hbm, 100, rfl⟩
abbrev main_v76 : Ref sig .tc := ⟨.hbm, 101, rfl⟩
abbrev main_cst_12 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_13 : Ref sig .tc := ⟨.hbm, 108, rfl⟩
abbrev main_v82 : Ref sig .tc := ⟨.hbm, 109, rfl⟩
abbrev main_v83 : Ref sig .tc := ⟨.hbm, 110, rfl⟩
abbrev main_cst_14 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_15 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩

abbrev nD : Nat := 1
abbrev τ : Topo := Topo.v7x

variable {F : FTy → Type} [FloatOps F]
-- ==== ProjIn.lean ====
abbrev S16x4096x1024 : Shape := ⟨3, ![16, 4096, 1024]⟩
abbrev S16x1x1024 : Shape := ⟨3, ![16, 1, 1024]⟩
abbrev S1024x2560 : Shape := ⟨2, ![1024, 2560]⟩
abbrev S1024x128 : Shape := ⟨2, ![1024, 128]⟩
abbrev S16x4096x2560 : Shape := ⟨3, ![16, 4096, 2560]⟩
abbrev S16x4096x128 : Shape := ⟨3, ![16, 4096, 128]⟩
abbrev S1x512x1024 : Shape := ⟨3, ![1, 512, 1024]⟩
abbrev S1x1x1024 : Shape := ⟨3, ![1, 1, 1024]⟩
abbrev S1x512x2560 : Shape := ⟨3, ![1, 512, 2560]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1024x512 : Shape := ⟨2, ![1024, 512]⟩
abbrev S512x512 : Shape := ⟨2, ![512, 512]⟩
abbrev S1x512x512 : Shape := ⟨3, ![1, 512, 512]⟩
abbrev S512x128 : Shape := ⟨2, ![512, 128]⟩

abbrev nBuf : Space → Nat
  | .hbm => 7
  | .vmem => 12
  | .smem => 0
  | _ => 0

abbrev bufTy : (tb : Table) → Fin (tcTables nBuf tb) → BufTy
  | .hbm, ⟨0, _⟩ => ⟨S16x4096x1024, .f32⟩
  | .hbm, ⟨1, _⟩ => ⟨S16x1x1024, .f32⟩
  | .hbm, ⟨2, _⟩ => ⟨S16x1x1024, .f32⟩
  | .hbm, ⟨3, _⟩ => ⟨S1024x2560, .bf16⟩
  | .hbm, ⟨4, _⟩ => ⟨S1024x128, .bf16⟩
  | .hbm, ⟨5, _⟩ => ⟨S16x4096x2560, .bf16⟩
  | .hbm, ⟨6, _⟩ => ⟨S16x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2560, .bf16⟩
  | .local _ .vmem, ⟨7, _⟩ => ⟨S1024x128, .bf16⟩
  | .local _ .vmem, ⟨8, _⟩ => ⟨S1x512x2560, .bf16⟩
  | .local _ .vmem, ⟨9, _⟩ => ⟨S1x512x2560, .bf16⟩
  | .local _ .vmem, ⟨10, _⟩ => ⟨S1x512x128, .f32⟩
  | .local _ .vmem, ⟨11, _⟩ => ⟨S1x512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjInRefIdeal.lean ====
abbrev S16x4096x1024 : Shape := ⟨3, ![16, 4096, 1024]⟩
abbrev S16x1x1024 : Shape := ⟨3, ![16, 1, 1024]⟩
abbrev S1024x2560 : Shape := ⟨2, ![1024, 2560]⟩
abbrev S1024x128 : Shape := ⟨2, ![1024, 128]⟩
abbrev S_ : Shape := ⟨0, ![]⟩
abbrev S16x4096 : Shape := ⟨2, ![16, 4096]⟩
abbrev S16x4096x1 : Shape := ⟨3, ![16, 4096, 1]⟩
abbrev S16x4096x2560 : Shape := ⟨3, ![16, 4096, 2560]⟩
abbrev S16x4096x128 : Shape := ⟨3, ![16, 4096, 128]⟩

abbrev nBuf : Space → Nat
  | .hbm => 40
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x1x1024, .f32⟩
  | .hbm, ⟨2, _⟩ => ⟨S16x1x1024, .f32⟩
  | .hbm, ⟨3, _⟩ => ⟨S1024x2560, .bf16⟩
  | .hbm, ⟨4, _⟩ => ⟨S1024x128, .bf16⟩
  | .hbm, ⟨5, _⟩ => ⟨S_, .f32⟩
  | .hbm, ⟨6, _⟩ => ⟨S16x4096, .f32⟩
  | .hbm, ⟨7, _⟩ => ⟨S16x4096x1, .f32⟩
  | .hbm, ⟨8, _⟩ => ⟨S_, .f32⟩
  | .hbm, ⟨9, _⟩ => ⟨S16x4096x1, .f32⟩
  | .hbm, ⟨10, _⟩ => ⟨S16x4096x1, .f32⟩
  | .hbm, ⟨11, _⟩ => ⟨S16x4096x1024, .f32⟩
  | .hbm, ⟨12, _⟩ => ⟨S16x4096x1024, .f32⟩
  | .hbm, ⟨13, _⟩ => ⟨S16x4096x1024, .f32⟩
  | .hbm, ⟨14, _⟩ => ⟨S_, .f32⟩
  | .hbm, ⟨15, _⟩ => ⟨S16x4096, .f32⟩
  | .hbm, ⟨16, _⟩ => ⟨S16x4096x1, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S16x4096x1024, .f32⟩
  | .hbm, ⟨21, _⟩ => ⟨S16x4096x1024, .f32⟩
  | .hbm, ⟨22, _⟩ => ⟨S_, .f32⟩
  | .hbm, ⟨23, _⟩ => ⟨S16x4096x1, .f32⟩
  | .hbm, ⟨24, _⟩ => ⟨S16x4096x1, .f32⟩
  | .hbm, ⟨25, _⟩ => ⟨S16x4096x1, .f32⟩
  | .hbm, ⟨26, _⟩ => ⟨S16x4096x1024, .f32⟩
  | .hbm, ⟨27, _⟩ => ⟨S16x4096x1024, .f32⟩
  | .hbm, ⟨28, _⟩ => ⟨S_, .f32⟩
  | .hbm, ⟨29, _⟩ => ⟨S16x1x1024, .f32⟩
  | .hbm, ⟨30, _⟩ => ⟨S16x1x1024, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S16x4096x1024, .f32⟩
  | .hbm, ⟨35, _⟩ => ⟨S1024x2560, .f32⟩
  | .hbm, ⟨36, _⟩ => ⟨S16x4096x2560, .f32⟩
  | .hbm, ⟨37, _⟩ => ⟨S16x4096x2560, .bf16⟩
  | .hbm, ⟨38, _⟩ => ⟨S1024x128, .f32⟩
  | .hbm, ⟨39, _⟩ => ⟨S16x4096x128, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== ProjOut.lean ====
abbrev S16x4096x256 : Shape := ⟨3, ![16, 4096, 256]⟩
abbrev S16x4096x512 : Shape := ⟨3, ![16, 4096, 512]⟩
abbrev S16x4096x1024 : Shape := ⟨3, ![16, 4096, 1024]⟩
abbrev S16x1x1024 : Shape := ⟨3, ![16, 1, 1024]⟩
abbrev S1024x1024 : Shape := ⟨2, ![1024, 1024]⟩
abbrev S1x1024 : Shape := ⟨2, ![1, 1024]⟩
abbrev S1x512x256 : Shape := ⟨3, ![1, 512, 256]⟩
abbrev S1x512x512 : Shape := ⟨3, ![1, 512, 512]⟩
abbrev S1x512x1024 : Shape := ⟨3, ![1, 512, 1024]⟩
abbrev S1x1x1024 : Shape := ⟨3, ![1, 1, 1024]⟩
abbrev S256x1024 : Shape := ⟨2, ![256, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 17
  | .smem => 0
  | _ => 0

abbrev bufTy : (tb : Table) → Fin (tcTables nBuf tb) → BufTy
  | .hbm, ⟨0, _⟩ => ⟨S16x4096x256, .bf16⟩
  | .hbm, ⟨1, _⟩ => ⟨S16x4096x256, .bf16⟩
  | .hbm, ⟨2, _⟩ => ⟨S16x4096x512, .bf16⟩
  | .hbm, ⟨3, _⟩ => ⟨S16x4096x1024, .f32⟩
  | .hbm, ⟨4, _⟩ => ⟨S16x1x1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S16x4096x1024, .f32⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .bf16⟩
  | .local _ .vmem, ⟨11, _⟩ => ⟨S256x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S16x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ProjOutRefIdeal.lean ====
abbrev S16x4096x256 : Shape := ⟨3, ![16, 4096, 256]⟩
abbrev S16x4096x512 : Shape := ⟨3, ![16, 4096, 512]⟩
abbrev S16x4096x1024 : Shape := ⟨3, ![16, 4096, 1024]⟩
abbrev S16x1x1024 : Shape := ⟨3, ![16, 1, 1024]⟩
abbrev S1024x1024 : Shape := ⟨2, ![1024, 1024]⟩
abbrev S1x1024 : Shape := ⟨2, ![1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16x4096x256, .bf16⟩
  | .hbm, ⟨1, _⟩ => ⟨S16x4096x256, .bf16⟩
  | .hbm, ⟨2, _⟩ => ⟨S16x4096x512, .bf16⟩
  | .hbm, ⟨3, _⟩ => ⟨S16x4096x1024, .f32⟩
  | .hbm, ⟨4, _⟩ => ⟨S16x1x1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S16x4096x1024, .bf16⟩
  | .hbm, ⟨9, _⟩ => ⟨S16x4096x1024, .f32⟩
  | .hbm, ⟨10, _⟩ => ⟨S_, .f32⟩
  | .hbm, ⟨11, _⟩ => ⟨S16x4096x1024, .f32⟩
  | .hbm, ⟨12, _⟩ => ⟨S16x4096x1024, .f32⟩
  | .hbm, ⟨13, _⟩ => ⟨S1024x1024, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S16x4096x1024, .f32⟩
  | .hbm, ⟨18, _⟩ => ⟨S_, .f32⟩
  | .hbm, ⟨19, _⟩ => ⟨S16x4096, .f32⟩
  | .hbm, ⟨20, _⟩ => ⟨S16x4096x1, .f32⟩
  | .hbm, ⟨21, _⟩ => ⟨S_, .f32⟩
  | .hbm, ⟨22, _⟩ => ⟨S16x4096x1, .f32⟩
  | .hbm, ⟨23, _⟩ => ⟨S16x4096x1, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S_, .f32⟩
  | .hbm, ⟨28, _⟩ => ⟨S16x4096, .f32⟩
  | .hbm, ⟨29, _⟩ => ⟨S16x4096x1, .f32⟩
  | .hbm, ⟨30, _⟩ => ⟨S_, .f32⟩
  | .hbm, ⟨31, _⟩ => ⟨S16x4096x1, .f32⟩
  | .hbm, ⟨32, _⟩ => ⟨S16x4096x1, .f32⟩
  | .hbm, ⟨33, _⟩ => ⟨S16x4096x1024, .f32⟩
  | .hbm, ⟨34, _⟩ => ⟨S16x4096x1024, .f32⟩
  | .hbm, ⟨35, _⟩ => ⟨S_, .f32⟩
  | .hbm, ⟨36, _⟩ => ⟨S16x4096x1, .f32⟩
  | .hbm, ⟨37, _⟩ => ⟨S16x4096x1, .f32⟩
  | .hbm, ⟨38, _⟩ => ⟨S16x4096x1, .f32⟩
  | .hbm, ⟨39, _⟩ => ⟨S16x4096x1024, .f32⟩
  | .hbm, ⟨40, _⟩ => ⟨S16x4096x1024, .f32⟩
  | .hbm, ⟨41, _⟩ => ⟨S1x1x1024, .f32⟩
  | .hbm, ⟨42, _⟩ => ⟨S16x4096x1024, .f32⟩
  | .hbm, ⟨43, _⟩ => ⟨S16x4096x1024, .f32⟩
  | .hbm, ⟨44, _⟩ => ⟨S1x1x1024, .f32⟩
  | .hbm, ⟨45, _⟩ => ⟨S16x4096x1024, .f32⟩
  | .hbm, ⟨46, _⟩ => ⟨S16x4096x1024, .f32⟩
  | _, _ => ⟨S16x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Mlstm.lean ====
abbrev S16x4096x2560 : Shape := ⟨3, ![16, 4096, 2560]⟩
abbrev S16x4096x128 : Shape := ⟨3, ![16, 4096, 128]⟩
abbrev S3x1024 : Shape := ⟨2, ![3, 1024]⟩
abbrev S16 : Shape := ⟨1, ![16]⟩
abbrev S16x4x128x128 : Shape := ⟨4, ![16, 4, 128, 128]⟩
abbrev S16x4x128 : Shape := ⟨3, ![16, 4, 128]⟩
abbrev S16x4 : Shape := ⟨2, ![16, 4]⟩
abbrev S_ : Shape := ⟨0, ![]⟩
abbrev S128 : Shape := ⟨1, ![128]⟩
abbrev S1x128 : Shape := ⟨2, ![1, 128]⟩
abbrev S16x4x128x1 : Shape := ⟨4, ![16, 4, 128, 1]⟩
abbrev S16x4x128x256 : Shape := ⟨4, ![16, 4, 128, 256]⟩
abbrev S16x4x1x1 : Shape := ⟨4, ![16, 4, 1, 1]⟩
abbrev S16x4x8x128 : Shape := ⟨4, ![16, 4, 8, 128]⟩
abbrev S16x4096x512 : Shape := ⟨3, ![16, 4096, 512]⟩
abbrev S1x4096x128 : Shape := ⟨3, ![1, 4096, 128]⟩
abbrev S3x128 : Shape := ⟨2, ![3, 128]⟩
abbrev S1x1x128x256 : Shape := ⟨4, ![1, 1, 128, 256]⟩
abbrev S1x1x8x128 : Shape := ⟨4, ![1, 1, 8, 128]⟩
abbrev S4112x128 : Shape := ⟨2, ![4112, 128]⟩
abbrev S4096x128 : Shape := ⟨2, ![4096, 128]⟩
abbrev S128x256 : Shape := ⟨2, ![128, 256]⟩
abbrev S8x128 : Shape := ⟨2, ![8, 128]⟩
abbrev S1x512x128 : Shape := ⟨3, ![1, 512, 128]⟩
abbrev S512x128 : Shape := ⟨2, ![512, 128]⟩
abbrev S128x128 : Shape := ⟨2, ![128, 128]⟩
abbrev S1x1 : Shape := ⟨2, ![1, 1]⟩
abbrev S1x128x128 : Shape := ⟨3, ![1, 128, 128]⟩
abbrev S128x1 : Shape := ⟨2, ![128, 1]⟩
abbrev S256x256 : Shape := ⟨2, ![256, 256]⟩
abbrev S1 : Shape := ⟨1, ![1]⟩

abbrev nBuf : Space → Nat
  | .hbm => 29
  | .vmem => 40
  | .smem => 0
  | _ => 0

abbrev bufTy : (tb : Table) → Fin (tcTables nBuf tb) → BufTy
  | .hbm, ⟨0, _⟩ => ⟨S16x4096x2560, .bf16⟩
  | .hbm, ⟨1, _⟩ => ⟨S16x4096x128, .f32⟩
  | .hbm, ⟨2, _⟩ => ⟨S3x1024, .f32⟩
  | .hbm, ⟨3, _⟩ => ⟨S16, .f32⟩
  | .hbm, ⟨4, _⟩ => ⟨S16x4x128x128, .f32⟩
  | .hbm, ⟨5, _⟩ => ⟨S16x4x128, .f32⟩
  | .hbm, ⟨6, _⟩ => ⟨S16x4, .f32⟩
  | .hbm, ⟨7, _⟩ => ⟨S16x4x128x128, .f32⟩
  | .hbm, ⟨8, _⟩ => ⟨S16x4x128, .f32⟩
  | .hbm, ⟨9, _⟩ => ⟨S16x4, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S16x4x128x1, .f32⟩
  | .hbm, ⟨15, _⟩ => ⟨S16x4x128x128, .f32⟩
  | .hbm, ⟨16, _⟩ => ⟨S16x4x128x256, .f32⟩
  | .hbm, ⟨17, _⟩ => ⟨S16x4x1x1, .f32⟩
  | .hbm, ⟨18, _⟩ => ⟨S16x4x8x128, .f32⟩
  | .hbm, ⟨19, _⟩ => ⟨S16x4x128x1, .f32⟩
  | .hbm, ⟨20, _⟩ => ⟨S16x4x128x128, .f32⟩
  | .hbm, ⟨21, _⟩ => ⟨S16x4x128x256, .f32⟩
  | .hbm, ⟨22, _⟩ => ⟨S16x4x1x1, .f32⟩
  | .hbm, ⟨23, _⟩ => ⟨S16x4x8x128, .f32⟩
  | .hbm, ⟨24, _⟩ => ⟨S16x4096x512, .bf16⟩
  | .hbm, ⟨25, _⟩ => ⟨S16x4x128x256, .f32⟩
  | .hbm, ⟨26, _⟩ => ⟨S16x4x8x128, .f32⟩
  | .hbm, ⟨27, _⟩ => ⟨S16x4x128x256, .f32⟩
  | .hbm, ⟨28, _⟩ => ⟨S16x4x8x128, .f32⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .f32⟩
  | .local _ .vmem, ⟨9, _⟩ => ⟨S1x4096x128, .f32⟩
  | .local _ .vmem, ⟨10, _⟩ => ⟨S3x128, .f32⟩
  | .local _ .vmem, ⟨11, _⟩ => ⟨S3x128, .f32⟩
  | .local _ .vmem, ⟨12, _⟩ => ⟨S3x128, .f32⟩
  | .local _ .vmem, ⟨13, _⟩ => ⟨S3x128, .f32⟩
  | .local _ .vmem, ⟨14, _⟩ => ⟨S1x128, .f32⟩
  | .local _ .vmem, ⟨15, _⟩ => ⟨S1x1x128x256, .f32⟩
  | .local _ .vmem, ⟨16, _⟩ => ⟨S1x1x128x256, .f32⟩
  | .local _ .vmem, ⟨17, _⟩ => ⟨S1x1x8x128, .f32⟩
  | .local _ .vmem, ⟨18, _⟩ => ⟨S1x1x8x128, .f32⟩
  | .local _ .vmem, ⟨19, _⟩ => ⟨S1x1x128x256, .f32⟩
  | .local _ .vmem, ⟨20, _⟩ => ⟨S1x1x128x256, .f32⟩
  | .local _ .vmem, ⟨21, _⟩ => ⟨S1x1x8x128, .f32⟩
  | .local _ .vmem, ⟨22, _⟩ => ⟨S1x1x8x128, .f32⟩
  | .local _ .vmem, ⟨23, _⟩ => ⟨S1x4096x128, .bf16⟩
  | .local _ .vmem, ⟨24, _⟩ => ⟨S1x4096x128, .bf16⟩
  | .local _ .vmem, ⟨25, _⟩ => ⟨S1x1x128x256, .f32⟩
  | .local _ .vmem, ⟨26, _⟩ => ⟨S1x1x128x256, .f32⟩
  | .local _ .vmem, ⟨27, _⟩ => ⟨S1x1x8x128, .f32⟩
  | .local _ .vmem, ⟨28, _⟩ => ⟨S1x1x8x128, .f32⟩
  | .local _ .vmem, ⟨29, _⟩ => ⟨S1x1x128x256, .f32⟩
  | .local _ .vmem, ⟨30, _⟩ => ⟨S1x1x128x256, .f32⟩
  | .local _ .vmem, ⟨31, _⟩ => ⟨S1x1x8x128, .f32⟩
  | .local _ .vmem, ⟨32, _⟩ => ⟨S1x1x8x128, .f32⟩
  | .local _ .vmem, ⟨33, _⟩ => ⟨S4112x128, .f32⟩
  | .local _ .vmem, ⟨34, _⟩ => ⟨S4096x128, .bf16⟩
  | .local _ .vmem, ⟨35, _⟩ => ⟨S4096x128, .bf16⟩
  | .local _ .vmem, ⟨36, _⟩ => ⟨S4096x128, .f32⟩
  | .local _ .vmem, ⟨37, _⟩ => ⟨S4096x128, .f32⟩
  | .local _ .vmem, ⟨38, _⟩ => ⟨S128x256, .f32⟩
  | .local _ .vmem, ⟨39, _⟩ => ⟨S128x256, .f32⟩
  | _, _ => ⟨S16x4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_scratch5 : Ref sig .tc := ⟨.vmem, 38, rfl⟩
abbrev cc0_scratch6 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_233 : BitVec 32 := 0#32
  let c32_i32 : BitVec 32 := 32#32
  let v504 : BitVec 32 := Scalar.addi c0_i32_233 c32_i32
  let c1_i32_234 : BitVec 32 := 1#32
  ⟨c0_i32_233, v504, c1_i32_234⟩
def k0_mult1 (k0_t1 : Fin k0_t1_loop.trips) : BitVec 32 :=
  let c0_i32_233 : BitVec 32 := 0#32
  let c1_i32_234 : BitVec 32 := 1#32
  let arg26 : BitVec 32 := Scf.iv c0_i32_233 c1_i32_234 k0_t1
  let c128_i32_336 : BitVec 32 := 128#32
  let v620 : BitVec 32 := Scalar.muli arg26 c128_i32_336
  v620
def k0_off1 (k0_t1 : Fin k0_t1_loop.trips) : Fin 2 → Nat :=
  let c0_i32_233 : BitVec 32 := 0#32
  let c1_i32_234 : BitVec 32 := 1#32
  let arg26 : BitVec 32 := Scf.iv c0_i32_233 c1_i32_234 k0_t1
  let c128_i32_336 : BitVec 32 := 128#32
  let v620 : BitVec 32 := Scalar.muli arg26 c128_i32_336
  let v621 : BitVec 32 := v620
  let v622 : Index := Scalar.indexCast v621
  let c0_337 : Index := 0#32
  ![v622.toNat, 0]
def k0_off2 (k0_t1 : Fin k0_t1_loop.trips) : Fin 3 → Nat :=
  let c0_339 : Index := 0#32
  let c0_i32_233 : BitVec 32 := 0#32
  let c1_i32_234 : BitVec 32 := 1#32
  let arg26 : BitVec 32 := Scf.iv c0_i32_233 c1_i32_234 k0_t1
  let c128_i32_336 : BitVec 32 := 128#32
  let v620 : BitVec 32 := Scalar.muli arg26 c128_i32_336
  let v621 : BitVec 32 := v620
  let v626 : Index := Scalar.indexCast v621
  let c0_340 : Index := 0#32
  ![0, v626.toNat, 0]
def k0_mult2 (k0_t1 : Fin k0_t1_loop.trips) : BitVec 32 :=
  let c31_i32 : BitVec 32 := 31#32
  let c0_i32_233 : BitVec 32 := 0#32
  let c1_i32_234 : BitVec 32 := 1#32
  let arg26 : BitVec 32 := Scf.iv c0_i32_233 c1_i32_234 k0_t1
  let v733 : BitVec 32 := Scalar.subi c31_i32 arg26
  let c128_i32_361 : BitVec 32 := 128#32
  let v734 : BitVec 32 := Scalar.muli v733 c128_i32_361
  v734
def k0_off3 (k0_t1 : Fin k0_t1_loop.trips) : Fin 2 → Nat :=
  let c31_i32 : BitVec 32 := 31#32
  let c0_i32_233 : BitVec 32 := 0#32
  let c1_i32_234 : BitVec 32 := 1#32
  let arg26 : BitVec 32 := Scf.iv c0_i32_233 c1_i32_234 k0_t1
  let v733 : BitVec 32 := Scalar.subi c31_i32 arg26
  let c128_i32_361 : BitVec 32 := 128#32
  let v734 : BitVec 32 := Scalar.muli v733 c128_i32_361
  let v735 : BitVec 32 := v734
  let v736 : Index := Scalar.indexCast v735
  let c0_362 : Index := 0#32
  ![v736.toNat, 0]
def k0_off4 (k0_t1 : Fin k0_t1_loop.trips) : Fin 3 → Nat :=
  let c0_364 : Index := 0#32
  let c31_i32 : BitVec 32 := 31#32
  let c0_i32_233 : BitVec 32 := 0#32
  let c1_i32_234 : BitVec 32 := 1#32
  let arg26 : BitVec 32 := Scf.iv c0_i32_233 c1_i32_234 k0_t1
  let v733 : BitVec 32 := Scalar.subi c31_i32 arg26
  let c128_i32_361 : BitVec 32 := 128#32
  let v734 : BitVec 32 := Scalar.muli v733 c128_i32_361
  let v735 : BitVec 32 := v734
  let v740 : Index := Scalar.indexCast v735
  let c0_365 : Index := 0#32
  ![0, v740.toNat, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4096x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MlstmIdeal.lean ====
variable {F : FTy → Type} [FloatOps F] [Named F]
def κ : String → Option EReal := fun
  | "mask" => some ⊥
  | _ => none
-- ==== MlstmRefIdeal.lean ====
abbrev S16x4096x2560 : Shape := ⟨3, ![16, 4096, 2560]⟩
abbrev S16x4096x128 : Shape := ⟨3, ![16, 4096, 128]⟩
abbrev S3x1024 : Shape := ⟨2, ![3, 1024]⟩
abbrev S16 : Shape := ⟨1, ![16]⟩
abbrev S16x4x128x128 : Shape := ⟨4, ![16, 4, 128, 128]⟩
abbrev S16x4x128 : Shape := ⟨3, ![16, 4, 128]⟩
abbrev S16x4 : Shape := ⟨2, ![16, 4]⟩
abbrev S16x4096x1024 : Shape := ⟨3, ![16, 4096, 1024]⟩
abbrev S16x4096x16 : Shape := ⟨3, ![16, 4096, 16]⟩
abbrev S16x4096x1040 : Shape := ⟨3, ![16, 4096, 1040]⟩
abbrev S16x4096x512 : Shape := ⟨3, ![16, 4096, 512]⟩
abbrev S3x512 : Shape := ⟨2, ![3, 512]⟩
abbrev S_ : Shape := ⟨0, ![]⟩
abbrev S16x4098x512 : Shape := ⟨3, ![16, 4098, 512]⟩
abbrev S1x512 : Shape := ⟨2, ![1, 512]⟩
abbrev S512 : Shape := ⟨1, ![512]⟩
abbrev S1x1x512 : Shape := ⟨3, ![1, 1, 512]⟩
abbrev S16x4096x4x128 : Shape := ⟨4, ![16, 4096, 4, 128]⟩
abbrev S16x4x4096x128 : Shape := ⟨4, ![16, 4, 4096, 128]⟩
abbrev S1x1x16 : Shape := ⟨3, ![1, 1, 16]⟩
abbrev S16x4096x2x2x4 : Shape := ⟨5, ![16, 4096, 2, 2, 4]⟩
abbrev S2x2x16x4x4096 : Shape := ⟨5, ![2, 2, 16, 4, 4096]⟩
abbrev S2x1x16x4x4096 : Shape := ⟨5, ![2, 1, 16, 4, 4096]⟩
abbrev S2x16x4x4096 : Shape := ⟨4, ![2, 16, 4, 4096]⟩
abbrev S32x4x4096x128 : Shape := ⟨4, ![32, 4, 4096, 128]⟩
abbrev S1x16x4x4096 : Shape := ⟨4, ![1, 16, 4, 4096]⟩
abbrev S16x4x4096 : Shape := ⟨3, ![16, 4, 4096]⟩
abbrev S32x4x4096 : Shape := ⟨3, ![32, 4, 4096]⟩
abbrev S32x4x128x128 : Shape := ⟨4, ![32, 4, 128, 128]⟩
abbrev S32x4x128 : Shape := ⟨3, ![32, 4, 128]⟩
abbrev S32x4 : Shape := ⟨2, ![32, 4]⟩
abbrev S128x128 : Shape := ⟨2, ![128, 128]⟩
abbrev S32x4x32x128x128 : Shape := ⟨5, ![32, 4, 32, 128, 128]⟩
abbrev S32x32x4x128x128 : Shape := ⟨5, ![32, 32, 4, 128, 128]⟩
abbrev S32x4x32x128 : Shape := ⟨4, ![32, 4, 32, 128]⟩
abbrev S32x32x4x128 : Shape := ⟨4, ![32, 32, 4, 128]⟩
abbrev S1x32x4x128x128 : Shape := ⟨5, ![1, 32, 4, 128, 128]⟩
abbrev S1x32x4x128 : Shape := ⟨4, ![1, 32, 4, 128]⟩
abbrev S32x4x1 : Shape := ⟨3, ![32, 4, 1]⟩
abbrev S32x4x1x1 : Shape := ⟨4, ![32, 4, 1, 1]⟩
abbrev S32x4x128x1 : Shape := ⟨4, ![32, 4, 128, 1]⟩
abbrev S32x4x1x128 : Shape := ⟨4, ![32, 4, 1, 128]⟩

abbrev nBuf : Space → Nat
  | .hbm => 318
  | .vmem => 0
  | .smem => 0
  | _ => 0

abbrev hbmTy0_0 (i : Nat) : BufTy := match i % 128 with
  | 0 => ⟨S16x4096x2560, .bf16⟩
  | 1 => ⟨S16x4096x128, .f32⟩
  | 2 => ⟨S3x1024, .f32⟩
  | 3 => ⟨S16, .f32⟩
  | 4 => ⟨S16x4x128x128, .f32⟩
  | 5 => ⟨S16x4x128, .f32⟩
  | 6 => ⟨S16x4, .f32⟩
  | 7 => ⟨S16x4x128x128, .f32⟩
  | 8 => ⟨S16x4x128, .f32⟩
  | 9 => ⟨S16x4, .f32⟩
  | 10 => ⟨S16x4096x2560, .f32⟩
  | 11 => ⟨S16x4096x1024, .f32⟩
  | 12 => ⟨S16x4096x16, .f32⟩
  | 13 => ⟨S16x4096x1040, .f32⟩
  | 14 => ⟨S16x4096x512, .f32⟩
  | 15 => ⟨S16x4096x512, .f32⟩
  | 16 => ⟨S3x512, .f32⟩
  | 17 => ⟨S_, .i32⟩
  | 18 => ⟨S_, .f32⟩
  | 19 => ⟨S16x4098x512, .f32⟩
  | 20 => ⟨S16x4096x512, .f32⟩
  | 21 => ⟨S1x512, .f32⟩
  | 22 => ⟨S512, .f32⟩
  | 23 => ⟨S1x1x512, .f32⟩
  | 24 => ⟨S16x4096x512, .f32⟩
  | 25 => ⟨S16x4096x512, .f32⟩
  | 26 => ⟨S_, .f32⟩
  | 27 => ⟨S16x4096x512, .f32⟩
  | 28 => ⟨S16x4096x512, .f32⟩
  | 29 => ⟨S16x4096x512, .f32⟩
  | 30 => ⟨S1x512, .f32⟩
  | 31 => ⟨S512, .f32⟩
  | 32 => ⟨S1x1x512, .f32⟩
  | 33 => ⟨S16x4096x512, .f32⟩
  | 34 => ⟨S16x4096x512, .f32⟩
  | 35 => ⟨S16x4096x512, .f32⟩
  | 36 => ⟨S16x4096x512, .f32⟩
  | 37 => ⟨S1x512, .f32⟩
  | 38 => ⟨S512, .f32⟩
  | 39 => ⟨S1x1x512, .f32⟩
  | 40 => ⟨S16x4096x512, .f32⟩
  | 41 => ⟨S16x4096x512, .f32⟩
  | 42 => ⟨S16x4096x512, .f32⟩
  | 43 => ⟨S16x4096x512, .f32⟩
  | 44 => ⟨S16x4096x512, .f32⟩
  | 45 => ⟨S_, .f32⟩
  | 46 => ⟨S16x4096x512, .f32⟩
  | 47 => ⟨S16x4096x512, .f32⟩
  | 48 => ⟨S_, .f32⟩
  | 49 => ⟨S16x4096x512, .f32⟩
  | 50 => ⟨S16x4096x512, .f32⟩
  | 51 => ⟨S16x4096x512, .f32⟩
  | 52 => ⟨S16x4096x4x128, .f32⟩
  | 53 => ⟨S16x4x4096x128, .f32⟩
  | 54 => ⟨S_, .f32⟩
  | 55 => ⟨S16x4x4096x128, .f32⟩
  | 56 => ⟨S16x4x4096x128, .f32⟩
  | 57 => ⟨S16x4096x512, .f32⟩
  | 58 => ⟨S16x4096x4x128, .f32⟩
  | 59 => ⟨S16x4x4096x128, .f32⟩
  | 60 => ⟨S3x512, .f32⟩
  | 61 => ⟨S_, .i32⟩
  | 62 => ⟨S_, .f32⟩
  | 63 => ⟨S16x4098x512, .f32⟩
  | 64 => ⟨S16x4096x512, .f32⟩
  | 65 => ⟨S1x512, .f32⟩
  | 66 => ⟨S512, .f32⟩
  | 67 => ⟨S1x1x512, .f32⟩
  | 68 => ⟨S16x4096x512, .f32⟩
  | 69 => ⟨S16x4096x512, .f32⟩
  | 70 => ⟨S_, .f32⟩
  | 71 => ⟨S16x4096x512, .f32⟩
  | 72 => ⟨S16x4096x512, .f32⟩
  | 73 => ⟨S16x4096x512, .f32⟩
  | 74 => ⟨S1x512, .f32⟩
  | 75 => ⟨S512, .f32⟩
  | 76 => ⟨S1x1x512, .f32⟩
  | 77 => ⟨S16x4096x512, .f32⟩
  | 78 => ⟨S16x4096x512, .f32⟩
  | 79 => ⟨S16x4096x512, .f32⟩
  | 80 => ⟨S16x4096x512, .f32⟩
  | 81 => ⟨S1x512, .f32⟩
  | 82 => ⟨S512, .f32⟩
  | 83 => ⟨S1x1x512, .f32⟩
  | 84 => ⟨S16x4096x512, .f32⟩
  | 85 => ⟨S16x4096x512, .f32⟩
  | 86 => ⟨S16x4096x512, .f32⟩
  | 87 => ⟨S16x4096x512, .f32⟩
  | 88 => ⟨S16x4096x512, .f32⟩
  | 89 => ⟨S_, .f32⟩
  | 90 => ⟨S16x4096x512, .f32⟩
  | 91 => ⟨S16x4096x512, .f32⟩
  | 92 => ⟨S_, .f32⟩
  | 93 => ⟨S16x4096x512, .f32⟩
  | 94 => ⟨S16x4096x512, .f32⟩
  | 95 => ⟨S16x4096x512, .f32⟩
  | 96 => ⟨S16x4096x4x128, .f32⟩
  | 97 => ⟨S16x4x4096x128, .f32⟩
  | 98 => ⟨S16x4096x16, .f32⟩
  | 99 => ⟨S1x1x16, .f32⟩
  | 100 => ⟨S16x4096x16, .f32⟩
  | 101 => ⟨S16x4096x16, .f32⟩
  | 102 => ⟨S16x4096x2x2x4, .f32⟩
  | 103 => ⟨S2x2x16x4x4096, .f32⟩
  | 104 => ⟨S2x1x16x4x4096, .f32⟩
  | 105 => ⟨S2x16x4x4096, .f32⟩
  | 106 => ⟨S2x1x16x4x4096, .f32⟩
  | 107 => ⟨S2x16x4x4096, .f32⟩
  | 108 => ⟨S2x16x4x4096, .f32⟩
  | 109 => ⟨S_, .f32⟩
  | 110 => ⟨S2x16x4x4096, .f32⟩
  | 111 => ⟨S2x16x4x4096, .f32⟩
  | 112 => ⟨S2x16x4x4096, .f32⟩
  | 113 => ⟨S2x16x4x4096, .f32⟩
  | 114 => ⟨S2x16x4x4096, .i1⟩
  | 115 => ⟨S2x16x4x4096, .f32⟩
  | 116 => ⟨S2x16x4x4096, .f32⟩
  | 117 => ⟨S2x16x4x4096, .f32⟩
  | 118 => ⟨S2x16x4x4096, .f32⟩
  | 119 => ⟨S2x16x4x4096, .f32⟩
  | 120 => ⟨S2x16x4x4096, .f32⟩
  | 121 => ⟨S2x16x4x4096, .f32⟩
  | 122 => ⟨S2x16x4x4096, .f32⟩
  | 123 => ⟨S2x16x4x4096, .f32⟩
  | 124 => ⟨S16x4x4096x128, .f32⟩
  | 125 => ⟨S32x4x4096x128, .f32⟩
  | 126 => ⟨S16x4x4096x128, .f32⟩
  | 127 => ⟨S32x4x4096x128, .f32⟩
  | _ => ⟨S16x4096x2560, .bf16⟩

abbrev hbmTy0_1 (i : Nat) : BufTy := match i % 128 with
  | 0 => ⟨S16x4x4096x128, .f32⟩
  | 1 => ⟨S32x4x4096x128, .f32⟩
  | 2 => ⟨S1x16x4x4096, .f32⟩
  | 3 => ⟨S16x4x4096, .f32⟩
  | 4 => ⟨S1x16x4x4096, .f32⟩
  | 5 => ⟨S16x4x4096, .f32⟩
  | 6 => ⟨S16x4x4096, .f32⟩
  | 7 => ⟨S32x4x4096, .f32⟩
  | 8 => ⟨S1x16x4x4096, .f32⟩
  | 9 => ⟨S16x4x4096, .f32⟩
  | 10 => ⟨S1x16x4x4096, .f32⟩
  | 11 => ⟨S16x4x4096, .f32⟩
  | 12 => ⟨S16x4x4096, .f32⟩
  | 13 => ⟨S32x4x4096, .f32⟩
  | 14 => ⟨S32x4x128x128, .f32⟩
  | 15 => ⟨S32x4x128, .f32⟩
  | 16 => ⟨S32x4, .f32⟩
  | 17 => ⟨S_, .i1⟩
  | 18 => ⟨S128x128, .i1⟩
  | 19 => ⟨S128x128, .i32⟩
  | 20 => ⟨S_, .i32⟩
  | 21 => ⟨S128x128, .i32⟩
  | 22 => ⟨S128x128, .i32⟩
  | 23 => ⟨S128x128, .i32⟩
  | 24 => ⟨S128x128, .i1⟩
  | 25 => ⟨S_, .i1⟩
  | 26 => ⟨S128x128, .i1⟩
  | 27 => ⟨S128x128, .i1⟩
  | 28 => ⟨S32x4x32x128x128, .f32⟩
  | 29 => ⟨S32x32x4x128x128, .f32⟩
  | 30 => ⟨S32x4x32x128x128, .f32⟩
  | 31 => ⟨S32x32x4x128x128, .f32⟩
  | 32 => ⟨S32x4x32x128, .f32⟩
  | 33 => ⟨S32x32x4x128, .f32⟩
  | 34 => ⟨S32x4x32x128, .f32⟩
  | 35 => ⟨S32x32x4x128, .f32⟩
  | 36 => ⟨S32x4x32x128x128, .f32⟩
  | 37 => ⟨S32x32x4x128x128, .f32⟩
  | 38 => ⟨S_, .f32⟩
  | 39 => ⟨S32x32x4x128x128, .f32⟩
  | 40 => ⟨S_, .i32⟩
  | 41 => ⟨S32x32x4x128x128, .f32⟩
  | 42 => ⟨S32x32x4x128x128, .f32⟩
  | 43 => ⟨S32x32x4x128, .f32⟩
  | 44 => ⟨S32x32x4x128, .f32⟩
  | 45 => ⟨S32x32x4x128x128, .f32⟩
  | 46 => ⟨S128x128, .i1⟩
  | 47 => ⟨S_, .i32⟩
  | 48 => ⟨S32x4x128x128, .f32⟩
  | 49 => ⟨S32x4x128, .f32⟩
  | 50 => ⟨S32x4, .f32⟩
  | 51 => ⟨S32x32x4x128x128, .f32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S1x32x4x128x128, .f32⟩
  | 59 => ⟨S32x4x128x128, .f32⟩
  | 60 => ⟨S_, .i32⟩
  | 61 => ⟨S_, .i32⟩
  | 62 => ⟨S_, .i32⟩
  | 63 => ⟨S_, .i32⟩
  | 64 => ⟨S1x32x4x128x128, .f32⟩
  | 65 => ⟨S32x4x128x128, .f32⟩
  | 66 => ⟨S_, .i32⟩
  | 67 => ⟨S_, .i32⟩
  | 68 => ⟨S_, .i32⟩
  | 69 => ⟨S1x32x4x128, .f32⟩
  | 70 => ⟨S32x4x128, .f32⟩
  | 71 => ⟨S_, .i32⟩
  | 72 => ⟨S_, .i32⟩
  | 73 => ⟨S_, .i32⟩
  | 74 => ⟨S1x32x4x128, .f32⟩
  | 75 => ⟨S32x4x128, .f32⟩
  | 76 => ⟨S_, .i32⟩
  | 77 => ⟨S_, .i32⟩
  | 78 => ⟨S_, .i32⟩
  | 79 => ⟨S_, .i32⟩
  | 80 => ⟨S1x32x4x128x128, .f32⟩
  | 81 => ⟨S32x4x128x128, .f32⟩
  | 82 => ⟨S_, .f32⟩
  | 83 => ⟨S_, .f32⟩
  | 84 => ⟨S32x4x128, .f32⟩
  | 85 => ⟨S32x4x1, .f32⟩
  | 86 => ⟨S32x4x128, .f32⟩
  | 87 => ⟨S32x4x128, .f32⟩
  | 88 => ⟨S32x4x128, .f32⟩
  | 89 => ⟨S32x4x1, .f32⟩
  | 90 => ⟨S32x4, .f32⟩
  | 91 => ⟨S32x4, .f32⟩
  | 92 => ⟨S_, .f32⟩
  | 93 => ⟨S32x4, .f32⟩
  | 94 => ⟨S32x4, .f32⟩
  | 95 => ⟨S32x4x1, .f32⟩
  | 96 => ⟨S32x4, .f32⟩
  | 97 => ⟨S32x4, .f32⟩
  | 98 => ⟨S32x4, .f32⟩
  | 99 => ⟨S32x4, .f32⟩
  | 100 => ⟨S32x4x1, .f32⟩
  | 101 => ⟨S32x4x128, .f32⟩
  | 102 => ⟨S32x4x128, .f32⟩
  | 103 => ⟨S32x4x128, .f32⟩
  | 104 => ⟨S32x4x1x1, .f32⟩
  | 105 => ⟨S32x4x128x128, .f32⟩
  | 106 => ⟨S32x4x128x128, .f32⟩
  | 107 => ⟨S32x4x128x1, .f32⟩
  | 108 => ⟨S32x4x128x128, .f32⟩
  | 109 => ⟨S32x4x128x128, .f32⟩
  | 110 => ⟨S32x4x128x128, .f32⟩
  | 111 => ⟨S32x4x128x128, .f32⟩
  | 112 => ⟨S32x4x1, .f32⟩
  | 113 => ⟨S32x4x128, .f32⟩
  | 114 => ⟨S32x4x128, .f32⟩
  | 115 => ⟨S32x4x128, .f32⟩
  | 116 => ⟨S32x4x128, .f32⟩
  | 117 => ⟨S32x4x128x1, .f32⟩
  | 118 => ⟨S32x4x1x128, .f32⟩
  | 119 => ⟨S32x4x128x128, .f32⟩
  | 120 => ⟨S32x4x128x128, .f32⟩
  | 121 => ⟨S32x4x128x128, .f32⟩
  | 122 => ⟨S32x4x1x128, .f32⟩
  | 123 => ⟨S32x4x128x128, .f32⟩
  | 124 => ⟨S32x4x128x128, .f32⟩
  | 125 => ⟨S_, .f32⟩
  | 126 => ⟨S_, .f32⟩
  | 127 => ⟨S32x4x128x128, .i1⟩
  | _ => ⟨S16x4096x2560, .bf16⟩

abbrev hbmTy0_2 (i : Nat) : BufTy := match i % 128 with
  | 0 => ⟨S32x4x128x128, .f32⟩
  | 1 => ⟨S32x4x128x128, .f32⟩
  | 2 => ⟨S32x4x1, .f32⟩
  | 3 => ⟨S32x4x128, .f32⟩
  | 4 => ⟨S32x4x128, .f32⟩
  | 5 => ⟨S_, .f32⟩
  | 6 => ⟨S32x4x128, .f32⟩
  | 7 => ⟨S32x4x128, .f32⟩
  | 8 => ⟨S32x4x128, .f32⟩
  | 9 => ⟨S32x4x128, .f32⟩
  | 10 => ⟨S32x4x128x128, .f32⟩
  | 11 => ⟨S32x4x128x1, .f32⟩
  | 12 => ⟨S32x4x128x128, .f32⟩
  | 13 => ⟨S32x4x128x128, .f32⟩
  | 14 => ⟨S32x4x128x128, .f32⟩
  | 15 => ⟨S32x4x128x128, .f32⟩
  | 16 => ⟨S32x4x128x1, .f32⟩
  | 17 => ⟨S32x4x128x128, .f32⟩
  | 18 => ⟨S32x4x128x128, .f32⟩
  | 19 => ⟨S32x4x128x128, .f32⟩
  | 20 => ⟨S32x4x128x128, .f32⟩
  | 21 => ⟨S32x4x128x128, .f32⟩
  | 22 => ⟨S32x4x128, .f32⟩
  | 23 => ⟨S32x4x128, .f32⟩
  | 24 => ⟨S_, .f32⟩
  | 25 => ⟨S32x4x128, .f32⟩
  | 26 => ⟨S32x4x128, .f32⟩
  | 27 => ⟨S32x4x128, .f32⟩
  | 28 => ⟨S32x4x128, .f32⟩
  | 29 => ⟨S32x4x128, .f32⟩
  | 30 => ⟨S32x4x128, .f32⟩
  | 31 => ⟨S32x4x128x1, .f32⟩
  | 32 => ⟨S32x4x128x128, .f32⟩
  | 33 => ⟨S32x4x128x128, .f32⟩
  | 34 => ⟨S1x32x4x128x128, .f32⟩
  | 35 => ⟨S_, .i32⟩
  | 36 => ⟨S_, .i32⟩
  | 37 => ⟨S_, .i32⟩
  | 38 => ⟨S_, .i32⟩
  | 39 => ⟨S32x32x4x128x128, .f32⟩
  | 40 => ⟨S_, .i32⟩
  | 41 => ⟨S_, .i32⟩
  | 42 => ⟨S32x4x32x128x128, .f32⟩
  | 43 => ⟨S32x4x4096x128, .f32⟩
  | 44 => ⟨S16x4x4096x128, .f32⟩
  | 45 => ⟨S16x4x4096x128, .f32⟩
  | 46 => ⟨S16x4x4096x128, .f32⟩
  | 47 => ⟨S16x4x4096x128, .f32⟩
  | 48 => ⟨S16x4096x4x128, .f32⟩
  | 49 => ⟨S16x4096x512, .f32⟩
  | 50 => ⟨S16x4096x512, .bf16⟩
  | 51 => ⟨S16x4096x512, .f32⟩
  | 52 => ⟨S16x4096x512, .f32⟩
  | 53 => ⟨S16x4096x512, .f32⟩
  | 54 => ⟨S_, .f32⟩
  | 55 => ⟨S16x4096x512, .f32⟩
  | 56 => ⟨S16x4096x512, .f32⟩
  | 57 => ⟨S_, .f32⟩
  | 58 => ⟨S16x4096x512, .f32⟩
  | 59 => ⟨S16x4096x512, .f32⟩
  | 60 => ⟨S16x4096x512, .f32⟩
  | 61 => ⟨S16x4096x512, .bf16⟩
  | _ => ⟨S16x4096x2560, .bf16⟩

abbrev hbmTy (i : Nat) : BufTy := match i / 128 with
  | 0 => hbmTy0_0 i
  | 1 => hbmTy0_1 i
  | 2 => hbmTy0_2 i
  | _ => ⟨S16x4096x2560, .bf16⟩

abbrev bufTy : (tb : Table) → Fin (tcTables nBuf tb) → BufTy
  | .hbm, ⟨i, _⟩ => hbmTy i
  | _, _ => ⟨S16x4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_1 : Ref sig .tc := ⟨.hbm, 61, rfl⟩
abbrev main_call2_v0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_2 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call3_v0 : Ref sig .tc := ⟨.hbm, 87, rfl⟩
abbrev main_call3_v1 : Ref sig .tc := ⟨.hbm, 88, rfl⟩
abbrev main_call3_cst : Ref sig .tc := ⟨.hbm, 89, rfl⟩
abbrev main_call3_v2 : Ref sig .tc := ⟨.hbm, 90, rfl⟩
abbrev main_call3_v3 : Ref sig .tc := ⟨.hbm, 91, rfl⟩
abbrev main_call3_cst_0 : Ref sig .tc := ⟨.hbm, 92, rfl⟩
abbrev main_call3_v4 : Ref sig .tc := ⟨.hbm, 93, rfl⟩
abbrev main_call3_v5 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_call4_cst : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_v6 : Ref sig .tc := ⟨.hbm, 116, rfl⟩
abbrev main_call4_v7 : Ref sig .tc := ⟨.hbm, 117, rfl⟩
abbrev main_call4_v8 : Ref sig .tc := ⟨.hbm, 118, rfl⟩
abbrev main_call4_v9 : Ref sig .tc := ⟨.hbm, 119, rfl⟩
abbrev main_call4_v10 : Ref sig .tc := ⟨.hbm, 120, rfl⟩
abbrev main_call4_v11 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_c_3 : Ref sig .tc := ⟨.hbm, 145, rfl⟩
abbrev main_v99 : Ref sig .tc := ⟨.hbm, 146, rfl⟩
abbrev main_call10_v0 : Ref sig .tc := ⟨.hbm, 147, rfl⟩
abbrev main_call10_c : Ref sig .tc := ⟨.hbm, 148, rfl⟩
abbrev main_call10_v1 : Ref sig .tc := ⟨.hbm, 149, rfl⟩
abbrev main_call10_v2 : Ref sig .tc := ⟨.hbm, 150, rfl⟩
abbrev main_call10_v3 : Ref sig .tc := ⟨.hbm, 151, rfl⟩
abbrev main_call10_v4 : Ref sig .tc := ⟨.hbm, 152, rfl⟩
abbrev main_call10_c_0 : Ref sig .tc := ⟨.hbm, 153, rfl⟩
abbrev main_call10_v5 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_cst_4 : Ref sig .tc := ⟨.hbm, 166, rfl⟩
abbrev main_v111 : Ref sig .tc := ⟨.hbm, 167, rfl⟩
abbrev main_c_5 : Ref sig .tc := ⟨.hbm, 168, rfl⟩
abbrev main_v112_0 : Ref sig .tc := ⟨.hbm, 169, rfl⟩
abbrev main_v112_1 : Ref sig .tc := ⟨.hbm, 170, rfl⟩
abbrev main_v112_2 : Ref sig .tc := ⟨.hbm, 171, rfl⟩
abbrev main_v112_3 : Ref sig .tc := ⟨.hbm, 172, rfl⟩
abbrev main_v112_4 : Ref sig .tc := ⟨.hbm, 173, rfl⟩
abbrev main_v112_5 : Ref sig .tc := ⟨.hbm, 174, rfl⟩
abbrev main_v112_6 : Ref sig .tc := ⟨.hbm, 175, rfl⟩
abbrev main_v112_7 : Ref sig .tc := ⟨.hbm, 176, rfl⟩
abbrev main_v112_8 : Ref sig .tc := ⟨.hbm, 177, rfl⟩
abbrev main_v112_9 : Ref sig .tc := ⟨.hbm, 178, rfl⟩
abbrev main_v112_10 : Ref sig .tc := ⟨.hbm, 179, rfl⟩
abbrev main_while0c_c_18 : Ref sig .tc := ⟨.hbm, 180, rfl⟩
abbrev main_while0c_v131 : Ref sig .tc := ⟨.hbm, 181, rfl⟩
abbrev main_while0b_call11_c : Ref sig .tc := ⟨.hbm, 182, rfl⟩
abbrev main_while0b_call11_c_0 : Ref sig .tc := ⟨.hbm, 183, rfl⟩
abbrev main_while0b_call11_c_1 : Ref sig .tc := ⟨.hbm, 184, rfl⟩
abbrev main_while0b_call11_c_2 : Ref sig .tc := ⟨.hbm, 185, rfl⟩
abbrev main_while0b_call11_v0 : Ref sig .tc := ⟨.hbm, 186, rfl⟩
abbrev main_while0b_v131 : Ref sig .tc := ⟨.hbm, 187, rfl⟩
abbrev main_while0b_call12_c : Ref sig .tc := ⟨.hbm, 188, rfl⟩
abbrev main_while0b_call12_c_0 : Ref sig .tc := ⟨.hbm, 189, rfl⟩
abbrev main_while0b_call12_c_1 : Ref sig .tc := ⟨.hbm, 190, rfl⟩
abbrev main_while0b_call12_c_2 : Ref sig .tc := ⟨.hbm, 191, rfl⟩
abbrev main_while0b_call12_v0 : Ref sig .tc := ⟨.hbm, 192, rfl⟩
abbrev main_while0b_v132 : Ref sig .tc := ⟨.hbm, 193, rfl⟩
abbrev main_while0b_call13_c : Ref sig .tc := ⟨.hbm, 194, rfl⟩
abbrev main_while0b_call13_c_0 : Ref sig .tc := ⟨.hbm, 195, rfl⟩
abbrev main_while0b_call13_c_1 : Ref sig .tc := ⟨.hbm, 196, rfl⟩
abbrev main_while0b_call13_v0 : Ref sig .tc := ⟨.hbm, 197, rfl⟩
abbrev main_while0b_v133 : Ref sig .tc := ⟨.hbm, 198, rfl⟩
abbrev main_while0b_call14_c : Ref sig .tc := ⟨.hbm, 199, rfl⟩
abbrev main_while0b_call14_c_0 : Ref sig .tc := ⟨.hbm, 200, rfl⟩
abbrev main_while0b_call14_c_1 : Ref sig .tc := ⟨.hbm, 201, rfl⟩
abbrev main_while0b_call14_v0 : Ref sig .tc := ⟨.hbm, 202, rfl⟩
abbrev main_while0b_v134 : Ref sig .tc := ⟨.hbm, 203, rfl⟩
abbrev main_while0b_call15_c : Ref sig .tc := ⟨.hbm, 204, rfl⟩
abbrev main_while0b_call15_c_0 : Ref sig .tc := ⟨.hbm, 205, rfl⟩
abbrev main_while0b_call15_c_1 : Ref sig .tc := ⟨.hbm, 206, rfl⟩
abbrev main_while0b_call15_c_2 : Ref sig .tc := ⟨.hbm, 207, rfl⟩
abbrev main_while0b_call15_v0 : Ref sig .tc := ⟨.hbm, 208, rfl⟩
abbrev main_while0b_v135 : Ref sig .tc := ⟨.hbm, 209, rfl⟩
abbrev main_while0b_call16_call0_cst : Ref sig .tc := ⟨.hbm, 210, rfl⟩
abbrev main_while0b_call16_call0_v0 : Ref sig .tc := ⟨.hbm, 211, rfl⟩
abbrev main_while0b_v136 : Ref sig .tc := ⟨.hbm, 212, rfl⟩
abbrev main_while0b_v137 : Ref sig .tc := ⟨.hbm, 213, rfl⟩
abbrev main_while0b_v138 : Ref sig .tc := ⟨.hbm, 214, rfl⟩
abbrev main_while0b_v139 : Ref sig .tc := ⟨.hbm, 215, rfl⟩
abbrev main_while0b_v140 : Ref sig .tc := ⟨.hbm, 216, rfl⟩
abbrev main_while0b_v141 : Ref sig .tc := ⟨.hbm, 217, rfl⟩
abbrev main_while0b_v142 : Ref sig .tc := ⟨.hbm, 218, rfl⟩
abbrev main_while0b_v143 : Ref sig .tc := ⟨.hbm, 219, rfl⟩
abbrev main_while0b_cst_18 : Ref sig .tc := ⟨.hbm, 220, rfl⟩
abbrev main_while0b_v144 : Ref sig .tc := ⟨.hbm, 221, rfl⟩
abbrev main_while0b_v145 : Ref sig .tc := ⟨.hbm, 222, rfl⟩
abbrev main_while0b_v146 : Ref sig .tc := ⟨.hbm, 223, rfl⟩
abbrev main_while0b_v147 : Ref sig .tc := ⟨.hbm, 224, rfl⟩
abbrev main_while0b_v148 : Ref sig .tc := ⟨.hbm, 225, rfl⟩
abbrev main_while0b_v149 : Ref sig .tc := ⟨.hbm, 226, rfl⟩
abbrev main_while0b_v150 : Ref sig .tc := ⟨.hbm, 227, rfl⟩
abbrev main_while0b_v151 : Ref sig .tc := ⟨.hbm, 228, rfl⟩
abbrev main_while0b_v152 : Ref sig .tc := ⟨.hbm, 229, rfl⟩
abbrev main_while0b_v153 : Ref sig .tc := ⟨.hbm, 230, rfl⟩
abbrev main_while0b_v154 : Ref sig .tc := ⟨.hbm, 231, rfl⟩
abbrev main_while0b_v155 : Ref sig .tc := ⟨.hbm, 232, rfl⟩
abbrev main_while0b_v156 : Ref sig .tc := ⟨.hbm, 233, rfl⟩
abbrev main_while0b_v157 : Ref sig .tc := ⟨.hbm, 234, rfl⟩
abbrev main_while0b_v158 : Ref sig .tc := ⟨.hbm, 235, rfl⟩
abbrev main_while0b_v159 : Ref sig .tc := ⟨.hbm, 236, rfl⟩
abbrev main_while0b_v160 : Ref sig .tc := ⟨.hbm, 237, rfl⟩
abbrev main_while0b_v161 : Ref sig .tc := ⟨.hbm, 238, rfl⟩
abbrev main_while0b_v162 : Ref sig .tc := ⟨.hbm, 239, rfl⟩
abbrev main_while0b_v163 : Ref sig .tc := ⟨.hbm, 240, rfl⟩
abbrev main_while0b_v164 : Ref sig .tc := ⟨.hbm, 241, rfl⟩
abbrev main_while0b_v165 : Ref sig .tc := ⟨.hbm, 242, rfl⟩
abbrev main_while0b_v166 : Ref sig .tc := ⟨.hbm, 243, rfl⟩
abbrev main_while0b_v167 : Ref sig .tc := ⟨.hbm, 244, rfl⟩
abbrev main_while0b_v168 : Ref sig .tc := ⟨.hbm, 245, rfl⟩
abbrev main_while0b_v169 : Ref sig .tc := ⟨.hbm, 246, rfl⟩
abbrev main_while0b_v170 : Ref sig .tc := ⟨.hbm, 247, rfl⟩
abbrev main_while0b_v171 : Ref sig .tc := ⟨.hbm, 248, rfl⟩
abbrev main_while0b_v172 : Ref sig .tc := ⟨.hbm, 249, rfl⟩
abbrev main_while0b_v173 : Ref sig .tc := ⟨.hbm, 250, rfl⟩
abbrev main_while0b_v174 : Ref sig .tc := ⟨.hbm, 251, rfl⟩
abbrev main_while0b_v175 : Ref sig .tc := ⟨.hbm, 252, rfl⟩
abbrev main_while0b_cst_19 : Ref sig .tc := ⟨.hbm, 253, rfl⟩
abbrev main_while0b_call17_v0 : Ref sig .tc := ⟨.hbm, 254, rfl⟩
abbrev main_while0b_call17_v1 : Ref sig .tc := ⟨.hbm, 255, rfl⟩
abbrev main_while0b_call17_v2 : Ref sig .tc := ⟨.hbm, 256, rfl⟩
abbrev main_while0b_v176 : Ref sig .tc := ⟨.hbm, 257, rfl⟩
abbrev main_while0b_v177 : Ref sig .tc := ⟨.hbm, 258, rfl⟩
abbrev main_while0b_v178 : Ref sig .tc := ⟨.hbm, 259, rfl⟩
abbrev main_while0b_v179 : Ref sig .tc := ⟨.hbm, 260, rfl⟩
abbrev main_while0b_cst_20 : Ref sig .tc := ⟨.hbm, 261, rfl⟩
abbrev main_while0b_v180 : Ref sig .tc := ⟨.hbm, 262, rfl⟩
abbrev main_while0b_v181 : Ref sig .tc := ⟨.hbm, 263, rfl⟩
abbrev main_while0b_v182 : Ref sig .tc := ⟨.hbm, 264, rfl⟩
abbrev main_while0b_v183 : Ref sig .tc := ⟨.hbm, 265, rfl⟩
abbrev main_while0b_v184 : Ref sig .tc := ⟨.hbm, 266, rfl⟩
abbrev main_while0b_v185 : Ref sig .tc := ⟨.hbm, 267, rfl⟩
abbrev main_while0b_v186 : Ref sig .tc := ⟨.hbm, 268, rfl⟩
abbrev main_while0b_v187 : Ref sig .tc := ⟨.hbm, 269, rfl⟩
abbrev main_while0b_v188 : Ref sig .tc := ⟨.hbm, 270, rfl⟩
abbrev main_while0b_v189 : Ref sig .tc := ⟨.hbm, 271, rfl⟩
abbrev main_while0b_v190 : Ref sig .tc := ⟨.hbm, 272, rfl⟩
abbrev main_while0b_v191 : Ref sig .tc := ⟨.hbm, 273, rfl⟩
abbrev main_while0b_v192 : Ref sig .tc := ⟨.hbm, 274, rfl⟩
abbrev main_while0b_v193 : Ref sig .tc := ⟨.hbm, 275, rfl⟩
abbrev main_while0b_v194 : Ref sig .tc := ⟨.hbm, 276, rfl⟩
abbrev main_while0b_v195 : Ref sig .tc := ⟨.hbm, 277, rfl⟩
abbrev main_while0b_v196 : Ref sig .tc := ⟨.hbm, 278, rfl⟩
abbrev main_while0b_v197 : Ref sig .tc := ⟨.hbm, 279, rfl⟩
abbrev main_while0b_cst_21 : Ref sig .tc := ⟨.hbm, 280, rfl⟩
abbrev main_while0b_v198 : Ref sig .tc := ⟨.hbm, 281, rfl⟩
abbrev main_while0b_v199 : Ref sig .tc := ⟨.hbm, 282, rfl⟩
abbrev main_while0b_v200 : Ref sig .tc := ⟨.hbm, 283, rfl⟩
abbrev main_while0b_v201 : Ref sig .tc := ⟨.hbm, 284, rfl⟩
abbrev main_while0b_v202 : Ref sig .tc := ⟨.hbm, 285, rfl⟩
abbrev main_while0b_v203 : Ref sig .tc := ⟨.hbm, 286, rfl⟩
abbrev main_while0b_v204 : Ref sig .tc := ⟨.hbm, 287, rfl⟩
abbrev main_while0b_v205 : Ref sig .tc := ⟨.hbm, 288, rfl⟩
abbrev main_while0b_v206 : Ref sig .tc := ⟨.hbm, 289, rfl⟩
abbrev main_while0b_call18_v0 : Ref sig .tc := ⟨.hbm, 290, rfl⟩
abbrev main_while0b_call18_c : Ref sig .tc := ⟨.hbm, 291, rfl⟩
abbrev main_while0b_call18_c_0 : Ref sig .tc := ⟨.hbm, 292, rfl⟩
abbrev main_while0b_call18_c_1 : Ref sig .tc := ⟨.hbm, 293, rfl⟩
abbrev main_while0b_call18_c_2 : Ref sig .tc := ⟨.hbm, 294, rfl⟩
abbrev main_while0b_v207 : Ref sig .tc := ⟨.hbm, 295, rfl⟩
abbrev main_while0b_c_22 : Ref sig .tc := ⟨.hbm, 296, rfl⟩
abbrev main_while0b_v208 : Ref sig .tc := ⟨.hbm, 297, rfl⟩
abbrev main_v113 : Ref sig .tc := ⟨.hbm, 298, rfl⟩
abbrev main_v114 : Ref sig .tc := ⟨.hbm, 299, rfl⟩
abbrev main_v115 : Ref sig .tc := ⟨.hbm, 300, rfl⟩
abbrev main_v116 : Ref sig .tc := ⟨.hbm, 301, rfl⟩
abbrev main_v117 : Ref sig .tc := ⟨.hbm, 302, rfl⟩
abbrev main_v118 : Ref sig .tc := ⟨.hbm, 303, rfl⟩
abbrev main_v119 : Ref sig .tc := ⟨.hbm, 304, rfl⟩
abbrev main_v120 : Ref sig .tc := ⟨.hbm, 305, rfl⟩
abbrev main_v121 : Ref sig .tc := ⟨.hbm, 306, rfl⟩
abbrev main_v122 : Ref sig .tc := ⟨.hbm, 307, rfl⟩
abbrev main_v123 : Ref sig .tc := ⟨.hbm, 308, rfl⟩
abbrev main_v124 : Ref sig .tc := ⟨.hbm, 309, rfl⟩
abbrev main_cst_6 : Ref sig .tc := ⟨.hbm, 310, rfl⟩
abbrev main_v125 : Ref sig .tc := ⟨.hbm, 311, rfl⟩
abbrev main_v126 : Ref sig .tc := ⟨.hbm, 312, rfl⟩
abbrev main_cst_7 : Ref sig .tc := ⟨.hbm, 313, rfl⟩
abbrev main_v127 : Ref sig .tc := ⟨.hbm, 314, rfl⟩
abbrev main_v128 : Ref sig .tc := ⟨.hbm, 315, rfl⟩
abbrev main_v129 : Ref sig .tc := ⟨.hbm, 316, rfl⟩
abbrev main_v130 : Ref sig .tc := ⟨.hbm, 317, rfl⟩

abbrev nD : Nat := 1
abbrev τ : Topo := Topo.v7x

variable {F : FTy → Type} [FloatOps F]

abbrev main_while0_count : Scf.Loop 32 := ⟨0#32, 32#32, 1#32⟩
-- ==== Proof.FfnSpec.lean ====
/- The gated ConvFFN sub-layer over the extended reals, one element at a time: the functions of the arguments' elements that the kernel and the reference are
   both shown to compute. -/
module

public import Idealize.ShloMosaic.Lib.Pointwise

@[expose] public section

noncomputable section

namespace Cert.Layer

open Idealize.ShloMosaic

/-- The mean of a row of 1024 elements. -/
def mean (f : Fin 1024 → EReal) : EReal := Ideal.div (∑ k, f k) (Ideal.ofBits .f32 0x44800000#32)

/-- Layer normalization of a row without an affine part. -/
def normed (f : Fin 1024 → EReal) (j : Fin 1024) : EReal :=
  (f j - mean f) * Ideal.rsqrt (mean (fun k => (f k - mean f) * (f k - mean f)) + Ideal.ofBits .f32 0x358637BD#32)

/-- The gate's activation: GELU in its tanh form. -/
def gelu (g : EReal) : EReal :=
  g * (Ideal.ofBits .f32 0x3F000000#32
    * (1 + Ideal.tanh (Ideal.ofBits .f32 0x3F4C422A#32 * (g + Ideal.ofBits .f32 0x3D372713#32 * (g * g * g)))))

/-- The centred convolution over three neighbouring rows `a`, `b`, `c`, with its bias. -/
def taps (a b c w0 w1 w2 bias : EReal) : EReal := a * w0 + b * w1 + c * w2 + bias

section Sublayer

variable (x : (⟨3, ![16, 4096, 1024]⟩ : Shape).Idx → EReal) (shift scale gate : (⟨3, ![16, 1, 1024]⟩ : Shape).Idx → EReal)
  (wUp : (⟨2, ![1024, 5632]⟩ : Shape).Idx → EReal) (wConv : (⟨2, ![3, 5632]⟩ : Shape).Idx → EReal) (bConv : (⟨2, ![1, 5632]⟩ : Shape).Idx → EReal)
  (wDown : (⟨2, ![2816, 1024]⟩ : Shape).Idx → EReal) (lnG lnB : (⟨2, ![1, 1024]⟩ : Shape).Idx → EReal)

/-- Channel `j` of the normalized and modulated token `t` of sample `b`. -/
def modulated (b : Fin 16) (t : Fin 4096) (j : Fin 1024) : EReal :=
  normed (fun k => x (ix3 b t k)) j * (1 + scale (ix3 b 0 j)) + shift (ix3 b 0 j)

/-- Hidden column `n` of token `t`. -/
def hidden (b : Fin 16) (t : Fin 4096) (n : Fin 5632) : EReal :=
  ∑ k : Fin 1024, modulated x shift scale b t k * wUp (ix2 k n)

/-- The hidden column with one zero row before the first token and one after the last: position `p` holds token `p - 1`. -/
def padded (b : Fin 16) (p : ℕ) (n : Fin 5632) : EReal :=
  if h : 1 ≤ p ∧ p < 4097 then hidden x shift scale wUp b ⟨p - 1, by omega⟩ n else 0

/-- The convolved hidden column `n` at token `t`. -/
def convolved (b : Fin 16) (t : Fin 4096) (n : Fin 5632) : EReal :=
  taps (padded x shift scale wUp b t n) (padded x shift scale wUp b (t + 1) n) (padded x shift scale wUp b (t + 2) n)
    (wConv (ix2 0 n)) (wConv (ix2 1 n)) (wConv (ix2 2 n)) (bConv (ix2 0 n))

/-- The gated product in hidden column `l`. -/
def gated (b : Fin 16) (t : Fin 4096) (l : Fin 2816) : EReal :=
  gelu (convolved x shift scale wUp wConv bConv b t ⟨2816 + l, by omega⟩) * convolved x shift scale wUp wConv bConv b t ⟨l, by omega⟩

/-- The residual sum before the last normalization. -/
def residual (b : Fin 16) (t : Fin 4096) (j : Fin 1024) : EReal :=
  Ideal.ofBits .f32 0x3FD744FD#32 * x (ix3 b t j)
    + gate (ix3 b 0 j) * ∑ l : Fin 2816, gated x shift scale wUp wConv bConv b t l * wDown (ix2 l j)

/-- The sub-layer's result. -/
def ffn (b : Fin 16) (t : Fin 4096) (j : Fin 1024) : EReal :=
  normed (residual x shift scale gate wUp wConv bConv wDown b t) j * lnG (ix2 0 j) + lnB (ix2 0 j)

end Sublayer

end Cert.Layer

end
-- ==== Proof.FfnBlock.lean ====
/- One grid point of the ConvFFN kernel: the block it writes, as a function of its input blocks. The eleven column chunks of the hidden layer are one statement at a
   generic chunk; the block of hidden products they fill is then read as one array. -/
module

public import proofs.«01_k».proof.Proof.Gen.FfnIdeal.Value
public import proofs.«01_k».proof.Proof.FfnSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnIdeal.Value

open Cert.FfnIdeal Cert.FfnIdeal.Gen Cert.Layer Idealize.ShloMosaic Idealize.ShloMosaic.TcCoe Idealize.SL.Sem

/-- The up projection of row `e` of the extended block (8 halo rows, 512 rows, 8 halo rows) into hidden column `n`. -/
def hid (u : FVec Ideal S528x1024 .bf16) (w6 : FVec Ideal S1024x5632 .bf16) (e : Fin 528) (n : Fin 5632) : EReal :=
  ∑ k : Fin 1024, u (ix2 e k) * w6 (ix2 k n)

/-- The convolved hidden column `n` at row `r` of the block. -/
def conv (u : FVec Ideal S528x1024 .bf16) (w6 : FVec Ideal S1024x5632 .bf16) (w7 : FVec Ideal S3x5632 .f32) (w8 : FVec Ideal S1x5632 .f32)
    (r : Fin 512) (n : Fin 5632) : EReal :=
  taps (hid u w6 ⟨7 + r, by omega⟩ n) (hid u w6 ⟨8 + r, by omega⟩ n) (hid u w6 ⟨9 + r, by omega⟩ n)
    (w7 (ix2 0 n)) (w7 (ix2 1 n)) (w7 (ix2 2 n)) (w8 (ix2 0 n))

/-- The block of gated hidden products. -/
def prods (u : FVec Ideal S528x1024 .bf16) (w6 : FVec Ideal S1024x5632 .bf16) (w7 : FVec Ideal S3x5632 .f32) (w8 : FVec Ideal S1x5632 .f32) :
    FVec Ideal S512x2816 .bf16 := fun y =>
  gelu (conv u w6 w7 w8 (y 0) ⟨2816 + (y 1).val, by have h : (y 1).val < 2816 := (y 1).isLt; omega⟩)
    * conv u w6 w7 w8 (y 0) ⟨(y 1).val, by have h : (y 1).val < 2816 := (y 1).isLt; omega⟩

/-- Rows `o … o + 511` of a chunk of the extended hidden block. -/
def rowsAt (o : ℕ) (h : FVec Ideal S528x256 .f32) (inb : ∀ a, (![o, 0] : Fin 2 → ℕ) a + S512x256.size a ≤ S528x256.size a) : FVec Ideal S512x256 .f32 :=
  View.ld (Val := Elt Ideal) (e' := .f32) h (Rect.unit (s := S528x256) ![o, 0] S512x256.size inb)

/-- What a chunk stores, from its slices of the weights. -/
def chunk (u : FVec Ideal S528x1024 .bf16) (wa wg : FVec Ideal S1024x256 .bf16) (ca cg : FVec Ideal S3x256 .f32) (ba bg : FVec Ideal S1x256 .f32) :
    FVec Ideal S512x256 .bf16 :=
  k0_pay14
    (k0_pay11 cg (rowsAt 7 (k0_pay9 u wg) inb_S528x256_S512x256_7_0) (rowsAt 8 (k0_pay9 u wg) inb_S528x256_S512x256_8_0)
      (rowsAt 9 (k0_pay9 u wg) inb_S528x256_S512x256_9_0) bg)
    (k0_pay12 cg (rowsAt 7 (k0_pay9 u wg) inb_S528x256_S512x256_7_0) (rowsAt 8 (k0_pay9 u wg) inb_S528x256_S512x256_8_0)
      (rowsAt 9 (k0_pay9 u wg) inb_S528x256_S512x256_9_0) bg)
    k0_pay13 ca (rowsAt 7 (k0_pay8 u wa) inb_S528x256_S512x256_7_0) (rowsAt 8 (k0_pay8 u wa) inb_S528x256_S512x256_8_0)
    (rowsAt 9 (k0_pay8 u wa) inb_S528x256_S512x256_9_0) ba

/-- A chunk's element. -/
theorem chunk_apply (u : FVec Ideal S528x1024 .bf16) (wa wg : FVec Ideal S1024x256 .bf16) (ca cg : FVec Ideal S3x256 .f32) (ba bg : FVec Ideal S1x256 .f32)
    (r : Fin 512) (l : Fin 256) :
    chunk u wa wg ca cg ba bg (ix2 r l)
      = gelu (taps (∑ k : Fin 1024, u (ix2 ⟨7 + r, by omega⟩ k) * wg (ix2 k l)) (∑ k : Fin 1024, u (ix2 ⟨8 + r, by omega⟩ k) * wg (ix2 k l))
          (∑ k : Fin 1024, u (ix2 ⟨9 + r, by omega⟩ k) * wg (ix2 k l)) (cg (ix2 0 l)) (cg (ix2 1 l)) (cg (ix2 2 l)) (bg (ix2 0 l)))
        * taps (∑ k : Fin 1024, u (ix2 ⟨7 + r, by omega⟩ k) * wa (ix2 k l)) (∑ k : Fin 1024, u (ix2 ⟨8 + r, by omega⟩ k) * wa (ix2 k l))
          (∑ k : Fin 1024, u (ix2 ⟨9 + r, by omega⟩ k) * wa (ix2 k l)) (ca (ix2 0 l)) (ca (ix2 1 l)) (ca (ix2 2 l)) (ba (ix2 0 l)) := by
  unfold chunk rowsAt
  unfold_payloads
  pointwise [gelu, taps]
  congr 1
  rw [mul_assoc, mul_left_comm]

/-- The chunk at column offset `o`: its element is the block's element `o` columns further on. -/
theorem chunk_at (u : FVec Ideal S528x1024 .bf16) (w6 : FVec Ideal S1024x5632 .bf16) (w7 : FVec Ideal S3x5632 .f32) (w8 : FVec Ideal S1x5632 .f32)
    (o o' : ℕ) (ho : o' = 2816 + o)
    (i6 : ∀ a, (![0, o] : Fin 2 → ℕ) a + S1024x256.size a ≤ S1024x5632.size a) (i6' : ∀ a, (![0, o'] : Fin 2 → ℕ) a + S1024x256.size a ≤ S1024x5632.size a)
    (i7 : ∀ a, (![0, o] : Fin 2 → ℕ) a + S3x256.size a ≤ S3x5632.size a) (i7' : ∀ a, (![0, o'] : Fin 2 → ℕ) a + S3x256.size a ≤ S3x5632.size a)
    (i8 : ∀ a, (![0, o] : Fin 2 → ℕ) a + S1x256.size a ≤ S1x5632.size a) (i8' : ∀ a, (![0, o'] : Fin 2 → ℕ) a + S1x256.size a ≤ S1x5632.size a)
    (x : S512x256.Idx) (y : S512x2816.Idx) (h0 : (y 0 : ℕ) = x 0) (h1 : (y 1 : ℕ) = o + x 1) :
    chunk u (View.ld (Val := Elt Ideal) (e' := .bf16) w6 (Rect.unit (s := S1024x5632) ![0, o] S1024x256.size i6)) (View.ld (Val := Elt Ideal) (e' := .bf16) w6 (Rect.unit (s := S1024x5632) ![0, o'] S1024x256.size i6'))
      (View.ld (Val := Elt Ideal) (e' := .f32) w7 (Rect.unit (s := S3x5632) ![0, o] S3x256.size i7)) (View.ld (Val := Elt Ideal) (e' := .f32) w7 (Rect.unit (s := S3x5632) ![0, o'] S3x256.size i7'))
      (View.ld (Val := Elt Ideal) (e' := .f32) w8 (Rect.unit (s := S1x5632) ![0, o] S1x256.size i8)) (View.ld (Val := Elt Ideal) (e' := .f32) w8 (Rect.unit (s := S1x5632) ![0, o'] S1x256.size i8')) x
      = prods u w6 w7 w8 y := by
  idx_vars x
  idx_vars y
  subst ho
  rw [chunk_apply]
  simp only [prods, conv, hid]
  pointwise at h0 h1
  pointwise
  obtain rfl : y0 = x0 := Fin.ext h0
  simp only [h1, Nat.add_assoc]

/-- A load of the whole block of hidden products reads the block. -/
theorem read_all (C G : S512x2816.Idx → EReal) (h : ∀ y, C y = G y) :
    (fun j => C ((Rect.unit (s := S512x2816) ![0, 0] S512x2816.size inb_S512x2816_S512x2816_0_0).toLoadRect.idx j)) = G := by
  funext j
  refine (h _).trans (congrArg G (funext fun a => Fin.ext ?_))
  match a with
  | ⟨0, _⟩ => show 0 + 1 * (j 0 : ℕ) = j 0; omega
  | ⟨1, _⟩ => show 0 + 1 * (j 1 : ℕ) = j 1; omega

variable (m : (ℓ : Loc nD τ sig) → Buf (Elt Ideal) ℓ)

/-- What a grid point leaves in the output window, with the hidden products as one block. -/
theorem block_eq (c : Dev nD) (t : Fin cfg0.N) :
    outsAt0 m c t
      = k0_pay1 (k0_pay72 (k0_pay2 (iblk m c 0 t))
          (k0_pay71 (prods (k0_pay7 (k0_pay2 (iblk m c 0 t)) (k0_pay3 (iblk m c 4 t)) (k0_pay4 (iblk m c 3 t)) (k0_pay5 (grid0.coords t))
            (k0_pay6 (grid0.coords t) (iblk m c 4 t) (iblk m c 3 t) (iblk m c 1 t)) (iblk m c 2 t)) (iblk m c 6 t) (iblk m c 7 t) (iblk m c 8 t)) (iblk m c 9 t))
          (iblk m c 5 t) (iblk m c 10 t)) (iblk m c 11 t) := by
  unfold outsAt0
  frame_open
  simp (disch := decide) only [↓ View.readCov_skip, ↓ View.readCov_cons_toLoadRect, ↓ View.readCov_fill]
  frame_out
  refine congrArg (fun p => k0_pay1 (k0_pay72 _ (k0_pay71 p _) _ _) _) ?_
  generalize (k0_pay7 (F := Ideal) _ _ _ _ _ _) = u
  generalize (iblk m c 6 t) = w6
  generalize (iblk m c 7 t) = w7
  generalize (iblk m c 8 t) = w8
  rw [View.readCov_eq_canon']
  refine read_all _ _ fun y => ?_
  canon_tiles x h
  · exact chunk_at u w6 w7 w8 2560 5376 rfl _ _ _ _ _ _ x y h0 h1
  · exact chunk_at u w6 w7 w8 2304 5120 rfl _ _ _ _ _ _ x y h0 h1
  · exact chunk_at u w6 w7 w8 2048 4864 rfl _ _ _ _ _ _ x y h0 h1
  · exact chunk_at u w6 w7 w8 1792 4608 rfl _ _ _ _ _ _ x y h0 h1
  · exact chunk_at u w6 w7 w8 1536 4352 rfl _ _ _ _ _ _ x y h0 h1
  · exact chunk_at u w6 w7 w8 1280 4096 rfl _ _ _ _ _ _ x y h0 h1
  · exact chunk_at u w6 w7 w8 1024 3840 rfl _ _ _ _ _ _ x y h0 h1
  · exact chunk_at u w6 w7 w8 768 3584 rfl _ _ _ _ _ _ x y h0 h1
  · exact chunk_at u w6 w7 w8 512 3328 rfl _ _ _ _ _ _ x y h0 h1
  · exact chunk_at u w6 w7 w8 256 3072 rfl _ _ _ _ _ _ x y h0 h1
  · exact chunk_at u w6 w7 w8 0 2816 rfl _ _ _ _ _ _ x y h0 (by omega)

end Cert.FfnIdeal.Value

end
-- ==== Proof.FfnValue.lean ====
/- The ConvFFN kernel's result array, element by element: the sub-layer's formula at the arguments. -/
module

public import proofs.«01_k».proof.Proof.FfnBlock

@[expose] public section

set_option maxRecDepth 16384

noncomputable section

namespace Cert.FfnIdeal.Value

open Cert.FfnIdeal Cert.FfnIdeal.Gen Cert.Layer Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

theorem coords0 : ∀ t : Fin grid0.N, (grid0.coords t 0 : ℕ) = t / 8 := by decide +kernel
theorem coords1 : ∀ t : Fin grid0.N, (grid0.coords t 1 : ℕ) = t % 8 := by decide +kernel

/-- Where each window's block lies. -/
theorem places : ∀ t : Fin grid0.N, win0_0.index t = ![t.val / 8, t.val % 8, 0] ∧ win0_1.index t = ![t.val / 8, 64 * (t.val % 8) - 1, 0]
    ∧ win0_2.index t = ![t.val / 8, min (64 * (t.val % 8) + 64) 511, 0] ∧ win0_3.index t = ![t.val / 8, 0, 0] ∧ win0_4.index t = ![t.val / 8, 0, 0]
    ∧ win0_5.index t = ![t.val / 8, 0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![t.val / 8, t.val % 8, 0] := by decide +kernel

theorem lt16 (t : Fin cfg0.N) : t.val / 8 < 16 := by have := t.isLt; have : cfg0.N = 128 := by decide +kernel
                                                     omega

variable (b : Fin 16) (q : Fin 8) (hb : t.val / 8 = b) (hq : t.val % 8 = q)

include hb hq in
theorem x_at (r : Fin 512) (k : Fin 1024) :
    (iblk m c 0 t : S1x512x1024.Idx → EReal) (ix3 0 r k) = m ((c : Thread nD τ).loc main_arg0) (ix3 b ⟨512 * q + r, by omega⟩ k) := by
  have p := places t
  blk_ext [iblk, V, p]

include hb hq in
theorem prev_at (h : 0 < q.val) (k : Fin 1024) :
    (iblk m c 1 t : S1x8x1024.Idx → EReal) (ix3 0 7 k) = m ((c : Thread nD τ).loc main_arg0) (ix3 b ⟨512 * q - 1, by omega⟩ k) := by
  have p := places t
  blk_ext [iblk, V, p]

include hb hq in
theorem next_at (h : q.val < 7) (k : Fin 1024) :
    (iblk m c 2 t : S1x8x1024.Idx → EReal) (ix3 0 0 k) = m ((c : Thread nD τ).loc main_arg0) (ix3 b ⟨512 * q + 512, by omega⟩ k) := by
  have p := places t
  blk_ext [iblk, V, p]

include hb in
theorem row3_at (k : Fin 1024) :
    (iblk m c 3 t : S1x1x1024.Idx → EReal) (ix3 0 0 k) = m ((c : Thread nD τ).loc main_arg1) (ix3 b 0 k) := by
  have p := places t
  blk_ext [iblk, V, p]

include hb in
theorem row4_at (k : Fin 1024) :
    (iblk m c 4 t : S1x1x1024.Idx → EReal) (ix3 0 0 k) = m ((c : Thread nD τ).loc main_arg2) (ix3 b 0 k) := by
  have p := places t
  blk_ext [iblk, V, p]

include hb in
theorem row5_at (k : Fin 1024) :
    (iblk m c 5 t : S1x1x1024.Idx → EReal) (ix3 0 0 k) = m ((c : Thread nD τ).loc main_arg3) (ix3 b 0 k) := by
  have p := places t
  blk_ext [iblk, V, p]

theorem whole6_at (r : Fin 1024) (k : Fin 5632) :
    (iblk m c 6 t : S1024x5632.Idx → EReal) (ix2 r k) = m ((c : Thread nD τ).loc main_arg4) (ix2 r k) := by
  have p := places t
  blk_ext [iblk, V, p]

theorem whole7_at (r : Fin 3) (k : Fin 5632) :
    (iblk m c 7 t : S3x5632.Idx → EReal) (ix2 r k) = m ((c : Thread nD τ).loc main_arg5) (ix2 r k) := by
  have p := places t
  blk_ext [iblk, V, p]

theorem whole8_at (r : Fin 1) (k : Fin 5632) :
    (iblk m c 8 t : S1x5632.Idx → EReal) (ix2 r k) = m ((c : Thread nD τ).loc main_arg6) (ix2 r k) := by
  have p := places t
  blk_ext [iblk, V, p]

theorem whole9_at (r : Fin 2816) (k : Fin 1024) :
    (iblk m c 9 t : S2816x1024.Idx → EReal) (ix2 r k) = m ((c : Thread nD τ).loc main_arg7) (ix2 r k) := by
  have p := places t
  blk_ext [iblk, V, p]

theorem whole10_at (r : Fin 1) (k : Fin 1024) :
    (iblk m c 10 t : S1x1024.Idx → EReal) (ix2 r k) = m ((c : Thread nD τ).loc main_arg8) (ix2 r k) := by
  have p := places t
  blk_ext [iblk, V, p]

theorem whole11_at (r : Fin 1) (k : Fin 1024) :
    (iblk m c 11 t : S1x1024.Idx → EReal) (ix2 r k) = m ((c : Thread nD τ).loc main_arg9) (ix2 r k) := by
  have p := places t
  blk_ext [iblk, V, p]

/-- The extended block of modulated tokens that a grid point projects. -/
def ext : FVec Ideal S528x1024 .bf16 :=
  k0_pay7 (k0_pay2 (iblk m c 0 t)) (k0_pay3 (iblk m c 4 t)) (k0_pay4 (iblk m c 3 t)) (k0_pay5 (grid0.coords t))
    (k0_pay6 (grid0.coords t) (iblk m c 4 t) (iblk m c 3 t) (iblk m c 1 t)) (iblk m c 2 t)

include hb hq in
/-- A row of the block itself. -/
theorem ext_mid (r : Fin 512) (k : Fin 1024) :
    ext m c t (ix2 ⟨8 + r, by omega⟩ k)
      = modulated (m ((c : Thread nD τ).loc main_arg0)) (m ((c : Thread nD τ).loc main_arg1)) (m ((c : Thread nD τ).loc main_arg2)) b ⟨512 * q + r, by omega⟩ k := by
  unfold ext
  unfold_payloads
  pointwise
  simp only [x_at m c t b q hb hq, row3_at m c t b hb, row4_at m c t b hb]
  rfl

/-- Whether there is a block before: the word the kernel computes, as a number. -/
theorem before_eq : (Scalar.extui (Scalar.cmpi CmpIPredicate.sgt (BitVec.ofNat 32 (grid0.coords t 1)) 0#32) : BitVec 32).toInt
    = if t.val % 8 = 0 then 0 else 1 := by
  revert t; decide +kernel

/-- Whether there is a block after. -/
theorem after_eq : (Scalar.extui (Scalar.cmpi CmpIPredicate.slt (BitVec.ofNat 32 (grid0.coords t 1)) 7#32) : BitVec 32).toInt
    = if t.val % 8 = 7 then 0 else 1 := by
  revert t; decide +kernel

include hb hq in
/-- The row before the block. -/
theorem ext_prev (h : 0 < q.val) (k : Fin 1024) :
    ext m c t (ix2 7 k)
      = modulated (m ((c : Thread nD τ).loc main_arg0)) (m ((c : Thread nD τ).loc main_arg1)) (m ((c : Thread nD τ).loc main_arg2)) b ⟨512 * q - 1, by omega⟩ k := by
  unfold ext
  unfold_payloads
  pointwise
  rw [before_eq, if_neg (by omega)]
  simp only [prev_at m c t b q hb hq h, row3_at m c t b hb, row4_at m c t b hb, Int.cast_one, EReal.coe_one, mul_one]
  rfl

include hq in
/-- Before the first block there is nothing. -/
theorem ext_first (h : q.val = 0) (k : Fin 1024) : ext m c t (ix2 7 k) = 0 := by
  unfold ext
  unfold_payloads
  pointwise
  rw [before_eq, if_pos (by omega)]
  simp

include hb hq in
/-- The row after the block. -/
theorem ext_next (h : q.val < 7) (k : Fin 1024) :
    ext m c t (ix2 520 k)
      = modulated (m ((c : Thread nD τ).loc main_arg0)) (m ((c : Thread nD τ).loc main_arg1)) (m ((c : Thread nD τ).loc main_arg2)) b ⟨512 * q + 512, by omega⟩ k := by
  unfold ext
  unfold_payloads
  pointwise
  rw [after_eq, if_neg (by omega)]
  simp only [next_at m c t b q hb hq h, row3_at m c t b hb, row4_at m c t b hb, Int.cast_one, EReal.coe_one, mul_one]
  rfl

include hq in
/-- After the last block there is nothing. -/
theorem ext_last (h : q.val = 7) (k : Fin 1024) : ext m c t (ix2 520 k) = 0 := by
  unfold ext
  unfold_payloads
  pointwise
  rw [after_eq, if_pos (by omega)]
  simp

/-- The memory's arrays under the names the specification gives them. -/
abbrev xs : S16x4096x1024.Idx → EReal := m ((c : Thread nD τ).loc main_arg0)
@[inherit_doc xs] abbrev shifts : S16x1x1024.Idx → EReal := m ((c : Thread nD τ).loc main_arg1)
@[inherit_doc xs] abbrev scales : S16x1x1024.Idx → EReal := m ((c : Thread nD τ).loc main_arg2)
@[inherit_doc xs] abbrev gates : S16x1x1024.Idx → EReal := m ((c : Thread nD τ).loc main_arg3)
@[inherit_doc xs] abbrev wUps : S1024x5632.Idx → EReal := m ((c : Thread nD τ).loc main_arg4)
@[inherit_doc xs] abbrev wConvs : S3x5632.Idx → EReal := m ((c : Thread nD τ).loc main_arg5)
@[inherit_doc xs] abbrev bConvs : S1x5632.Idx → EReal := m ((c : Thread nD τ).loc main_arg6)
@[inherit_doc xs] abbrev wDowns : S2816x1024.Idx → EReal := m ((c : Thread nD τ).loc main_arg7)
@[inherit_doc xs] abbrev lnGs : S1x1024.Idx → EReal := m ((c : Thread nD τ).loc main_arg8)
@[inherit_doc xs] abbrev lnBs : S1x1024.Idx → EReal := m ((c : Thread nD τ).loc main_arg9)

include hb hq in
/-- Row `7 + e` of the extended block's hidden layer is position `512 q + e` of the padded hidden layer. -/
theorem hid_eq (e : Fin 514) (n : Fin 5632) :
    hid (ext m c t) (iblk m c 6 t) ⟨7 + e, by omega⟩ n = padded (xs m c) (shifts m c) (scales m c) (wUps m c) b (512 * q + e) n := by
  unfold hid padded Layer.hidden
  simp only [whole6_at m c t]
  obtain ⟨e, he⟩ := e
  by_cases h0 : e = 0
  · subst h0
    by_cases hq0 : q.val = 0
    · rw [dif_neg (by simp only; omega)]
      refine Finset.sum_eq_zero fun k _ => ?_
      rw [show ext m c t (ix2 ⟨7 + 0, by omega⟩ k) = 0 from ext_first m c t q hq hq0 k, zero_mul]
    · rw [dif_pos (by simp only; omega)]
      refine Finset.sum_congr rfl fun k _ => ?_
      exact congrArg (· * _) (ext_prev m c t b q hb hq (by omega) k)
  by_cases h1 : e = 513
  · subst h1
    by_cases hq7 : q.val = 7
    · rw [dif_neg (by simp only; omega)]
      refine Finset.sum_eq_zero fun k _ => ?_
      rw [show ext m c t (ix2 ⟨7 + 513, by omega⟩ k) = 0 from ext_last m c t q hq hq7 k, zero_mul]
    · rw [dif_pos (by simp only; omega)]
      refine Finset.sum_congr rfl fun k _ => ?_
      exact congrArg (· * _) (ext_next m c t b q hb hq (by omega) k)
  · rw [dif_pos (by simp only; omega)]
    refine Finset.sum_congr rfl fun k _ => congrArg (· * _) ?_
    have h := ext_mid m c t b q hb hq ⟨e - 1, by omega⟩ k
    have e1 : (⟨8 + (e - 1), by omega⟩ : Fin 528) = ⟨7 + e, by omega⟩ := Fin.ext (by simp only; omega)
    have e2 : (⟨512 * q.val + (e - 1), by omega⟩ : Fin 4096) = ⟨512 * q.val + e - 1, by omega⟩ := Fin.ext (by simp only; omega)
    rw [e1, e2] at h
    exact h

include hb hq in
theorem conv_eq (r : Fin 512) (n : Fin 5632) :
    conv (ext m c t) (iblk m c 6 t) (iblk m c 7 t) (iblk m c 8 t) r n
      = convolved (xs m c) (shifts m c) (scales m c) (wUps m c) (wConvs m c) (bConvs m c) b ⟨512 * q + r, by omega⟩ n := by
  unfold conv convolved
  have h0 := hid_eq m c t b q hb hq ⟨r, by omega⟩ n
  have h1 := hid_eq m c t b q hb hq ⟨r + 1, by omega⟩ n
  have h2 := hid_eq m c t b q hb hq ⟨r + 1 + 1, by omega⟩ n
  simp only [show ∀ a : ℕ, 7 + (a + 1) = 8 + a by omega, show ∀ a : ℕ, 8 + (a + 1) = 9 + a by omega] at h0 h1 h2
  rw [h0, h1, h2, whole7_at, whole7_at, whole7_at, whole8_at]
  rfl

/-- The block, by its extended block of modulated tokens. -/
theorem block_ext :
    outsAt0 m c t
      = k0_pay1 (k0_pay72 (k0_pay2 (iblk m c 0 t)) (k0_pay71 (prods (ext m c t) (iblk m c 6 t) (iblk m c 7 t) (iblk m c 8 t)) (iblk m c 9 t))
          (iblk m c 5 t) (iblk m c 10 t)) (iblk m c 11 t) := by
  unfold ext
  exact block_eq m c t

include hb hq in
/-- A grid point's element of the result. -/
theorem block_at (r : Fin 512) (j : Fin 1024) :
    outsAt0 m c t (ix3 0 r j)
      = ffn (xs m c) (shifts m c) (scales m c) (gates m c) (wUps m c) (wConvs m c) (bConvs m c) (wDowns m c) (lnGs m c) (lnBs m c) b ⟨512 * q + r, by omega⟩ j := by
  have hp : ∀ l : Fin 2816, prods (ext m c t) (iblk m c 6 t) (iblk m c 7 t) (iblk m c 8 t) (ix2 r l)
      = gated (xs m c) (shifts m c) (scales m c) (wUps m c) (wConvs m c) (bConvs m c) b ⟨512 * q + r, by omega⟩ l := fun l =>
    congrArg₂ (gelu · * ·) (conv_eq m c t b q hb hq r _) (conv_eq m c t b q hb hq r _)
  rw [block_ext]
  generalize prods (ext m c t) (iblk m c 6 t) (iblk m c 7 t) (iblk m c 8 t) = P at hp ⊢
  unfold_payloads
  pointwise
  simp only [hp, x_at m c t b q hb hq, row5_at m c t b hb, whole9_at m c t, whole10_at m c t, whole11_at m c t]
  rfl

/-- The result array after the run. -/
theorem final_eq :
    (dats m 0 c).arrAt 12 cfg0.N = fun i : S16x4096x1024.Idx =>
      ffn (xs m c) (shifts m c) (scales m c) (gates m c) (wUps m c) (wConvs m c) (bConvs m c) (wDowns m c) (lnGs m c) (lnBs m c) (i 0) (i 1) (i 2) := by
  refine (dats m 0 c).arrAt_eq_of_covers 12 _ (by decide +kernel) fun t hf y => ?_
  blk_simp
  rw [after0_12]
  have ht : t.val < 128 := t.isLt
  idx_vars y
  obtain rfl : y0 = 0 := Fin.fin_one_eq_zero y0
  rw [block_at m c t ⟨t.val / 8, by omega⟩ ⟨t.val % 8, by omega⟩ rfl rfl]
  have p := (places t).2.2.2.2.2.2.2.2.2.2.2.2
  congr 1 <;> refine Fin.ext ?_ <;> blk_simp [p] <;> simp only [] <;> omega

end Cert.FfnIdeal.Value

end
-- ==== Proof.FfnRef.lean ====
/- The plain ConvFFN, as the reference program computes it: each stage's element is the specification's. -/
module

public import proofs.«01_k».proof.Proof.Gen.FfnRefIdeal.Read
public import proofs.«01_k».proof.Proof.FfnSpec
public import Idealize.ShloMosaic.Lib.Pipeline.ValueKit
public import Idealize.ShloMosaic.Lib.Pointwise

@[expose] public section

set_option maxRecDepth 16384

noncomputable section

namespace Cert.FfnRefIdeal.Spec

open Cert.FfnRefIdeal Cert.FfnRefIdeal.Read Cert.Layer Idealize.ShloMosaic Idealize.ShloMosaic.TcCoe Idealize.SL.Sem

variable (x0 : S16x4096x1024.Idx → EReal) (x1 x2 x3 : S16x1x1024.Idx → EReal) (x4 : S1024x5632.Idx → EReal) (x5 : S3x5632.Idx → EReal) (x6 : S1x5632.Idx → EReal)
  (x7 : S2816x1024.Idx → EReal) (x8 x9 : S1x1024.Idx → EReal)

theorem modulated_eq (b : Fin 16) (t : Fin 4096) (k : Fin 1024) :
    (val_main_v25 (F := Ideal) x0 x1 x2 : S16x4096x1024.Idx → EReal) (ix3 b t k) = modulated x0 x1 x2 b t k := by
  unfold val_main_v25 val_main_v24 val_main_v23 val_main_v22 val_main_v21 val_main_v20 val_main_cst_4 val_main_v19 val_main_v18 val_main_v17 val_main_v16 val_main_v15 val_main_cst_3 val_main_v14 val_main_v13 val_main_v12 val_main_v11 val_main_cst_2 val_main_v10 val_main_v9 val_main_cst_1 val_main_v8 val_main_v7 val_main_v6 val_main_v5 val_main_v4 val_main_cst_0 val_main_v3 val_main_v2 val_main_cst
  pointwise
  rfl

theorem hidden_eq (b : Fin 16) (t : Fin 4096) (n : Fin 5632) :
    (val_main_v26 (F := Ideal) x0 x1 x2 x4 : S16x4096x5632.Idx → EReal) (ix3 b t n) = Layer.hidden x0 x1 x2 x4 b t n := by
  unfold val_main_v26 val_main_v0
  pointwise
  simp only [modulated_eq]
  rfl

theorem padded_eq (b : Fin 16) (p : Fin 4098) (n : Fin 5632) :
    (val_main_v27 (F := Ideal) x0 x1 x2 x4 : S16x4098x5632.Idx → EReal) (ix3 b p n) = padded x0 x1 x2 x4 b p n := by
  unfold val_main_v27 val_main_call0_v0 val_main_c
  pointwise
  unfold padded
  by_cases h : 1 ≤ p.val ∧ p.val < 4097
  · rw [dif_pos ⟨h.1, by omega⟩, dif_pos h, hidden_eq]
  · rw [dif_neg (by omega), dif_neg h]
    show (((0#32 : BitVec 32).toInt : ℝ) : EReal) = 0
    simp

theorem convolved_eq (b : Fin 16) (t : Fin 4096) (n : Fin 5632) :
    (val_main_v52 (F := Ideal) x0 x1 x2 x4 x5 x6 : S16x4096x5632.Idx → EReal) (ix3 b t n) = convolved x0 x1 x2 x4 x5 x6 b t n := by
  unfold val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_cst_5 val_main_v33 val_main_v32 val_main_v31 val_main_v30 val_main_v29 val_main_v28
  pointwise
  simp only [padded_eq, Nat.add_comm 1, Nat.add_comm 2]
  rfl

theorem gated_eq (b : Fin 16) (t : Fin 4096) (l : Fin 2816) :
    (val_main_v68 (F := Ideal) x0 x1 x2 x4 x5 x6 : S16x4096x2816.Idx → EReal) (ix3 b t l) = gated x0 x1 x2 x4 x5 x6 b t l := by
  unfold val_main_v68 val_main_v67 val_main_v66 val_main_v65 val_main_cst_9 val_main_v64 val_main_v63 val_main_cst_8 val_main_v62 val_main_v61 val_main_v60 val_main_cst_7 val_main_v59 val_main_v58 val_main_v57 val_main_cst_6 val_main_v56 val_main_v55 val_main_v54 val_main_v53
  pointwise
  simp only [convolved_eq]
  rfl

theorem residual_eq (b : Fin 16) (t : Fin 4096) (j : Fin 1024) :
    (val_main_v74 (F := Ideal) x0 x1 x2 x3 x4 x5 x6 x7 : S16x4096x1024.Idx → EReal) (ix3 b t j) = residual x0 x1 x2 x3 x4 x5 x6 x7 b t j := by
  unfold val_main_v74 val_main_v73 val_main_v72 val_main_v71 val_main_v70 val_main_cst_10 val_main_v69 val_main_v1
  pointwise
  simp only [gated_eq]
  rfl

theorem ffn_eq (b : Fin 16) (t : Fin 4096) (j : Fin 1024) :
    (val_main_v98 (F := Ideal) x0 x1 x2 x3 x4 x5 x6 x7 x8 x9 : S16x4096x1024.Idx → EReal) (ix3 b t j) = ffn x0 x1 x2 x3 x4 x5 x6 x7 x8 x9 b t j := by
  unfold val_main_v98 val_main_v97 val_main_v96 val_main_v95 val_main_v94 val_main_v93 val_main_v92 val_main_v91 val_main_v90 val_main_v89 val_main_v88 val_main_cst_15 val_main_v87 val_main_v86 val_main_v85 val_main_v84 val_main_cst_14 val_main_v83 val_main_v82 val_main_cst_13 val_main_v81 val_main_v80 val_main_v79 val_main_v78 val_main_v77 val_main_cst_12 val_main_v76 val_main_v75 val_main_cst_11
  pointwise
  simp only [residual_eq]
  rfl

/-- The whole result, from arrays equal to the specification's. -/
theorem ffn_all (y0 : S16x4096x1024.Idx → EReal) (y1 y2 y3 : S16x1x1024.Idx → EReal) (y4 : S1024x5632.Idx → EReal) (y5 : S3x5632.Idx → EReal)
    (y6 : S1x5632.Idx → EReal) (y7 : S2816x1024.Idx → EReal) (y8 y9 : S1x1024.Idx → EReal)
    (h0 : x0 = y0) (h1 : x1 = y1) (h2 : x2 = y2) (h3 : x3 = y3) (h4 : x4 = y4) (h5 : x5 = y5) (h6 : x6 = y6) (h7 : x7 = y7) (h8 : x8 = y8) (h9 : x9 = y9) :
    (val_main_v98 (F := Ideal) x0 x1 x2 x3 x4 x5 x6 x7 x8 x9 : S16x4096x1024.Idx → EReal)
      = fun i => ffn y0 y1 y2 y3 y4 y5 y6 y7 y8 y9 (i 0) (i 1) (i 2) := by
  subst h0 h1 h2 h3 h4 h5 h6 h7 h8 h9
  funext i
  idx_vars i
  exact ffn_eq x0 x1 x2 x3 x4 x5 x6 x7 x8 x9 i0 i1 i2

end Cert.FfnRefIdeal.Spec

end
-- ==== Proof.ProjSpec.lean ====
/- The two projections of the mixing sub-layer over the extended reals, one element at a time. -/
module

public import proofs.«01_k».proof.Proof.FfnSpec

@[expose] public section

noncomputable section

namespace Cert.Layer

open Idealize.ShloMosaic

/-- Column `n` of the input projection of token `t`, into `N` columns. -/
def projIn {N : ℕ} (x : (⟨3, ![16, 4096, 1024]⟩ : Shape).Idx → EReal) (shift scale : (⟨3, ![16, 1, 1024]⟩ : Shape).Idx → EReal)
    (w : (⟨2, ![1024, N]⟩ : Shape).Idx → EReal) (b : Fin 16) (t : Fin 4096) (n : Fin N) : EReal :=
  ∑ k : Fin 1024, modulated x shift scale b t k * w (ix2 k n)

section Out

variable (yp yf : (⟨3, ![16, 4096, 256]⟩ : Shape).Idx → EReal) (ym : (⟨3, ![16, 4096, 512]⟩ : Shape).Idx → EReal)
  (x : (⟨3, ![16, 4096, 1024]⟩ : Shape).Idx → EReal) (gate : (⟨3, ![16, 1, 1024]⟩ : Shape).Idx → EReal)
  (w : (⟨2, ![1024, 1024]⟩ : Shape).Idx → EReal) (lnG lnB : (⟨2, ![1, 1024]⟩ : Shape).Idx → EReal)

/-- Column `j` of the output projection of token `t`: the three head groups against their rows of the weights. -/
def joined (b : Fin 16) (t : Fin 4096) (j : Fin 1024) : EReal :=
  (∑ k : Fin 256, yp (ix3 b t k) * w (ix2 ⟨k, by omega⟩ j)) + (∑ k : Fin 256, yf (ix3 b t k) * w (ix2 ⟨256 + k, by omega⟩ j))
    + ∑ k : Fin 512, ym (ix3 b t k) * w (ix2 ⟨512 + k, by omega⟩ j)

/-- The residual sum before the normalization. -/
def mixResidual (b : Fin 16) (t : Fin 4096) (j : Fin 1024) : EReal :=
  Ideal.ofBits .f32 0x3FD744FD#32 * x (ix3 b t j) + gate (ix3 b 0 j) * joined yp yf ym w b t j

/-- The mixing sub-layer's result. -/
def projOut (b : Fin 16) (t : Fin 4096) (j : Fin 1024) : EReal :=
  normed (mixResidual yp yf ym x gate w b t) j * lnG (ix2 0 j) + lnB (ix2 0 j)

end Out

/-- A sum over 1024 columns is the sums over its first 256, its next 256 and its last 512. -/
theorem sum_groups (f : Fin 1024 → EReal) :
    ∑ k, f k = (∑ k : Fin 256, f ⟨k, by omega⟩) + (∑ k : Fin 256, f ⟨256 + k, by omega⟩) + ∑ k : Fin 512, f ⟨512 + k, by omega⟩ := by
  rw [Fin.sum_univ_add (a := 512) (b := 512) (f := f), Fin.sum_univ_add (a := 256) (b := 256) (f := fun i => f (Fin.castAdd 512 i))]
  rfl

end Cert.Layer

end
-- ==== Proof.ProjInValue.lean ====
/- The input projection's two result arrays, element by element. -/
module

public import proofs.«01_k».proof.Proof.Gen.ProjInIdeal.Value
public import proofs.«01_k».proof.Proof.ProjSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ProjInIdeal.Value

open Cert.ProjInIdeal Cert.ProjInIdeal.Gen Cert.Layer Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- Where each window's block lies. -/
theorem places : ∀ t : Fin grid0.N, win0_0.index t = ![t.val / 8, t.val % 8, 0] ∧ win0_1.index t = ![t.val / 8, 0, 0] ∧ win0_2.index t = ![t.val / 8, 0, 0]
    ∧ win0_3.index t = ![0, 0] ∧ win0_4.index t = ![0, 0] ∧ win0_5.index t = ![t.val / 8, t.val % 8, 0] ∧ win0_6.index t = ![t.val / 8, t.val % 8, 0] := by
  decide +kernel

/-- The modulated tokens of a block. -/
def tokens (x0 : FVec Ideal S1x512x1024 .f32) (x1 x2 : FVec Ideal S1x1x1024 .f32) : FVec Ideal S512x1024 .bf16 := k0_pay2 x0 x2 x1

/-- The block of projected columns. -/
def cols (u : FVec Ideal S512x1024 .bf16) (w : FVec Ideal S1024x2560 .bf16) : FVec Ideal S1x512x2560 .bf16 := fun y =>
  ∑ k : Fin 1024, u (ix2 (y 1) k) * w (ix2 k (y 2))

/-- A chunk of columns of the projection: one product. -/
theorem pay4_at (u : FVec Ideal S512x1024 .bf16) (v : FVec Ideal S1024x512 .bf16) (r n : Fin 512) :
    k0_pay4 u v (ix3 0 r n) = ∑ k : Fin 1024, u (ix2 r k) * v (ix2 k n) := by
  unfold_payloads
  pointwise

@[inherit_doc pay4_at]
theorem pay5_at (u : FVec Ideal S512x1024 .bf16) (v : FVec Ideal S1024x512 .bf16) (r n : Fin 512) :
    k0_pay5 u v (ix3 0 r n) = ∑ k : Fin 1024, u (ix2 r k) * v (ix2 k n) := by
  unfold_payloads
  pointwise

@[inherit_doc pay4_at]
theorem pay6_at (u : FVec Ideal S512x1024 .bf16) (v : FVec Ideal S1024x512 .bf16) (r n : Fin 512) :
    k0_pay6 u v (ix3 0 r n) = ∑ k : Fin 1024, u (ix2 r k) * v (ix2 k n) := by
  unfold_payloads
  pointwise

@[inherit_doc pay4_at]
theorem pay7_at (u : FVec Ideal S512x1024 .bf16) (v : FVec Ideal S1024x512 .bf16) (r n : Fin 512) :
    k0_pay7 u v (ix3 0 r n) = ∑ k : Fin 1024, u (ix2 r k) * v (ix2 k n) := by
  unfold_payloads
  pointwise

@[inherit_doc pay4_at]
theorem pay3_at (a0 : FVec Ideal S1x512x1024 .f32) (a1 a2 : FVec Ideal S1x1x1024 .f32) (v : FVec Ideal S1024x512 .bf16) (r n : Fin 512) :
    k0_pay3 a0 a2 a1 v (ix3 0 r n) = ∑ k : Fin 1024, tokens a0 a1 a2 (ix2 r k) * v (ix2 k n) := by
  have h : ∀ k, tokens a0 a1 a2 (ix2 r k) = _ := fun k => by
    unfold tokens
    unfold_payloads
    pointwise
    rfl
  simp only [h]
  unfold_payloads
  pointwise

/-- Reading a chunk of columns of the weights, at column offset `o`. -/
theorem read_cols (w : FVec Ideal S1024x2560 .bf16) (o : ℕ) (ho : o + 512 ≤ 2560)
    (i : ∀ a, (![0, o] : Fin 2 → ℕ) a + S1024x512.size a ≤ S1024x2560.size a) (k : Fin 1024) (n : Fin 512) :
    View.ld (Val := Elt Ideal) (e' := .bf16) w (Rect.unit (s := S1024x2560) ![0, o] S1024x512.size i) (ix2 k n) = w (ix2 k ⟨o + n, by omega⟩) :=
  congrArg w (by
    funext a
    refine Fin.ext ?_
    fin_cases a <;> simp [Rect.unit])

variable (b : Fin 16) (q : Fin 8) (hb : t.val / 8 = b) (hq : t.val % 8 = q)

include hb hq in
theorem x_at (r : Fin 512) (k : Fin 1024) :
    (iblk m c 0 t : S1x512x1024.Idx → EReal) (ix3 0 r k) = m ((c : Thread nD τ).loc main_arg0) (ix3 b ⟨512 * q + r, by omega⟩ k) := by
  have p := places t
  blk_ext [iblk, V, p]

include hb in
theorem row1_at (k : Fin 1024) :
    (iblk m c 1 t : S1x1x1024.Idx → EReal) (ix3 0 0 k) = m ((c : Thread nD τ).loc main_arg1) (ix3 b 0 k) := by
  have p := places t
  blk_ext [iblk, V, p]

include hb in
theorem row2_at (k : Fin 1024) :
    (iblk m c 2 t : S1x1x1024.Idx → EReal) (ix3 0 0 k) = m ((c : Thread nD τ).loc main_arg2) (ix3 b 0 k) := by
  have p := places t
  blk_ext [iblk, V, p]

theorem whole3_at (r : Fin 1024) (k : Fin 2560) :
    (iblk m c 3 t : S1024x2560.Idx → EReal) (ix2 r k) = m ((c : Thread nD τ).loc main_arg3) (ix2 r k) := by
  have p := places t
  blk_ext [iblk, V, p]

theorem whole4_at (r : Fin 1024) (k : Fin 128) :
    (iblk m c 4 t : S1024x128.Idx → EReal) (ix2 r k) = m ((c : Thread nD τ).loc main_arg4) (ix2 r k) := by
  have p := places t
  blk_ext [iblk, V, p]

/-- The memory's arrays under the names the specification gives them. -/
abbrev xs : S16x4096x1024.Idx → EReal := m ((c : Thread nD τ).loc main_arg0)
@[inherit_doc xs] abbrev shifts : S16x1x1024.Idx → EReal := m ((c : Thread nD τ).loc main_arg1)
@[inherit_doc xs] abbrev scales : S16x1x1024.Idx → EReal := m ((c : Thread nD τ).loc main_arg2)
@[inherit_doc xs] abbrev wMains : S1024x2560.Idx → EReal := m ((c : Thread nD τ).loc main_arg3)
@[inherit_doc xs] abbrev wGates : S1024x128.Idx → EReal := m ((c : Thread nD τ).loc main_arg4)

include hb hq in
theorem tokens_at (r : Fin 512) (k : Fin 1024) :
    tokens (iblk m c 0 t) (iblk m c 1 t) (iblk m c 2 t) (ix2 r k) = modulated (xs m c) (shifts m c) (scales m c) b ⟨512 * q + r, by omega⟩ k := by
  unfold tokens
  unfold_payloads
  pointwise
  simp only [x_at m c t b q hb hq, row1_at m c t b hb, row2_at m c t b hb]
  rfl

/-- What a grid point leaves in the first output window. -/
theorem block5_eq (a0 : FVec Ideal S1x512x1024 .f32) (a1 a2 : FVec Ideal S1x1x1024 .f32) (a3 : FVec Ideal S1024x2560 .bf16) (a4 : FVec Ideal S1024x128 .bf16) (y : S1x512x2560.Idx) :
    out0_5 (F := Ideal) a0 a1 a2 a3 a4 y = cols (tokens a0 a1 a2) a3 y := by
  unfold out0_5 k0_pay9
  frame_out
  canon_tiles x h
  all_goals idx_vars x
  all_goals idx_vars y
  all_goals obtain rfl : y1 = x1 := Fin.ext h1
  all_goals obtain rfl : x0 = 0 := Fin.fin_one_eq_zero x0
  all_goals unfold cols
  · rw [show y2 = ⟨2048 + x2, by omega⟩ from Fin.ext h2]
    exact (pay7_at _ _ _ _).trans (Finset.sum_congr rfl fun k _ => congrArg _ (read_cols a3 2048 (by decide) _ k x2))
  · rw [show y2 = ⟨1536 + x2, by omega⟩ from Fin.ext h2]
    exact (pay6_at _ _ _ _).trans (Finset.sum_congr rfl fun k _ => congrArg _ (read_cols a3 1536 (by decide) _ k x2))
  · rw [show y2 = ⟨1024 + x2, by omega⟩ from Fin.ext h2]
    exact (pay5_at _ _ _ _).trans (Finset.sum_congr rfl fun k _ => congrArg _ (read_cols a3 1024 (by decide) _ k x2))
  · rw [show y2 = ⟨512 + x2, by omega⟩ from Fin.ext h2]
    exact (pay4_at _ _ _ _).trans (Finset.sum_congr rfl fun k _ => congrArg _ (read_cols a3 512 (by decide) _ k x2))
  · rw [show y2 = ⟨0 + x2, by omega⟩ from Fin.ext (by simpa using h2)]
    exact (pay3_at _ _ _ _ _ _).trans (Finset.sum_congr rfl fun k _ => congrArg _ (read_cols a3 0 (by decide) _ k x2))

include hb hq in
/-- A grid point's element of the second result. -/
theorem block6_at (r : Fin 512) (n : Fin 128) :
    out0_6 (iblk m c 0 t) (iblk m c 1 t) (iblk m c 2 t) (iblk m c 3 t) (iblk m c 4 t) (ix3 0 r n)
      = projIn (xs m c) (shifts m c) (scales m c) (wGates m c) b ⟨512 * q + r, by omega⟩ n := by
  unfold out0_6 k0_pay9
  frame_out
  change k0_pay1 (k0_pay8 (tokens (iblk m c 0 t) (iblk m c 1 t) (iblk m c 2 t)) _) (ix3 0 r n) = _
  have h := fun k => tokens_at m c t b q hb hq r k
  generalize tokens (iblk m c 0 t) (iblk m c 1 t) (iblk m c 2 t) = u at h ⊢
  unfold_payloads
  pointwise
  simp only [h, whole4_at m c t]
  rfl

include hb hq in
/-- A grid point's element of the first result. -/
theorem block5_at (r : Fin 512) (n : Fin 2560) :
    out0_5 (iblk m c 0 t) (iblk m c 1 t) (iblk m c 2 t) (iblk m c 3 t) (iblk m c 4 t) (ix3 0 r n)
      = projIn (xs m c) (shifts m c) (scales m c) (wMains m c) b ⟨512 * q + r, by omega⟩ n := by
  rw [block5_eq]
  unfold cols projIn
  pointwise
  simp only [tokens_at m c t b q hb hq, whole3_at m c t]

/-- The first result array after the run. -/
theorem final5_eq :
    (dats m 0 c).arrAt 5 cfg0.N = fun i : S16x4096x2560.Idx => projIn (xs m c) (shifts m c) (scales m c) (wMains m c) (i 0) (i 1) (i 2) := by
  refine (dats m 0 c).arrAt_eq_of_covers 5 _ (by decide +kernel) fun t hf y => ?_
  blk_simp
  rw [after0_5]
  have ht : t.val < 128 := t.isLt
  idx_vars y
  obtain rfl : y0 = 0 := Fin.fin_one_eq_zero y0
  rw [block5_at m c t ⟨t.val / 8, by omega⟩ ⟨t.val % 8, by omega⟩ rfl rfl]
  have p := (places t).2.2.2.2.2.1
  congr 1 <;> refine Fin.ext ?_ <;> blk_simp [p] <;> simp only [] <;> omega

/-- The second result array after the run. -/
theorem final6_eq :
    (dats m 0 c).arrAt 6 cfg0.N = fun i : S16x4096x128.Idx => projIn (xs m c) (shifts m c) (scales m c) (wGates m c) (i 0) (i 1) (i 2) := by
  refine (dats m 0 c).arrAt_eq_of_covers 6 _ (by decide +kernel) fun t hf y => ?_
  blk_simp
  rw [after0_6]
  have ht : t.val < 128 := t.isLt
  idx_vars y
  obtain rfl : y0 = 0 := Fin.fin_one_eq_zero y0
  rw [block6_at m c t ⟨t.val / 8, by omega⟩ ⟨t.val % 8, by omega⟩ rfl rfl]
  have p := (places t).2.2.2.2.2.2
  congr 1 <;> refine Fin.ext ?_ <;> blk_simp [p] <;> simp only [] <;> omega

end Cert.ProjInIdeal.Value

end
-- ==== Proof.ProjOutValue.lean ====
/- The output projection's result array, element by element. -/
module

public import proofs.«01_k».proof.Proof.Gen.ProjOutIdeal.Value
public import proofs.«01_k».proof.Proof.ProjSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ProjOutIdeal.Value

open Cert.ProjOutIdeal Cert.ProjOutIdeal.Gen Cert.Layer Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- Where each window's block lies. -/
theorem places : ∀ t : Fin grid0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0] ∧ win0_4.index t = ![t.val / 8, 0, 0]
    ∧ win0_5.index t = ![0, 0] ∧ win0_6.index t = ![1, 0] ∧ win0_7.index t = ![1, 0] ∧ win0_8.index t = ![0, 0] ∧ win0_9.index t = ![0, 0]
    ∧ win0_10.index t = ![t.val / 8, t.val % 8, 0] := by decide +kernel

theorem w5_at (r : Fin 256) (k : Fin 1024) :
    (iblk m c 5 t : S256x1024.Idx → EReal) (ix2 r k) = m ((c : Thread nD τ).loc main_arg5) (ix2 ⟨r, by omega⟩ k) := by
  have p := places t
  blk_ext [iblk, V, p]

theorem w6_at (r : Fin 256) (k : Fin 1024) :
    (iblk m c 6 t : S256x1024.Idx → EReal) (ix2 r k) = m ((c : Thread nD τ).loc main_arg5) (ix2 ⟨256 + r, by omega⟩ k) := by
  have p := places t
  blk_ext [iblk, V, p]

theorem w7_at (r : Fin 512) (k : Fin 1024) :
    (iblk m c 7 t : S512x1024.Idx → EReal) (ix2 r k) = m ((c : Thread nD τ).loc main_arg5) (ix2 ⟨512 + r, by omega⟩ k) := by
  have p := places t
  blk_ext [iblk, V, p]

theorem row8_at (k : Fin 1024) :
    (iblk m c 8 t : S1x1024.Idx → EReal) (ix2 0 k) = m ((c : Thread nD τ).loc main_arg6) (ix2 0 k) := by
  have p := places t
  blk_ext [iblk, V, p]

theorem row9_at (k : Fin 1024) :
    (iblk m c 9 t : S1x1024.Idx → EReal) (ix2 0 k) = m ((c : Thread nD τ).loc main_arg7) (ix2 0 k) := by
  have p := places t
  blk_ext [iblk, V, p]

variable (b : Fin 16) (q : Fin 8) (hb : t.val / 8 = b) (hq : t.val % 8 = q)

include hb hq in
theorem yp_at (r : Fin 512) (k : Fin 256) :
    (iblk m c 0 t : S1x512x256.Idx → EReal) (ix3 0 r k) = m ((c : Thread nD τ).loc main_arg0) (ix3 b ⟨512 * q + r, by omega⟩ k) := by
  have p := places t
  blk_ext [iblk, V, p]

include hb hq in
theorem yf_at (r : Fin 512) (k : Fin 256) :
    (iblk m c 1 t : S1x512x256.Idx → EReal) (ix3 0 r k) = m ((c : Thread nD τ).loc main_arg1) (ix3 b ⟨512 * q + r, by omega⟩ k) := by
  have p := places t
  blk_ext [iblk, V, p]

include hb hq in
theorem ym_at (r : Fin 512) (k : Fin 512) :
    (iblk m c 2 t : S1x512x512.Idx → EReal) (ix3 0 r k) = m ((c : Thread nD τ).loc main_arg2) (ix3 b ⟨512 * q + r, by omega⟩ k) := by
  have p := places t
  blk_ext [iblk, V, p]

include hb hq in
theorem x_at (r : Fin 512) (k : Fin 1024) :
    (iblk m c 3 t : S1x512x1024.Idx → EReal) (ix3 0 r k) = m ((c : Thread nD τ).loc main_arg3) (ix3 b ⟨512 * q + r, by omega⟩ k) := by
  have p := places t
  blk_ext [iblk, V, p]

include hb in
theorem row4_at (k : Fin 1024) :
    (iblk m c 4 t : S1x1x1024.Idx → EReal) (ix3 0 0 k) = m ((c : Thread nD τ).loc main_arg4) (ix3 b 0 k) := by
  have p := places t
  blk_ext [iblk, V, p]

/-- The memory's arrays under the names the specification gives them. -/
abbrev yps : S16x4096x256.Idx → EReal := m ((c : Thread nD τ).loc main_arg0)
@[inherit_doc yps] abbrev yfs : S16x4096x256.Idx → EReal := m ((c : Thread nD τ).loc main_arg1)
@[inherit_doc yps] abbrev yms : S16x4096x512.Idx → EReal := m ((c : Thread nD τ).loc main_arg2)
@[inherit_doc yps] abbrev xs : S16x4096x1024.Idx → EReal := m ((c : Thread nD τ).loc main_arg3)
@[inherit_doc yps] abbrev gates : S16x1x1024.Idx → EReal := m ((c : Thread nD τ).loc main_arg4)
@[inherit_doc yps] abbrev ws : S1024x1024.Idx → EReal := m ((c : Thread nD τ).loc main_arg5)
@[inherit_doc yps] abbrev lnGs : S1x1024.Idx → EReal := m ((c : Thread nD τ).loc main_arg6)
@[inherit_doc yps] abbrev lnBs : S1x1024.Idx → EReal := m ((c : Thread nD τ).loc main_arg7)

include hb hq in
/-- A grid point's element of the result. -/
theorem block_at (r : Fin 512) (j : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t)
        (ix3 0 r j)
      = projOut (yps m c) (yfs m c) (yms m c) (xs m c) (gates m c) (ws m c) (lnGs m c) (lnBs m c) b ⟨512 * q + r, by omega⟩ j := by
  unfold out0_10
  frame_out
  have h0 := yp_at m c t b q hb hq
  have h1 := yf_at m c t b q hb hq
  have h2 := ym_at m c t b q hb hq
  have h3 := x_at m c t b q hb hq
  have h4 := row4_at m c t b hb
  have h5 := w5_at m c t
  have h6 := w6_at m c t
  have h7 := w7_at m c t
  have h8 := row8_at m c t
  have h9 := row9_at m c t
  generalize (iblk m c 0 t : S1x512x256.Idx → EReal) = u0 at h0 ⊢
  generalize (iblk m c 1 t : S1x512x256.Idx → EReal) = u1 at h1 ⊢
  generalize (iblk m c 2 t : S1x512x512.Idx → EReal) = u2 at h2 ⊢
  generalize (iblk m c 3 t : S1x512x1024.Idx → EReal) = u3 at h3 ⊢
  generalize (iblk m c 4 t : S1x1x1024.Idx → EReal) = u4 at h4 ⊢
  generalize (iblk m c 5 t : S256x1024.Idx → EReal) = u5 at h5 ⊢
  generalize (iblk m c 6 t : S256x1024.Idx → EReal) = u6 at h6 ⊢
  generalize (iblk m c 7 t : S512x1024.Idx → EReal) = u7 at h7 ⊢
  generalize (iblk m c 8 t : S1x1024.Idx → EReal) = u8 at h8 ⊢
  generalize (iblk m c 9 t : S1x1024.Idx → EReal) = u9 at h9 ⊢
  unfold_payloads
  pointwise
  simp only [h0, h1, h2, h3, h4, h5, h6, h7, h8, h9]
  rfl

/-- The result array after the run. -/
theorem final_eq :
    (dats m 0 c).arrAt 10 cfg0.N = fun i : S16x4096x1024.Idx =>
      projOut (yps m c) (yfs m c) (yms m c) (xs m c) (gates m c) (ws m c) (lnGs m c) (lnBs m c) (i 0) (i 1) (i 2) := by
  refine (dats m 0 c).arrAt_eq_of_covers 10 _ (by decide +kernel) fun t hf y => ?_
  blk_simp
  rw [after0_10]
  have ht : t.val < 128 := t.isLt
  idx_vars y
  obtain rfl : y0 = 0 := Fin.fin_one_eq_zero y0
  rw [block_at m c t ⟨t.val / 8, by omega⟩ ⟨t.val % 8, by omega⟩ rfl rfl]
  have p := (places t).2.2.2.2.2.2.2.2.2.2
  congr 1 <;> refine Fin.ext ?_ <;> blk_simp [p] <;> simp only [] <;> omega

end Cert.ProjOutIdeal.Value

end
-- ==== Proof.ProjRef.lean ====
/- The plain projections, as the reference programs compute them. -/
module

public import proofs.«01_k».proof.Proof.Gen.ProjInRefIdeal.Read
public import proofs.«01_k».proof.Proof.Gen.ProjOutRefIdeal.Read
public import proofs.«01_k».proof.Proof.ProjSpec
public import Idealize.ShloMosaic.Lib.Pipeline.ValueKit
public import Idealize.ShloMosaic.Lib.Pointwise

@[expose] public section

set_option maxRecDepth 16384

noncomputable section

namespace Cert.ProjInRefIdeal.Spec

open Cert.ProjInRefIdeal Cert.ProjInRefIdeal.Read Cert.Layer Idealize.ShloMosaic Idealize.ShloMosaic.TcCoe Idealize.SL.Sem

variable (x0 : S16x4096x1024.Idx → EReal) (x1 x2 : S16x1x1024.Idx → EReal) (x3 : S1024x2560.Idx → EReal) (x4 : S1024x128.Idx → EReal)

theorem modulated_eq (b : Fin 16) (t : Fin 4096) (k : Fin 1024) :
    (val_main_v23 (F := Ideal) x0 x1 x2 : S16x4096x1024.Idx → EReal) (ix3 b t k) = modulated x0 x1 x2 b t k := by
  unfold val_main_v23 val_main_v22 val_main_v21 val_main_v20 val_main_v19 val_main_v18 val_main_cst_4 val_main_v17 val_main_v16 val_main_v15 val_main_v14 val_main_v13 val_main_cst_3 val_main_v12 val_main_v11 val_main_v10 val_main_v9 val_main_cst_2 val_main_v8 val_main_v7 val_main_cst_1 val_main_v6 val_main_v5 val_main_v4 val_main_v3 val_main_v2 val_main_cst_0 val_main_v1 val_main_v0 val_main_cst
  pointwise
  rfl

theorem main_eq (b : Fin 16) (t : Fin 4096) (n : Fin 2560) :
    (val_main_v26 (F := Ideal) x0 x1 x2 x3 : S16x4096x2560.Idx → EReal) (ix3 b t n) = projIn x0 x1 x2 x3 b t n := by
  unfold val_main_v26 val_main_v25 val_main_v24
  pointwise
  simp only [modulated_eq]
  rfl

theorem gate_eq (b : Fin 16) (t : Fin 4096) (n : Fin 128) :
    (val_main_v28 (F := Ideal) x0 x1 x2 x4 : S16x4096x128.Idx → EReal) (ix3 b t n) = projIn x0 x1 x2 x4 b t n := by
  unfold val_main_v28 val_main_v27
  pointwise
  simp only [modulated_eq]
  rfl

/-- The first result, from arrays equal to the specification's. -/
theorem main_all (y0 : S16x4096x1024.Idx → EReal) (y1 y2 : S16x1x1024.Idx → EReal) (y3 : S1024x2560.Idx → EReal)
    (h0 : x0 = y0) (h1 : x1 = y1) (h2 : x2 = y2) (h3 : x3 = y3) :
    (val_main_v26 (F := Ideal) x0 x1 x2 x3 : S16x4096x2560.Idx → EReal) = fun i => projIn y0 y1 y2 y3 (i 0) (i 1) (i 2) := by
  subst h0 h1 h2 h3
  funext i
  idx_vars i
  exact main_eq x0 x1 x2 x3 i0 i1 i2

/-- The second result, from arrays equal to the specification's. -/
theorem gate_all (y0 : S16x4096x1024.Idx → EReal) (y1 y2 : S16x1x1024.Idx → EReal) (y4 : S1024x128.Idx → EReal)
    (h0 : x0 = y0) (h1 : x1 = y1) (h2 : x2 = y2) (h4 : x4 = y4) :
    (val_main_v28 (F := Ideal) x0 x1 x2 x4 : S16x4096x128.Idx → EReal) = fun i => projIn y0 y1 y2 y4 (i 0) (i 1) (i 2) := by
  subst h0 h1 h2 h4
  funext i
  idx_vars i
  exact gate_eq x0 x1 x2 x4 i0 i1 i2

end Cert.ProjInRefIdeal.Spec

namespace Cert.ProjOutRefIdeal.Spec

open Cert.ProjOutRefIdeal Cert.ProjOutRefIdeal.Read Cert.Layer Idealize.ShloMosaic Idealize.ShloMosaic.TcCoe Idealize.SL.Sem

variable (x0 x1 : S16x4096x256.Idx → EReal) (x2 : S16x4096x512.Idx → EReal) (x3 : S16x4096x1024.Idx → EReal) (x4 : S16x1x1024.Idx → EReal)
  (x5 : S1024x1024.Idx → EReal) (x6 x7 : S1x1024.Idx → EReal)

theorem mixed_eq (b : Fin 16) (t : Fin 4096) (j : Fin 1024) :
    (val_main_v5 (F := Ideal) x0 x1 x2 x5 : S16x4096x1024.Idx → EReal) (ix3 b t j) = joined x0 x1 x2 x5 b t j := by
  unfold val_main_v5 val_main_v4 val_main_v1 val_main_v0
  pointwise
  rw [sum_groups]
  unfold joined
  refine congrArg₂ (· + ·) (congrArg₂ (· + ·) ?_ ?_) ?_
  all_goals refine Finset.sum_congr rfl fun k _ => ?_
  · rw [dif_pos k.isLt]
  · rw [dif_neg (show ¬256 + k.val < 256 by omega), dif_pos (show 256 + k.val - 256 < 256 by omega)]
    simp only [Nat.add_sub_cancel_left]
  · rw [dif_neg (show ¬512 + k.val < 256 by omega), dif_neg (show ¬512 + k.val - 256 < 256 by omega)]
    simp only [show 512 + k.val - 256 - 256 = k.val by omega]

theorem residual_eq (b : Fin 16) (t : Fin 4096) (j : Fin 1024) :
    (val_main_v8 (F := Ideal) x0 x1 x2 x3 x4 x5 : S16x4096x1024.Idx → EReal) (ix3 b t j) = mixResidual x0 x1 x2 x3 x4 x5 b t j := by
  unfold val_main_v8 val_main_v7 val_main_v6 val_main_v3 val_main_v2 val_main_cst
  pointwise
  simp only [mixed_eq]
  rfl

theorem out_eq (b : Fin 16) (t : Fin 4096) (j : Fin 1024) :
    (val_main_v32 (F := Ideal) x0 x1 x2 x3 x4 x5 x6 x7 : S16x4096x1024.Idx → EReal) (ix3 b t j) = projOut x0 x1 x2 x3 x4 x5 x6 x7 b t j := by
  unfold val_main_v32 val_main_v31 val_main_v30 val_main_v29 val_main_v28 val_main_v27 val_main_v26 val_main_v25 val_main_v24 val_main_v23 val_main_v22 val_main_cst_4 val_main_v21 val_main_v20 val_main_v19 val_main_v18 val_main_cst_3 val_main_v17 val_main_v16 val_main_cst_2 val_main_v15 val_main_v14 val_main_v13 val_main_v12 val_main_v11 val_main_cst_1 val_main_v10 val_main_v9 val_main_cst_0
  pointwise
  simp only [residual_eq]
  rfl

/-- The whole result, from arrays equal to the specification's. -/
theorem out_all (y0 y1 : S16x4096x256.Idx → EReal) (y2 : S16x4096x512.Idx → EReal) (y3 : S16x4096x1024.Idx → EReal) (y4 : S16x1x1024.Idx → EReal)
    (y5 : S1024x1024.Idx → EReal) (y6 y7 : S1x1024.Idx → EReal)
    (h0 : x0 = y0) (h1 : x1 = y1) (h2 : x2 = y2) (h3 : x3 = y3) (h4 : x4 = y4) (h5 : x5 = y5) (h6 : x6 = y6) (h7 : x7 = y7) :
    (val_main_v32 (F := Ideal) x0 x1 x2 x3 x4 x5 x6 x7 : S16x4096x1024.Idx → EReal)
      = fun i => projOut y0 y1 y2 y3 y4 y5 y6 y7 (i 0) (i 1) (i 2) := by
  subst h0 h1 h2 h3 h4 h5 h6 h7
  funext i
  idx_vars i
  exact out_eq x0 x1 x2 x3 x4 x5 x6 x7 i0 i1 i2

end Cert.ProjOutRefIdeal.Spec

end
-- ==== Proof.MlstmFrame.lean ====
module

public import proofs.«01_k».proof.Proof.Gen.Mlstm.Frame
public import proofs.«01_k».proof.Proof.Gen.Mlstm.Skeleton
public import proofs.«01_k».proof.Proof.Gen.Mlstm.Loops
public import Idealize.ShloMosaic.Lib.Claim

/-! The mLSTM call terminates from any memory and leaves its arguments as they were. The body runs at a generic
point of the grid on whole buffers; what it leaves in its five results is not named here. -/

@[expose] public section

set_option maxRecDepth 16384

noncomputable section

namespace Cert.Mlstm.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mlstm.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1020000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Mlstm`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 3 rfl).trans ((hA c 3).trans (V_main_arg0 m c)),
      (Pipeline.RDat.FramePost.arr_in h c 4 rfl).trans ((hA c 4).trans (V_main_arg1 m c)),
      (Pipeline.RDat.FramePost.arr_in h c 6 rfl).trans ((hA c 6).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x128x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x8x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x128x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x8x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x4096x128 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x128x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x8x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x128x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x8x128 .f32 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S4112x128 .f32 := Memref.whole cc0_scratch0
abbrev scM0_1 : Memref sig .tc .vmem S4096x128 .bf16 := Memref.whole cc0_scratch1
abbrev scM0_2 : Memref sig .tc .vmem S4096x128 .bf16 := Memref.whole cc0_scratch2
abbrev scM0_3 : Memref sig .tc .vmem S4096x128 .f32 := Memref.whole cc0_scratch3
abbrev scM0_4 : Memref sig .tc .vmem S4096x128 .f32 := Memref.whole cc0_scratch4
abbrev scM0_5 : Memref sig .tc .vmem S128x256 .f32 := Memref.whole cc0_scratch5
abbrev scM0_6 : Memref sig .tc .vmem S128x256 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

-- (the run's proof term is large: checking it walks past the default budget)
set_option maxHeartbeats 1256000 in
/-- The body's triple: on whole staging memrefs — the inputs' at their contents,
    the FORGOTTEN outputs' (12, 13, 14, 15, 16) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .f32) (harg6 : arg6.IsWhole) (arg7 : Memref sig .tc .vmem S3x128 .f32) (harg7 : arg7.IsWhole) (arg8 : Memref sig .tc .vmem S3x128 .f32) (harg8 : arg8.IsWhole) (arg9 : Memref sig .tc .vmem S1x128 .f32) (harg9 : arg9.IsWhole) (arg10 : Memref sig .tc .vmem S1x1x128x256 .f32) (harg10 : arg10.IsWhole) (arg11 : Memref sig .tc .vmem S1x1x8x128 .f32) (harg11 : arg11.IsWhole) (arg12 : Memref sig .tc .vmem S1x1x128x256 .f32) (harg12 : arg12.IsWhole) (arg13 : Memref sig .tc .vmem S1x1x8x128 .f32) (harg13 : arg13.IsWhole) (arg14 : Memref sig .tc .vmem S1x4096x128 .bf16) (harg14 : arg14.IsWhole) (arg15 : Memref sig .tc .vmem S1x1x128x256 .f32) (harg15 : arg15.IsWhole) (arg16 : Memref sig .tc .vmem S1x1x8x128 .f32) (harg16 : arg16.IsWhole) (arg17 : Memref sig .tc .vmem S1x1x128x256 .f32) (harg17 : arg17.IsWhole) (arg18 : Memref sig .tc .vmem S1x1x8x128 .f32) (harg18 : arg18.IsWhole) (arg19 : Memref sig .tc .vmem S4112x128 .f32) (harg19 : arg19.IsWhole) (arg20 : Memref sig .tc .vmem S4096x128 .bf16) (harg20 : arg20.IsWhole) (arg21 : Memref sig .tc .vmem S4096x128 .bf16) (harg21 : arg21.IsWhole) (arg22 : Memref sig .tc .vmem S4096x128 .f32) (harg22 : arg22.IsWhole) (arg23 : Memref sig .tc .vmem S4096x128 .f32) (harg23 : arg23.IsWhole) (arg24 : Memref sig .tc .vmem S128x256 .f32) (harg24 : arg24.IsWhole) (arg25 : Memref sig .tc .vmem S128x256 .f32) (harg25 : arg25.IsWhole)
    (x0 : Vec F S1x4096x128 .bf16) (x1 : Vec F S1x4096x128 .bf16) (x2 : Vec F S1x4096x128 .bf16) (x3 : Vec F S1x4096x128 .bf16) (x4 : Vec F S1x4096x128 .f32) (x5 : Vec F S3x128 .f32) (x6 : Vec F S3x128 .f32) (x7 : Vec F S1x128 .f32) (x8 : Vec F S1x1x128x256 .f32) (x9 : Vec F S1x1x8x128 .f32) (x10 : Vec F S1x1x128x256 .f32) (x11 : Vec F S1x1x8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none c none) E (cc0_mlstm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    intro E K
    simp only [cc0_mlstm_eq_skeleton]; unfold cc0_mlstm_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

/-! ## The pipeline's proof data -/

/-- The output windows this certificate FORGETS (12, 13, 14, 15, 16): nothing reads what the kernel leaves in them, so nothing
    of it is named (Lib/Pipeline/Dat.lean `Dat.toRForget`). -/
def forgets0 : Fin 17 → Bool := fun w => w.val == 12 || w.val == 13 || w.val == 14 || w.val == 15 || w.val == 16

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, H14, H15, H16, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 12, 13, 14, 15, 16) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRForget forgets0) (A_eq m) (run_main m ρ)

/-- THE FRAME: `Cert.quiescent_Mlstm`'s statement (Defs.lean) at any `F` — Proof.lean cites it at `Bits`:
    `theorem Cert.Proof.claim : Cert.Claim := ⟨Cert.Mlstm.Gen.facts, fun m ρ _ => Cert.Mlstm.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Mlstm.Scan

end
-- ==== Proof.MlstmRun.lean ====
module

public import proofs.«01_k».proof.Proof.Gen.MlstmIdeal.Frame
public import proofs.«01_k».proof.Proof.Gen.MlstmIdeal.Skeleton
public import proofs.«01_k».proof.Proof.Gen.MlstmIdeal.Loops
public import Idealize.ShloMosaic.Lib.Claim

/-! What one grid point of the mLSTM call leaves in its first result, as a list of stores the run of the body finds:
a function of what the point is called with, and of what its two scratch buffers for the two directions hold at its
start. The other results are not named.  -/

@[expose] public section

set_option maxRecDepth 16384

noncomputable section

namespace Cert.MlstmIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlstmIdeal.Gen

variable [Named Ideal]

local notation "𝕄" => MT nD τ sig Unit (Elt Ideal) ℕ (UR sig nD τ) ℕ

variable (m : (ℓ : Loc nD τ sig) → Buf (Elt Ideal) ℓ) (ρ : Dev nD → PrngReg)

set_option maxHeartbeats 3256000 in
/-- The stores of one grid point into its block of the first result, and the triple of the body with them. -/
@[irreducible] def scanRun (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .f32) (harg6 : arg6.IsWhole) (arg7 : Memref sig .tc .vmem S3x128 .f32) (harg7 : arg7.IsWhole) (arg8 : Memref sig .tc .vmem S3x128 .f32) (harg8 : arg8.IsWhole) (arg9 : Memref sig .tc .vmem S1x128 .f32) (harg9 : arg9.IsWhole) (arg10 : Memref sig .tc .vmem S1x1x128x256 .f32) (harg10 : arg10.IsWhole) (arg11 : Memref sig .tc .vmem S1x1x8x128 .f32) (harg11 : arg11.IsWhole) (arg12 : Memref sig .tc .vmem S1x1x128x256 .f32) (harg12 : arg12.IsWhole) (arg13 : Memref sig .tc .vmem S1x1x8x128 .f32) (harg13 : arg13.IsWhole) (arg14 : Memref sig .tc .vmem S1x4096x128 .bf16) (harg14 : arg14.IsWhole) (arg15 : Memref sig .tc .vmem S1x1x128x256 .f32) (harg15 : arg15.IsWhole) (arg16 : Memref sig .tc .vmem S1x1x8x128 .f32) (harg16 : arg16.IsWhole) (arg17 : Memref sig .tc .vmem S1x1x128x256 .f32) (harg17 : arg17.IsWhole) (arg18 : Memref sig .tc .vmem S1x1x8x128 .f32) (harg18 : arg18.IsWhole) (arg19 : Memref sig .tc .vmem S4112x128 .f32) (harg19 : arg19.IsWhole) (arg20 : Memref sig .tc .vmem S4096x128 .bf16) (harg20 : arg20.IsWhole) (arg21 : Memref sig .tc .vmem S4096x128 .bf16) (harg21 : arg21.IsWhole) (arg22 : Memref sig .tc .vmem S4096x128 .f32) (harg22 : arg22.IsWhole) (arg23 : Memref sig .tc .vmem S4096x128 .f32) (harg23 : arg23.IsWhole) (arg24 : Memref sig .tc .vmem S128x256 .f32) (harg24 : arg24.IsWhole) (arg25 : Memref sig .tc .vmem S128x256 .f32) (harg25 : arg25.IsWhole)
    (x0 : Vec Ideal S1x4096x128 .bf16) (x1 : Vec Ideal S1x4096x128 .bf16) (x2 : Vec Ideal S1x4096x128 .bf16) (x3 : Vec Ideal S1x4096x128 .bf16) (x4 : Vec Ideal S1x4096x128 .f32) (x5 : Vec Ideal S3x128 .f32) (x6 : Vec Ideal S3x128 .f32) (x7 : Vec Ideal S1x128 .f32) (x8 : Vec Ideal S1x1x128x256 .f32) (x9 : Vec Ideal S1x1x8x128 .f32) (x10 : Vec Ideal S1x1x128x256 .f32) (x11 : Vec Ideal S1x1x8x128 .f32) :
    { L : BufTy.Contents (Elt Ideal) arg22.view.ty → BufTy.Contents (Elt Ideal) arg23.view.ty → List (View.Piece (Elt Ideal) S1x4096x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, ⌜∃ (g : BufTy.Contents (Elt Ideal) arg14.view.ty) (f3 : BufTy.Contents (Elt Ideal) arg22.view.ty) (f4 : BufTy.Contents (Elt Ideal) arg23.view.ty), d = arg14.view.read (Elt Ideal) (arg14.view.writes (Elt Ideal) g (L f3 f4))⌝ ∗ owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := Ideal)) Variants.none c none) E (cc0_mlstm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
    refine ⟨?_, ?run⟩
    case run =>
      intro E K
      simp only [cc0_mlstm_eq_skeleton]; unfold cc0_mlstm_skel
      simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
      obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
      sl_exec
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; swap
        · iexists _; isplitr; swap; · iexact H12
          ipureintro; rfl
        ipureintro; refine ⟨f12, fs3, fs4, congrArg (fun l => arg14.view.read (Elt Ideal) (arg14.view.writes (Elt Ideal) f12 l)) ?_⟩
        with_reducible rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      iexists _, _; isplitr; swap; · iexact HS6
      ipureintro; rfl

end Cert.MlstmIdeal.Scan

end
-- ==== Proof.MlstmSpec.lean ====
/- The bidirectional mLSTM of the latent stream over the extended reals, one element at a time: a recurrence over chunks of 128 tokens whose memory is a matrix, a
   vector and a running maximum for each head, and the tokens' outputs inside a chunk. Both the kernel and the reference are shown to compute these functions. -/
module

public import Idealize.ShloMosaic.Lib.Pointwise

@[expose] public section

noncomputable section

namespace Cert.Layer

open Idealize.ShloMosaic

/-- The greatest of 128 values, from −∞. -/
def greatest (f : Fin 128 → EReal) : EReal := Finset.univ.fold max (Ideal.ofBits .f32 0xFF800000#32) f

/-- The logarithm of the logistic function. -/
def logsig (x : EReal) : EReal := min x 0 - Ideal.log (1 + Ideal.exp (-(max x (-x))))

/-- The activation `y · σ(y)`. -/
def silu (y : EReal) : EReal := y * Ideal.logistic y

/-- One chunk of a stream: queries, keys and values of 128 tokens, their input gates and the logarithms of their forget gates. -/
structure Chunk where
  /-- The queries. -/
  q : Fin 128 → Fin 128 → EReal
  /-- The keys. -/
  k : Fin 128 → Fin 128 → EReal
  /-- The values. -/
  v : Fin 128 → Fin 128 → EReal
  /-- The input gates. -/
  ig : Fin 128 → EReal
  /-- The logarithms of the forget gates. -/
  lf : Fin 128 → EReal

/-- The memory a chunk hands the next. -/
structure Mem where
  /-- The matrix. -/
  C : Fin 128 → Fin 128 → EReal
  /-- The normalizing vector. -/
  n : Fin 128 → EReal
  /-- The running maximum of the exponents. -/
  m : EReal

/-- Tokens in their order: `s` is not after `j`. -/
def fwd (s j : Fin 128) : Bool := decide (s ≤ j)

/-- Tokens in the opposite order. -/
def bwd (s j : Fin 128) : Bool := decide (j ≤ s)

namespace Chunk

variable (le : Fin 128 → Fin 128 → Bool) (last : Fin 128) (c : Chunk) (M : Mem)

/-- The sum of the forget gates up to token `j`. -/
def cum (j : Fin 128) : EReal := ∑ s, if le s j then c.lf s else 0

/-- The exponent of token `s` at the end of the chunk. -/
def gend (s : Fin 128) : EReal := c.cum le last - c.cum le s + c.ig s

/-- The next running maximum. -/
def mNew : EReal := max (c.cum le last + M.m) (greatest (c.gend le last))

/-- The factor of the old memory. -/
def wPrev : EReal := Ideal.exp (c.cum le last + M.m - c.mNew le last M)

/-- The factor of token `s`. -/
def wRow (s : Fin 128) : EReal := Ideal.exp (c.gend le last s - c.mNew le last M)

/-- The memory after the chunk. -/
def next : Mem where
  C a l := c.wPrev le last M * M.C a l + ∑ s, c.k s a * c.wRow le last M s * c.v s l
  n a := c.wPrev le last M * M.n a + ∑ s, c.k s a * c.wRow le last M s
  m := c.mNew le last M

/-- The exponent of token `s` seen from token `j`. -/
def dmat (j s : Fin 128) : EReal := if le s j then c.cum le j - c.cum le s + c.ig s else ⊥

/-- The greatest exponent seen from token `j`. -/
def mj (j : Fin 128) : EReal := max (c.cum le j + M.m) (greatest (c.dmat le j))

/-- The memory's factor at token `j`. -/
def win (j : Fin 128) : EReal := Ideal.exp (c.cum le j + M.m - c.mj le M j)

/-- The score of token `s` at token `j`. -/
def score (j s : Fin 128) : EReal := (∑ x, c.q j x * c.k s x) * Ideal.exp (c.dmat le j s - c.mj le M j)

/-- The numerator of the output. -/
def num (j l : Fin 128) : EReal := c.win le M j * (∑ x, c.q j x * M.C x l) + ∑ s, c.score le M j s * c.v s l

/-- The denominator before its lower bound. -/
def den (j : Fin 128) : EReal := c.win le M j * (∑ x, c.q j x * M.n x) + ∑ s, c.score le M j s

/-- Component `l` of token `j`'s output. -/
def out (j l : Fin 128) : EReal :=
  Ideal.div (c.num le M j l) (max (max (c.den le M j) (-(c.den le M j))) (Ideal.exp (-(c.mj le M j))))

/-- The chunk with its tokens reversed. -/
def rev : Chunk where
  q j := c.q j.rev
  k j := c.k j.rev
  v j := c.v j.rev
  ig j := c.ig j.rev
  lf j := c.lf j.rev

end Chunk

/-- One head's stream of 4096 tokens. -/
structure Stream where
  /-- The queries. -/
  q : Fin 4096 → Fin 128 → EReal
  /-- The keys. -/
  k : Fin 4096 → Fin 128 → EReal
  /-- The values. -/
  v : Fin 4096 → Fin 128 → EReal
  /-- The input gates. -/
  ig : Fin 4096 → EReal
  /-- The logarithms of the forget gates. -/
  lf : Fin 4096 → EReal

namespace Stream

/-- Token `s` of chunk `i`. -/
def row (i : ℕ) (s : Fin 128) : Fin 4096 := ⟨(128 * i + s) % 4096, Nat.mod_lt _ (by decide)⟩

/-- Chunk `i`. -/
def chunk (x : Stream) (i : ℕ) : Chunk where
  q s := x.q (row i s)
  k s := x.k (row i s)
  v s := x.v (row i s)
  ig s := x.ig (row i s)
  lf s := x.lf (row i s)

/-- The stream with its tokens reversed. -/
def rev (x : Stream) : Stream where
  q t := x.q t.rev
  k t := x.k t.rev
  v t := x.v t.rev
  ig t := x.ig t.rev
  lf t := x.lf t.rev

/-- The memory before chunk `i`. -/
def mem (x : Stream) (M : Mem) : ℕ → Mem
  | 0 => M
  | i + 1 => (x.chunk i).next fwd 127 (x.mem M i)

/-- Component `l` of token `t`'s output. -/
def out (x : Stream) (M : Mem) (t : Fin 4096) (l : Fin 128) : EReal :=
  (x.chunk (t / 128)).out fwd (x.mem M (t / 128)) ⟨t % 128, Nat.mod_lt _ (by decide)⟩ l

end Stream

/-- A column of 4096 rows with a zero row before and after: position `p` holds row `p - 1`. -/
def edged (f : Fin 4096 → EReal) (p : ℕ) : EReal := if h : 1 ≤ p ∧ p < 4097 then f ⟨p - 1, by omega⟩ else 0

/-- The centred convolution over three rows. -/
def conv3 (f : Fin 4096 → EReal) (w0 w1 w2 : EReal) (t : Fin 4096) : EReal :=
  edged f t * w0 + edged f (t + 1) * w1 + edged f (t + 2) * w2

section Call

variable (z : (⟨3, ![16, 4096, 2560]⟩ : Shape).Idx → EReal) (zg : (⟨3, ![16, 4096, 128]⟩ : Shape).Idx → EReal)
  (w : (⟨2, ![3, 1024]⟩ : Shape).Idx → EReal) (bg : (⟨1, ![16]⟩ : Shape).Idx → EReal)

/-- The gate of kind `n` (0, 1: input and forget gate forward; 2, 3: backward) at token `t`. -/
def gate (b : Fin 16) (hd : Fin 4) (n : Fin 4) (t : Fin 4096) : EReal :=
  zg (ix3 b t ⟨4 * n + hd, by omega⟩) + bg (ix1 ⟨4 * n + hd, by omega⟩)

/-- The convolved and activated column `o + 128 hd + l`, whose weights lie in column `p + 128 hd + l`. -/
def active (b : Fin 16) (col : Fin 2560) (wcol : Fin 1024) (t : Fin 4096) : EReal :=
  silu (conv3 (fun t => z (ix3 b t col)) (w (ix2 0 wcol)) (w (ix2 1 wcol)) (w (ix2 2 wcol)) t)

/-- The stream of head `hd` of sample `b` with its gates of kinds `n` and `f`. -/
def stream (b : Fin 16) (hd : Fin 4) (n f : Fin 4) : Stream where
  q t l := active z w b ⟨1024 + 128 * hd + l, by omega⟩ ⟨128 * hd + l, by omega⟩ t
  k t l := active z w b ⟨1536 + 128 * hd + l, by omega⟩ ⟨512 + 128 * hd + l, by omega⟩ t * Ideal.ofBits .f32 0x3DB504F3#32
  v t l := z (ix3 b t ⟨2048 + 128 * hd + l, by omega⟩)
  ig t := gate zg bg b hd n t
  lf t := logsig (gate zg bg b hd f t)

variable (cf : (⟨4, ![16, 4, 128, 128]⟩ : Shape).Idx → EReal) (nf : (⟨3, ![16, 4, 128]⟩ : Shape).Idx → EReal) (mf : (⟨2, ![16, 4]⟩ : Shape).Idx → EReal)

/-- The memory a scan begins with. -/
def begin (b : Fin 16) (hd : Fin 4) : Mem where
  C a l := cf (ix4 b hd a l)
  n a := nf (ix3 b hd a)
  m := mf (ix2 b hd)

variable (cb : (⟨4, ![16, 4, 128, 128]⟩ : Shape).Idx → EReal) (nb : (⟨3, ![16, 4, 128]⟩ : Shape).Idx → EReal) (mb : (⟨2, ![16, 4]⟩ : Shape).Idx → EReal)

/-- Component `l` of head `hd` of token `t`'s result: the sum of the two directions' outputs behind the output gate. -/
def mixed (b : Fin 16) (t : Fin 4096) (hd : Fin 4) (l : Fin 128) : EReal :=
  Ideal.logistic (z (ix3 b t ⟨512 + 128 * hd + l, by omega⟩))
    * ((stream z zg w bg b hd 0 1).out (begin cf nf mf b hd) t l
      + (stream z zg w bg b hd 2 3).rev.out (begin cb nb mb b hd) t.rev l)

end Call

end Cert.Layer
-- ==== Proof.MlstmLaws.lean ====
/- Laws of the extended reals and of chunks that the mLSTM's two sides need: sums with a bounded common factor, the logarithm of the logistic function, and chunks
   read in the opposite order. -/
module

public import proofs.«01_k».proof.Proof.MlstmSpec

@[expose] public section

noncomputable section

namespace Cert.Layer

open Idealize.ShloMosaic

theorem exp_nonneg' (x : EReal) : 0 ≤ Ideal.exp x := by
  induction x with
  | bot => simp
  | top => simp
  | coe r => rw [Ideal.exp_coe]; exact_mod_cast (Real.exp_pos r).le

theorem sub_max_ne_top (a b : EReal) : a - max a b ≠ ⊤ := fun h => by
  have h1 : a - max a b ≤ 0 := EReal.sub_nonpos.2 (le_max_left a b)
  rw [h] at h1; simp at h1

theorem exp_ne_top {x : EReal} (h : x ≠ ⊤) : Ideal.exp x ≠ ⊤ := by
  induction x with
  | bot => simp
  | top => simp_all
  | coe r => rw [Ideal.exp_coe]; exact EReal.coe_ne_top _

/-- A common factor between zero and infinity leaves a sum. -/
theorem factor_sum {ι : Type} (s : Finset ι) (f : ι → EReal) {w : EReal} (h0 : 0 ≤ w) (h1 : w ≠ ⊤) : w * ∑ x ∈ s, f x = ∑ x ∈ s, w * f x := by
  classical
  induction s using Finset.induction_on with
  | empty => simp
  | insert a s ha ih => rw [Finset.sum_insert ha, Finset.sum_insert ha, EReal.left_distrib_of_nonneg_of_ne_top h0 h1, ih]

theorem logsig_ne_top (x : EReal) : logsig x ≠ ⊤ := by
  unfold logsig
  have h1 : min x 0 ≠ ⊤ := fun h => by have := min_le_right x 0; rw [h] at this; simp at this
  have h2 : Ideal.log (1 + Ideal.exp (-(max x (-x)))) ≠ ⊥ := by
    have h3 : (1 : EReal) ≤ 1 + Ideal.exp (-(max x (-x))) := le_add_of_nonneg_right (exp_nonneg' _)
    generalize 1 + Ideal.exp (-(max x (-x))) = y at h3 ⊢
    induction y with
    | bot => exact absurd h3 (not_le_of_gt (by exact_mod_cast EReal.bot_lt_coe 1))
    | top => simp
    | coe r =>
      have h4 : (1 : ℝ) ≤ r := by exact_mod_cast h3
      rw [Ideal.log_coe, if_neg (by linarith)]
      exact EReal.coe_ne_bot _
  intro h
  generalize Ideal.log (1 + Ideal.exp (-(max x (-x)))) = y at h h2
  generalize min x 0 = u at h h1
  have h3 : -y ≠ ⊤ := fun e => h2 (EReal.neg_eq_top_iff.1 e)
  exact (EReal.add_ne_top h1 h3) h

/-- A value and its rounding's remainder, which is zero over the reals, add up to the value. -/
theorem add_sub_self' {x : EReal} (h : x ≠ ⊤) : x + (x - x) = x := by
  induction x with
  | bot => simp
  | top => simp_all
  | coe r => rw [← EReal.coe_sub, sub_self, EReal.coe_zero, add_zero]

theorem cum_split (p : Fin 128 → Bool) (f : Fin 128 → EReal) (h : ∀ s, f s ≠ ⊤) :
    (∑ s, if p s then f s else 0) + (∑ s, if p s then f s - f s else 0) = ∑ s, if p s then f s else 0 := by
  rw [← Finset.sum_add_distrib]
  refine Finset.sum_congr rfl fun s _ => ?_
  split
  · exact add_sub_self' (h s)
  · exact add_zero 0

theorem add_sub_swap (a i b : EReal) : a + (i - b) = a - b + i := by
  rw [sub_eq_add_neg, sub_eq_add_neg, add_comm i, add_assoc]

theorem greatest_rev (f : Fin 128 → EReal) : greatest (fun s => f s.rev) = greatest f := by
  unfold greatest
  have h : (Finset.univ : Finset (Fin 128)).map Fin.revPerm.toEmbedding = Finset.univ := Finset.map_univ_equiv _
  conv_rhs => rw [← h, Finset.fold_map]
  rfl

theorem sum_rev (f : Fin 128 → EReal) : ∑ s : Fin 128, f s.rev = ∑ s, f s := Equiv.sum_comp Fin.revPerm f

namespace Chunk

variable (c : Chunk) (M : Mem)

theorem bwd_rev (s j : Fin 128) : bwd s j = fwd s.rev j.rev := by simp [bwd, fwd, Fin.rev_le_rev]

theorem rev_cum (j : Fin 128) : c.rev.cum bwd j = c.cum fwd j.rev := by
  unfold cum
  refine (Finset.sum_congr rfl fun s _ => ?_).trans (sum_rev fun s => if fwd s j.rev then c.lf s else 0)
  rw [bwd_rev]; rfl

theorem rev_gend (s : Fin 128) : c.rev.gend bwd 0 s = c.gend fwd 127 s.rev := by
  unfold gend; rw [rev_cum, rev_cum]; rfl

theorem rev_mNew : c.rev.mNew bwd 0 M = c.mNew fwd 127 M := by
  unfold mNew; rw [rev_cum, ← greatest_rev (c.gend fwd 127)]
  exact congrArg₂ max rfl (congrArg greatest (funext fun s => c.rev_gend s))

theorem rev_wPrev : c.rev.wPrev bwd 0 M = c.wPrev fwd 127 M := by
  unfold wPrev; rw [rev_cum, rev_mNew]; rfl

theorem rev_wRow (s : Fin 128) : c.rev.wRow bwd 0 M s = c.wRow fwd 127 M s.rev := by
  unfold wRow; rw [rev_gend, rev_mNew]

theorem rev_next : c.rev.next bwd 0 M = c.next fwd 127 M := by
  unfold next
  rw [rev_wPrev, rev_mNew]
  congr 1
  · funext a l
    refine congrArg _ ((Finset.sum_congr rfl fun s _ => ?_).trans (sum_rev fun s => c.k s a * c.wRow fwd 127 M s * c.v s l))
    rw [rev_wRow]; rfl
  · funext a
    refine congrArg _ ((Finset.sum_congr rfl fun s _ => ?_).trans (sum_rev fun s => c.k s a * c.wRow fwd 127 M s))
    rw [rev_wRow]; rfl

theorem rev_dmat (j s : Fin 128) : c.rev.dmat bwd j s = c.dmat fwd j.rev s.rev := by
  unfold dmat; rw [rev_cum, rev_cum, bwd_rev]; rfl

theorem rev_mj (j : Fin 128) : c.rev.mj bwd M j = c.mj fwd M j.rev := by
  unfold mj; rw [rev_cum, ← greatest_rev (c.dmat fwd j.rev)]
  exact congrArg₂ max rfl (congrArg greatest (funext fun s => c.rev_dmat j s))

theorem rev_score (j s : Fin 128) : c.rev.score bwd M j s = c.score fwd M j.rev s.rev := by
  unfold score; rw [rev_dmat, rev_mj]; rfl

theorem rev_win (j : Fin 128) : c.rev.win bwd M j = c.win fwd M j.rev := by
  unfold win; rw [rev_cum, rev_mj]

theorem rev_out (j l : Fin 128) : c.rev.out bwd M j l = c.out fwd M j.rev l := by
  have h1 : c.rev.num bwd M j l = c.num fwd M j.rev l := by
    unfold num
    rw [rev_win]
    refine congrArg₂ _ rfl ((Finset.sum_congr rfl fun s _ => ?_).trans (sum_rev fun s => c.score fwd M j.rev s * c.v s l))
    rw [rev_score]; rfl
  have h2 : c.rev.den bwd M j = c.den fwd M j.rev := by
    unfold den
    rw [rev_win]
    refine congrArg₂ _ rfl ((Finset.sum_congr rfl fun s _ => ?_).trans (sum_rev fun s => c.score fwd M j.rev s))
    rw [rev_score]
  unfold out
  rw [h1, h2, rev_mj]

theorem win_nonneg (le : Fin 128 → Fin 128 → Bool) (j : Fin 128) : 0 ≤ c.win le M j := exp_nonneg' _

theorem win_ne_top (le : Fin 128 → Fin 128 → Bool) (j : Fin 128) : c.win le M j ≠ ⊤ := exp_ne_top (sub_max_ne_top _ _)

end Chunk

end Cert.Layer
-- ==== Proof.MlstmTrip.lean ====
/- The values that one trip of the mLSTM kernel's loop computes, read at an index: the forward and the backward chunk as the functions of the specification. -/
module

public import proofs.«01_k».proof.Proof.Gen.MlstmIdeal.Skeleton
public import proofs.«01_k».proof.Proof.MlstmLaws
public import Idealize.ShloMosaic.Lib.Pointwise

@[expose] public section

set_option maxRecDepth 16384

noncomputable section

namespace Cert.MlstmIdeal.Scan

open Cert.MlstmIdeal Cert.MlstmIdeal.Gen Cert.Layer Idealize.ShloMosaic Idealize.ShloMosaic.TcCoe

/-- The word of `s ≤ j`. -/
theorem word_fwd : ∀ s j : Fin 128, IntOp.cmpi .sle (BitVec.ofNat 32 s) (BitVec.ofNat 32 j) = if fwd s j then 1#1 else 0#1 := by decide +kernel

/-- The word of `j ≤ s`. -/
theorem word_bwd : ∀ s j : Fin 128, IntOp.cmpi .sge (BitVec.ofNat 32 s) (BitVec.ofNat 32 j) = if bwd s j then 1#1 else 0#1 := by decide +kernel

theorem select_if (p : Bool) (a b : EReal) : Scalar.select (if p then 1#1 else 0#1) a b = if p then a else b := by
  cases p <;> rfl

/-- The mask is named −∞. -/
theorem mask_bot : Named.named (F := Ideal) (φ := .f32) κ "mask" 0xF149F2CA#32 = (⊥ : EReal) :=
  IdealRules.named_const.ideal_named_scalar _ _ _ _ rfl

theorem absf_eq (x : EReal) : FloatOps.absf (F := Ideal) (φ := .f32) x = max x (-x) := rfl

/-- An augmented memory array: the matrix in the first 128 lanes, the vector in each of the others. -/
def Holds (A : FVec Ideal S128x256 .f32) (M : Mem) : Prop :=
  (∀ a l : Fin 128, A (ix2 a ⟨l, by omega⟩) = M.C a l) ∧ ∀ a l : Fin 128, A (ix2 a ⟨128 + l, by omega⟩) = M.n a

/-- An augmented value array: the values in the first 128 lanes, ones in the others. -/
def Values (A : FVec Ideal S128x256 .bf16) (c : Chunk) : Prop :=
  (∀ s l : Fin 128, A (ix2 s ⟨l, by omega⟩) = c.v s l) ∧ ∀ s l : Fin 128, A (ix2 s ⟨128 + l, by omega⟩) = 1

section Forward

variable (c : Chunk) (M : Mem) (w : BitVec 32) (g : Vec Ideal S1x128x128 .f32) (b : Vec Ideal S1x128 .f32)

theorem pay5_at (j l : Fin 128) : k0_pay5 (F := Ideal) k0_pay90 w g b (ix2 j l)
    = ∑ s : Fin 128, if fwd s j then logsig (k0_pay4 (F := Ideal) w g b (ix2 s l)) else 0 := by
  unfold k0_pay5 k0_pay90 k0_pay88
  generalize k0_pay4 (F := Ideal) w g b = u
  pointwise
  simp only [word_fwd, select_if, absf_eq, zero_sub]
  exact cum_split (fun s => fwd s j) (fun s => logsig (u (ix2 s l))) fun s => logsig_ne_top _

variable (hi : ∀ s : Fin 128, k0_pay4 (F := Ideal) w g b (ix2 s 0) = c.ig s)
  (hf : ∀ s : Fin 128, logsig (k0_pay4 (F := Ideal) w g b (ix2 s 4)) = c.lf s)

include hf in
theorem pay5_cum (j : Fin 128) : k0_pay5 (F := Ideal) k0_pay90 w g b (ix2 j 4) = c.cum fwd j := by
  rw [pay5_at]; simp only [hf]; rfl

include hf in
theorem pay6_at (j : Fin 128) : k0_pay6 (F := Ideal) k0_pay90 w g b (ix2 j 0) = c.cum fwd j := by
  rw [← pay5_cum c w g b hf j]; unfold k0_pay6; generalize k0_pay5 (F := Ideal) k0_pay90 w g b = u; pointwise

include hi in
theorem pay7_at (j : Fin 128) : k0_pay7 (F := Ideal) w g b (ix2 j 0) = c.ig j := by
  rw [← hi j]; unfold k0_pay7; generalize k0_pay4 (F := Ideal) w g b = u; pointwise

include hf in
theorem pay8_at (j : Fin 128) : k0_pay8 (F := Ideal) k0_pay90 w g b (ix2 0 j) = c.cum fwd j := by
  rw [← pay5_cum c w g b hf j]; unfold k0_pay8; generalize k0_pay5 (F := Ideal) k0_pay90 w g b = u; pointwise

include hi in
theorem pay9_at (j : Fin 128) : k0_pay9 (F := Ideal) w g b (ix2 0 j) = c.ig j := by
  rw [← hi j]; unfold k0_pay9; generalize k0_pay4 (F := Ideal) w g b = u; pointwise

include hf in
theorem pay10_at : k0_pay10 (F := Ideal) k0_pay90 w g b (ix2 0 0) = c.cum fwd 127 := by
  rw [← pay8_at c w g b hf 127]; unfold k0_pay10; generalize k0_pay8 (F := Ideal) k0_pay90 w g b = u; pointwise

include hi hf in
theorem pay11_at (j : Fin 128) : k0_pay11 (F := Ideal) k0_pay90 w g b (ix2 0 j) = c.ig j - c.cum fwd j := by
  rw [← pay8_at c w g b hf j, ← pay9_at c w g b hi j]; unfold k0_pay11; pointwise

include hf in
theorem pay12_at (j l : Fin 128) : k0_pay12 (F := Ideal) k0_pay90 w g b (ix2 j l) = c.cum fwd j := by
  rw [← pay6_at c w g b hf j]; unfold k0_pay12; generalize k0_pay6 (F := Ideal) k0_pay90 w g b = u; pointwise

theorem pay13_at (q k : Vec Ideal S128x128 .bf16) (va : FVec Ideal S128x256 .bf16) (m : FVec Ideal S1x1 .f32) (bc : FVec Ideal S128x1 .f32)
    (ib : FVec Ideal S1x128 .f32) (bb : FVec Ideal S128x128 .f32) (C : Vec Ideal S128x256 .f32)
    (hq : ∀ s x : Fin 128, q (ix2 s x) = c.q s x) (hk : ∀ s x : Fin 128, k (ix2 s x) = c.k s x) (hv : Values va c)
    (hm : m (ix2 0 0) = M.m) (hbc : ∀ j : Fin 128, bc (ix2 j 0) = c.cum fwd j) (hib : ∀ s : Fin 128, ib (ix2 0 s) = c.ig s - c.cum fwd s)
    (hbb : ∀ j s : Fin 128, bb (ix2 j s) = c.cum fwd j) (hC : Holds C M) (j l : Fin 128) :
    k0_pay13 (F := Ideal) k0_pay88 m q k va bc ib bb C (ix2 j l) = c.out fwd M j l := by
  unfold k0_pay13 k0_pay88
  pointwise
  simp only [word_fwd, select_if, absf_eq, zero_sub, mask_bot, hq, hk, hm, hbc, hib, hbb, hC.1, hC.2, hv.1, hv.2, mul_one, add_sub_swap]
  unfold Chunk.out Chunk.num Chunk.den
  rw [factor_sum _ _ (c.win_nonneg M fwd j) (c.win_ne_top M fwd j), factor_sum _ _ (c.win_nonneg M fwd j) (c.win_ne_top M fwd j)]
  simp only [show ∀ x y : EReal, c.win fwd M j * (x * y) = x * c.win fwd M j * y from fun x y => by rw [mul_left_comm, mul_assoc]]
  rfl

theorem pay14_at (bc ic : FVec Ideal S128x1 .f32) (t : FVec Ideal S1x1 .f32) (ht : t (ix2 0 0) = c.cum fwd 127)
    (hbc : ∀ j : Fin 128, bc (ix2 j 0) = c.cum fwd j) (hic : ∀ j : Fin 128, ic (ix2 j 0) = c.ig j) (s : Fin 128) :
    k0_pay14 (F := Ideal) bc ic t (ix2 s 0) = c.gend fwd 127 s := by
  unfold k0_pay14; pointwise; simp only [ht, hbc, hic]; rfl

theorem pay15_at (br ir : FVec Ideal S1x128 .f32) (m t : FVec Ideal S1x1 .f32) (ht : t (ix2 0 0) = c.cum fwd 127) (hm : m (ix2 0 0) = M.m)
    (hbr : ∀ j : Fin 128, br (ix2 0 j) = c.cum fwd j) (hir : ∀ j : Fin 128, ir (ix2 0 j) = c.ig j) :
    k0_pay15 (F := Ideal) m br ir t (ix2 0 0) = c.mNew fwd 127 M := by
  unfold k0_pay15; pointwise; simp only [ht, hm, hbr, hir]; rfl

theorem pay17_at (k : Vec Ideal S128x128 .bf16) (va : FVec Ideal S128x256 .bf16) (C : Vec Ideal S128x256 .f32) (ge : FVec Ideal S128x1 .f32)
    (mn tm : FVec Ideal S1x1 .f32) (hk : ∀ s x : Fin 128, k (ix2 s x) = c.k s x) (hv : Values va c) (hC : Holds C M)
    (hge : ∀ s : Fin 128, ge (ix2 s 0) = c.gend fwd 127 s) (hmn : mn (ix2 0 0) = c.mNew fwd 127 M) (htm : tm (ix2 0 0) = c.cum fwd 127 + M.m) :
    Holds (k0_pay17 (F := Ideal) k va C ge mn tm) (c.next fwd 127 M) := by
  refine ⟨fun a l => ?_, fun a l => ?_⟩ <;> unfold k0_pay17 <;> pointwise
  · simp only [hk, hge, hmn, htm, hv.1, hC.1]; rfl
  · simp only [hk, hge, hmn, htm, hv.2, hC.2, mul_one]; rfl

theorem pay16_at (m t : FVec Ideal S1x1 .f32) (ht : t (ix2 0 0) = c.cum fwd 127) (hm : m (ix2 0 0) = M.m) :
    k0_pay16 (F := Ideal) m t (ix2 0 0) = c.cum fwd 127 + M.m := by
  unfold k0_pay16; pointwise; rw [ht, hm]

theorem pay3_at (v : Vec Ideal S1x128x128 .bf16) (hv : ∀ s l : Fin 128, v (ix3 0 s l) = c.v s l) : Values (k0_pay3 (F := Ideal) k0_pay92 v) c := by
  refine ⟨fun a l => ?_, fun a l => ?_⟩ <;> unfold k0_pay3 k0_pay92 <;> pointwise
  exact hv a l

end Forward

section Backward

variable (c : Chunk) (M : Mem) (w : BitVec 32) (g : Vec Ideal S1x128x128 .f32) (b : Vec Ideal S1x128 .f32)

theorem pay23_at (j l : Fin 128) : k0_pay23 (F := Ideal) k0_pay91 (k0_pay20 w g b) (k0_pay21 w g b) k0_pay22 (ix2 j l)
    = ∑ s : Fin 128, if bwd s j then logsig (k0_pay19 (F := Ideal) w g b (ix2 s l)) else 0 := by
  unfold k0_pay23 k0_pay91 k0_pay89 k0_pay22 k0_pay21 k0_pay20
  generalize k0_pay19 (F := Ideal) w g b = u
  pointwise
  simp only [word_bwd, select_if, absf_eq, zero_sub]
  exact cum_split (fun s => bwd s j) (fun s => logsig (u (ix2 s l))) fun s => logsig_ne_top _

variable (hi : ∀ s : Fin 128, k0_pay19 (F := Ideal) w g b (ix2 s 8) = c.ig s)
  (hf : ∀ s : Fin 128, logsig (k0_pay19 (F := Ideal) w g b (ix2 s 12)) = c.lf s)

include hf in
theorem pay23_cum (j : Fin 128) : k0_pay23 (F := Ideal) k0_pay91 (k0_pay20 w g b) (k0_pay21 w g b) k0_pay22 (ix2 j 12) = c.cum bwd j := by
  rw [pay23_at]; simp only [hf]; rfl

include hf in
theorem pay24_at (j : Fin 128) : k0_pay24 (F := Ideal) k0_pay91 (k0_pay20 w g b) (k0_pay21 w g b) k0_pay22 (ix2 j 0) = c.cum bwd j := by
  rw [← pay23_cum c w g b hf j]; unfold k0_pay24; generalize k0_pay23 (F := Ideal) _ _ _ _ = u; pointwise

include hi in
theorem pay25_at (j : Fin 128) : k0_pay25 (F := Ideal) (k0_pay19 w g b) (ix2 j 0) = c.ig j := by
  rw [← hi j]; unfold k0_pay25; generalize k0_pay19 (F := Ideal) w g b = u; pointwise

include hf in
theorem pay26_at (j : Fin 128) : k0_pay26 (F := Ideal) k0_pay91 (k0_pay20 w g b) (k0_pay21 w g b) k0_pay22 (ix2 0 j) = c.cum bwd j := by
  rw [← pay23_cum c w g b hf j]; unfold k0_pay26; generalize k0_pay23 (F := Ideal) _ _ _ _ = u; pointwise

include hi in
theorem pay27_at (j : Fin 128) : k0_pay27 (F := Ideal) (k0_pay19 w g b) (ix2 0 j) = c.ig j := by
  rw [← hi j]; unfold k0_pay27; generalize k0_pay19 (F := Ideal) w g b = u; pointwise

include hf in
theorem pay28_at : k0_pay28 (F := Ideal) k0_pay91 (k0_pay20 w g b) (k0_pay21 w g b) k0_pay22 (ix2 0 0) = c.cum bwd 0 := by
  rw [← pay26_at c w g b hf 0]; unfold k0_pay28; generalize k0_pay26 (F := Ideal) _ _ _ _ = u; pointwise

include hi hf in
theorem pay29_at (j s : Fin 128) :
    k0_pay29 (F := Ideal) k0_pay89 k0_pay91 (k0_pay19 w g b) (k0_pay20 w g b) (k0_pay21 w g b) k0_pay22 (ix2 j s) = c.dmat bwd j s := by
  have h1 := pay24_at c w g b hf j
  have h2 := pay26_at c w g b hf s
  have h3 := pay27_at c w g b hi s
  unfold k0_pay29 k0_pay89
  generalize k0_pay24 (F := Ideal) _ _ _ _ = u1 at h1 ⊢
  generalize k0_pay26 (F := Ideal) _ _ _ _ = u2 at h2 ⊢
  generalize k0_pay27 (F := Ideal) _ = u3 at h3 ⊢
  pointwise
  simp only [word_bwd, select_if, mask_bot, h1, h2, h3, add_sub_swap]
  rfl

variable (m : FVec Ideal S1x1 .f32) (hm : m (ix2 0 0) = M.m)

include hf hm in
theorem pay30_at (j : Fin 128) :
    k0_pay30 (F := Ideal) k0_pay91 m (k0_pay20 w g b) (k0_pay21 w g b) k0_pay22 (ix2 j 0) = c.cum bwd j + M.m := by
  have h1 := pay24_at c w g b hf j
  unfold k0_pay30
  generalize k0_pay24 (F := Ideal) _ _ _ _ = u1 at h1 ⊢
  pointwise
  rw [h1, hm]

include hi hf hm in
theorem pay31_at (j : Fin 128) :
    k0_pay31 (F := Ideal) k0_pay89 k0_pay91 m (k0_pay19 w g b) (k0_pay20 w g b) (k0_pay21 w g b) k0_pay22 (ix2 j 0) = c.mj bwd M j := by
  have h1 := pay30_at c M w g b hf m hm j
  have h2 := pay29_at c w g b hi hf j
  unfold k0_pay31
  generalize k0_pay30 (F := Ideal) _ _ _ _ _ = u1 at h1 ⊢
  generalize k0_pay29 (F := Ideal) _ _ _ _ _ _ = u2 at h2 ⊢
  pointwise
  simp only [h1, h2]
  rfl

include hi hf hm in
theorem pay35_at (j : Fin 128) :
    k0_pay35 (F := Ideal) k0_pay89 k0_pay91 m (k0_pay19 w g b) (k0_pay20 w g b) (k0_pay21 w g b) k0_pay22 (ix2 j 0) = -(c.mj bwd M j) := by
  have h1 := pay31_at c M w g b hi hf m hm j
  unfold k0_pay35
  generalize k0_pay31 (F := Ideal) _ _ _ _ _ _ _ = u1 at h1 ⊢
  pointwise
  rw [h1, zero_sub]

variable (q k : Vec Ideal S128x128 .bf16) (va : FVec Ideal S128x256 .bf16) (C : Vec Ideal S128x256 .f32)
  (hq : ∀ s x : Fin 128, q (ix2 s x) = c.q s x) (hk : ∀ s x : Fin 128, k (ix2 s x) = c.k s x) (hv : Values va c) (hC : Holds C M)

include hi hf hm hq hk hv hC in
theorem pay32_num (j l : Fin 128) :
    k0_pay32 (F := Ideal) k0_pay89 k0_pay91 m q k va (k0_pay19 w g b) (k0_pay20 w g b) (k0_pay21 w g b) k0_pay22 C (ix2 j ⟨l, by omega⟩)
      = c.num bwd M j l := by
  have h1 := pay30_at c M w g b hf m hm j
  have h2 := pay29_at c w g b hi hf j
  have h3 := pay31_at c M w g b hi hf m hm j
  unfold k0_pay32
  generalize k0_pay30 (F := Ideal) _ _ _ _ _ = u1 at h1 ⊢
  generalize k0_pay29 (F := Ideal) _ _ _ _ _ _ = u2 at h2 ⊢
  generalize k0_pay31 (F := Ideal) _ _ _ _ _ _ _ = u3 at h3 ⊢
  pointwise
  simp only [h1, h2, h3, hq, hk, hC.1, hv.1]
  unfold Chunk.num
  rw [factor_sum _ _ (c.win_nonneg M bwd j) (c.win_ne_top M bwd j)]
  simp only [show ∀ x y : EReal, c.win bwd M j * (x * y) = x * c.win bwd M j * y from fun x y => by rw [mul_left_comm, mul_assoc]]
  rfl

include hi hf hm hq hk hv hC in
theorem pay32_den (j l : Fin 128) :
    k0_pay32 (F := Ideal) k0_pay89 k0_pay91 m q k va (k0_pay19 w g b) (k0_pay20 w g b) (k0_pay21 w g b) k0_pay22 C (ix2 j ⟨128 + l, by omega⟩)
      = c.den bwd M j := by
  have h1 := pay30_at c M w g b hf m hm j
  have h2 := pay29_at c w g b hi hf j
  have h3 := pay31_at c M w g b hi hf m hm j
  unfold k0_pay32
  generalize k0_pay30 (F := Ideal) _ _ _ _ _ = u1 at h1 ⊢
  generalize k0_pay29 (F := Ideal) _ _ _ _ _ _ = u2 at h2 ⊢
  generalize k0_pay31 (F := Ideal) _ _ _ _ _ _ _ = u3 at h3 ⊢
  pointwise
  simp only [h1, h2, h3, hq, hk, hC.2, hv.2, mul_one]
  unfold Chunk.den
  rw [factor_sum _ _ (c.win_nonneg M bwd j) (c.win_ne_top M bwd j)]
  simp only [show ∀ x y : EReal, c.win bwd M j * (x * y) = x * c.win bwd M j * y from fun x y => by rw [mul_left_comm, mul_assoc]]
  rfl

include hi hf hm hq hk hv hC in
theorem pay95_at (j l : Fin 128) :
    k0_pay95 (F := Ideal)
      (k0_pay33 k0_pay89 k0_pay91 m q k va (k0_pay19 w g b) (k0_pay20 w g b) (k0_pay21 w g b) k0_pay22 C)
      (k0_pay34 k0_pay89 k0_pay91 m q k va (k0_pay19 w g b) (k0_pay20 w g b) (k0_pay21 w g b) k0_pay22 C)
      (k0_pay35 k0_pay89 k0_pay91 m (k0_pay19 w g b) (k0_pay20 w g b) (k0_pay21 w g b) k0_pay22) (ix2 j l) = c.out bwd M j l := by
  have h1 := pay32_num c M w g b hi hf m hm q k va C hq hk hv hC j l
  have h2 := pay32_den c M w g b hi hf m hm q k va C hq hk hv hC j l
  have h3 := pay35_at c M w g b hi hf m hm j
  unfold k0_pay95 k0_pay33 k0_pay34
  generalize k0_pay32 (F := Ideal) _ _ _ _ _ _ _ _ _ _ _ = u1 at h1 h2 ⊢
  generalize k0_pay35 (F := Ideal) _ _ _ _ _ _ _ = u3 at h3 ⊢
  pointwise
  simp only [h1, h2, h3, absf_eq]
  rfl

theorem pay96_at (br ir : FVec Ideal S1x128 .f32) (t : FVec Ideal S1x1 .f32) (ht : t (ix2 0 0) = c.cum bwd 0) (hm : m (ix2 0 0) = M.m)
    (hbr : ∀ j : Fin 128, br (ix2 0 j) = c.cum bwd j) (hir : ∀ j : Fin 128, ir (ix2 0 j) = c.ig j) :
    k0_pay96 (F := Ideal) m br ir t (ix2 0 0) = c.mNew bwd 0 M := by
  unfold k0_pay96; pointwise; simp only [ht, hm, hbr, hir]; rfl

include hm hk hv hC in
theorem pay97_at (bc ic : FVec Ideal S128x1 .f32) (br ir : FVec Ideal S1x128 .f32) (t : FVec Ideal S1x1 .f32) (ht : t (ix2 0 0) = c.cum bwd 0)
    (hbc : ∀ j : Fin 128, bc (ix2 j 0) = c.cum bwd j) (hic : ∀ j : Fin 128, ic (ix2 j 0) = c.ig j)
    (hbr : ∀ j : Fin 128, br (ix2 0 j) = c.cum bwd j) (hir : ∀ j : Fin 128, ir (ix2 0 j) = c.ig j) :
    Holds (k0_pay97 (F := Ideal) m k va bc ic br ir t C) (c.next bwd 0 M) := by
  have h1 := pay96_at c M m br ir t ht hm hbr hir
  unfold k0_pay97
  generalize k0_pay96 (F := Ideal) _ _ _ _ = u1 at h1 ⊢
  refine ⟨fun a l => ?_, fun a l => ?_⟩ <;> pointwise
  · simp only [hk, h1, ht, hbc, hic, hm, hv.1, hC.1]; rfl
  · simp only [hk, h1, ht, hbc, hic, hm, hv.2, hC.2, mul_one]; rfl

theorem pay18_at (v : Vec Ideal S1x128x128 .bf16) (hv : ∀ s l : Fin 128, v (ix3 0 s l) = c.v s l) : Values (k0_pay18 (F := Ideal) k0_pay92 v) c := by
  refine ⟨fun a l => ?_, fun a l => ?_⟩ <;> unfold k0_pay18 k0_pay92 <;> pointwise
  exact hv a l

end Backward

/-- The gates of a chunk's rows, rolled so that lane `l` holds lane `l + head`. -/
theorem pay4_at (w : BitVec 32) (g : Vec Ideal S1x128x128 .f32) (b : Vec Ideal S1x128 .f32) (s l : Fin 128) :
    k0_pay4 (F := Ideal) w g b (ix2 s l) = g (ix3 0 s ⟨(l + 128 - w.toNat % 128) % 128, Nat.mod_lt _ (by decide)⟩)
      + b (ix2 0 ⟨(l + 128 - w.toNat % 128) % 128, Nat.mod_lt _ (by decide)⟩) := by
  unfold k0_pay4; pointwise

theorem pay19_at (w : BitVec 32) (g : Vec Ideal S1x128x128 .f32) (b : Vec Ideal S1x128 .f32) (s l : Fin 128) :
    k0_pay19 (F := Ideal) w g b (ix2 s l) = g (ix3 0 s ⟨(l + 128 - w.toNat % 128) % 128, Nat.mod_lt _ (by decide)⟩)
      + b (ix2 0 ⟨(l + 128 - w.toNat % 128) % 128, Nat.mod_lt _ (by decide)⟩) := by
  unfold k0_pay19; pointwise

end Cert.MlstmIdeal.Scan
-- ==== Proof.MlstmLoop.lean ====
/- The kernel's loop over the chunks: what the trips leave in the buffers of the outputs and of the memories, as the scans of the specification. -/
module

public import proofs.«01_k».proof.Proof.Gen.MlstmIdeal.Loops
public import proofs.«01_k».proof.Proof.MlstmTrip
public import Idealize.ShloMosaic.Lib.WritesUnit
public import Idealize.ShloMosaic.Lib.VecWindow

@[expose] public section

set_option maxRecDepth 16384

noncomputable section

namespace Cert.MlstmIdeal.Scan

open Cert.MlstmIdeal Cert.MlstmIdeal.Gen Cert.Layer Idealize.ShloMosaic Idealize.ShloMosaic.TcCoe Idealize.SL.Sem

theorem off1_eq : ∀ k : Fin k0_t1_loop.trips, k0_off1 k = ![128 * k.val, 0] := by decide +kernel

theorem off2_eq : ∀ k : Fin k0_t1_loop.trips, k0_off2 k = ![0, 128 * k.val, 0] := by decide +kernel

theorem off3_eq : ∀ k : Fin k0_t1_loop.trips, k0_off3 k = ![128 * (31 - k.val), 0] := by decide +kernel

theorem off4_eq : ∀ k : Fin k0_t1_loop.trips, k0_off4 k = ![0, 128 * (31 - k.val), 0] := by decide +kernel

theorem trip_lt (k : Fin k0_t1_loop.trips) : k.val < 32 := Nat.lt_of_lt_of_le k.isLt k0_t1_abs.2.1

/-- Token `s` of chunk `k` in the opposite order. -/
theorem row_rev (k : ℕ) (hk : k < 32) (s : Fin 128) : (Layer.Stream.row k s.rev).rev.val = 128 * (31 - k) + s.val := by
  have := s.isLt
  simp only [Layer.Stream.row, Fin.val_rev]; omega

theorem row_val (k : ℕ) (hk : k < 32) (s : Fin 128) : (Layer.Stream.row k s).val = 128 * k + s.val := by
  have := s.isLt
  simp only [Layer.Stream.row]; omega

section Loads

variable {Val : EltTy → Type} {κ : Kind} {sp : Space} {e : EltTy}

/-- A load of 128 rows of a matrix, at an index. -/
theorem readAt_rows (v : View sig κ sp S4096x128 e) (f : v.ty.Contents Val) {off : Fin 2 → ℕ} {o : ℕ} (h : off = ![o, 0])
    (inb : ∀ a, off a + S128x128.size a ≤ S4096x128.size a) (s l : Fin 128) (r : Fin 4096) (hr : r.val = o + s.val) :
    v.readAt Val (Rect.unit (s := S4096x128) off S128x128.size inb).toLoadRect f (ix2 s l) = v.read Val f (ix2 r l) := by
  subst h
  refine congrArg (v.read Val f) (funext fun a => Fin.ext ?_)
  match a with
  | 0 => show o + 1 * s.val = r.val; omega
  | 1 => show 0 + 1 * l.val = l.val; omega

/-- A load of 128 rows of the only matrix of a stack, at an index. -/
theorem readAt_rows3 (v : View sig κ sp S1x4096x128 e) (f : v.ty.Contents Val) {off : Fin 3 → ℕ} {o : ℕ} (h : off = ![0, o, 0])
    (inb : ∀ a, off a + S1x128x128.size a ≤ S1x4096x128.size a) (s l : Fin 128) (r : Fin 4096) (hr : r.val = o + s.val) :
    v.readAt Val (Rect.unit (s := S1x4096x128) off S1x128x128.size inb).toLoadRect f (ix3 0 s l) = v.read Val f (ix3 0 r l) := by
  subst h
  refine congrArg (v.read Val f) (funext fun a => Fin.ext ?_)
  match a with
  | 0 => rfl
  | 1 => show o + 1 * s.val = r.val; omega
  | 2 => show 0 + 1 * l.val = l.val; omega

/-- After a store of 128 rows of a matrix, an index in them. -/
theorem read_rows (v : View sig κ sp S4096x128 e) (f : v.ty.Contents Val) {off : Fin 2 → ℕ} {o : ℕ} (h : off = ![o, 0])
    (inb : ∀ a, off a + S128x128.size a ≤ S4096x128.size a) (p : S128x128.Idx → Val e) (L : List (View.Piece Val S4096x128 e))
    (t : Fin 4096) (j l : Fin 128) (ht : t.val = o + j.val) :
    v.read Val (v.writes Val f ((⟨Rect.unit (s := S4096x128) off S128x128.size inb, p⟩ : View.Piece Val S4096x128 e) :: L)) (ix2 t l) = p (ix2 j l) := by
  refine View.read_writes_cons_unit_of_mem v f inb p L (ix2 t l) (ix2 j l) h fun a => ?_
  match a with
  | 0 => exact ht
  | 1 => exact (Nat.zero_add _).symm

end Loads

/-- The lane a rolled gate comes from. -/
def lane (w : BitVec 32) (l : Fin 128) : Fin 128 := ⟨(l + 128 - w.toNat % 128) % 128, Nat.mod_lt _ (by decide)⟩

/-- The arrays the loop reads hold the two streams of a head. -/
structure Reads (w : BitVec 32) (Q K : S4096x128.Idx → EReal) (V G : S1x4096x128.Idx → EReal) (B : S1x128.Idx → EReal) (x y : Layer.Stream) : Prop where
  q : ∀ t l, Q (ix2 t l) = x.q t l
  k : ∀ t l, K (ix2 t l) = x.k t l
  v : ∀ t l, V (ix3 0 t l) = x.v t l
  q' : y.q = x.q
  k' : y.k = x.k
  v' : y.v = x.v
  ig : ∀ t, G (ix3 0 t (lane w 0)) + B (ix2 0 (lane w 0)) = x.ig t
  lf : ∀ t, logsig (G (ix3 0 t (lane w 4)) + B (ix2 0 (lane w 4))) = x.lf t
  ig' : ∀ t, G (ix3 0 t (lane w 8)) + B (ix2 0 (lane w 8)) = y.ig t
  lf' : ∀ t, logsig (G (ix3 0 t (lane w 12)) + B (ix2 0 (lane w 12))) = y.lf t

section Trip

variable (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .f32) (harg6 : arg6.IsWhole) (arg7 : Memref sig .tc .vmem S3x128 .f32) (harg7 : arg7.IsWhole) (arg8 : Memref sig .tc .vmem S3x128 .f32) (harg8 : arg8.IsWhole) (arg9 : Memref sig .tc .vmem S1x128 .f32) (harg9 : arg9.IsWhole) (arg10 : Memref sig .tc .vmem S1x1x128x256 .f32) (harg10 : arg10.IsWhole) (arg11 : Memref sig .tc .vmem S1x1x8x128 .f32) (harg11 : arg11.IsWhole) (arg12 : Memref sig .tc .vmem S1x1x128x256 .f32) (harg12 : arg12.IsWhole) (arg13 : Memref sig .tc .vmem S1x1x8x128 .f32) (harg13 : arg13.IsWhole) (arg14 : Memref sig .tc .vmem S1x4096x128 .bf16) (harg14 : arg14.IsWhole) (arg15 : Memref sig .tc .vmem S1x1x128x256 .f32) (harg15 : arg15.IsWhole) (arg16 : Memref sig .tc .vmem S1x1x8x128 .f32) (harg16 : arg16.IsWhole) (arg17 : Memref sig .tc .vmem S1x1x128x256 .f32) (harg17 : arg17.IsWhole) (arg18 : Memref sig .tc .vmem S1x1x8x128 .f32) (harg18 : arg18.IsWhole) (arg19 : Memref sig .tc .vmem S4112x128 .f32) (harg19 : arg19.IsWhole) (arg20 : Memref sig .tc .vmem S4096x128 .bf16) (harg20 : arg20.IsWhole) (arg21 : Memref sig .tc .vmem S4096x128 .bf16) (harg21 : arg21.IsWhole) (arg22 : Memref sig .tc .vmem S4096x128 .f32) (harg22 : arg22.IsWhole) (arg23 : Memref sig .tc .vmem S4096x128 .f32) (harg23 : arg23.IsWhole) (arg24 : Memref sig .tc .vmem S128x256 .f32) (harg24 : arg24.IsWhole) (arg25 : Memref sig .tc .vmem S128x256 .f32) (harg25 : arg25.IsWhole) (arg1 : BitVec 32) (w : BitVec 32) (X_arg4 : BufTy.Contents (Elt Ideal) arg4.view.ty) (X_arg6 : BufTy.Contents (Elt Ideal) arg6.view.ty) (X_arg9 : BufTy.Contents (Elt Ideal) arg9.view.ty) (X_arg20 : BufTy.Contents (Elt Ideal) arg20.view.ty) (X_arg21 : BufTy.Contents (Elt Ideal) arg21.view.ty) (k : Fin k0_t1_loop.trips)
  (acc : FVec Ideal S1x1 .f32 × FVec Ideal S1x1 .f32) (f22 : BufTy.Contents (Elt Ideal) arg22.view.ty) (f23 : BufTy.Contents (Elt Ideal) arg23.view.ty)
  (f24 : BufTy.Contents (Elt Ideal) arg24.view.ty) (f25 : BufTy.Contents (Elt Ideal) arg25.view.ty)

/-- The forward gates a trip loads. -/
abbrev gf : Vec Ideal S1x128x128 .f32 :=
  arg6.view.readAt (Elt Ideal) (Rect.unit (s := S1x4096x128) (k0_off2 k) S1x128x128.size (k0_off2_inb k)).toLoadRect X_arg6

/-- The backward gates a trip loads. -/
abbrev gb : Vec Ideal S1x128x128 .f32 :=
  arg6.view.readAt (Elt Ideal) (Rect.unit (s := S1x4096x128) (k0_off4 k) S1x128x128.size (k0_off4_inb k)).toLoadRect X_arg6

/-- The bias a trip loads. -/
abbrev bi : Vec Ideal S1x128 .f32 :=
  arg9.view.readAt (Elt Ideal) (Rect.unit (s := S1x128) ![0, 0] S1x128.size inb_S1x128_S1x128_0_0).toLoadRect X_arg9

/-- 128 rows a trip loads forward. -/
abbrev rf (a : Memref sig .tc .vmem S4096x128 .bf16) (X : BufTy.Contents (Elt Ideal) a.view.ty) : Vec Ideal S128x128 .bf16 :=
  a.view.readAt (Elt Ideal) (Rect.unit (s := S4096x128) (k0_off1 k) S128x128.size (k0_off1_inb k)).toLoadRect X

/-- 128 rows a trip loads backward. -/
abbrev rb (a : Memref sig .tc .vmem S4096x128 .bf16) (X : BufTy.Contents (Elt Ideal) a.view.ty) : Vec Ideal S128x128 .bf16 :=
  a.view.readAt (Elt Ideal) (Rect.unit (s := S4096x128) (k0_off3 k) S128x128.size (k0_off3_inb k)).toLoadRect X

/-- The values a trip loads forward. -/
abbrev vf : FVec Ideal S128x256 .bf16 := k0_pay3 (F := Ideal) k0_pay92
  (arg4.view.readAt (Elt Ideal) (Rect.unit (s := S1x4096x128) (k0_off2 k) S1x128x128.size (k0_off2_inb k)).toLoadRect X_arg4)

/-- The values a trip loads backward. -/
abbrev vb : FVec Ideal S128x256 .bf16 := k0_pay18 (F := Ideal) k0_pay92
  (arg4.view.readAt (Elt Ideal) (Rect.unit (s := S1x4096x128) (k0_off4 k) S1x128x128.size (k0_off4_inb k)).toLoadRect X_arg4)

/-- A memory a trip loads. -/
abbrev ml (a : Memref sig .tc .vmem S128x256 .f32) (f : BufTy.Contents (Elt Ideal) a.view.ty) : Vec Ideal S128x256 .f32 :=
  a.view.readAt (Elt Ideal) (Rect.unit (s := S128x256) ![0, 0] S128x256.size inb_S128x256_S128x256_0_0).toLoadRect f

theorem trip_acc : (Gen.trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 k0_pay88 k0_pay89 (k0_pay90 (F := Ideal)) (k0_pay91 (F := Ideal)) w X_arg4 X_arg6 X_arg9 X_arg20 X_arg21 k).1 acc f22 f23 f24 f25
    = (k0_pay15 acc.1 (k0_pay8 (k0_pay90 (F := Ideal)) w (gf arg6 X_arg6 k) (bi arg9 X_arg9)) (k0_pay9 w (gf arg6 X_arg6 k) (bi arg9 X_arg9)) (k0_pay10 (k0_pay90 (F := Ideal)) w (gf arg6 X_arg6 k) (bi arg9 X_arg9)), k0_pay96 acc.2 (k0_pay26 k0_pay91 (k0_pay20 w (gb arg6 X_arg6 k) (bi arg9 X_arg9)) (k0_pay21 w (gb arg6 X_arg6 k) (bi arg9 X_arg9)) k0_pay22) (k0_pay27 (k0_pay19 w (gb arg6 X_arg6 k) (bi arg9 X_arg9))) (k0_pay28 k0_pay91 (k0_pay20 w (gb arg6 X_arg6 k) (bi arg9 X_arg9)) (k0_pay21 w (gb arg6 X_arg6 k) (bi arg9 X_arg9)) k0_pay22)) := by
  unfold Gen.trip_k0_t1
  dsimp only
  rfl

theorem trip_l22 : (Gen.trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 k0_pay88 k0_pay89 (k0_pay90 (F := Ideal)) (k0_pay91 (F := Ideal)) w X_arg4 X_arg6 X_arg9 X_arg20 X_arg21 k).2.1 acc f22 f23 f24 f25
    = [⟨Rect.unit (s := S4096x128) (k0_off1 k) S128x128.size (k0_off1_inb k), k0_pay13 (F := Ideal) k0_pay88 acc.1 (rf k arg20 X_arg20) (rf k arg21 X_arg21) (vf arg4 X_arg4 k) (k0_pay6 (k0_pay90 (F := Ideal)) w (gf arg6 X_arg6 k) (bi arg9 X_arg9)) (k0_pay11 (k0_pay90 (F := Ideal)) w (gf arg6 X_arg6 k) (bi arg9 X_arg9)) (k0_pay12 (k0_pay90 (F := Ideal)) w (gf arg6 X_arg6 k) (bi arg9 X_arg9)) (ml arg24 f24)⟩] := by
  unfold Gen.trip_k0_t1
  dsimp only
  rfl

theorem trip_l23 : (Gen.trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 k0_pay88 k0_pay89 (k0_pay90 (F := Ideal)) (k0_pay91 (F := Ideal)) w X_arg4 X_arg6 X_arg9 X_arg20 X_arg21 k).2.2.1 acc f22 f23 f24 f25
    = [⟨Rect.unit (s := S4096x128) (k0_off3 k) S128x128.size (k0_off3_inb k), k0_pay95 (F := Ideal) (k0_pay33 k0_pay89 k0_pay91 acc.2 (rb k arg20 X_arg20) (rb k arg21 X_arg21) (vb arg4 X_arg4 k) (k0_pay19 w (gb arg6 X_arg6 k) (bi arg9 X_arg9)) (k0_pay20 w (gb arg6 X_arg6 k) (bi arg9 X_arg9)) (k0_pay21 w (gb arg6 X_arg6 k) (bi arg9 X_arg9)) k0_pay22 (ml arg25 f25)) (k0_pay34 k0_pay89 k0_pay91 acc.2 (rb k arg20 X_arg20) (rb k arg21 X_arg21) (vb arg4 X_arg4 k) (k0_pay19 w (gb arg6 X_arg6 k) (bi arg9 X_arg9)) (k0_pay20 w (gb arg6 X_arg6 k) (bi arg9 X_arg9)) (k0_pay21 w (gb arg6 X_arg6 k) (bi arg9 X_arg9)) k0_pay22 (ml arg25 f25)) (k0_pay35 k0_pay89 k0_pay91 acc.2 (k0_pay19 w (gb arg6 X_arg6 k) (bi arg9 X_arg9)) (k0_pay20 w (gb arg6 X_arg6 k) (bi arg9 X_arg9)) (k0_pay21 w (gb arg6 X_arg6 k) (bi arg9 X_arg9)) k0_pay22)⟩] := by
  unfold Gen.trip_k0_t1
  dsimp only
  rfl

theorem trip_l24 : (Gen.trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 k0_pay88 k0_pay89 (k0_pay90 (F := Ideal)) (k0_pay91 (F := Ideal)) w X_arg4 X_arg6 X_arg9 X_arg20 X_arg21 k).2.2.2.1 acc f22 f23 f24 f25
    = [⟨Rect.unit (s := S128x256) ![0, 0] S128x256.size inb_S128x256_S128x256_0_0, k0_pay17 (F := Ideal) (rf k arg21 X_arg21) (vf arg4 X_arg4 k) (ml arg24 f24) (k0_pay14 (k0_pay6 (k0_pay90 (F := Ideal)) w (gf arg6 X_arg6 k) (bi arg9 X_arg9)) (k0_pay7 w (gf arg6 X_arg6 k) (bi arg9 X_arg9)) (k0_pay10 (k0_pay90 (F := Ideal)) w (gf arg6 X_arg6 k) (bi arg9 X_arg9))) (k0_pay15 acc.1 (k0_pay8 (k0_pay90 (F := Ideal)) w (gf arg6 X_arg6 k) (bi arg9 X_arg9)) (k0_pay9 w (gf arg6 X_arg6 k) (bi arg9 X_arg9)) (k0_pay10 (k0_pay90 (F := Ideal)) w (gf arg6 X_arg6 k) (bi arg9 X_arg9))) (k0_pay16 acc.1 (k0_pay10 (k0_pay90 (F := Ideal)) w (gf arg6 X_arg6 k) (bi arg9 X_arg9)))⟩] := by
  unfold Gen.trip_k0_t1
  dsimp only
  rfl

theorem trip_l25 : (Gen.trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 k0_pay88 k0_pay89 (k0_pay90 (F := Ideal)) (k0_pay91 (F := Ideal)) w X_arg4 X_arg6 X_arg9 X_arg20 X_arg21 k).2.2.2.2.1 acc f22 f23 f24 f25
    = [⟨Rect.unit (s := S128x256) ![0, 0] S128x256.size inb_S128x256_S128x256_0_0, k0_pay97 (F := Ideal) acc.2 (rb k arg21 X_arg21) (vb arg4 X_arg4 k) (k0_pay24 k0_pay91 (k0_pay20 w (gb arg6 X_arg6 k) (bi arg9 X_arg9)) (k0_pay21 w (gb arg6 X_arg6 k) (bi arg9 X_arg9)) k0_pay22) (k0_pay25 (k0_pay19 w (gb arg6 X_arg6 k) (bi arg9 X_arg9))) (k0_pay26 k0_pay91 (k0_pay20 w (gb arg6 X_arg6 k) (bi arg9 X_arg9)) (k0_pay21 w (gb arg6 X_arg6 k) (bi arg9 X_arg9)) k0_pay22) (k0_pay27 (k0_pay19 w (gb arg6 X_arg6 k) (bi arg9 X_arg9))) (k0_pay28 k0_pay91 (k0_pay20 w (gb arg6 X_arg6 k) (bi arg9 X_arg9)) (k0_pay21 w (gb arg6 X_arg6 k) (bi arg9 X_arg9)) k0_pay22) (ml arg25 f25)⟩] := by
  unfold Gen.trip_k0_t1
  dsimp only
  rfl

theorem trips_eq : k0_t1_loop.trips = 32 := by decide +kernel

/-- The chunk a trip of the other direction sees, its tokens in the order of the rows. -/
def back (y : Layer.Stream) (k : ℕ) : Chunk := (y.rev.chunk k).rev

section Step

variable (x y : Layer.Stream) (Mf Mb : Mem)
  (R : Reads w (arg20.view.read (Elt Ideal) X_arg20) (arg21.view.read (Elt Ideal) X_arg21) (arg4.view.read (Elt Ideal) X_arg4)
    (arg6.view.read (Elt Ideal) X_arg6) (arg9.view.read (Elt Ideal) X_arg9) x y)

include R

theorem rf_q (s l : Fin 128) : rf k arg20 X_arg20 (ix2 s l) = (x.chunk k).q s l :=
  (readAt_rows _ _ (off1_eq k) _ s l (Layer.Stream.row k s) (row_val k (trip_lt k) s)).trans (R.q _ l)

theorem rf_k (s l : Fin 128) : rf k arg21 X_arg21 (ix2 s l) = (x.chunk k).k s l :=
  (readAt_rows _ _ (off1_eq k) _ s l (Layer.Stream.row k s) (row_val k (trip_lt k) s)).trans (R.k _ l)

theorem vf_v : Values (vf arg4 X_arg4 k) (x.chunk k) :=
  pay3_at _ _ fun s l => (readAt_rows3 _ _ (off2_eq k) _ s l (Layer.Stream.row k s) (row_val k (trip_lt k) s)).trans (R.v _ l)

theorem rb_q (s l : Fin 128) : rb k arg20 X_arg20 (ix2 s l) = (back y k).q s l :=
  (readAt_rows _ _ (off3_eq k) _ s l (Layer.Stream.row k s.rev).rev (row_rev k (trip_lt k) s)).trans ((R.q _ l).trans (by rw [← R.q']; rfl))

theorem rb_k (s l : Fin 128) : rb k arg21 X_arg21 (ix2 s l) = (back y k).k s l :=
  (readAt_rows _ _ (off3_eq k) _ s l (Layer.Stream.row k s.rev).rev (row_rev k (trip_lt k) s)).trans ((R.k _ l).trans (by rw [← R.k']; rfl))

theorem vb_v : Values (vb arg4 X_arg4 k) (back y k) :=
  pay18_at _ _ fun s l => (readAt_rows3 _ _ (off4_eq k) _ s l (Layer.Stream.row k s.rev).rev (row_rev k (trip_lt k) s)).trans ((R.v _ l).trans (by rw [← R.v']; rfl))

theorem gates_f (s l : Fin 128) : k0_pay4 (F := Ideal) w (gf arg6 X_arg6 k) (bi arg9 X_arg9) (ix2 s l)
    = arg6.view.read (Elt Ideal) X_arg6 (ix3 0 (Layer.Stream.row k s) (lane w l)) + arg9.view.read (Elt Ideal) X_arg9 (ix2 0 (lane w l)) := by
  rw [pay4_at]
  exact congrArg₂ _ (readAt_rows3 _ _ (off2_eq k) _ s (lane w l) (Layer.Stream.row k s) (row_val k (trip_lt k) s))
    (congrFun (View.readAt_full arg9.view X_arg9 _) (ix2 0 (lane w l)))

theorem gates_b (s l : Fin 128) : k0_pay19 (F := Ideal) w (gb arg6 X_arg6 k) (bi arg9 X_arg9) (ix2 s l)
    = arg6.view.read (Elt Ideal) X_arg6 (ix3 0 (Layer.Stream.row k s.rev).rev (lane w l)) + arg9.view.read (Elt Ideal) X_arg9 (ix2 0 (lane w l)) := by
  rw [pay19_at]
  exact congrArg₂ _ (readAt_rows3 _ _ (off4_eq k) _ s (lane w l) (Layer.Stream.row k s.rev).rev (row_rev k (trip_lt k) s))
    (congrFun (View.readAt_full arg9.view X_arg9 _) (ix2 0 (lane w l)))

theorem gf_i (s : Fin 128) : k0_pay4 (F := Ideal) w (gf arg6 X_arg6 k) (bi arg9 X_arg9) (ix2 s 0) = (x.chunk k).ig s := by
  rw [gates_f (R := R)]; exact R.ig _

theorem gf_f (s : Fin 128) : logsig (k0_pay4 (F := Ideal) w (gf arg6 X_arg6 k) (bi arg9 X_arg9) (ix2 s 4)) = (x.chunk k).lf s := by
  rw [gates_f (R := R)]; exact R.lf _

theorem gb_i (s : Fin 128) : k0_pay19 (F := Ideal) w (gb arg6 X_arg6 k) (bi arg9 X_arg9) (ix2 s 8) = (back y k).ig s := by
  rw [gates_b (R := R)]; exact R.ig' _

theorem gb_f (s : Fin 128) : logsig (k0_pay19 (F := Ideal) w (gb arg6 X_arg6 k) (bi arg9 X_arg9) (ix2 s 12)) = (back y k).lf s := by
  rw [gates_b (R := R)]; exact R.lf' _

variable (h1 : acc.1 (ix2 0 0) = Mf.m) (h2 : acc.2 (ix2 0 0) = Mb.m)
  (h24 : Holds (arg24.view.read (Elt Ideal) f24) Mf) (h25 : Holds (arg25.view.read (Elt Ideal) f25) Mb)

include h1 in
theorem step_m : ((Gen.trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 k0_pay88 k0_pay89 (k0_pay90 (F := Ideal)) (k0_pay91 (F := Ideal)) w X_arg4 X_arg6 X_arg9 X_arg20 X_arg21 k).1 acc f22 f23 f24 f25).1 (ix2 0 0) = ((x.chunk k).next fwd 127 Mf).m := by
  rw [trip_acc]
  exact pay15_at (x.chunk k) Mf _ _ _ _ (pay10_at _ _ _ _ (fun s => gf_f (R := R) (s := s) ..)) h1 (pay8_at _ _ _ _ (fun s => gf_f (R := R) (s := s) ..)) (pay9_at _ _ _ _ (fun s => gf_i (R := R) (s := s) ..))

include h2 in
theorem step_m' : ((Gen.trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 k0_pay88 k0_pay89 (k0_pay90 (F := Ideal)) (k0_pay91 (F := Ideal)) w X_arg4 X_arg6 X_arg9 X_arg20 X_arg21 k).1 acc f22 f23 f24 f25).2 (ix2 0 0) = ((y.rev.chunk k).next fwd 127 Mb).m := by
  rw [trip_acc, ← Chunk.rev_next]
  exact pay96_at (back y k) Mb acc.2 _ _ _ (pay28_at _ _ _ _ (fun s => gb_f (R := R) (s := s) ..)) h2 (pay26_at _ _ _ _ (fun s => gb_f (R := R) (s := s) ..)) (pay27_at _ _ _ _ (fun s => gb_i (R := R) (s := s) ..))

include h1 h24 in
theorem step_out (g : BufTy.Contents (Elt Ideal) arg22.view.ty) (L : List (View.Piece (Elt Ideal) S4096x128 .f32)) (t : Fin 4096) (j l : Fin 128)
    (ht : t.val = 128 * k.val + j.val) :
    arg22.view.read (Elt Ideal) (arg22.view.writes (Elt Ideal) g ((Gen.trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 k0_pay88 k0_pay89 (k0_pay90 (F := Ideal)) (k0_pay91 (F := Ideal)) w X_arg4 X_arg6 X_arg9 X_arg20 X_arg21 k).2.1 acc f22 f23 f24 f25 ++ L)) (ix2 t l) = (x.chunk k).out fwd Mf j l := by
  rw [trip_l22, List.cons_append, List.nil_append]
  refine (read_rows arg22.view g (off1_eq k) (k0_off1_inb k) _ L t j l ht).trans ?_
  have h := pay13_at (x.chunk k) Mf (rf k arg20 X_arg20) (rf k arg21 X_arg21) (vf arg4 X_arg4 k) acc.1 _ _ _ (ml arg24 f24)
    (fun s l => rf_q (R := R) (s := s) (l := l) ..) (fun s l => rf_k (R := R) (s := s) (l := l) ..) (vf_v (R := R) ..) h1
    (pay6_at _ _ _ _ (fun s => gf_f (R := R) (s := s) ..)) (pay11_at _ _ _ _ (fun s => gf_i (R := R) (s := s) ..) (fun s => gf_f (R := R) (s := s) ..)) (pay12_at _ _ _ _ (fun s => gf_f (R := R) (s := s) ..)) (by rw [ml, View.readAt_full]; exact h24) j l
  exact h

include h2 h25 in
theorem step_out' (g : BufTy.Contents (Elt Ideal) arg23.view.ty) (L : List (View.Piece (Elt Ideal) S4096x128 .f32)) (t : Fin 4096) (j l : Fin 128)
    (ht : t.val = 128 * (31 - k.val) + j.val) :
    arg23.view.read (Elt Ideal) (arg23.view.writes (Elt Ideal) g ((Gen.trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 k0_pay88 k0_pay89 (k0_pay90 (F := Ideal)) (k0_pay91 (F := Ideal)) w X_arg4 X_arg6 X_arg9 X_arg20 X_arg21 k).2.2.1 acc f22 f23 f24 f25 ++ L)) (ix2 t l)
      = (y.rev.chunk k).out fwd Mb j.rev l := by
  rw [trip_l23, ← Chunk.rev_out]
  rw [List.cons_append, List.nil_append]
  refine (read_rows arg23.view g (off3_eq k) (k0_off3_inb k) _ L t j l ht).trans ?_
  have h := pay95_at (back y k) Mb w (gb arg6 X_arg6 k) (bi arg9 X_arg9) (fun s => gb_i (R := R) (s := s) ..) (fun s => gb_f (R := R) (s := s) ..) acc.2 h2 (rb k arg20 X_arg20) (rb k arg21 X_arg21) (vb arg4 X_arg4 k) (ml arg25 f25)
    (fun s l => rb_q (R := R) (s := s) (l := l) ..) (fun s l => rb_k (R := R) (s := s) (l := l) ..) (vb_v (R := R) ..)
    (by rw [ml, View.readAt_full]; exact h25) j l
  exact h

include h1 h24 in
theorem step_mem (g : BufTy.Contents (Elt Ideal) arg24.view.ty) (L : List (View.Piece (Elt Ideal) S128x256 .f32)) :
    Holds (arg24.view.read (Elt Ideal) (arg24.view.writes (Elt Ideal) g ((Gen.trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 k0_pay88 k0_pay89 (k0_pay90 (F := Ideal)) (k0_pay91 (F := Ideal)) w X_arg4 X_arg6 X_arg9 X_arg20 X_arg21 k).2.2.2.1 acc f22 f23 f24 f25 ++ L))) ((x.chunk k).next fwd 127 Mf) := by
  rw [trip_l24]
  refine (View.read_writes_full arg24.view g _ _ L).symm ▸ ?_
  exact pay17_at (x.chunk k) Mf _ _ _ _ _ _ (fun s l => rf_k (R := R) (s := s) (l := l) ..) (vf_v (R := R) ..) (by rw [ml, View.readAt_full]; exact h24)
    (pay14_at (x.chunk k) _ _ _ (pay10_at _ _ _ _ (fun s => gf_f (R := R) (s := s) ..)) (pay6_at _ _ _ _ (fun s => gf_f (R := R) (s := s) ..)) (pay7_at _ _ _ _ (fun s => gf_i (R := R) (s := s) ..)))
    (pay15_at (x.chunk k) Mf _ _ _ _ (pay10_at _ _ _ _ (fun s => gf_f (R := R) (s := s) ..)) h1 (pay8_at _ _ _ _ (fun s => gf_f (R := R) (s := s) ..)) (pay9_at _ _ _ _ (fun s => gf_i (R := R) (s := s) ..)))
    (pay16_at (x.chunk k) Mf _ _ (pay10_at _ _ _ _ (fun s => gf_f (R := R) (s := s) ..)) h1)

include h2 h25 in
theorem step_mem' (g : BufTy.Contents (Elt Ideal) arg25.view.ty) (L : List (View.Piece (Elt Ideal) S128x256 .f32)) :
    Holds (arg25.view.read (Elt Ideal) (arg25.view.writes (Elt Ideal) g ((Gen.trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 k0_pay88 k0_pay89 (k0_pay90 (F := Ideal)) (k0_pay91 (F := Ideal)) w X_arg4 X_arg6 X_arg9 X_arg20 X_arg21 k).2.2.2.2.1 acc f22 f23 f24 f25 ++ L))) ((y.rev.chunk k).next fwd 127 Mb) := by
  rw [trip_l25, ← Chunk.rev_next]
  refine (View.read_writes_full arg25.view g _ _ L).symm ▸ ?_
  exact pay97_at (back y k) Mb acc.2 h2 _ _ _ (fun s l => rb_k (R := R) (s := s) (l := l) ..) (vb_v (R := R) ..) (by rw [ml, View.readAt_full]; exact h25) _ _ _ _ _
    (pay28_at _ _ _ _ (fun s => gb_f (R := R) (s := s) ..)) (pay24_at _ _ _ _ (fun s => gb_f (R := R) (s := s) ..)) (pay25_at _ _ _ _ (fun s => gb_i (R := R) (s := s) ..)) (pay26_at _ _ _ _ (fun s => gb_f (R := R) (s := s) ..)) (pay27_at _ _ _ _ (fun s => gb_i (R := R) (s := s) ..))

end Step

end Trip

section Scan

variable (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .f32) (harg6 : arg6.IsWhole) (arg7 : Memref sig .tc .vmem S3x128 .f32) (harg7 : arg7.IsWhole) (arg8 : Memref sig .tc .vmem S3x128 .f32) (harg8 : arg8.IsWhole) (arg9 : Memref sig .tc .vmem S1x128 .f32) (harg9 : arg9.IsWhole) (arg10 : Memref sig .tc .vmem S1x1x128x256 .f32) (harg10 : arg10.IsWhole) (arg11 : Memref sig .tc .vmem S1x1x8x128 .f32) (harg11 : arg11.IsWhole) (arg12 : Memref sig .tc .vmem S1x1x128x256 .f32) (harg12 : arg12.IsWhole) (arg13 : Memref sig .tc .vmem S1x1x8x128 .f32) (harg13 : arg13.IsWhole) (arg14 : Memref sig .tc .vmem S1x4096x128 .bf16) (harg14 : arg14.IsWhole) (arg15 : Memref sig .tc .vmem S1x1x128x256 .f32) (harg15 : arg15.IsWhole) (arg16 : Memref sig .tc .vmem S1x1x8x128 .f32) (harg16 : arg16.IsWhole) (arg17 : Memref sig .tc .vmem S1x1x128x256 .f32) (harg17 : arg17.IsWhole) (arg18 : Memref sig .tc .vmem S1x1x8x128 .f32) (harg18 : arg18.IsWhole) (arg19 : Memref sig .tc .vmem S4112x128 .f32) (harg19 : arg19.IsWhole) (arg20 : Memref sig .tc .vmem S4096x128 .bf16) (harg20 : arg20.IsWhole) (arg21 : Memref sig .tc .vmem S4096x128 .bf16) (harg21 : arg21.IsWhole) (arg22 : Memref sig .tc .vmem S4096x128 .f32) (harg22 : arg22.IsWhole) (arg23 : Memref sig .tc .vmem S4096x128 .f32) (harg23 : arg23.IsWhole) (arg24 : Memref sig .tc .vmem S128x256 .f32) (harg24 : arg24.IsWhole) (arg25 : Memref sig .tc .vmem S128x256 .f32) (harg25 : arg25.IsWhole) (arg1 : BitVec 32) (w : BitVec 32) (X_arg4 : BufTy.Contents (Elt Ideal) arg4.view.ty) (X_arg6 : BufTy.Contents (Elt Ideal) arg6.view.ty) (X_arg9 : BufTy.Contents (Elt Ideal) arg9.view.ty) (X_arg20 : BufTy.Contents (Elt Ideal) arg20.view.ty) (X_arg21 : BufTy.Contents (Elt Ideal) arg21.view.ty)
  (G22 : BufTy.Contents (Elt Ideal) arg22.view.ty) (G23 : BufTy.Contents (Elt Ideal) arg23.view.ty)
  (G24 : BufTy.Contents (Elt Ideal) arg24.view.ty) (G25 : BufTy.Contents (Elt Ideal) arg25.view.ty) (init : FVec Ideal S1x1 .f32 × FVec Ideal S1x1 .f32)
  (x y : Layer.Stream) (Mf Mb : Mem)

/-- What the buffers hold before trip `k`. -/
structure Before (k : ℕ) (s : (FVec Ideal S1x1 .f32 × FVec Ideal S1x1 .f32) × List (View.Piece (Elt Ideal) S4096x128 .f32) × List (View.Piece (Elt Ideal) S4096x128 .f32)
    × List (View.Piece (Elt Ideal) S128x256 .f32) × List (View.Piece (Elt Ideal) S128x256 .f32)) : Prop where
  m : s.1.1 (ix2 0 0) = (x.mem Mf k).m
  m' : s.1.2 (ix2 0 0) = (y.rev.mem Mb k).m
  out : ∀ t : Fin 4096, t.val < 128 * k → ∀ l : Fin 128,
    arg22.view.read (Elt Ideal) (arg22.view.writes (Elt Ideal) G22 s.2.1) (ix2 t l) = x.out Mf t l
  out' : ∀ t : Fin 4096, t.rev.val < 128 * k → ∀ l : Fin 128,
    arg23.view.read (Elt Ideal) (arg23.view.writes (Elt Ideal) G23 s.2.2.1) (ix2 t l) = y.rev.out Mb t.rev l
  mem : Holds (arg24.view.read (Elt Ideal) (arg24.view.writes (Elt Ideal) G24 s.2.2.2.1)) (x.mem Mf k)
  mem' : Holds (arg25.view.read (Elt Ideal) (arg25.view.writes (Elt Ideal) G25 s.2.2.2.2)) (y.rev.mem Mb k)

theorem out_at (x : Layer.Stream) (M : Mem) (t : Fin 4096) (k : ℕ) (j l : Fin 128) (h : t.val = 128 * k + j.val) :
    (x.chunk k).out fwd (x.mem M k) j l = x.out M t l := by
  have hj := j.isLt
  have h1 : t.val / 128 = k := by omega
  have h2 : (⟨t.val % 128, Nat.mod_lt _ (by decide)⟩ : Fin 128) = j := Fin.ext (by show t.val % 128 = j.val; omega)
  unfold Layer.Stream.out; rw [h1, h2]

theorem before (R : Reads w (arg20.view.read (Elt Ideal) X_arg20) (arg21.view.read (Elt Ideal) X_arg21) (arg4.view.read (Elt Ideal) X_arg4)
    (arg6.view.read (Elt Ideal) X_arg6) (arg9.view.read (Elt Ideal) X_arg9) x y)
    (h1 : init.1 (ix2 0 0) = Mf.m) (h2 : init.2 (ix2 0 0) = Mb.m)
    (h24 : Holds (arg24.view.read (Elt Ideal) G24) Mf) (h25 : Holds (arg25.view.read (Elt Ideal) G25) Mb) :
    ∀ k ≤ 32, Before arg22 arg23 arg24 arg25 G22 G23 G24 G25 x y Mf Mb k (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 k0_pay88 k0_pay89 (k0_pay90 (F := Ideal)) (k0_pay91 (F := Ideal)) w X_arg4 X_arg6 X_arg9 X_arg20 X_arg21 G22 G23 G24 G25 init k) := by
  intro k
  induction k with
  | zero => exact fun _ => ⟨h1, h2, fun t h => absurd h (by omega), fun t h => absurd h (by omega), h24, h25⟩
  | succ k ih =>
    intro hk
    have B := ih (by omega)
    have hs := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 k0_pay88 k0_pay89 (k0_pay90 (F := Ideal)) (k0_pay91 (F := Ideal)) w X_arg4 X_arg6 X_arg9 X_arg20 X_arg21 G22 G23 G24 G25 init ⟨k, lt_of_lt_of_eq hk trips_eq.symm⟩
    rw [show (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 k0_pay88 k0_pay89 (k0_pay90 (F := Ideal)) (k0_pay91 (F := Ideal)) w X_arg4 X_arg6 X_arg9 X_arg20 X_arg21 G22 G23 G24 G25 init (k + 1)) = _ from hs]
    generalize (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 k0_pay88 k0_pay89 (k0_pay90 (F := Ideal)) (k0_pay91 (F := Ideal)) w X_arg4 X_arg6 X_arg9 X_arg20 X_arg21 G22 G23 G24 G25 init k) = s at B
    refine ⟨?_, ?_, fun t ht l => ?_, fun t ht l => ?_, ?_, ?_⟩
    · exact step_m (R := R) (h1 := B.m) ..
    · exact step_m' (R := R) (h2 := B.m') ..
    · by_cases h : t.val < 128 * k
      · rw [← B.out t h l]
        show arg22.view.read (Elt Ideal) (arg22.view.writes (Elt Ideal) G22 (_ ++ s.2.1)) (ix2 t l) = _
        rw [tripL_k0_t1, trip_l22]
        exact View.read_writes_cons_rows_of_not_mem arg22.view G22 _ _ s.2.1 (ix2 t l) (off1_eq _) rfl (.inl h)
      · have hj : t.val - 128 * k < 128 := by omega
        refine (step_out (R := R) (h1 := B.m) (h24 := B.mem) (j := ⟨t.val - 128 * k, hj⟩) (ht := by show t.val = 128 * k + (t.val - 128 * k); omega) ..).trans ?_
        exact out_at x Mf t k _ l (by show t.val = 128 * k + (t.val - 128 * k); omega)
    · by_cases h : t.rev.val < 128 * k
      · rw [← B.out' t h l]
        show arg23.view.read (Elt Ideal) (arg23.view.writes (Elt Ideal) G23 (_ ++ s.2.2.1)) (ix2 t l) = _
        rw [tripL_k0_t1, trip_l23]
        refine View.read_writes_cons_rows_of_not_mem arg23.view G23 _ _ s.2.2.1 (ix2 t l) (off3_eq _) rfl (.inr ?_)
        rw [Fin.val_rev] at h
        show 128 * (31 - k) + 128 ≤ t.val
        omega
      · have ht2 := t.isLt
        have hr : t.rev.val = 4095 - t.val := by rw [Fin.val_rev]; omega
        have hj : t.val - 128 * (31 - k) < 128 := by omega
        refine (step_out' (R := R) (h2 := B.m') (h25 := B.mem') (j := ⟨t.val - 128 * (31 - k), hj⟩) (ht := by show t.val = 128 * (31 - k) + (t.val - 128 * (31 - k)); omega) ..).trans ?_
        exact out_at y.rev Mb t.rev k _ l (by rw [Fin.val_rev (⟨_, hj⟩ : Fin 128), hr]; show 4095 - t.val = 128 * k + (128 - (t.val - 128 * (31 - k) + 1)); omega)
    · exact step_mem (R := R) (h1 := B.m) (h24 := B.mem) ..
    · exact step_mem' (R := R) (h2 := B.m') (h25 := B.mem') ..

end Scan

end Cert.MlstmIdeal.Scan
-- ==== Proof.MlstmConv.lean ====
module

public import proofs.«01_k».proof.Proof.MlstmRun
public import proofs.«01_k».proof.Proof.MlstmLoop

/-! What the buffers of the queries and keys hold when a grid point's loop begins: the columns are copied between two zero edges, convolved over three
rows and activated, in eight stretches of 512 rows.  -/

@[expose] public section

set_option maxRecDepth 16384

noncomputable section

namespace Cert.MlstmIdeal.Scan

open Cert.MlstmIdeal Cert.MlstmIdeal.Gen Cert.Layer Idealize.ShloMosaic Idealize.ShloMosaic.TcCoe Idealize.SL.Sem

/-- A matrix of 4096 rows between zero edges: position `p` holds row `p - 8`. -/
def padded (x : S1x4096x128.Idx → EReal) : S4112x128.Idx → EReal := fun y => edged (fun t => x (ix3 0 t (y 1))) ((y 0).val - 7)

/-- The convolved and activated columns, times a number. -/
def conved (κ : EReal) (x : S1x4096x128.Idx → EReal) (w : S3x128.Idx → EReal) : S4096x128.Idx → EReal := fun y =>
  silu (conv3 (fun t => x (ix3 0 t (y 1))) (w (ix2 0 (y 1))) (w (ix2 1 (y 1))) (w (ix2 2 (y 1))) (y 0)) * κ

/-- A store puts a function's values into its rectangle. -/
def Agrees {s : Shape} {e : EltTy} (G : s.Idx → Elt Ideal e) (p : View.Piece (Elt Ideal) s e) : Prop := ∀ y : p.1.shape.Idx, p.2 y = G (p.1.emb y)

/-- After stores that put a function's values, every place one of them covers holds its value. -/
theorem read_agrees {κ : Kind} {sp : Space} {s : Shape} {e : EltTy} (v : View sig κ sp s e) (f : v.ty.Contents (Elt Ideal)) (G : s.Idx → Elt Ideal e)
    (L : List (View.Piece (Elt Ideal) s e)) (h : ∀ p ∈ L, Agrees G p) (y : s.Idx) (hy : ∃ p ∈ L, y ∈ p.1.set) :
    v.read (Elt Ideal) (v.writes (Elt Ideal) f L) y = G y := View.read_writes_apply_of_pieces v f G L h y hy

/-- A copied stretch of rows agrees with the padded matrix. -/
theorem piece_copy (x : S1x4096x128.Idx → EReal) (o : ℕ) {off : ℕ} (hoff : off = o + 8) (inb : ∀ a, (![off, 0] : Fin 2 → ℕ) a + S512x128.size a ≤ S4112x128.size a) (p : FVec Ideal S512x128 .f32)
    (ho : o + 512 ≤ 4096) (h : ∀ s l, p (ix2 s l) = x (ix3 0 ⟨o + s.val, by have := s.isLt; omega⟩ l)) :
    Agrees (e := .f32) (padded x) ⟨Rect.unit (s := S4112x128) ![off, 0] S512x128.size inb, p⟩ := by
  subst hoff
  intro y
  change p y = padded x ((Rect.unit (s := S4112x128) ![o + 8, 0] S512x128.size inb).emb y)
  change S512x128.Idx at y
  idx_vars y
  refine (h y0 y1).trans ?_
  have h1 : (Rect.unit (s := S4112x128) ![o + 8, 0] S512x128.size inb).emb (ix2 y0 y1) 1 = y1 := Fin.ext (by show 0 + 1 * y1.val = y1.val; omega)
  have h0 : ((Rect.unit (s := S4112x128) ![o + 8, 0] S512x128.size inb).emb (ix2 y0 y1) 0).val = o + 8 + y0.val := by show o + 8 + 1 * y0.val = _; omega
  have := y0.isLt
  unfold padded edged
  rw [h0, dif_pos ⟨by omega, by omega⟩, h1]
  exact congrArg (fun t => x (ix3 0 t y1)) (Fin.ext (by show o + y0.val = o + 8 + y0.val - 7 - 1; omega))

/-- The zero rows of an edge agree with the padded matrix. -/
theorem piece_edge (x : S1x4096x128.Idx → EReal) {o : ℕ} (inb : ∀ a, (![o, 0] : Fin 2 → ℕ) a + S8x128.size a ≤ S4112x128.size a) (p : FVec Ideal S8x128 .f32)
    (ho : o = 0 ∨ o = 4104) (h : ∀ y, p y = 0) : Agrees (e := .f32) (padded x) ⟨Rect.unit (s := S4112x128) ![o, 0] S8x128.size inb, p⟩ := by
  intro y
  change p y = padded x ((Rect.unit (s := S4112x128) ![o, 0] S8x128.size inb).emb y)
  change S8x128.Idx at y
  idx_vars y
  refine (h _).trans ?_
  have h0 : ((Rect.unit (s := S4112x128) ![o, 0] S8x128.size inb).emb (ix2 y0 y1) 0).val = o + y0.val := by show o + 1 * y0.val = _; omega
  have := y0.isLt
  unfold padded edged
  rw [h0, dif_neg (by omega)]

/-- A load of 512 rows from a stack's only matrix. -/
theorem copy_rows {κ : Kind} {sp : Space} (v : View sig κ sp S1x4096x128 .bf16) (f : v.ty.Contents (Elt Ideal)) {o : ℕ}
    (inb : ∀ a, (![0, o, 0] : Fin 3 → ℕ) a + S1x512x128.size a ≤ S1x4096x128.size a) (ho : o + 512 ≤ 4096) (s : Fin 512) (l : Fin 128) :
    v.readAt (Elt Ideal) (Rect.unit (s := S1x4096x128) ![0, o, 0] S1x512x128.size inb).toLoadRect f (ix3 0 s l)
      = v.read (Elt Ideal) f (ix3 0 ⟨o + s.val, by have := s.isLt; omega⟩ l) := by
  refine congrArg (v.read (Elt Ideal) f) (funext fun a => Fin.ext ?_)
  match a with
  | 0 => rfl
  | 1 => show o + 1 * s.val = o + s.val; omega
  | 2 => show 0 + 1 * l.val = l.val; omega

/-- A load of 512 rows of the padded matrix. -/
theorem load_rows {κ : Kind} {sp : Space} (v : View sig κ sp S4112x128 .f32) (f : v.ty.Contents (Elt Ideal)) (x : S1x4096x128.Idx → EReal)
    (hf : ∀ y, v.read (Elt Ideal) f y = padded x y) (o : ℕ) {off : ℕ} (hoff : off = o + 7) (inb : ∀ a, (![off, 0] : Fin 2 → ℕ) a + S512x128.size a ≤ S4112x128.size a) (s : Fin 512) (l : Fin 128) :
    v.readAt (Elt Ideal) (Rect.unit (s := S4112x128) ![off, 0] S512x128.size inb).toLoadRect f (ix2 s l) = edged (fun t => x (ix3 0 t l)) (o + s.val) := by
  subst hoff
  refine (hf _).trans ?_
  show edged (fun t => x (ix3 0 t ⟨0 + 1 * l.val, _⟩)) (o + 7 + 1 * s.val - 7) = _
  have h1 : (⟨0 + 1 * l.val, by have := l.isLt; omega⟩ : Fin 128) = l := Fin.ext (by show 0 + 1 * l.val = l.val; omega)
  rw [h1, show o + 7 + 1 * s.val - 7 = o + s.val by omega]

/-- A stretch of 512 convolved rows agrees with the whole. -/
theorem piece_conv (κ : EReal) (x : S1x4096x128.Idx → EReal) (w : S3x128.Idx → EReal) {o : ℕ} (inb : ∀ a, (![o, 0] : Fin 2 → ℕ) a + S512x128.size a ≤ S4096x128.size a)
    (p : FVec Ideal S512x128 .bf16) (a b d : S512x128.Idx → EReal) (W : S3x128.Idx → EReal) (hW : ∀ j l, W (ix2 j l) = w (ix2 j l))
    (hp : ∀ s l, p (ix2 s l) = silu (a (ix2 s l) * W (ix2 0 l) + b (ix2 s l) * W (ix2 1 l) + d (ix2 s l) * W (ix2 2 l)) * κ)
    (ha : ∀ s l, a (ix2 s l) = edged (fun t => x (ix3 0 t l)) (o + s.val)) (hb : ∀ s l, b (ix2 s l) = edged (fun t => x (ix3 0 t l)) (o + 1 + s.val))
    (hd : ∀ s l, d (ix2 s l) = edged (fun t => x (ix3 0 t l)) (o + 2 + s.val)) :
    Agrees (e := .bf16) (conved κ x w) ⟨Rect.unit (s := S4096x128) ![o, 0] S512x128.size inb, p⟩ := by
  intro y
  change p y = conved κ x w ((Rect.unit (s := S4096x128) ![o, 0] S512x128.size inb).emb y)
  change S512x128.Idx at y
  idx_vars y
  refine (hp y0 y1).trans ?_
  rw [ha, hb, hd, hW, hW, hW]
  have h1 : (Rect.unit (s := S4096x128) ![o, 0] S512x128.size inb).emb (ix2 y0 y1) 1 = y1 := Fin.ext (by show 0 + 1 * y1.val = y1.val; omega)
  have h0 : ((Rect.unit (s := S4096x128) ![o, 0] S512x128.size inb).emb (ix2 y0 y1) 0).val = o + y0.val := by show o + 1 * y0.val = _; omega
  unfold conved conv3
  rw [h0, h1, show o + 1 + y0.val = o + y0.val + 1 by omega, show o + 2 + y0.val = o + y0.val + 2 by omega]

/-- Eight stretches of 512 rows cover a matrix of 4096 rows. -/
theorem rows_mem {o : ℕ} (inb : ∀ a, (![o, 0] : Fin 2 → ℕ) a + S512x128.size a ≤ S4096x128.size a) (y : S4096x128.Idx) (h : o ≤ (y 0).val) (h' : (y 0).val < o + 512) :
    y ∈ (Rect.unit (s := S4096x128) ![o, 0] S512x128.size inb).set := by
  refine Rect.mem_set_unit.mpr fun a => ?_
  match a with
  | 0 => exact ⟨h, h'⟩
  | 1 => exact ⟨Nat.zero_le _, by have := (y 1).isLt; show (y 1).val < 0 + 128; exact this.trans_le (by decide)⟩

theorem pad_mem {o n : ℕ} (inb : ∀ a, (![o, 0] : Fin 2 → ℕ) a + (![n, 128] : Fin 2 → ℕ) a ≤ S4112x128.size a) (y : S4112x128.Idx) (h : o ≤ (y 0).val) (h' : (y 0).val < o + n) :
    y ∈ (Rect.unit (s := S4112x128) ![o, 0] ![n, 128] inb).set := by
  refine Rect.mem_set_unit.mpr fun a => ?_
  match a with
  | 0 => exact ⟨h, h'⟩
  | 1 => exact ⟨Nat.zero_le _, by have := (y 1).isLt; show (y 1).val < 0 + 128; exact this.trans_le (by decide)⟩

theorem pay39_at (u : Vec Ideal S1x512x128 .bf16) (s : Fin 512) (l : Fin 128) : k0_pay39 (F := Ideal) u (ix2 s l) = u (ix3 0 s l) := by
  unfold k0_pay39; pointwise

theorem pay40_at (u : Vec Ideal S1x512x128 .bf16) (s : Fin 512) (l : Fin 128) : k0_pay40 (F := Ideal) u (ix2 s l) = u (ix3 0 s l) := by
  unfold k0_pay40; pointwise

theorem pay41_at (u : Vec Ideal S1x512x128 .bf16) (s : Fin 512) (l : Fin 128) : k0_pay41 (F := Ideal) u (ix2 s l) = u (ix3 0 s l) := by
  unfold k0_pay41; pointwise

theorem pay44_at (u : Vec Ideal S1x512x128 .bf16) (s : Fin 512) (l : Fin 128) : k0_pay44 (F := Ideal) u (ix2 s l) = u (ix3 0 s l) := by
  unfold k0_pay44; pointwise

theorem pay45_at (u : Vec Ideal S1x512x128 .bf16) (s : Fin 512) (l : Fin 128) : k0_pay45 (F := Ideal) u (ix2 s l) = u (ix3 0 s l) := by
  unfold k0_pay45; pointwise

theorem pay46_at (u : Vec Ideal S1x512x128 .bf16) (s : Fin 512) (l : Fin 128) : k0_pay46 (F := Ideal) u (ix2 s l) = u (ix3 0 s l) := by
  unfold k0_pay46; pointwise

theorem pay47_at (u : Vec Ideal S1x512x128 .bf16) (s : Fin 512) (l : Fin 128) : k0_pay47 (F := Ideal) u (ix2 s l) = u (ix3 0 s l) := by
  unfold k0_pay47; pointwise

theorem pay64_at (u : Vec Ideal S1x512x128 .bf16) (s : Fin 512) (l : Fin 128) : k0_pay64 (F := Ideal) u (ix2 s l) = u (ix3 0 s l) := by
  unfold k0_pay64; pointwise

theorem pay65_at (u : Vec Ideal S1x512x128 .bf16) (s : Fin 512) (l : Fin 128) : k0_pay65 (F := Ideal) u (ix2 s l) = u (ix3 0 s l) := by
  unfold k0_pay65; pointwise

theorem pay66_at (u : Vec Ideal S1x512x128 .bf16) (s : Fin 512) (l : Fin 128) : k0_pay66 (F := Ideal) u (ix2 s l) = u (ix3 0 s l) := by
  unfold k0_pay66; pointwise

theorem pay67_at (u : Vec Ideal S1x512x128 .bf16) (s : Fin 512) (l : Fin 128) : k0_pay67 (F := Ideal) u (ix2 s l) = u (ix3 0 s l) := by
  unfold k0_pay67; pointwise

theorem pay68_at (u : Vec Ideal S1x512x128 .bf16) (s : Fin 512) (l : Fin 128) : k0_pay68 (F := Ideal) u (ix2 s l) = u (ix3 0 s l) := by
  unfold k0_pay68; pointwise

theorem pay69_at (u : Vec Ideal S1x512x128 .bf16) (s : Fin 512) (l : Fin 128) : k0_pay69 (F := Ideal) u (ix2 s l) = u (ix3 0 s l) := by
  unfold k0_pay69; pointwise

theorem pay70_at (u : Vec Ideal S1x512x128 .bf16) (s : Fin 512) (l : Fin 128) : k0_pay70 (F := Ideal) u (ix2 s l) = u (ix3 0 s l) := by
  unfold k0_pay70; pointwise

theorem pay71_at (u : Vec Ideal S1x512x128 .bf16) (s : Fin 512) (l : Fin 128) : k0_pay71 (F := Ideal) u (ix2 s l) = u (ix3 0 s l) := by
  unfold k0_pay71; pointwise

theorem pay43_at (u : Vec Ideal S1x512x128 .bf16) (s : Fin 512) (l : Fin 128) : k0_pay43 (F := Ideal) (k0_pay42 u) (ix2 s l) = u (ix3 0 s l) := by
  unfold k0_pay43 k0_pay42; pointwise

theorem pay37_at (y : S8x128.Idx) : k0_pay37 (F := Ideal) y = 0 := by
  unfold k0_pay37 k0_pay36; idx_vars y; pointwise

theorem pay38_at (y : S8x128.Idx) : k0_pay38 (F := Ideal) y = 0 := by
  unfold k0_pay38 k0_pay36; idx_vars y; pointwise

theorem pay62_at (y : S8x128.Idx) : k0_pay62 (F := Ideal) y = 0 := by
  unfold k0_pay62 k0_pay61; idx_vars y; pointwise

theorem pay63_at (y : S8x128.Idx) : k0_pay63 (F := Ideal) y = 0 := by
  unfold k0_pay63 k0_pay61; idx_vars y; pointwise

theorem conv_q0_at (W : Vec Ideal S3x128 .f32) (a b d : Vec Ideal S512x128 .f32) (s : Fin 512) (l : Fin 128) : k0_pay49 (F := Ideal) W a (k0_pay48 W) b d (ix2 s l)
    = silu (a (ix2 s l) * W (ix2 0 l) + b (ix2 s l) * W (ix2 1 l) + d (ix2 s l) * W (ix2 2 l)) * Ideal.ofBits .f32 0x3F800000#32 := by
  unfold k0_pay49 k0_pay48; pointwise; rfl

theorem conv_q1_at (W : Vec Ideal S3x128 .f32) (a b d : Vec Ideal S512x128 .f32) (s : Fin 512) (l : Fin 128) : k0_pay50 (F := Ideal) W a b d (ix2 s l)
    = silu (a (ix2 s l) * W (ix2 0 l) + b (ix2 s l) * W (ix2 1 l) + d (ix2 s l) * W (ix2 2 l)) * Ideal.ofBits .f32 0x3F800000#32 := by
  unfold k0_pay50; pointwise; rfl

theorem conv_q2_at (W : Vec Ideal S3x128 .f32) (a b d : Vec Ideal S512x128 .f32) (s : Fin 512) (l : Fin 128) : k0_pay51 (F := Ideal) W a b d (ix2 s l)
    = silu (a (ix2 s l) * W (ix2 0 l) + b (ix2 s l) * W (ix2 1 l) + d (ix2 s l) * W (ix2 2 l)) * Ideal.ofBits .f32 0x3F800000#32 := by
  unfold k0_pay51; pointwise; rfl

theorem conv_q3_at (W : Vec Ideal S3x128 .f32) (a b d : Vec Ideal S512x128 .f32) (s : Fin 512) (l : Fin 128) : k0_pay53 (F := Ideal) (k0_pay52 W a b d) (ix2 s l)
    = silu (a (ix2 s l) * W (ix2 0 l) + b (ix2 s l) * W (ix2 1 l) + d (ix2 s l) * W (ix2 2 l)) * Ideal.ofBits .f32 0x3F800000#32 := by
  unfold k0_pay53 k0_pay52; pointwise; rfl

theorem conv_q4_at (W : Vec Ideal S3x128 .f32) (a b d : Vec Ideal S512x128 .f32) (s : Fin 512) (l : Fin 128) : k0_pay54 (F := Ideal) W a b d (ix2 s l)
    = silu (a (ix2 s l) * W (ix2 0 l) + b (ix2 s l) * W (ix2 1 l) + d (ix2 s l) * W (ix2 2 l)) * Ideal.ofBits .f32 0x3F800000#32 := by
  unfold k0_pay54; pointwise; rfl

theorem conv_q5_at (W : Vec Ideal S3x128 .f32) (a b d : Vec Ideal S512x128 .f32) (s : Fin 512) (l : Fin 128) : k0_pay56 (F := Ideal) (k0_pay55 W a b d) (ix2 s l)
    = silu (a (ix2 s l) * W (ix2 0 l) + b (ix2 s l) * W (ix2 1 l) + d (ix2 s l) * W (ix2 2 l)) * Ideal.ofBits .f32 0x3F800000#32 := by
  unfold k0_pay56 k0_pay55; pointwise; rfl

theorem conv_q6_at (W : Vec Ideal S3x128 .f32) (a b d : Vec Ideal S512x128 .f32) (s : Fin 512) (l : Fin 128) : k0_pay57 (F := Ideal) W a b d (ix2 s l)
    = silu (a (ix2 s l) * W (ix2 0 l) + b (ix2 s l) * W (ix2 1 l) + d (ix2 s l) * W (ix2 2 l)) * Ideal.ofBits .f32 0x3F800000#32 := by
  unfold k0_pay57; pointwise; rfl

theorem conv_q7_at (W : Vec Ideal S3x128 .f32) (a b d : Vec Ideal S512x128 .f32) (s : Fin 512) (l : Fin 128) : k0_pay60 (F := Ideal) (k0_pay58 W a b d) (k0_pay59 W a b d) (ix2 s l)
    = silu (a (ix2 s l) * W (ix2 0 l) + b (ix2 s l) * W (ix2 1 l) + d (ix2 s l) * W (ix2 2 l)) * Ideal.ofBits .f32 0x3F800000#32 := by
  unfold k0_pay60 k0_pay59 k0_pay58; pointwise; rfl

theorem conv_k0_at (W : Vec Ideal S3x128 .f32) (a b d : Vec Ideal S512x128 .f32) (s : Fin 512) (l : Fin 128) : k0_pay72 (F := Ideal) W a b d (ix2 s l)
    = silu (a (ix2 s l) * W (ix2 0 l) + b (ix2 s l) * W (ix2 1 l) + d (ix2 s l) * W (ix2 2 l)) * Ideal.ofBits .f32 0x3DB504F3#32 := by
  unfold k0_pay72; pointwise; rfl

theorem conv_k1_at (W : Vec Ideal S3x128 .f32) (a b d : Vec Ideal S512x128 .f32) (s : Fin 512) (l : Fin 128) : k0_pay75 (F := Ideal) (k0_pay73 W a b d) k0_pay74 (ix2 s l)
    = silu (a (ix2 s l) * W (ix2 0 l) + b (ix2 s l) * W (ix2 1 l) + d (ix2 s l) * W (ix2 2 l)) * Ideal.ofBits .f32 0x3DB504F3#32 := by
  unfold k0_pay75 k0_pay73 k0_pay74; pointwise; rfl

theorem conv_k2_at (W : Vec Ideal S3x128 .f32) (a b d : Vec Ideal S512x128 .f32) (s : Fin 512) (l : Fin 128) : k0_pay76 (F := Ideal) W a b d (ix2 s l)
    = silu (a (ix2 s l) * W (ix2 0 l) + b (ix2 s l) * W (ix2 1 l) + d (ix2 s l) * W (ix2 2 l)) * Ideal.ofBits .f32 0x3DB504F3#32 := by
  unfold k0_pay76; pointwise; rfl

theorem conv_k3_at (W : Vec Ideal S3x128 .f32) (a b d : Vec Ideal S512x128 .f32) (s : Fin 512) (l : Fin 128) : k0_pay78 (F := Ideal) (k0_pay77 W a b d) (ix2 s l)
    = silu (a (ix2 s l) * W (ix2 0 l) + b (ix2 s l) * W (ix2 1 l) + d (ix2 s l) * W (ix2 2 l)) * Ideal.ofBits .f32 0x3DB504F3#32 := by
  unfold k0_pay78 k0_pay77; pointwise; rfl

theorem conv_k4_at (W : Vec Ideal S3x128 .f32) (a b d : Vec Ideal S512x128 .f32) (s : Fin 512) (l : Fin 128) : k0_pay79 (F := Ideal) W a b d (ix2 s l)
    = silu (a (ix2 s l) * W (ix2 0 l) + b (ix2 s l) * W (ix2 1 l) + d (ix2 s l) * W (ix2 2 l)) * Ideal.ofBits .f32 0x3DB504F3#32 := by
  unfold k0_pay79; pointwise; rfl

theorem conv_k5_at (W : Vec Ideal S3x128 .f32) (a b d : Vec Ideal S512x128 .f32) (s : Fin 512) (l : Fin 128) : k0_pay81 (F := Ideal) W (k0_pay80 W a b) d (ix2 s l)
    = silu (a (ix2 s l) * W (ix2 0 l) + b (ix2 s l) * W (ix2 1 l) + d (ix2 s l) * W (ix2 2 l)) * Ideal.ofBits .f32 0x3DB504F3#32 := by
  unfold k0_pay81 k0_pay80; pointwise; rfl

theorem conv_k6_at (W : Vec Ideal S3x128 .f32) (a b d : Vec Ideal S512x128 .f32) (s : Fin 512) (l : Fin 128) : k0_pay82 (F := Ideal) W a b d (ix2 s l)
    = silu (a (ix2 s l) * W (ix2 0 l) + b (ix2 s l) * W (ix2 1 l) + d (ix2 s l) * W (ix2 2 l)) * Ideal.ofBits .f32 0x3DB504F3#32 := by
  unfold k0_pay82; pointwise; rfl

theorem conv_k7_at (W : Vec Ideal S3x128 .f32) (a b d : Vec Ideal S512x128 .f32) (s : Fin 512) (l : Fin 128) : k0_pay85 (F := Ideal) W (k0_pay83 W a) (k0_pay84 W b) d (ix2 s l)
    = silu (a (ix2 s l) * W (ix2 0 l) + b (ix2 s l) * W (ix2 1 l) + d (ix2 s l) * W (ix2 2 l)) * Ideal.ofBits .f32 0x3DB504F3#32 := by
  unfold k0_pay85 k0_pay84 k0_pay83; pointwise; rfl

/-- Ten stretches of rows leave no row of the padded matrix out. -/
theorem pad_covers (L : List (View.Piece (Elt Ideal) S4112x128 .f32)) (p0 p1 p2 p3 p4 p5 p6 p7 : S512x128.Idx → EReal) (e0 e1 : S8x128.Idx → EReal)
    (hL : L = [⟨Rect.unit ![3592, 0] S512x128.size inb_S4112x128_S512x128_3592_0, p7⟩, ⟨Rect.unit ![3080, 0] S512x128.size inb_S4112x128_S512x128_3080_0, p6⟩,
      ⟨Rect.unit ![2568, 0] S512x128.size inb_S4112x128_S512x128_2568_0, p5⟩, ⟨Rect.unit ![2056, 0] S512x128.size inb_S4112x128_S512x128_2056_0, p4⟩,
      ⟨Rect.unit ![1544, 0] S512x128.size inb_S4112x128_S512x128_1544_0, p3⟩, ⟨Rect.unit ![1032, 0] S512x128.size inb_S4112x128_S512x128_1032_0, p2⟩,
      ⟨Rect.unit ![520, 0] S512x128.size inb_S4112x128_S512x128_520_0, p1⟩, ⟨Rect.unit ![8, 0] S512x128.size inb_S4112x128_S512x128_8_0, p0⟩,
      ⟨Rect.unit ![4104, 0] S8x128.size inb_S4112x128_S8x128_4104_0, e1⟩, ⟨Rect.unit ![0, 0] S8x128.size inb_S4112x128_S8x128_0_0, e0⟩])
    (y : S4112x128.Idx) : ∃ p ∈ L, y ∈ p.1.set := by
  subst hL
  have h := (y 0).isLt
  have h' : (y 0).val < 4112 := h
  by_cases h0 : (y 0).val < 8
  · exact ⟨_, .tail _ (.tail _ (.tail _ (.tail _ (.tail _ (.tail _ (.tail _ (.tail _ (.tail _ (.head _))))))))), pad_mem (n := 8) inb_S4112x128_S8x128_0_0 y (by omega) (by omega)⟩

  by_cases h1 : (y 0).val < 520
  · exact ⟨_, .tail _ (.tail _ (.tail _ (.tail _ (.tail _ (.tail _ (.tail _ (.head _))))))), pad_mem (n := 512) inb_S4112x128_S512x128_8_0 y (by omega) (by omega)⟩

  by_cases h2 : (y 0).val < 1032
  · exact ⟨_, .tail _ (.tail _ (.tail _ (.tail _ (.tail _ (.tail _ (.head _)))))), pad_mem (n := 512) inb_S4112x128_S512x128_520_0 y (by omega) (by omega)⟩

  by_cases h3 : (y 0).val < 1544
  · exact ⟨_, .tail _ (.tail _ (.tail _ (.tail _ (.tail _ (.head _))))), pad_mem (n := 512) inb_S4112x128_S512x128_1032_0 y (by omega) (by omega)⟩

  by_cases h4 : (y 0).val < 2056
  · exact ⟨_, .tail _ (.tail _ (.tail _ (.tail _ (.head _)))), pad_mem (n := 512) inb_S4112x128_S512x128_1544_0 y (by omega) (by omega)⟩

  by_cases h5 : (y 0).val < 2568
  · exact ⟨_, .tail _ (.tail _ (.tail _ (.head _))), pad_mem (n := 512) inb_S4112x128_S512x128_2056_0 y (by omega) (by omega)⟩

  by_cases h6 : (y 0).val < 3080
  · exact ⟨_, .tail _ (.tail _ (.head _)), pad_mem (n := 512) inb_S4112x128_S512x128_2568_0 y (by omega) (by omega)⟩

  by_cases h7 : (y 0).val < 3592
  · exact ⟨_, .tail _ (.head _), pad_mem (n := 512) inb_S4112x128_S512x128_3080_0 y (by omega) (by omega)⟩

  by_cases h8 : (y 0).val < 4104
  · exact ⟨_, .head _, pad_mem (n := 512) inb_S4112x128_S512x128_3592_0 y (by omega) (by omega)⟩

  exact ⟨_, .tail _ (.tail _ (.tail _ (.tail _ (.tail _ (.tail _ (.tail _ (.tail _ (.head _)))))))), pad_mem (n := 8) inb_S4112x128_S8x128_4104_0 y (by omega) (by omega)⟩

/-- Eight stretches of rows leave no row out. -/
theorem rows_cover (L : List (View.Piece (Elt Ideal) S4096x128 .bf16)) (p0 p1 p2 p3 p4 p5 p6 p7 : S512x128.Idx → EReal)
    (hL : L = [⟨Rect.unit ![3584, 0] S512x128.size inb_S4096x128_S512x128_3584_0, p7⟩, ⟨Rect.unit ![3072, 0] S512x128.size inb_S4096x128_S512x128_3072_0, p6⟩, ⟨Rect.unit ![2560, 0] S512x128.size inb_S4096x128_S512x128_2560_0, p5⟩, ⟨Rect.unit ![2048, 0] S512x128.size inb_S4096x128_S512x128_2048_0, p4⟩, ⟨Rect.unit ![1536, 0] S512x128.size inb_S4096x128_S512x128_1536_0, p3⟩, ⟨Rect.unit ![1024, 0] S512x128.size inb_S4096x128_S512x128_1024_0, p2⟩, ⟨Rect.unit ![512, 0] S512x128.size inb_S4096x128_S512x128_512_0, p1⟩, ⟨Rect.unit ![0, 0] S512x128.size inb_S4096x128_S512x128_0_0, p0⟩])
    (y : S4096x128.Idx) : ∃ p ∈ L, y ∈ p.1.set := by
  subst hL
  have h := (y 0).isLt
  have h' : (y 0).val < 4096 := h

  by_cases h1 : (y 0).val < 512
  · exact ⟨_, .tail _ (.tail _ (.tail _ (.tail _ (.tail _ (.tail _ (.tail _ (.head _))))))), rows_mem inb_S4096x128_S512x128_0_0 y (by omega) (by omega)⟩

  by_cases h2 : (y 0).val < 1024
  · exact ⟨_, .tail _ (.tail _ (.tail _ (.tail _ (.tail _ (.tail _ (.head _)))))), rows_mem inb_S4096x128_S512x128_512_0 y (by omega) (by omega)⟩

  by_cases h3 : (y 0).val < 1536
  · exact ⟨_, .tail _ (.tail _ (.tail _ (.tail _ (.tail _ (.head _))))), rows_mem inb_S4096x128_S512x128_1024_0 y (by omega) (by omega)⟩

  by_cases h4 : (y 0).val < 2048
  · exact ⟨_, .tail _ (.tail _ (.tail _ (.tail _ (.head _)))), rows_mem inb_S4096x128_S512x128_1536_0 y (by omega) (by omega)⟩

  by_cases h5 : (y 0).val < 2560
  · exact ⟨_, .tail _ (.tail _ (.tail _ (.head _))), rows_mem inb_S4096x128_S512x128_2048_0 y (by omega) (by omega)⟩

  by_cases h6 : (y 0).val < 3072
  · exact ⟨_, .tail _ (.tail _ (.head _)), rows_mem inb_S4096x128_S512x128_2560_0 y (by omega) (by omega)⟩

  by_cases h7 : (y 0).val < 3584
  · exact ⟨_, .tail _ (.head _), rows_mem inb_S4096x128_S512x128_3072_0 y (by omega) (by omega)⟩

  exact ⟨_, .head _, rows_mem inb_S4096x128_S512x128_3584_0 y (by omega) (by omega)⟩

/-- The stores that pad the columns. -/
abbrev pads_q (c : Dev nD) (arg2 : Memref sig .tc .vmem S1x4096x128 .bf16) (harg2 : arg2.IsWhole) (x0 : Vec Ideal S1x4096x128 .bf16) : List (View.Piece (Elt Ideal) S4112x128 .f32) := [
    ⟨Rect.unit ![3592, 0] S512x128.size inb_S4112x128_S512x128_3592_0, k0_pay47 (F := Ideal) (arg2.view.readAt (Elt Ideal) (Rect.unit (s := S1x4096x128) ![0, 3584, 0] S1x512x128.size inb_S1x4096x128_S1x512x128_0_3584_0).toLoadRect (harg2.unread x0))⟩,
    ⟨Rect.unit ![3080, 0] S512x128.size inb_S4112x128_S512x128_3080_0, k0_pay46 (F := Ideal) (arg2.view.readAt (Elt Ideal) (Rect.unit (s := S1x4096x128) ![0, 3072, 0] S1x512x128.size inb_S1x4096x128_S1x512x128_0_3072_0).toLoadRect (harg2.unread x0))⟩,
    ⟨Rect.unit ![2568, 0] S512x128.size inb_S4112x128_S512x128_2568_0, k0_pay45 (F := Ideal) (arg2.view.readAt (Elt Ideal) (Rect.unit (s := S1x4096x128) ![0, 2560, 0] S1x512x128.size inb_S1x4096x128_S1x512x128_0_2560_0).toLoadRect (harg2.unread x0))⟩,
    ⟨Rect.unit ![2056, 0] S512x128.size inb_S4112x128_S512x128_2056_0, k0_pay44 (F := Ideal) (arg2.view.readAt (Elt Ideal) (Rect.unit (s := S1x4096x128) ![0, 2048, 0] S1x512x128.size inb_S1x4096x128_S1x512x128_0_2048_0).toLoadRect (harg2.unread x0))⟩,
    ⟨Rect.unit ![1544, 0] S512x128.size inb_S4112x128_S512x128_1544_0, k0_pay43 (F := Ideal) (k0_pay42 (arg2.view.readAt (Elt Ideal) (Rect.unit (s := S1x4096x128) ![0, 1536, 0] S1x512x128.size inb_S1x4096x128_S1x512x128_0_1536_0).toLoadRect (harg2.unread x0)))⟩,
    ⟨Rect.unit ![1032, 0] S512x128.size inb_S4112x128_S512x128_1032_0, k0_pay41 (F := Ideal) (arg2.view.readAt (Elt Ideal) (Rect.unit (s := S1x4096x128) ![0, 1024, 0] S1x512x128.size inb_S1x4096x128_S1x512x128_0_1024_0).toLoadRect (harg2.unread x0))⟩,
    ⟨Rect.unit ![520, 0] S512x128.size inb_S4112x128_S512x128_520_0, k0_pay40 (F := Ideal) (arg2.view.readAt (Elt Ideal) (Rect.unit (s := S1x4096x128) ![0, 512, 0] S1x512x128.size inb_S1x4096x128_S1x512x128_0_512_0).toLoadRect (harg2.unread x0))⟩,
    ⟨Rect.unit ![8, 0] S512x128.size inb_S4112x128_S512x128_8_0, k0_pay39 (F := Ideal) (arg2.view.readAt (Elt Ideal) (Rect.unit (s := S1x4096x128) ![0, 0, 0] S1x512x128.size inb_S1x4096x128_S1x512x128_0_0_0).toLoadRect (harg2.unread x0))⟩,
    ⟨Rect.unit ![4104, 0] S8x128.size inb_S4112x128_S8x128_4104_0, k0_pay38 (F := Ideal)⟩,
    ⟨Rect.unit ![0, 0] S8x128.size inb_S4112x128_S8x128_0_0, k0_pay37 (F := Ideal)⟩]

theorem pads_q_at (c : Dev nD) (arg2 : Memref sig .tc .vmem S1x4096x128 .bf16) (harg2 : arg2.IsWhole) (x0 : Vec Ideal S1x4096x128 .bf16) : ∀ p ∈ pads_q c arg2 harg2 x0, Agrees (e := .f32) (padded x0) p := by
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩
  · exact piece_copy x0 3584 (by decide) _ _ (by decide) fun s l => (pay47_at _ s l).trans ((copy_rows arg2.view _ _ (by decide) s l).trans (by rw [harg2.read_unread]))
  · exact piece_copy x0 3072 (by decide) _ _ (by decide) fun s l => (pay46_at _ s l).trans ((copy_rows arg2.view _ _ (by decide) s l).trans (by rw [harg2.read_unread]))
  · exact piece_copy x0 2560 (by decide) _ _ (by decide) fun s l => (pay45_at _ s l).trans ((copy_rows arg2.view _ _ (by decide) s l).trans (by rw [harg2.read_unread]))
  · exact piece_copy x0 2048 (by decide) _ _ (by decide) fun s l => (pay44_at _ s l).trans ((copy_rows arg2.view _ _ (by decide) s l).trans (by rw [harg2.read_unread]))
  · exact piece_copy x0 1536 (by decide) _ _ (by decide) fun s l => (pay43_at _ s l).trans ((copy_rows arg2.view _ _ (by decide) s l).trans (by rw [harg2.read_unread]))
  · exact piece_copy x0 1024 (by decide) _ _ (by decide) fun s l => (pay41_at _ s l).trans ((copy_rows arg2.view _ _ (by decide) s l).trans (by rw [harg2.read_unread]))
  · exact piece_copy x0 512 (by decide) _ _ (by decide) fun s l => (pay40_at _ s l).trans ((copy_rows arg2.view _ _ (by decide) s l).trans (by rw [harg2.read_unread]))
  · exact piece_copy x0 0 (by decide) _ _ (by decide) fun s l => (pay39_at _ s l).trans ((copy_rows arg2.view _ _ (by decide) s l).trans (by rw [harg2.read_unread]))
  · exact piece_edge x0 _ _ (.inr rfl) pay38_at
  · exact piece_edge x0 _ _ (.inl rfl) pay37_at

/-- The stores that pad the columns. -/
abbrev pads_k (arg3 : Memref sig .tc .vmem S1x4096x128 .bf16) (harg3 : arg3.IsWhole) (x1 : Vec Ideal S1x4096x128 .bf16) : List (View.Piece (Elt Ideal) S4112x128 .f32) := [
    ⟨Rect.unit ![3592, 0] S512x128.size inb_S4112x128_S512x128_3592_0, k0_pay71 (F := Ideal) (arg3.view.readAt (Elt Ideal) (Rect.unit (s := S1x4096x128) ![0, 3584, 0] S1x512x128.size inb_S1x4096x128_S1x512x128_0_3584_0).toLoadRect (harg3.unread x1))⟩,
    ⟨Rect.unit ![3080, 0] S512x128.size inb_S4112x128_S512x128_3080_0, k0_pay70 (F := Ideal) (arg3.view.readAt (Elt Ideal) (Rect.unit (s := S1x4096x128) ![0, 3072, 0] S1x512x128.size inb_S1x4096x128_S1x512x128_0_3072_0).toLoadRect (harg3.unread x1))⟩,
    ⟨Rect.unit ![2568, 0] S512x128.size inb_S4112x128_S512x128_2568_0, k0_pay69 (F := Ideal) (arg3.view.readAt (Elt Ideal) (Rect.unit (s := S1x4096x128) ![0, 2560, 0] S1x512x128.size inb_S1x4096x128_S1x512x128_0_2560_0).toLoadRect (harg3.unread x1))⟩,
    ⟨Rect.unit ![2056, 0] S512x128.size inb_S4112x128_S512x128_2056_0, k0_pay68 (F := Ideal) (arg3.view.readAt (Elt Ideal) (Rect.unit (s := S1x4096x128) ![0, 2048, 0] S1x512x128.size inb_S1x4096x128_S1x512x128_0_2048_0).toLoadRect (harg3.unread x1))⟩,
    ⟨Rect.unit ![1544, 0] S512x128.size inb_S4112x128_S512x128_1544_0, k0_pay67 (F := Ideal) (arg3.view.readAt (Elt Ideal) (Rect.unit (s := S1x4096x128) ![0, 1536, 0] S1x512x128.size inb_S1x4096x128_S1x512x128_0_1536_0).toLoadRect (harg3.unread x1))⟩,
    ⟨Rect.unit ![1032, 0] S512x128.size inb_S4112x128_S512x128_1032_0, k0_pay66 (F := Ideal) (arg3.view.readAt (Elt Ideal) (Rect.unit (s := S1x4096x128) ![0, 1024, 0] S1x512x128.size inb_S1x4096x128_S1x512x128_0_1024_0).toLoadRect (harg3.unread x1))⟩,
    ⟨Rect.unit ![520, 0] S512x128.size inb_S4112x128_S512x128_520_0, k0_pay65 (F := Ideal) (arg3.view.readAt (Elt Ideal) (Rect.unit (s := S1x4096x128) ![0, 512, 0] S1x512x128.size inb_S1x4096x128_S1x512x128_0_512_0).toLoadRect (harg3.unread x1))⟩,
    ⟨Rect.unit ![8, 0] S512x128.size inb_S4112x128_S512x128_8_0, k0_pay64 (F := Ideal) (arg3.view.readAt (Elt Ideal) (Rect.unit (s := S1x4096x128) ![0, 0, 0] S1x512x128.size inb_S1x4096x128_S1x512x128_0_0_0).toLoadRect (harg3.unread x1))⟩,
    ⟨Rect.unit ![4104, 0] S8x128.size inb_S4112x128_S8x128_4104_0, k0_pay63 (F := Ideal)⟩,
    ⟨Rect.unit ![0, 0] S8x128.size inb_S4112x128_S8x128_0_0, k0_pay62 (F := Ideal)⟩]

theorem pads_k_at (arg3 : Memref sig .tc .vmem S1x4096x128 .bf16) (harg3 : arg3.IsWhole) (x1 : Vec Ideal S1x4096x128 .bf16) : ∀ p ∈ pads_k arg3 harg3 x1, Agrees (e := .f32) (padded x1) p := by
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩
  · exact piece_copy x1 3584 (by decide) _ _ (by decide) fun s l => (pay71_at _ s l).trans ((copy_rows arg3.view _ _ (by decide) s l).trans (by rw [harg3.read_unread]))
  · exact piece_copy x1 3072 (by decide) _ _ (by decide) fun s l => (pay70_at _ s l).trans ((copy_rows arg3.view _ _ (by decide) s l).trans (by rw [harg3.read_unread]))
  · exact piece_copy x1 2560 (by decide) _ _ (by decide) fun s l => (pay69_at _ s l).trans ((copy_rows arg3.view _ _ (by decide) s l).trans (by rw [harg3.read_unread]))
  · exact piece_copy x1 2048 (by decide) _ _ (by decide) fun s l => (pay68_at _ s l).trans ((copy_rows arg3.view _ _ (by decide) s l).trans (by rw [harg3.read_unread]))
  · exact piece_copy x1 1536 (by decide) _ _ (by decide) fun s l => (pay67_at _ s l).trans ((copy_rows arg3.view _ _ (by decide) s l).trans (by rw [harg3.read_unread]))
  · exact piece_copy x1 1024 (by decide) _ _ (by decide) fun s l => (pay66_at _ s l).trans ((copy_rows arg3.view _ _ (by decide) s l).trans (by rw [harg3.read_unread]))
  · exact piece_copy x1 512 (by decide) _ _ (by decide) fun s l => (pay65_at _ s l).trans ((copy_rows arg3.view _ _ (by decide) s l).trans (by rw [harg3.read_unread]))
  · exact piece_copy x1 0 (by decide) _ _ (by decide) fun s l => (pay64_at _ s l).trans ((copy_rows arg3.view _ _ (by decide) s l).trans (by rw [harg3.read_unread]))
  · exact piece_edge x1 _ _ (.inr rfl) pay63_at
  · exact piece_edge x1 _ _ (.inl rfl) pay62_at

theorem pad_q (c : Dev nD) (arg2 : Memref sig .tc .vmem S1x4096x128 .bf16) (harg2 : arg2.IsWhole) (x0 : Vec Ideal S1x4096x128 .bf16) (arg19 : Memref sig .tc .vmem S4112x128 .f32) (y : S4112x128.Idx) :
    arg19.view.read (Elt Ideal) (arg19.view.writes (Elt Ideal) arg19.view.junk (scanRun.sl.HS0_10 c arg2 harg2 x0)) y = padded x0 y :=
  read_agrees (e := .f32) arg19.view _ (padded x0) (pads_q c arg2 harg2 x0) (pads_q_at c arg2 harg2 x0) y (pad_covers _ _ _ _ _ _ _ _ _ _ _ rfl y)

theorem pad_k (c : Dev nD) (arg2 : Memref sig .tc .vmem S1x4096x128 .bf16) (harg2 : arg2.IsWhole) (x0 : Vec Ideal S1x4096x128 .bf16) (arg3 : Memref sig .tc .vmem S1x4096x128 .bf16) (harg3 : arg3.IsWhole) (x1 : Vec Ideal S1x4096x128 .bf16) (arg19 : Memref sig .tc .vmem S4112x128 .f32) (y : S4112x128.Idx) :
    arg19.view.read (Elt Ideal) (arg19.view.writes (Elt Ideal) arg19.view.junk (scanRun.sl.HS0_20 c arg2 harg2 arg3 harg3 x0 x1)) y = padded x1 y := by
  have e : scanRun.sl.HS0_20 c arg2 harg2 arg3 harg3 x0 x1 = pads_k arg3 harg3 x1 ++ scanRun.sl.HS0_10 c arg2 harg2 x0 := rfl
  rw [e, View.writes_append]
  exact read_agrees (e := .f32) arg19.view _ (padded x1) (pads_k arg3 harg3 x1) (pads_k_at arg3 harg3 x1) y (pad_covers _ _ _ _ _ _ _ _ _ _ _ rfl y)

/-- A whole load of the weights. -/
theorem weights_at (a : Memref sig .tc .vmem S3x128 .f32) (h : a.IsWhole) (x : Vec Ideal S3x128 .f32) (j : Fin 3) (l : Fin 128) :
    a.view.readAt (Elt Ideal) (Rect.unit (s := S3x128) ![0, 0] S3x128.size inb_S3x128_S3x128_0_0).toLoadRect (h.unread x) (ix2 j l) = x (ix2 j l) := by
  rw [View.readAt_full, h.read_unread]

theorem conved_q (c : Dev nD) (arg2 : Memref sig .tc .vmem S1x4096x128 .bf16) (harg2 : arg2.IsWhole) (x0 : Vec Ideal S1x4096x128 .bf16) (arg19 : Memref sig .tc .vmem S4112x128 .f32) (arg7 : Memref sig .tc .vmem S3x128 .f32) (harg7 : arg7.IsWhole) (x5 : Vec Ideal S3x128 .f32) (arg20 : Memref sig .tc .vmem S4096x128 .bf16) (y : S4096x128.Idx) :
    arg20.view.read (Elt Ideal) (arg20.view.writes (Elt Ideal) arg20.view.junk (scanRun.sl.HS1_8 c arg2 harg2 arg7 harg7 arg19 x0 x5)) y = conved (Ideal.ofBits .f32 0x3F800000#32) x0 x5 y := by
  refine read_agrees (e := .bf16) arg20.view _ (conved (Ideal.ofBits .f32 0x3F800000#32) x0 x5) _ ?_ y (rows_cover _ _ _ _ _ _ _ _ _ rfl y)
  have W := weights_at arg7 harg7 x5
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact piece_conv _ x0 x5 (o := 3584) _ _ _ _ _ _ W (conv_q7_at _ _ _ _) (load_rows arg19.view _ x0 (pad_q c arg2 harg2 x0 arg19) 3584 rfl _)
      (load_rows arg19.view _ x0 (pad_q c arg2 harg2 x0 arg19) 3585 rfl _) (load_rows arg19.view _ x0 (pad_q c arg2 harg2 x0 arg19) 3586 rfl _)
  · exact piece_conv _ x0 x5 (o := 3072) _ _ _ _ _ _ W (conv_q6_at _ _ _ _) (load_rows arg19.view _ x0 (pad_q c arg2 harg2 x0 arg19) 3072 rfl _)
      (load_rows arg19.view _ x0 (pad_q c arg2 harg2 x0 arg19) 3073 rfl _) (load_rows arg19.view _ x0 (pad_q c arg2 harg2 x0 arg19) 3074 rfl _)
  · exact piece_conv _ x0 x5 (o := 2560) _ _ _ _ _ _ W (conv_q5_at _ _ _ _) (load_rows arg19.view _ x0 (pad_q c arg2 harg2 x0 arg19) 2560 rfl _)
      (load_rows arg19.view _ x0 (pad_q c arg2 harg2 x0 arg19) 2561 rfl _) (load_rows arg19.view _ x0 (pad_q c arg2 harg2 x0 arg19) 2562 rfl _)
  · exact piece_conv _ x0 x5 (o := 2048) _ _ _ _ _ _ W (conv_q4_at _ _ _ _) (load_rows arg19.view _ x0 (pad_q c arg2 harg2 x0 arg19) 2048 rfl _)
      (load_rows arg19.view _ x0 (pad_q c arg2 harg2 x0 arg19) 2049 rfl _) (load_rows arg19.view _ x0 (pad_q c arg2 harg2 x0 arg19) 2050 rfl _)
  · exact piece_conv _ x0 x5 (o := 1536) _ _ _ _ _ _ W (conv_q3_at _ _ _ _) (load_rows arg19.view _ x0 (pad_q c arg2 harg2 x0 arg19) 1536 rfl _)
      (load_rows arg19.view _ x0 (pad_q c arg2 harg2 x0 arg19) 1537 rfl _) (load_rows arg19.view _ x0 (pad_q c arg2 harg2 x0 arg19) 1538 rfl _)
  · exact piece_conv _ x0 x5 (o := 1024) _ _ _ _ _ _ W (conv_q2_at _ _ _ _) (load_rows arg19.view _ x0 (pad_q c arg2 harg2 x0 arg19) 1024 rfl _)
      (load_rows arg19.view _ x0 (pad_q c arg2 harg2 x0 arg19) 1025 rfl _) (load_rows arg19.view _ x0 (pad_q c arg2 harg2 x0 arg19) 1026 rfl _)
  · exact piece_conv _ x0 x5 (o := 512) _ _ _ _ _ _ W (conv_q1_at _ _ _ _) (load_rows arg19.view _ x0 (pad_q c arg2 harg2 x0 arg19) 512 rfl _)
      (load_rows arg19.view _ x0 (pad_q c arg2 harg2 x0 arg19) 513 rfl _) (load_rows arg19.view _ x0 (pad_q c arg2 harg2 x0 arg19) 514 rfl _)
  · exact piece_conv _ x0 x5 (o := 0) _ _ _ _ _ _ W (conv_q0_at _ _ _ _) (load_rows arg19.view _ x0 (pad_q c arg2 harg2 x0 arg19) 0 rfl _)
      (load_rows arg19.view _ x0 (pad_q c arg2 harg2 x0 arg19) 1 rfl _) (load_rows arg19.view _ x0 (pad_q c arg2 harg2 x0 arg19) 2 rfl _)

theorem conved_k (c : Dev nD) (arg2 : Memref sig .tc .vmem S1x4096x128 .bf16) (harg2 : arg2.IsWhole) (x0 : Vec Ideal S1x4096x128 .bf16) (arg3 : Memref sig .tc .vmem S1x4096x128 .bf16) (harg3 : arg3.IsWhole) (x1 : Vec Ideal S1x4096x128 .bf16) (arg19 : Memref sig .tc .vmem S4112x128 .f32) (arg8 : Memref sig .tc .vmem S3x128 .f32) (harg8 : arg8.IsWhole) (x6 : Vec Ideal S3x128 .f32) (arg21 : Memref sig .tc .vmem S4096x128 .bf16) (y : S4096x128.Idx) :
    arg21.view.read (Elt Ideal) (arg21.view.writes (Elt Ideal) arg21.view.junk (scanRun.sl.HS2_8 c arg2 harg2 arg3 harg3 arg8 harg8 arg19 x0 x1 x6)) y = conved (Ideal.ofBits .f32 0x3DB504F3#32) x1 x6 y := by
  refine read_agrees (e := .bf16) arg21.view _ (conved (Ideal.ofBits .f32 0x3DB504F3#32) x1 x6) _ ?_ y (rows_cover _ _ _ _ _ _ _ _ _ rfl y)
  have W := weights_at arg8 harg8 x6
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact piece_conv _ x1 x6 (o := 3584) _ _ _ _ _ _ W (conv_k7_at _ _ _ _) (load_rows arg19.view _ x1 (pad_k c arg2 harg2 x0 arg3 harg3 x1 arg19) 3584 rfl _)
      (load_rows arg19.view _ x1 (pad_k c arg2 harg2 x0 arg3 harg3 x1 arg19) 3585 rfl _) (load_rows arg19.view _ x1 (pad_k c arg2 harg2 x0 arg3 harg3 x1 arg19) 3586 rfl _)
  · exact piece_conv _ x1 x6 (o := 3072) _ _ _ _ _ _ W (conv_k6_at _ _ _ _) (load_rows arg19.view _ x1 (pad_k c arg2 harg2 x0 arg3 harg3 x1 arg19) 3072 rfl _)
      (load_rows arg19.view _ x1 (pad_k c arg2 harg2 x0 arg3 harg3 x1 arg19) 3073 rfl _) (load_rows arg19.view _ x1 (pad_k c arg2 harg2 x0 arg3 harg3 x1 arg19) 3074 rfl _)
  · exact piece_conv _ x1 x6 (o := 2560) _ _ _ _ _ _ W (conv_k5_at _ _ _ _) (load_rows arg19.view _ x1 (pad_k c arg2 harg2 x0 arg3 harg3 x1 arg19) 2560 rfl _)
      (load_rows arg19.view _ x1 (pad_k c arg2 harg2 x0 arg3 harg3 x1 arg19) 2561 rfl _) (load_rows arg19.view _ x1 (pad_k c arg2 harg2 x0 arg3 harg3 x1 arg19) 2562 rfl _)
  · exact piece_conv _ x1 x6 (o := 2048) _ _ _ _ _ _ W (conv_k4_at _ _ _ _) (load_rows arg19.view _ x1 (pad_k c arg2 harg2 x0 arg3 harg3 x1 arg19) 2048 rfl _)
      (load_rows arg19.view _ x1 (pad_k c arg2 harg2 x0 arg3 harg3 x1 arg19) 2049 rfl _) (load_rows arg19.view _ x1 (pad_k c arg2 harg2 x0 arg3 harg3 x1 arg19) 2050 rfl _)
  · exact piece_conv _ x1 x6 (o := 1536) _ _ _ _ _ _ W (conv_k3_at _ _ _ _) (load_rows arg19.view _ x1 (pad_k c arg2 harg2 x0 arg3 harg3 x1 arg19) 1536 rfl _)
      (load_rows arg19.view _ x1 (pad_k c arg2 harg2 x0 arg3 harg3 x1 arg19) 1537 rfl _) (load_rows arg19.view _ x1 (pad_k c arg2 harg2 x0 arg3 harg3 x1 arg19) 1538 rfl _)
  · exact piece_conv _ x1 x6 (o := 1024) _ _ _ _ _ _ W (conv_k2_at _ _ _ _) (load_rows arg19.view _ x1 (pad_k c arg2 harg2 x0 arg3 harg3 x1 arg19) 1024 rfl _)
      (load_rows arg19.view _ x1 (pad_k c arg2 harg2 x0 arg3 harg3 x1 arg19) 1025 rfl _) (load_rows arg19.view _ x1 (pad_k c arg2 harg2 x0 arg3 harg3 x1 arg19) 1026 rfl _)
  · exact piece_conv _ x1 x6 (o := 512) _ _ _ _ _ _ W (conv_k1_at _ _ _ _) (load_rows arg19.view _ x1 (pad_k c arg2 harg2 x0 arg3 harg3 x1 arg19) 512 rfl _)
      (load_rows arg19.view _ x1 (pad_k c arg2 harg2 x0 arg3 harg3 x1 arg19) 513 rfl _) (load_rows arg19.view _ x1 (pad_k c arg2 harg2 x0 arg3 harg3 x1 arg19) 514 rfl _)
  · exact piece_conv _ x1 x6 (o := 0) _ _ _ _ _ _ W (conv_k0_at _ _ _ _) (load_rows arg19.view _ x1 (pad_k c arg2 harg2 x0 arg3 harg3 x1 arg19) 0 rfl _)
      (load_rows arg19.view _ x1 (pad_k c arg2 harg2 x0 arg3 harg3 x1 arg19) 1 rfl _) (load_rows arg19.view _ x1 (pad_k c arg2 harg2 x0 arg3 harg3 x1 arg19) 2 rfl _)

end Cert.MlstmIdeal.Scan

end
-- ==== Proof.MlstmBlock.lean ====
module

public import proofs.«01_k».proof.Proof.MlstmConv

/-! What one grid point leaves in its block of the first result: the gated sum of the two directions' outputs.  -/

@[expose] public section

set_option maxRecDepth 16384

noncomputable section

namespace Cert.MlstmIdeal.Scan

open Cert.MlstmIdeal Cert.MlstmIdeal.Gen Cert.Layer Idealize.ShloMosaic Idealize.ShloMosaic.TcCoe Idealize.SL.Sem

/-- The two directions' outputs, behind the output gate. -/
def gated (xo : S1x4096x128.Idx → EReal) (x y : Layer.Stream) (Mf Mb : Mem) : S1x4096x128.Idx → EReal := fun p =>
  Ideal.logistic (xo (ix3 0 (p 1) (p 2))) * (x.out Mf (p 1) (p 2) + y.rev.out Mb (p 1).rev (p 2))

/-- The blocks a grid point is called with are those of two streams and two memories. -/
structure Given (w : BitVec 32) (x0 : Vec Ideal S1x4096x128 .bf16) (x1 : Vec Ideal S1x4096x128 .bf16) (x2 : Vec Ideal S1x4096x128 .bf16) (x4 : Vec Ideal S1x4096x128 .f32) (x5 : Vec Ideal S3x128 .f32) (x6 : Vec Ideal S3x128 .f32) (x7 : Vec Ideal S1x128 .f32) (x8 : Vec Ideal S1x1x128x256 .f32) (x9 : Vec Ideal S1x1x8x128 .f32) (x10 : Vec Ideal S1x1x128x256 .f32) (x11 : Vec Ideal S1x1x8x128 .f32) (x y : Layer.Stream) (Mf Mb : Mem) : Prop where
  reads : Reads w (conved (Ideal.ofBits .f32 0x3F800000#32) x0 x5) (conved (Ideal.ofBits .f32 0x3DB504F3#32) x1 x6) x2 x4 x7 x y
  mat : ∀ a l : Fin 128, x8 (ix4 0 0 a ⟨l, by omega⟩) = Mf.C a l
  vec : ∀ a l : Fin 128, x8 (ix4 0 0 a ⟨128 + l, by omega⟩) = Mf.n a
  top : x9 (ix4 0 0 0 0) = Mf.m
  mat' : ∀ a l : Fin 128, x10 (ix4 0 0 a ⟨l, by omega⟩) = Mb.C a l
  vec' : ∀ a l : Fin 128, x10 (ix4 0 0 a ⟨128 + l, by omega⟩) = Mb.n a
  top' : x11 (ix4 0 0 0 0) = Mb.m

/-- A load of 512 rows of a matrix of 4096 rows. -/
theorem sum_rows {κ : Kind} {sp : Space} (v : View sig κ sp S4096x128 .f32) (f : v.ty.Contents (Elt Ideal)) {o : ℕ}
    (inb : ∀ a, (![o, 0] : Fin 2 → ℕ) a + S512x128.size a ≤ S4096x128.size a) (ho : o + 512 ≤ 4096) (s : Fin 512) (l : Fin 128) :
    v.readAt (Elt Ideal) (Rect.unit (s := S4096x128) ![o, 0] S512x128.size inb).toLoadRect f (ix2 s l)
      = v.read (Elt Ideal) f (ix2 ⟨o + s.val, by have := s.isLt; omega⟩ l) := by
  refine congrArg (v.read (Elt Ideal) f) (funext fun a => Fin.ext ?_)
  match a with
  | 0 => show o + 1 * s.val = o + s.val; omega
  | 1 => show 0 + 1 * l.val = l.val; omega

/-- A stretch of 512 gated rows agrees with the whole. -/
theorem piece_gated (xo : S1x4096x128.Idx → EReal) (x y : Layer.Stream) (Mf Mb : Mem) {o : ℕ} (inb : ∀ a, (![0, o, 0] : Fin 3 → ℕ) a + S1x512x128.size a ≤ S1x4096x128.size a)
    (ho : o + 512 ≤ 4096) (p : FVec Ideal S1x512x128 .bf16) (u : S1x512x128.Idx → EReal) (a b : S512x128.Idx → EReal)
    (hp : ∀ s l, p (ix3 0 s l) = Ideal.logistic (u (ix3 0 s l)) * (a (ix2 s l) + b (ix2 s l)))
    (hu : ∀ s l, u (ix3 0 s l) = xo (ix3 0 ⟨o + s.val, by have := s.isLt; omega⟩ l))
    (ha : ∀ s l, a (ix2 s l) = x.out Mf ⟨o + s.val, by have := s.isLt; omega⟩ l)
    (hb : ∀ s l, b (ix2 s l) = y.rev.out Mb (⟨o + s.val, by have := s.isLt; omega⟩ : Fin 4096).rev l) :
    Agrees (e := .bf16) (gated xo x y Mf Mb) ⟨Rect.unit (s := S1x4096x128) ![0, o, 0] S1x512x128.size inb, p⟩ := by
  intro q
  change p q = gated xo x y Mf Mb ((Rect.unit (s := S1x4096x128) ![0, o, 0] S1x512x128.size inb).emb q)
  change S1x512x128.Idx at q
  idx_vars q
  obtain rfl : q0 = 0 := Fin.fin_one_eq_zero q0
  refine (hp q1 q2).trans ?_
  rw [hu, ha, hb]
  have h2 : (Rect.unit (s := S1x4096x128) ![0, o, 0] S1x512x128.size inb).emb (ix3 0 q1 q2) 2 = q2 := Fin.ext (by show 0 + 1 * q2.val = q2.val; omega)
  have h1 : (Rect.unit (s := S1x4096x128) ![0, o, 0] S1x512x128.size inb).emb (ix3 0 q1 q2) 1 = (⟨o + q1.val, by have := q1.isLt; omega⟩ : Fin 4096) :=
    Fin.ext (by show o + 1 * q1.val = o + q1.val; omega)
  unfold gated
  rw [h1, h2]
  rfl

theorem gated_mem {o : ℕ} (inb : ∀ a, (![0, o, 0] : Fin 3 → ℕ) a + S1x512x128.size a ≤ S1x4096x128.size a) (y : S1x4096x128.Idx) (h : o ≤ (y 1).val) (h' : (y 1).val < o + 512) :
    y ∈ (Rect.unit (s := S1x4096x128) ![0, o, 0] S1x512x128.size inb).set := by
  refine Rect.mem_set_unit.mpr fun a => ?_
  match a with
  | 0 => exact ⟨Nat.zero_le _, (y 0).isLt⟩
  | 1 => exact ⟨h, h'⟩
  | 2 => exact ⟨Nat.zero_le _, by have := (y 2).isLt; show (y 2).val < 0 + 128; exact this.trans_le (by decide)⟩

/-- Eight stretches of rows leave no row out. -/
theorem gated_cover (L : List (View.Piece (Elt Ideal) S1x4096x128 .bf16)) (p0 p1 p2 p3 p4 p5 p6 p7 : S1x512x128.Idx → EReal)
    (hL : L = [⟨Rect.unit ![0, 3584, 0] S1x512x128.size inb_S1x4096x128_S1x512x128_0_3584_0, p7⟩, ⟨Rect.unit ![0, 3072, 0] S1x512x128.size inb_S1x4096x128_S1x512x128_0_3072_0, p6⟩, ⟨Rect.unit ![0, 2560, 0] S1x512x128.size inb_S1x4096x128_S1x512x128_0_2560_0, p5⟩, ⟨Rect.unit ![0, 2048, 0] S1x512x128.size inb_S1x4096x128_S1x512x128_0_2048_0, p4⟩, ⟨Rect.unit ![0, 1536, 0] S1x512x128.size inb_S1x4096x128_S1x512x128_0_1536_0, p3⟩, ⟨Rect.unit ![0, 1024, 0] S1x512x128.size inb_S1x4096x128_S1x512x128_0_1024_0, p2⟩, ⟨Rect.unit ![0, 512, 0] S1x512x128.size inb_S1x4096x128_S1x512x128_0_512_0, p1⟩, ⟨Rect.unit ![0, 0, 0] S1x512x128.size inb_S1x4096x128_S1x512x128_0_0_0, p0⟩])
    (y : S1x4096x128.Idx) : ∃ p ∈ L, y ∈ p.1.set := by
  subst hL
  have h := (y 1).isLt
  have h' : (y 1).val < 4096 := h

  by_cases h1 : (y 1).val < 512
  · exact ⟨_, .tail _ (.tail _ (.tail _ (.tail _ (.tail _ (.tail _ (.tail _ (.head _))))))), gated_mem inb_S1x4096x128_S1x512x128_0_0_0 y (by omega) (by omega)⟩

  by_cases h2 : (y 1).val < 1024
  · exact ⟨_, .tail _ (.tail _ (.tail _ (.tail _ (.tail _ (.tail _ (.head _)))))), gated_mem inb_S1x4096x128_S1x512x128_0_512_0 y (by omega) (by omega)⟩

  by_cases h3 : (y 1).val < 1536
  · exact ⟨_, .tail _ (.tail _ (.tail _ (.tail _ (.tail _ (.head _))))), gated_mem inb_S1x4096x128_S1x512x128_0_1024_0 y (by omega) (by omega)⟩

  by_cases h4 : (y 1).val < 2048
  · exact ⟨_, .tail _ (.tail _ (.tail _ (.tail _ (.head _)))), gated_mem inb_S1x4096x128_S1x512x128_0_1536_0 y (by omega) (by omega)⟩

  by_cases h5 : (y 1).val < 2560
  · exact ⟨_, .tail _ (.tail _ (.tail _ (.head _))), gated_mem inb_S1x4096x128_S1x512x128_0_2048_0 y (by omega) (by omega)⟩

  by_cases h6 : (y 1).val < 3072
  · exact ⟨_, .tail _ (.tail _ (.head _)), gated_mem inb_S1x4096x128_S1x512x128_0_2560_0 y (by omega) (by omega)⟩

  by_cases h7 : (y 1).val < 3584
  · exact ⟨_, .tail _ (.head _), gated_mem inb_S1x4096x128_S1x512x128_0_3072_0 y (by omega) (by omega)⟩

  exact ⟨_, .head _, gated_mem inb_S1x4096x128_S1x512x128_0_3584_0 y (by omega) (by omega)⟩

theorem gated0_at (u : Vec Ideal S1x512x128 .bf16) (a b : Vec Ideal S512x128 .f32) (s : Fin 512) (l : Fin 128) :
    k0_pay102 (F := Ideal) u a b (ix3 0 s l) = Ideal.logistic (u (ix3 0 s l)) * (a (ix2 s l) + b (ix2 s l)) := by
  unfold k0_pay102; pointwise

theorem gated1_at (u : Vec Ideal S1x512x128 .bf16) (a b : Vec Ideal S512x128 .f32) (s : Fin 512) (l : Fin 128) :
    k0_pay104 (F := Ideal) (k0_pay103 u a b) (ix3 0 s l) = Ideal.logistic (u (ix3 0 s l)) * (a (ix2 s l) + b (ix2 s l)) := by
  unfold k0_pay104 k0_pay103; pointwise

theorem gated2_at (u : Vec Ideal S1x512x128 .bf16) (a b : Vec Ideal S512x128 .f32) (s : Fin 512) (l : Fin 128) :
    k0_pay105 (F := Ideal) u a b (ix3 0 s l) = Ideal.logistic (u (ix3 0 s l)) * (a (ix2 s l) + b (ix2 s l)) := by
  unfold k0_pay105; pointwise

theorem gated3_at (u : Vec Ideal S1x512x128 .bf16) (a b : Vec Ideal S512x128 .f32) (s : Fin 512) (l : Fin 128) :
    k0_pay106 (F := Ideal) u a b (ix3 0 s l) = Ideal.logistic (u (ix3 0 s l)) * (a (ix2 s l) + b (ix2 s l)) := by
  unfold k0_pay106; pointwise

theorem gated4_at (u : Vec Ideal S1x512x128 .bf16) (a b : Vec Ideal S512x128 .f32) (s : Fin 512) (l : Fin 128) :
    k0_pay108 (F := Ideal) (k0_pay107 u) a b (ix3 0 s l) = Ideal.logistic (u (ix3 0 s l)) * (a (ix2 s l) + b (ix2 s l)) := by
  unfold k0_pay108 k0_pay107; pointwise

theorem gated5_at (u : Vec Ideal S1x512x128 .bf16) (a b : Vec Ideal S512x128 .f32) (s : Fin 512) (l : Fin 128) :
    k0_pay109 (F := Ideal) u a b (ix3 0 s l) = Ideal.logistic (u (ix3 0 s l)) * (a (ix2 s l) + b (ix2 s l)) := by
  unfold k0_pay109; pointwise

theorem gated6_at (u : Vec Ideal S1x512x128 .bf16) (a b : Vec Ideal S512x128 .f32) (s : Fin 512) (l : Fin 128) :
    k0_pay1 (F := Ideal) (k0_pay110 u a b) (ix3 0 s l) = Ideal.logistic (u (ix3 0 s l)) * (a (ix2 s l) + b (ix2 s l)) := by
  unfold k0_pay1 k0_pay110; pointwise

theorem gated7_at (u : Vec Ideal S1x512x128 .bf16) (a b : Vec Ideal S512x128 .f32) (s : Fin 512) (l : Fin 128) :
    k0_pay2 (F := Ideal) u a b (ix3 0 s l) = Ideal.logistic (u (ix3 0 s l)) * (a (ix2 s l) + b (ix2 s l)) := by
  unfold k0_pay2; pointwise

theorem pay93_at (u : Vec Ideal S1x1x8x128 .f32) : k0_pay93 (F := Ideal) u (ix2 0 0) = u (ix4 0 0 0 0) := by
  unfold k0_pay93; pointwise

theorem pay94_at (u : Vec Ideal S1x1x8x128 .f32) : k0_pay94 (F := Ideal) u (ix2 0 0) = u (ix4 0 0 0 0) := by
  unfold k0_pay94; pointwise

theorem pay86_at (u : Vec Ideal S1x1x128x256 .f32) (a : Fin 128) (l : Fin 256) : k0_pay86 (F := Ideal) u (ix2 a l) = u (ix4 0 0 a l) := by
  unfold k0_pay86; pointwise

theorem pay87_at (u : Vec Ideal S1x1x128x256 .f32) (a : Fin 128) (l : Fin 256) : k0_pay87 (F := Ideal) u (ix2 a l) = u (ix4 0 0 a l) := by
  unfold k0_pay87; pointwise

variable (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .f32) (harg6 : arg6.IsWhole) (arg7 : Memref sig .tc .vmem S3x128 .f32) (harg7 : arg7.IsWhole) (arg8 : Memref sig .tc .vmem S3x128 .f32) (harg8 : arg8.IsWhole) (arg9 : Memref sig .tc .vmem S1x128 .f32) (harg9 : arg9.IsWhole) (arg10 : Memref sig .tc .vmem S1x1x128x256 .f32) (harg10 : arg10.IsWhole) (arg11 : Memref sig .tc .vmem S1x1x8x128 .f32) (harg11 : arg11.IsWhole) (arg12 : Memref sig .tc .vmem S1x1x128x256 .f32) (harg12 : arg12.IsWhole) (arg13 : Memref sig .tc .vmem S1x1x8x128 .f32) (harg13 : arg13.IsWhole) (arg14 : Memref sig .tc .vmem S1x4096x128 .bf16) (harg14 : arg14.IsWhole) (arg15 : Memref sig .tc .vmem S1x1x128x256 .f32) (harg15 : arg15.IsWhole) (arg16 : Memref sig .tc .vmem S1x1x8x128 .f32) (harg16 : arg16.IsWhole) (arg17 : Memref sig .tc .vmem S1x1x128x256 .f32) (harg17 : arg17.IsWhole) (arg18 : Memref sig .tc .vmem S1x1x8x128 .f32) (harg18 : arg18.IsWhole) (arg19 : Memref sig .tc .vmem S4112x128 .f32) (harg19 : arg19.IsWhole) (arg20 : Memref sig .tc .vmem S4096x128 .bf16) (harg20 : arg20.IsWhole) (arg21 : Memref sig .tc .vmem S4096x128 .bf16) (harg21 : arg21.IsWhole) (arg22 : Memref sig .tc .vmem S4096x128 .f32) (harg22 : arg22.IsWhole) (arg23 : Memref sig .tc .vmem S4096x128 .f32) (harg23 : arg23.IsWhole) (arg24 : Memref sig .tc .vmem S128x256 .f32) (harg24 : arg24.IsWhole) (arg25 : Memref sig .tc .vmem S128x256 .f32) (harg25 : arg25.IsWhole)
  (x0 : Vec Ideal S1x4096x128 .bf16) (x1 : Vec Ideal S1x4096x128 .bf16) (x2 : Vec Ideal S1x4096x128 .bf16) (x3 : Vec Ideal S1x4096x128 .bf16) (x4 : Vec Ideal S1x4096x128 .f32) (x5 : Vec Ideal S3x128 .f32) (x6 : Vec Ideal S3x128 .f32) (x7 : Vec Ideal S1x128 .f32) (x8 : Vec Ideal S1x1x128x256 .f32) (x9 : Vec Ideal S1x1x8x128 .f32) (x10 : Vec Ideal S1x1x128x256 .f32) (x11 : Vec Ideal S1x1x8x128 .f32)
  (x y : Layer.Stream) (Mf Mb : Mem) (H : Given (scanRun.sl.v497 i) x0 x1 x2 x4 x5 x6 x7 x8 x9 x10 x11 x y Mf Mb)
  (f3 : BufTy.Contents (Elt Ideal) arg22.view.ty) (f4 : BufTy.Contents (Elt Ideal) arg23.view.ty)

include H in
/-- What the loop of a grid point leaves. -/
theorem after_loop : Before arg22 arg23 arg24 arg25 f3 f4 (arg24.view.writes (Elt Ideal) arg24.view.junk (scanRun.sl.HS5_1 c arg10 harg10 x8))
    (arg25.view.writes (Elt Ideal) arg25.view.junk (scanRun.sl.HS6_1 c arg12 harg12 x10)) x y Mf Mb k0_t1_loop.trips (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (BitVec.ofNat 32 (i 1).val) k0_pay88 k0_pay89 (k0_pay90 (F := Ideal)) (k0_pay91 (F := Ideal)) (scanRun.sl.v497 i) (harg4.unread x2) (harg6.unread x4) (harg9.unread x7) (arg20.view.writes (Elt Ideal) arg20.view.junk (scanRun.sl.HS1_8 c arg2 harg2 arg7 harg7 arg19 x0 x5)) (arg21.view.writes (Elt Ideal) arg21.view.junk (scanRun.sl.HS2_8 c arg2 harg2 arg3 harg3 arg8 harg8 arg19 x0 x1 x6)) f3 f4 (arg24.view.writes (Elt Ideal) arg24.view.junk (scanRun.sl.HS5_1 c arg10 harg10 x8)) (arg25.view.writes (Elt Ideal) arg25.view.junk (scanRun.sl.HS6_1 c arg12 harg12 x10)) (k0_pay93 (F := Ideal) (arg11.view.readAt (Elt Ideal) (Rect.unit (s := S1x1x8x128) ![0, 0, 0, 0] S1x1x8x128.size inb_S1x1x8x128_S1x1x8x128_0_0_0_0).toLoadRect (harg11.unread x9)), k0_pay94 (F := Ideal) (arg13.view.readAt (Elt Ideal) (Rect.unit (s := S1x1x8x128) ![0, 0, 0, 0] S1x1x8x128.size inb_S1x1x8x128_S1x1x8x128_0_0_0_0).toLoadRect (harg13.unread x11))) k0_t1_loop.trips) := by
  refine before _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ?_ ?_ ?_ ?_ ?_ k0_t1_loop.trips trips_eq.le
  · rw [funext (conved_q c arg2 harg2 x0 arg19 arg7 harg7 x5 arg20), funext (conved_k c arg2 harg2 x0 arg3 harg3 x1 arg19 arg8 harg8 x6 arg21), harg4.read_unread, harg6.read_unread, harg9.read_unread]
    exact H.reads
  · dsimp only
    rw [pay93_at]
    rw [View.readAt_full, harg11.read_unread]; exact H.top
  · dsimp only
    rw [pay94_at]
    rw [View.readAt_full, harg13.read_unread]; exact H.top'
  · unfold scanRun.sl.HS5_1
    rw [View.read_writes_full]
    constructor
    · intro a l; refine (pay86_at _ _ _).trans ?_; rw [View.readAt_full, harg10.read_unread]; exact H.mat a l
    · intro a l; refine (pay86_at _ _ _).trans ?_; rw [View.readAt_full, harg10.read_unread]; exact H.vec a l
  · unfold scanRun.sl.HS6_1
    rw [View.read_writes_full]
    constructor
    · intro a l; refine (pay87_at _ _ _).trans ?_; rw [View.readAt_full, harg12.read_unread]; exact H.mat' a l
    · intro a l; refine (pay87_at _ _ _).trans ?_; rw [View.readAt_full, harg12.read_unread]; exact H.vec' a l

include H in
/-- The forward direction's outputs, at a stretch of rows. -/
theorem fwd_rows {o : ℕ} (inb : ∀ a, (![o, 0] : Fin 2 → ℕ) a + S512x128.size a ≤ S4096x128.size a) (ho : o + 512 ≤ 4096) (s : Fin 512) (l : Fin 128) :
    arg22.view.readAt (Elt Ideal) (Rect.unit (s := S4096x128) ![o, 0] S512x128.size inb).toLoadRect (arg22.view.writes (Elt Ideal) f3 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (BitVec.ofNat 32 (i 1).val) k0_pay88 k0_pay89 (k0_pay90 (F := Ideal)) (k0_pay91 (F := Ideal)) (scanRun.sl.v497 i) (harg4.unread x2) (harg6.unread x4) (harg9.unread x7) (arg20.view.writes (Elt Ideal) arg20.view.junk (scanRun.sl.HS1_8 c arg2 harg2 arg7 harg7 arg19 x0 x5)) (arg21.view.writes (Elt Ideal) arg21.view.junk (scanRun.sl.HS2_8 c arg2 harg2 arg3 harg3 arg8 harg8 arg19 x0 x1 x6)) f3 f4 (arg24.view.writes (Elt Ideal) arg24.view.junk (scanRun.sl.HS5_1 c arg10 harg10 x8)) (arg25.view.writes (Elt Ideal) arg25.view.junk (scanRun.sl.HS6_1 c arg12 harg12 x10)) (k0_pay93 (F := Ideal) (arg11.view.readAt (Elt Ideal) (Rect.unit (s := S1x1x8x128) ![0, 0, 0, 0] S1x1x8x128.size inb_S1x1x8x128_S1x1x8x128_0_0_0_0).toLoadRect (harg11.unread x9)), k0_pay94 (F := Ideal) (arg13.view.readAt (Elt Ideal) (Rect.unit (s := S1x1x8x128) ![0, 0, 0, 0] S1x1x8x128.size inb_S1x1x8x128_S1x1x8x128_0_0_0_0).toLoadRect (harg13.unread x11))) k0_t1_loop.trips).2.1) (ix2 s l)
      = x.out Mf ⟨o + s.val, by have := s.isLt; omega⟩ l := by
  refine (sum_rows arg22.view _ inb ho s l).trans ?_
  refine (after_loop (H := H) ..).out _ ?_ l
  rw [trips_eq]
  have := s.isLt
  show o + s.val < 128 * 32
  omega

include H in
/-- The backward direction's outputs, at a stretch of rows. -/
theorem bwd_rows {o : ℕ} (inb : ∀ a, (![o, 0] : Fin 2 → ℕ) a + S512x128.size a ≤ S4096x128.size a) (ho : o + 512 ≤ 4096) (s : Fin 512) (l : Fin 128) :
    arg23.view.readAt (Elt Ideal) (Rect.unit (s := S4096x128) ![o, 0] S512x128.size inb).toLoadRect (arg23.view.writes (Elt Ideal) f4 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (BitVec.ofNat 32 (i 1).val) k0_pay88 k0_pay89 (k0_pay90 (F := Ideal)) (k0_pay91 (F := Ideal)) (scanRun.sl.v497 i) (harg4.unread x2) (harg6.unread x4) (harg9.unread x7) (arg20.view.writes (Elt Ideal) arg20.view.junk (scanRun.sl.HS1_8 c arg2 harg2 arg7 harg7 arg19 x0 x5)) (arg21.view.writes (Elt Ideal) arg21.view.junk (scanRun.sl.HS2_8 c arg2 harg2 arg3 harg3 arg8 harg8 arg19 x0 x1 x6)) f3 f4 (arg24.view.writes (Elt Ideal) arg24.view.junk (scanRun.sl.HS5_1 c arg10 harg10 x8)) (arg25.view.writes (Elt Ideal) arg25.view.junk (scanRun.sl.HS6_1 c arg12 harg12 x10)) (k0_pay93 (F := Ideal) (arg11.view.readAt (Elt Ideal) (Rect.unit (s := S1x1x8x128) ![0, 0, 0, 0] S1x1x8x128.size inb_S1x1x8x128_S1x1x8x128_0_0_0_0).toLoadRect (harg11.unread x9)), k0_pay94 (F := Ideal) (arg13.view.readAt (Elt Ideal) (Rect.unit (s := S1x1x8x128) ![0, 0, 0, 0] S1x1x8x128.size inb_S1x1x8x128_S1x1x8x128_0_0_0_0).toLoadRect (harg13.unread x11))) k0_t1_loop.trips).2.2.1) (ix2 s l)
      = y.rev.out Mb (⟨o + s.val, by have := s.isLt; omega⟩ : Fin 4096).rev l := by
  refine (sum_rows arg23.view _ inb ho s l).trans ?_
  refine (after_loop (H := H) ..).out' _ ?_ l
  rw [trips_eq]
  exact Fin.isLt _

/-- The rows of the output gate. -/
theorem gate_rows {o : ℕ} (inb : ∀ a, (![0, o, 0] : Fin 3 → ℕ) a + S1x512x128.size a ≤ S1x4096x128.size a) (ho : o + 512 ≤ 4096) (s : Fin 512) (l : Fin 128) :
    arg5.view.readAt (Elt Ideal) (Rect.unit (s := S1x4096x128) ![0, o, 0] S1x512x128.size inb).toLoadRect (harg5.unread x3) (ix3 0 s l)
      = x3 (ix3 0 ⟨o + s.val, by have := s.isLt; omega⟩ l) := by
  refine (copy_rows arg5.view _ inb ho s l).trans ?_
  rw [harg5.read_unread]

include H in
/-- Every store of a grid point into its block puts the gated sum there. -/
theorem scan_agrees : ∀ p ∈ (scanRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).1 f3 f4, Agrees (e := .bf16) (gated x3 x y Mf Mb) p := by
  unfold scanRun
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact piece_gated x3 x y Mf Mb (o := 3584) _ (by decide) _ _ _ _ (gated7_at _ _ _) (gate_rows arg5 harg5 x3 _ (by decide)) (fun s l => fwd_rows (H := H) (ho := by decide) ..) (fun s l => bwd_rows (H := H) (ho := by decide) ..)
  · exact piece_gated x3 x y Mf Mb (o := 3072) _ (by decide) _ _ _ _ (gated6_at _ _ _) (gate_rows arg5 harg5 x3 _ (by decide)) (fun s l => fwd_rows (H := H) (ho := by decide) ..) (fun s l => bwd_rows (H := H) (ho := by decide) ..)
  · exact piece_gated x3 x y Mf Mb (o := 2560) _ (by decide) _ _ _ _ (gated5_at _ _ _) (gate_rows arg5 harg5 x3 _ (by decide)) (fun s l => fwd_rows (H := H) (ho := by decide) ..) (fun s l => bwd_rows (H := H) (ho := by decide) ..)
  · exact piece_gated x3 x y Mf Mb (o := 2048) _ (by decide) _ _ _ _ (gated4_at _ _ _) (gate_rows arg5 harg5 x3 _ (by decide)) (fun s l => fwd_rows (H := H) (ho := by decide) ..) (fun s l => bwd_rows (H := H) (ho := by decide) ..)
  · exact piece_gated x3 x y Mf Mb (o := 1536) _ (by decide) _ _ _ _ (gated3_at _ _ _) (gate_rows arg5 harg5 x3 _ (by decide)) (fun s l => fwd_rows (H := H) (ho := by decide) ..) (fun s l => bwd_rows (H := H) (ho := by decide) ..)
  · exact piece_gated x3 x y Mf Mb (o := 1024) _ (by decide) _ _ _ _ (gated2_at _ _ _) (gate_rows arg5 harg5 x3 _ (by decide)) (fun s l => fwd_rows (H := H) (ho := by decide) ..) (fun s l => bwd_rows (H := H) (ho := by decide) ..)
  · exact piece_gated x3 x y Mf Mb (o := 512) _ (by decide) _ _ _ _ (gated1_at _ _ _) (gate_rows arg5 harg5 x3 _ (by decide)) (fun s l => fwd_rows (H := H) (ho := by decide) ..) (fun s l => bwd_rows (H := H) (ho := by decide) ..)
  · exact piece_gated x3 x y Mf Mb (o := 0) _ (by decide) _ _ _ _ (gated0_at _ _ _) (gate_rows arg5 harg5 x3 _ (by decide)) (fun s l => fwd_rows (H := H) (ho := by decide) ..) (fun s l => bwd_rows (H := H) (ho := by decide) ..)

include H in
/-- What a grid point leaves in its block of the first result. -/
theorem scan_read (g : BufTy.Contents (Elt Ideal) arg14.view.ty) :
    arg14.view.read (Elt Ideal) (arg14.view.writes (Elt Ideal) g ((scanRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11).1 f3 f4)) = gated x3 x y Mf Mb := by
  funext p
  refine read_agrees (e := .bf16) arg14.view g (gated x3 x y Mf Mb) _ (scan_agrees c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x y Mf Mb H f3 f4) p ?_
  unfold scanRun
  exact gated_cover _ _ _ _ _ _ _ _ _ rfl p

end Cert.MlstmIdeal.Scan

end
-- ==== Proof.MlstmArgs.lean ====
/- The blocks a grid point of the mLSTM kernel is called with, element by element, and what the point leaves in the result's block. -/
module

public import proofs.«01_k».proof.Proof.MlstmBlock
public import Idealize.ShloMosaic.Lib.StableHlo.ReadAt
public import Idealize.ShloMosaic.Lib.Claim
public import Idealize.ShloMosaic.Lib.Pipeline.ValueKit
public import Idealize.ShloMosaic.Lib.Pipeline.ReadBack

@[expose] public section

set_option maxRecDepth 16384

noncomputable section

namespace Cert.MlstmIdeal.Scan

open Cert.MlstmIdeal Cert.MlstmIdeal.Gen Cert.Layer Idealize.ShloMosaic Idealize.ShloMosaic.TcCoe Idealize.SL.Sem
open Idealize.ShloMosaic.Pipeline (Dat)

/-- Where each window's block lies. -/
theorem places : ∀ t : Fin grid0.N, win0_0.index t = ![t.val / 4, 0, 8 + t.val % 4] ∧ win0_1.index t = ![t.val / 4, 0, 12 + t.val % 4]
    ∧ win0_2.index t = ![t.val / 4, 0, 16 + t.val % 4] ∧ win0_3.index t = ![t.val / 4, 0, 4 + t.val % 4] ∧ win0_4.index t = ![t.val / 4, 0, 0]
    ∧ win0_5.index t = ![0, t.val % 4] ∧ win0_6.index t = ![0, 4 + t.val % 4] ∧ win0_7.index t = ![0, 0]
    ∧ win0_8.index t = ![t.val / 4, t.val % 4, 0, 0] ∧ win0_9.index t = ![t.val / 4, t.val % 4, 0, 0]
    ∧ win0_10.index t = ![t.val / 4, t.val % 4, 0, 0] ∧ win0_11.index t = ![t.val / 4, t.val % 4, 0, 0]
    ∧ win0_12.index t = ![t.val / 4, 0, t.val % 4] := by decide +kernel

/-- The rotation of the gates' lanes at a grid point. -/
theorem turn_at : ∀ t : Fin grid0.N, (scanRun.sl.v497 (grid0.coords t)).toNat = (128 - t.val % 4) % 128 := by decide +kernel

/-- The lane of a gate kind. -/
theorem lane_at (t : Fin grid0.N) (hd : Fin 4) (hh : t.val % 4 = hd) (n : Fin 4) (l : Fin 128) (hl : l.val = 4 * n) :
    lane (scanRun.sl.v497 (grid0.coords t)) l = ⟨4 * n + hd, by omega⟩ := by
  refine Fin.ext ?_
  show (l.val + 128 - (scanRun.sl.v497 (grid0.coords t)).toNat % 128) % 128 = 4 * n + hd
  rw [turn_at t]
  omega

variable (m : (ℓ : Loc nD τ sig) → Buf (Elt Ideal) ℓ) (c : Dev nD)

/-- The projected columns. -/
abbrev in_z : (⟨3, ![16, 4096, 2560]⟩ : Shape).Idx → EReal := m ((c : Thread nD τ).loc main_arg0)

/-- The projected gates. -/
abbrev in_zg : (⟨3, ![16, 4096, 128]⟩ : Shape).Idx → EReal := m ((c : Thread nD τ).loc main_arg1)

/-- The convolution's weights. -/
abbrev in_wc : (⟨2, ![3, 1024]⟩ : Shape).Idx → EReal := m ((c : Thread nD τ).loc main_arg2)

/-- The gates' bias. -/
abbrev in_bg : (⟨1, ![16]⟩ : Shape).Idx → EReal := m ((c : Thread nD τ).loc main_arg3)

/-- The forward matrix. -/
abbrev in_cf : (⟨4, ![16, 4, 128, 128]⟩ : Shape).Idx → EReal := m ((c : Thread nD τ).loc main_arg4)

/-- The forward vector. -/
abbrev in_nf : (⟨3, ![16, 4, 128]⟩ : Shape).Idx → EReal := m ((c : Thread nD τ).loc main_arg5)

/-- The forward maximum. -/
abbrev in_mf : (⟨2, ![16, 4]⟩ : Shape).Idx → EReal := m ((c : Thread nD τ).loc main_arg6)

/-- The backward matrix. -/
abbrev in_cb : (⟨4, ![16, 4, 128, 128]⟩ : Shape).Idx → EReal := m ((c : Thread nD τ).loc main_arg7)

/-- The backward vector. -/
abbrev in_nb : (⟨3, ![16, 4, 128]⟩ : Shape).Idx → EReal := m ((c : Thread nD τ).loc main_arg8)

/-- The backward maximum. -/
abbrev in_mb : (⟨2, ![16, 4]⟩ : Shape).Idx → EReal := m ((c : Thread nD τ).loc main_arg9)

/-- The result the arguments ask for. -/
abbrev want (b : Fin 16) (r : Fin 4096) (hd : Fin 4) (l : Fin 128) : EReal :=
  mixed (in_z m c) (in_zg m c) (in_wc m c) (in_bg m c) (in_cf m c) (in_nf m c) (in_mf m c) (in_cb m c) (in_nb m c) (in_mb m c) b r hd l

variable (t : Fin cfg0.N) (b : Fin 16) (hd : Fin 4) (hb : t.val / 4 = b) (hh : t.val % 4 = hd)

include hb hh in
theorem q_at (r : Fin 4096) (k : Fin 128) :
    (iblk m c 0 t : S1x4096x128.Idx → EReal) (ix3 0 r k) = in_z m c (ix3 b r ⟨1024 + 128 * hd + k, by omega⟩) := by
  have p := places t
  unfold in_z
  rw [← V_main_arg0 m c]
  blk_ext [iblk, p]

include hb hh in
theorem k_at (r : Fin 4096) (k : Fin 128) :
    (iblk m c 1 t : S1x4096x128.Idx → EReal) (ix3 0 r k) = in_z m c (ix3 b r ⟨1536 + 128 * hd + k, by omega⟩) := by
  have p := places t
  unfold in_z
  rw [← V_main_arg0 m c]
  blk_ext [iblk, p]

include hb hh in
theorem v_at (r : Fin 4096) (k : Fin 128) :
    (iblk m c 2 t : S1x4096x128.Idx → EReal) (ix3 0 r k) = in_z m c (ix3 b r ⟨2048 + 128 * hd + k, by omega⟩) := by
  have p := places t
  unfold in_z
  rw [← V_main_arg0 m c]
  blk_ext [iblk, p]

include hb hh in
theorem o_at (r : Fin 4096) (k : Fin 128) :
    (iblk m c 3 t : S1x4096x128.Idx → EReal) (ix3 0 r k) = in_z m c (ix3 b r ⟨512 + 128 * hd + k, by omega⟩) := by
  have p := places t
  unfold in_z
  rw [← V_main_arg0 m c]
  blk_ext [iblk, p]

include hb in
theorem gates_at (r : Fin 4096) (k : Fin 128) :
    (iblk m c 4 t : S1x4096x128.Idx → EReal) (ix3 0 r k) = in_zg m c (ix3 b r k) := by
  have p := places t
  unfold in_zg
  rw [← V_main_arg1 m c]
  blk_ext [iblk, p]

include hh in
theorem wq_at (r : Fin 3) (k : Fin 128) :
    (iblk m c 5 t : S3x128.Idx → EReal) (ix2 r k) = in_wc m c (ix2 r ⟨128 * hd + k, by omega⟩) := by
  have p := places t
  unfold in_wc
  rw [← V_main_arg2 m c]
  blk_ext [iblk, p]

include hh in
theorem wk_at (r : Fin 3) (k : Fin 128) :
    (iblk m c 6 t : S3x128.Idx → EReal) (ix2 r k) = in_wc m c (ix2 r ⟨512 + 128 * hd + k, by omega⟩) := by
  have p := places t
  unfold in_wc
  rw [← V_main_arg2 m c]
  blk_ext [iblk, p]

theorem bias_at (k : Fin 128) (h : k.val < 16) :
    (iblk m c 7 t : S1x128.Idx → EReal) (ix2 0 k) = in_bg m c (ix1 ⟨k, h⟩) := by
  have p := places t
  have e : (iblk m c 7 t : S1x128.Idx → EReal) (ix2 0 k) = (V m c main_v1 : S1x128.Idx → EReal) (ix2 0 k) := by
    blk_ext [iblk, p]
  rw [e]
  unfold V
  after_reads_at
  rw [dif_pos h]

include hb hh in
theorem mat_f_at (a k : Fin 128) :
    (iblk m c 8 t : S1x1x128x256.Idx → EReal) (ix4 0 0 a ⟨k, by omega⟩) = in_cf m c (ix4 b hd a k) := by
  have p := places t
  have e : (iblk m c 8 t : S1x1x128x256.Idx → EReal) (ix4 0 0 a ⟨k, by omega⟩) = (V m c main_v4 : S16x4x128x256.Idx → EReal) (ix4 b hd a ⟨k, by omega⟩) := by
    blk_ext [iblk, p]
  rw [e]
  unfold V
  after_reads_at

include hb hh in
theorem vec_f_at (a k : Fin 128) :
    (iblk m c 8 t : S1x1x128x256.Idx → EReal) (ix4 0 0 a ⟨128 + k, by omega⟩) = in_nf m c (ix3 b hd a) := by
  have p := places t
  have e : (iblk m c 8 t : S1x1x128x256.Idx → EReal) (ix4 0 0 a ⟨128 + k, by omega⟩) = (V m c main_v4 : S16x4x128x256.Idx → EReal) (ix4 b hd a ⟨128 + k, by omega⟩) := by
    blk_ext [iblk, p]
  rw [e]
  unfold V
  after_reads_at

include hb hh in
theorem mat_b_at (a k : Fin 128) :
    (iblk m c 10 t : S1x1x128x256.Idx → EReal) (ix4 0 0 a ⟨k, by omega⟩) = in_cb m c (ix4 b hd a k) := by
  have p := places t
  have e : (iblk m c 10 t : S1x1x128x256.Idx → EReal) (ix4 0 0 a ⟨k, by omega⟩) = (V m c main_v9 : S16x4x128x256.Idx → EReal) (ix4 b hd a ⟨k, by omega⟩) := by
    blk_ext [iblk, p]
  rw [e]
  unfold V
  after_reads_at

include hb hh in
theorem vec_b_at (a k : Fin 128) :
    (iblk m c 10 t : S1x1x128x256.Idx → EReal) (ix4 0 0 a ⟨128 + k, by omega⟩) = in_nb m c (ix3 b hd a) := by
  have p := places t
  have e : (iblk m c 10 t : S1x1x128x256.Idx → EReal) (ix4 0 0 a ⟨128 + k, by omega⟩) = (V m c main_v9 : S16x4x128x256.Idx → EReal) (ix4 b hd a ⟨128 + k, by omega⟩) := by
    blk_ext [iblk, p]
  rw [e]
  unfold V
  after_reads_at

include hb hh in
theorem top_f_at :
    (iblk m c 9 t : S1x1x8x128.Idx → EReal) (ix4 0 0 0 0) = in_mf m c (ix2 b hd) := by
  have p := places t
  have e : (iblk m c 9 t : S1x1x8x128.Idx → EReal) (ix4 0 0 0 0) = (V m c main_v6 : S16x4x8x128.Idx → EReal) (ix4 b hd 0 0) := by
    blk_ext [iblk, p]
  rw [e]
  unfold V
  after_reads_at

include hb hh in
theorem top_b_at :
    (iblk m c 11 t : S1x1x8x128.Idx → EReal) (ix4 0 0 0 0) = in_mb m c (ix2 b hd) := by
  have p := places t
  have e : (iblk m c 11 t : S1x1x8x128.Idx → EReal) (ix4 0 0 0 0) = (V m c main_v11 : S16x4x8x128.Idx → EReal) (ix4 b hd 0 0) := by
    blk_ext [iblk, p]
  rw [e]
  unfold V
  after_reads_at

include hb hh in
/-- The blocks of a grid point are those of its sample's and head's two streams and memories. -/
theorem given_at : Given (scanRun.sl.v497 (grid0.coords t)) (iblk m c 0 t) (iblk m c 1 t) (iblk m c 2 t) (iblk m c 4 t) (iblk m c 5 t) (iblk m c 6 t)
    (iblk m c 7 t) (iblk m c 8 t) (iblk m c 9 t) (iblk m c 10 t) (iblk m c 11 t)
    (stream (in_z m c) (in_zg m c) (in_wc m c) (in_bg m c) b hd 0 1) (stream (in_z m c) (in_zg m c) (in_wc m c) (in_bg m c) b hd 2 3)
    (begin (in_cf m c) (in_nf m c) (in_mf m c) b hd) (begin (in_cb m c) (in_nb m c) (in_mb m c) b hd) where
  mat a l := mat_f_at m c t b hd hb hh a l
  vec a l := vec_f_at m c t b hd hb hh a l
  top := top_f_at m c t b hd hb hh
  mat' a l := mat_b_at m c t b hd hb hh a l
  vec' a l := vec_b_at m c t b hd hb hh a l
  top' := top_b_at m c t b hd hb hh
  reads := by
    have g : ∀ (n : Fin 4) (l : Fin 128) (hl : l.val = 4 * n) (r : Fin 4096),
        HAdd.hAdd (α := EReal) (β := EReal) (γ := EReal) ((iblk m c 4 t : S1x4096x128.Idx → EReal) (ix3 0 r (lane (scanRun.sl.v497 (grid0.coords t)) l)))
          ((iblk m c 7 t : S1x128.Idx → EReal) (ix2 0 (lane (scanRun.sl.v497 (grid0.coords t)) l))) = gate (in_zg m c) (in_bg m c) b hd n r := by
      intro n l hl r
      rw [lane_at t hd hh n l hl, gates_at m c t b hb, bias_at m c t _ (by show 4 * n.val + hd.val < 16; omega)]
      rfl
    refine ⟨fun r l => ?_, fun r l => ?_, fun r l => v_at m c t b hd hb hh r l, rfl, rfl, rfl, g 0 0 rfl, fun r => congrArg logsig (g 1 4 rfl r), g 2 8 rfl,
      fun r => congrArg logsig (g 3 12 rfl r)⟩
    · show silu (conv3 (fun r => (iblk m c 0 t : S1x4096x128.Idx → EReal) (ix3 0 r l)) ((iblk m c 5 t : S3x128.Idx → EReal) (ix2 0 l))
        ((iblk m c 5 t : S3x128.Idx → EReal) (ix2 1 l)) ((iblk m c 5 t : S3x128.Idx → EReal) (ix2 2 l)) r) * Ideal.ofBits .f32 0x3F800000#32 = _
      simp only [q_at m c t b hd hb hh, wq_at m c t b hd hb hh, Ideal.ofBits_one_f32, mul_one]
      rfl
    · show silu (conv3 (fun r => (iblk m c 1 t : S1x4096x128.Idx → EReal) (ix3 0 r l)) ((iblk m c 6 t : S3x128.Idx → EReal) (ix2 0 l))
        ((iblk m c 6 t : S3x128.Idx → EReal) (ix2 1 l)) ((iblk m c 6 t : S3x128.Idx → EReal) (ix2 2 l)) r) * Ideal.ofBits .f32 0x3DB504F3#32 = _
      simp only [k_at m c t b hd hb hh, wk_at m c t b hd hb hh]
      rfl

include hb hh in
/-- What a grid point leaves in the result's block. -/
theorem gated_want (p : S1x4096x128.Idx) :
    gated (iblk m c 3 t) (stream (in_z m c) (in_zg m c) (in_wc m c) (in_bg m c) b hd 0 1) (stream (in_z m c) (in_zg m c) (in_wc m c) (in_bg m c) b hd 2 3)
      (begin (in_cf m c) (in_nf m c) (in_mf m c) b hd) (begin (in_cb m c) (in_nb m c) (in_mb m c) b hd) p = want m c b (p 1) hd (p 2) := by
  unfold gated
  rw [show (iblk m c 3 t : S1x4096x128.Idx → EReal) (ix3 0 (p 1) (p 2)) = _ from o_at m c t b hd hb hh (p 1) (p 2)]
  rfl

end Cert.MlstmIdeal.Scan
-- ==== Proof.MlstmValue.lean ====
/- The launch of the mLSTM kernel over the extended reals: the run at every grid point, the result array element by element, and the frame. -/
module

public import proofs.«01_k».proof.Proof.MlstmArgs
public import proofs.«01_k».proof.Proof.Gen.MlstmIdeal.Skeleton
public import proofs.«01_k».proof.Proof.Gen.MlstmIdeal.Loops
public import Idealize.ShloMosaic.Lib.Claim

@[expose] public section

set_option maxRecDepth 16384

noncomputable section

namespace Cert.MlstmIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlstmIdeal Cert.MlstmIdeal.Gen Cert.Layer

local notation "𝕄" => MT nD τ sig Unit (Elt Ideal) ℕ (UR sig nD τ) ℕ

variable (m : (ℓ : Loc nD τ sig) → Buf (Elt Ideal) ℓ) (ρ : Dev nD → PrngReg)

set_option maxHeartbeats 1020000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_MlstmIdeal`, Defs.lean, at any `F`). -/
theorem frame_of (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 3 rfl).trans ((hA c 3).trans (V_main_arg0 m c)),
      (Pipeline.RDat.FramePost.arr_in h c 4 rfl).trans ((hA c 4).trans (V_main_arg1 m c)),
      (Pipeline.RDat.FramePost.arr_in h c 6 rfl).trans ((hA c 6).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x128x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x8x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x128x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x8x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x4096x128 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x128x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x8x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x128x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x8x128 .f32 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S4112x128 .f32 := Memref.whole cc0_scratch0
abbrev scM0_1 : Memref sig .tc .vmem S4096x128 .bf16 := Memref.whole cc0_scratch1
abbrev scM0_2 : Memref sig .tc .vmem S4096x128 .bf16 := Memref.whole cc0_scratch2
abbrev scM0_3 : Memref sig .tc .vmem S4096x128 .f32 := Memref.whole cc0_scratch3
abbrev scM0_4 : Memref sig .tc .vmem S4096x128 .f32 := Memref.whole cc0_scratch4
abbrev scM0_5 : Memref sig .tc .vmem S128x256 .f32 := Memref.whole cc0_scratch5
abbrev scM0_6 : Memref sig .tc .vmem S128x256 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-! ## The pipeline's proof data -/

/-- The state windows, of whose contents nothing is stated. -/
def forgets0 : Fin 17 → Bool := fun w => w.val == 13 || w.val == 14 || w.val == 15 || w.val == 16

/-- What a grid point leaves in the result's block. -/
def left (c : Dev nD) (t : Fin cfg0.N) : S1x4096x128.Idx → EReal :=
  fun p => want m c ⟨t.val / 4, by have : t.val < 64 := t.isLt; omega⟩ (p 1) ⟨t.val % 4, by omega⟩ (p 2)

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => left m c t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = left m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- The stores of a grid point into the result's block, read back. -/
theorem left_read (c : Dev nD) (t : Fin cfg0.N) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .f32) (harg6 : arg6.IsWhole) (arg7 : Memref sig .tc .vmem S3x128 .f32) (harg7 : arg7.IsWhole) (arg8 : Memref sig .tc .vmem S3x128 .f32) (harg8 : arg8.IsWhole) (arg9 : Memref sig .tc .vmem S1x128 .f32) (harg9 : arg9.IsWhole) (arg10 : Memref sig .tc .vmem S1x1x128x256 .f32) (harg10 : arg10.IsWhole) (arg11 : Memref sig .tc .vmem S1x1x8x128 .f32) (harg11 : arg11.IsWhole) (arg12 : Memref sig .tc .vmem S1x1x128x256 .f32) (harg12 : arg12.IsWhole) (arg13 : Memref sig .tc .vmem S1x1x8x128 .f32) (harg13 : arg13.IsWhole) (arg14 : Memref sig .tc .vmem S1x4096x128 .bf16) (harg14 : arg14.IsWhole) (arg15 : Memref sig .tc .vmem S1x1x128x256 .f32) (harg15 : arg15.IsWhole) (arg16 : Memref sig .tc .vmem S1x1x8x128 .f32) (harg16 : arg16.IsWhole) (arg17 : Memref sig .tc .vmem S1x1x128x256 .f32) (harg17 : arg17.IsWhole) (arg18 : Memref sig .tc .vmem S1x1x8x128 .f32) (harg18 : arg18.IsWhole) (arg19 : Memref sig .tc .vmem S4112x128 .f32) (harg19 : arg19.IsWhole) (arg20 : Memref sig .tc .vmem S4096x128 .bf16) (harg20 : arg20.IsWhole) (arg21 : Memref sig .tc .vmem S4096x128 .bf16) (harg21 : arg21.IsWhole) (arg22 : Memref sig .tc .vmem S4096x128 .f32) (harg22 : arg22.IsWhole) (arg23 : Memref sig .tc .vmem S4096x128 .f32) (harg23 : arg23.IsWhole) (arg24 : Memref sig .tc .vmem S128x256 .f32) (harg24 : arg24.IsWhole) (arg25 : Memref sig .tc .vmem S128x256 .f32) (harg25 : arg25.IsWhole)
    (f3 : BufTy.Contents (Elt Ideal) arg22.view.ty) (f4 : BufTy.Contents (Elt Ideal) arg23.view.ty) (g : BufTy.Contents (Elt Ideal) arg14.view.ty) :
    arg14.view.read (Elt Ideal) (arg14.view.writes (Elt Ideal) g ((scanRun c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).1 f3 f4))
      = left m c t := by
  have ht : t.val < 64 := t.isLt
  rw [scan_read c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _ _ _ _ _ _ _ _ (given_at m c t ⟨t.val / 4, by omega⟩ ⟨t.val % 4, by omega⟩ rfl rfl) f3 f4 g]
  exact funext fun p => gated_want m c t _ _ rfl rfl p

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((scanRun c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, ⟨%dd, %hdd, H12⟩, H13, H14, H15, H16, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · obtain ⟨g, f3, f4, e⟩ := hdd
    rw [show left m c t = dd from (left_read m c t _ _ _ _ _ _ _ _ _ _ _ _ _ _ _ _ _ _ _ _ _ _ _ _ _ _ _ _ _ _ _ _ _ _ _ _ _ _ _ _ _ _ _ _ _ _ _ _ f3 f4 g).symm.trans e.symm]
    iexact H12
  isplitl [H13]; · iexact H13
  isplitl [H14]; · iexact H14
  isplitl [H15]; · iexact H15
  iexact H16

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, the result window's array at what the points leave in it, nothing stated of the
    FORGOTTEN outputs (windows 13, 14, 15, 16) (Lib/Pipeline/Frame.lean `RDat.FramePost` over the proof data with those windows
    forgotten, Dat.lean `Dat.toRForget`), and every other unscoped buffer at its region-entry contents. -/
theorem run_main : θ_run defs (onTc (τ := τ) (main (F := Ideal))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRForget forgets0) (A_eq m) (run_main m ρ)

/-- THE FRAME: `Cert.quiescent_MlstmIdeal`'s statement (Defs.lean). -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

/-- The result array after the run. -/
theorem final_eq (c : Dev nD) :
    (dats m 0 c).arrAt 12 cfg0.N = fun i : S16x4096x512.Idx =>
      want m c (i 0) (i 1) ⟨(i 2).val / 128, by have : (i 2).val < 512 := (i 2).isLt; omega⟩ ⟨(i 2).val % 128, by omega⟩ := by
  refine (dats m 0 c).arrAt_eq_of_covers 12 _ (by decide +kernel) fun t hf y => ?_
  blk_simp
  rw [after0_12]
  have ht : t.val < 64 := t.isLt
  idx_vars y
  obtain rfl : y0 = 0 := Fin.fin_one_eq_zero y0
  unfold left
  have p := (places t).2.2.2.2.2.2.2.2.2.2.2.2
  have hx : ∀ t : Fin grid0.N, win0_12.xsize (grid0.coords t) 2 = 128 := by decide +kernel
  have h2 : y2.val < 128 := lt_of_lt_of_eq y2.isLt (hx t)
  congr 1 <;> refine Fin.ext ?_ <;> blk_simp [p] <;> simp only [] <;> omega

/-- The run with the result array and the arguments. -/
theorem run_value : θ_run defs (onTc (τ := τ) (main (F := Ideal))) ⟨m, fun _ => 0, ρ⟩ (fun r => ∀ c : Dev nD,
      r.2.mem ((c.tc : Thread nD τ).loc main_v12_0) = (fun i : S16x4096x512.Idx =>
        want m c (i 0) (i 1) ⟨(i 2).val / 128, by have : (i 2).val < 512 := (i 2).isLt; omega⟩ ⟨(i 2).val % 128, by omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(((dats m 0 c).toRForget_arrAt_iff rfl _ _).1 ((h.1 c).1 12)).trans (final_eq m c), h.2 c⟩)
    (θ_run_and (run_main m ρ) (unchanged m ρ))

end Cert.MlstmIdeal.Scan

end
-- ==== Proof.MlstmRefStages.lean ====
/- The layout steps and activations before the loop of the mLSTM's plain form over the extended reals, at one index. -/
module

public import proofs.«01_k».proof.Proof.Gen.MlstmRefIdeal.Step
public import proofs.«01_k».proof.Proof.MlstmSpec
public import proofs.«01_k».proof.Proof.MlstmLaws
public import Idealize.ShloMosaic.Lib.IdealHost
public import Idealize.ShloMosaic.Lib.Pointwise

@[expose] public section

set_option maxRecDepth 16384

noncomputable section

namespace Cert.MlstmRefIdeal.Inputs

open Cert.MlstmRefIdeal Cert.MlstmRefIdeal.Gen Cert.MlstmRefIdeal.Step Cert.Layer Idealize.ShloMosaic Idealize.ShloMosaic.TcCoe

/-- Sample `b` forward. -/
def lo (b : Fin 16) : Fin 32 := ⟨b, by omega⟩

/-- Sample `b` backward. -/
def hi (b : Fin 16) : Fin 32 := ⟨16 + b, by omega⟩

/-- The logarithm of the logistic function, as minus the softplus of the opposite. -/
theorem logsig_soft (g : EReal) : -(max (-g) 0 + Ideal.log (1 + Ideal.exp (-(max (-g) (- -g))))) = logsig g := by
  have h2 : Ideal.log (1 + Ideal.exp (-(max g (-g)))) ≠ ⊥ := by
    intro h
    have h3 : (1 : EReal) ≤ 1 + Ideal.exp (-(max g (-g))) := le_add_of_nonneg_right (exp_nonneg' _)
    generalize 1 + Ideal.exp (-(max g (-g))) = y at h h3
    induction y with
    | bot => exact absurd h3 (not_le_of_gt (by exact_mod_cast EReal.bot_lt_coe 1))
    | top => simp at h
    | coe r =>
      have h4 : (1 : ℝ) ≤ r := by exact_mod_cast h3
      rw [Ideal.log_coe, if_neg (by linarith)] at h
      exact EReal.coe_ne_bot _ h
  have h1 : max (-g) 0 ≠ ⊥ := fun h => by have := le_max_right (-g) 0; rw [h] at this; simp at this
  rw [neg_neg, max_comm (-g) g, EReal.neg_add (Or.inl h1) (Or.inr h2)]
  unfold logsig
  congr 1
  rcases le_total g 0 with h | h
  · rw [min_eq_left h, max_eq_left (by simpa using EReal.neg_le_neg_iff.2 h), neg_neg]
  · rw [min_eq_right h, max_eq_right (by simpa using EReal.neg_le_neg_iff.2 h), neg_zero]

/-- Tokens cut into chunks. -/
theorem cut4 (z : S32x4x4096x128.Idx → EReal) (i : Fin 32) (B : Fin 32) (h : Fin 4) (r l : Fin 128) :
    (transpose S32x32x4x128x128 [2, 0, 1, 3, 4] (shapeCast S32x4x32x128x128 z shapeCasts_S32x4x4096x128_S32x4x32x128x128) transposes_S32x4x32x128x128_S32x32x4x128x128_2_0_1_3_4 : S32x32x4x128x128.Idx → EReal) (ix5 i B h r l)
      = z (ix4 B h (Layer.Stream.row i r) l) := by
  have e : (⟨i.val * 128 + r.val, by omega⟩ : Fin 4096) = Layer.Stream.row i r := Fin.ext (by show i.val * 128 + r.val = (128 * i.val + r.val) % 4096; omega)
  rw [← e]
  pointwise

theorem cut3 (z : S32x4x4096.Idx → EReal) (i : Fin 32) (B : Fin 32) (h : Fin 4) (r : Fin 128) :
    (transpose S32x32x4x128 [2, 0, 1, 3] (shapeCast S32x4x32x128 z shapeCasts_S32x4x4096_S32x4x32x128) transposes_S32x4x32x128_S32x32x4x128_2_0_1_3 : S32x32x4x128.Idx → EReal) (ix4 i B h r)
      = z (ix3 B h (Layer.Stream.row i r)) := by
  have e : (⟨i.val * 128 + r.val, by omega⟩ : Fin 4096) = Layer.Stream.row i r := Fin.ext (by show i.val * 128 + r.val = (128 * i.val + r.val) % 4096; omega)
  rw [← e]
  pointwise

/-- Two stacks of sixteen samples, one above the other. -/
theorem two4_lo (x y : S16x4x4096x128.Idx → EReal) (B : Fin 32) (hB : B.val < 16) (h : Fin 4) (t : Fin 4096) (l : Fin 128) :
    (concatenate S32x4x4096x128 0 [⟨S16x4x4096x128, x⟩, ⟨S16x4x4096x128, y⟩] concatenates_S16x4x4096x128_S16x4x4096x128_S32x4x4096x128_d0 : S32x4x4096x128.Idx → EReal) (ix4 B h t l) = x (ix4 ⟨B, hB⟩ h t l) := by
  pointwise
  rw [dif_pos hB]

theorem two4_hi (x y : S16x4x4096x128.Idx → EReal) (B : Fin 32) (hB : ¬ B.val < 16) (h : Fin 4) (t : Fin 4096) (l : Fin 128) :
    (concatenate S32x4x4096x128 0 [⟨S16x4x4096x128, x⟩, ⟨S16x4x4096x128, y⟩] concatenates_S16x4x4096x128_S16x4x4096x128_S32x4x4096x128_d0 : S32x4x4096x128.Idx → EReal) (ix4 B h t l) = y (ix4 ⟨B - 16, by omega⟩ h t l) := by
  pointwise
  rw [dif_neg hB]

theorem two3_lo (x y : S16x4x4096.Idx → EReal) (B : Fin 32) (hB : B.val < 16) (h : Fin 4) (t : Fin 4096) :
    (concatenate S32x4x4096 0 [⟨S16x4x4096, x⟩, ⟨S16x4x4096, y⟩] concatenates_S16x4x4096_S16x4x4096_S32x4x4096_d0 : S32x4x4096.Idx → EReal) (ix3 B h t) = x (ix3 ⟨B, hB⟩ h t) := by
  pointwise
  rw [dif_pos hB]

theorem two3_hi (x y : S16x4x4096.Idx → EReal) (B : Fin 32) (hB : ¬ B.val < 16) (h : Fin 4) (t : Fin 4096) :
    (concatenate S32x4x4096 0 [⟨S16x4x4096, x⟩, ⟨S16x4x4096, y⟩] concatenates_S16x4x4096_S16x4x4096_S32x4x4096_d0 : S32x4x4096.Idx → EReal) (ix3 B h t) = y (ix3 ⟨B - 16, by omega⟩ h t) := by
  pointwise
  rw [dif_neg hB]

/-- The two directions' first memories, one above the other. -/
theorem mem4 (x y : S16x4x128x128.Idx → EReal) (B : Fin 32) (h : Fin 4) (a l : Fin 128) :
    (concatenate S32x4x128x128 0 [⟨S16x4x128x128, x⟩, ⟨S16x4x128x128, y⟩] concatenates_S16x4x128x128_S16x4x128x128_S32x4x128x128_d0 : S32x4x128x128.Idx → EReal) (ix4 B h a l) = if hB : B.val < 16 then x (ix4 ⟨B, hB⟩ h a l) else y (ix4 ⟨B - 16, by omega⟩ h a l) := by
  pointwise

theorem mem3 (x y : S16x4x128.Idx → EReal) (B : Fin 32) (h : Fin 4) (a : Fin 128) :
    (concatenate S32x4x128 0 [⟨S16x4x128, x⟩, ⟨S16x4x128, y⟩] concatenates_S16x4x128_S16x4x128_S32x4x128_d0 : S32x4x128.Idx → EReal) (ix3 B h a) = if hB : B.val < 16 then x (ix3 ⟨B, hB⟩ h a) else y (ix3 ⟨B - 16, by omega⟩ h a) := by
  pointwise

theorem mem2 (x y : S16x4.Idx → EReal) (B : Fin 32) (h : Fin 4) :
    (concatenate S32x4 0 [⟨S16x4, x⟩, ⟨S16x4, y⟩] concatenates_S16x4_S16x4_S32x4_d0 : S32x4.Idx → EReal) (ix2 B h) = if hB : B.val < 16 then x (ix2 ⟨B, hB⟩ h) else y (ix2 ⟨B - 16, by omega⟩ h) := by
  pointwise

/-- Tokens in the opposite order. -/
theorem rev4 (x : S16x4x4096x128.Idx → EReal) (b : Fin 16) (h : Fin 4) (t : Fin 4096) (l : Fin 128) :
    (Host.reverse [2] x : S16x4x4096x128.Idx → EReal) (ix4 b h t l) = x (ix4 b h t.rev l) := by
  refine congrArg x (funext fun a => ?_)
  match a with
  | 0 => rfl
  | 1 => rfl
  | 2 => rfl
  | 3 => rfl

theorem rev3 (x : S16x4x4096.Idx → EReal) (b : Fin 16) (h : Fin 4) (t : Fin 4096) :
    (Host.reverse [2] x : S16x4x4096.Idx → EReal) (ix3 b h t) = x (ix3 b h t.rev) := by
  refine congrArg x (funext fun a => ?_)
  match a with
  | 0 => rfl
  | 1 => rfl
  | 2 => rfl

/-- Three rows behind each other, weighted. -/
theorem taps (x : S16x4098x512.Idx → EReal) (w : S3x512.Idx → EReal) (b : Fin 16) (t : Fin 4096) (c : Fin 512) :
    (addf (F := Ideal) (φ := .f32) (addf (F := Ideal) (φ := .f32) (addf (F := Ideal) (φ := .f32) (broadcastInDim S16x4096x512 ![] bcast_S_S16x4096x512 (constant (F := Ideal) S_ .f32 0x00000000#32))
        (mulf (F := Ideal) (φ := .f32) (extractStridedSlice S16x4096x512 ![0, 0, 0] x slices_S16x4098x512_S16x4096x512_0_0_0)
          (broadcastInDim S16x4096x512 ![0, 1, 2] bcast_S1x1x512_S16x4096x512_0_1_2 (broadcastInDim S1x1x512 ![2] bcast_S512_S1x1x512_2 (shapeCast S512 (extractStridedSlice S1x512 ![0, 0] w slices_S3x512_S1x512_0_0) shapeCasts_S1x512_S512)))))
        (mulf (F := Ideal) (φ := .f32) (extractStridedSlice S16x4096x512 ![0, 1, 0] x slices_S16x4098x512_S16x4096x512_0_1_0)
          (broadcastInDim S16x4096x512 ![0, 1, 2] bcast_S1x1x512_S16x4096x512_0_1_2 (broadcastInDim S1x1x512 ![2] bcast_S512_S1x1x512_2 (shapeCast S512 (extractStridedSlice S1x512 ![1, 0] w slices_S3x512_S1x512_1_0) shapeCasts_S1x512_S512)))))
        (mulf (F := Ideal) (φ := .f32) (extractStridedSlice S16x4096x512 ![0, 2, 0] x slices_S16x4098x512_S16x4096x512_0_2_0)
          (broadcastInDim S16x4096x512 ![0, 1, 2] bcast_S1x1x512_S16x4096x512_0_1_2 (broadcastInDim S1x1x512 ![2] bcast_S512_S1x1x512_2 (shapeCast S512 (extractStridedSlice S1x512 ![2, 0] w slices_S3x512_S1x512_2_0) shapeCasts_S1x512_S512)))) : S16x4096x512.Idx → EReal) (ix3 b t c)
      = x (ix3 b ⟨t, by omega⟩ c) * w (ix2 0 c) + x (ix3 b ⟨t + 1, by omega⟩ c) * w (ix2 1 c) + x (ix3 b ⟨t + 2, by omega⟩ c) * w (ix2 2 c) := by
  have e1 : (⟨t.val + 1, by omega⟩ : Fin 4098) = ⟨1 + t.val, by omega⟩ := Fin.ext (Nat.add_comm _ _)
  have e2 : (⟨t.val + 2, by omega⟩ : Fin 4098) = ⟨2 + t.val, by omega⟩ := Fin.ext (Nat.add_comm _ _)
  rw [e1, e2]
  pointwise

/-- Activated columns by heads. -/
theorem acts (y : S16x4096x512.Idx → EReal) (b : Fin 16) (h : Fin 4) (t : Fin 4096) (l : Fin 128) :
    (transpose S16x4x4096x128 [0, 2, 1, 3] (shapeCast S16x4096x4x128 (mulf (F := Ideal) (φ := .f32) y (Host.divf (F := Ideal) (φ := .f32) (broadcastInDim S16x4096x512 ![] bcast_S_S16x4096x512 (constant (F := Ideal) S_ .f32 0x3F800000#32))
        (addf (F := Ideal) (φ := .f32) (broadcastInDim S16x4096x512 ![] bcast_S_S16x4096x512 (constant (F := Ideal) S_ .f32 0x3F800000#32)) (Host.exp (F := Ideal) (φ := .f32) (Host.negf (F := Ideal) (φ := .f32) y)))))
        shapeCasts_S16x4096x512_S16x4096x4x128) transposes_S16x4096x4x128_S16x4x4096x128_0_2_1_3 : S16x4x4096x128.Idx → EReal) (ix4 b h t l)
      = silu (y (ix3 b t ⟨128 * h + l, by omega⟩)) := by
  have e : (⟨128 * h.val + l.val, by omega⟩ : Fin 512) = ⟨h.val * 128 + l.val, by omega⟩ := Fin.ext (by show 128 * h.val + l.val = h.val * 128 + l.val; omega)
  rw [e]
  pointwise
  rfl

/-- Rows between two zero rows. -/
theorem pad_at (x : S16x4096x512.Idx → EReal) (z : S_.Idx → EReal) (hz : ∀ i, z i = 0) (b : Fin 16) (p : Fin 4098) (c : Fin 512) :
    (pad S16x4098x512 ![0, 1, 0] ![0, 1, 0] ![0, 0, 0] x z pads_S16x4096x512_S16x4098x512_000_110_000 h_S_ : S16x4098x512.Idx → EReal) (ix3 b p c) = edged (fun t => x (ix3 b t c)) p := by
  pointwise
  unfold edged
  by_cases h : 1 ≤ p.val ∧ p.val < 4097
  · rw [dif_pos h, dif_pos ⟨h.1, by omega⟩]
  · rw [dif_neg h, dif_neg (fun h' => h ⟨h'.1, by omega⟩), hz]

theorem zero_word : FloatOps.sitofp (F := Ideal) (φ := .f32) (w := 32) 0#32 = (0 : EReal) := by
  show (((0#32).toInt : ℝ) : EReal) = 0
  simp

/-- One direction's gates. -/
theorem dir_lo (x : S2x16x4x4096.Idx → EReal) (b : Fin 16) (h : Fin 4) (t : Fin 4096) :
    (shapeCast S16x4x4096 (extractStridedSlice S1x16x4x4096 ![0, 0, 0, 0] x slices_S2x16x4x4096_S1x16x4x4096_0_0_0_0) shapeCasts_S1x16x4x4096_S16x4x4096 : S16x4x4096.Idx → EReal) (ix3 b h t) = x (ix4 0 b h t) := by
  pointwise

theorem dir_hi (x : S2x16x4x4096.Idx → EReal) (b : Fin 16) (h : Fin 4) (t : Fin 4096) :
    (shapeCast S16x4x4096 (extractStridedSlice S1x16x4x4096 ![1, 0, 0, 0] x slices_S2x16x4x4096_S1x16x4x4096_1_0_0_0) shapeCasts_S1x16x4x4096_S16x4x4096 : S16x4x4096.Idx → EReal) (ix3 b h t) = x (ix4 1 b h t) := by
  pointwise

/-- The columns of the stream lie before the gates'. -/
theorem cat_lo (x : S16x4096x1024.Idx → EReal) (y : S16x4096x16.Idx → EReal) (b : Fin 16) (t : Fin 4096) (n : Fin 1040) (hn : n.val < 1024) :
    (concatenate S16x4096x1040 2 [⟨S16x4096x1024, x⟩, ⟨S16x4096x16, y⟩] concatenates_S16x4096x1024_S16x4096x16_S16x4096x1040_d2 : S16x4096x1040.Idx → EReal) (ix3 b t n) = x (ix3 b t ⟨n, hn⟩) := by
  pointwise
  rw [dif_pos hn]

/-- The gates' columns lie behind the stream's. -/
theorem cat_hi (x : S16x4096x1024.Idx → EReal) (y : S16x4096x16.Idx → EReal) (b : Fin 16) (t : Fin 4096) (n : Fin 16) :
    (concatenate S16x4096x1040 2 [⟨S16x4096x1024, x⟩, ⟨S16x4096x16, y⟩] concatenates_S16x4096x1024_S16x4096x16_S16x4096x1040_d2 : S16x4096x1040.Idx → EReal) (ix3 b t ⟨1024 + n, by omega⟩) = y (ix3 b t n) := by
  pointwise

/-- A stack of chunks as tokens. -/
theorem back4 (x : S32x32x4x128x128.Idx → EReal) (B : Fin 32) (h : Fin 4) (t : Fin 4096) (l : Fin 128) :
    (shapeCast S32x4x4096x128 (transpose S32x4x32x128x128 [1, 2, 0, 3, 4] x transposes_S32x32x4x128x128_S32x4x32x128x128_1_2_0_3_4) shapeCasts_S32x4x32x128x128_S32x4x4096x128 : S32x4x4096x128.Idx → EReal) (ix4 B h t l)
      = x (ix5 ⟨t / 128, by omega⟩ B h ⟨t % 128, by omega⟩ l) := by
  pointwise

end Cert.MlstmRefIdeal.Inputs
-- ==== Proof.MlstmRefInit.lean ====
/- The inputs of the mLSTM's plain form over the extended reals: the stacks its loop reads hold the two directions' streams, chunk by chunk. -/
module

public import proofs.«01_k».proof.Proof.Gen.MlstmRefIdeal.Step
public import proofs.«01_k».proof.Proof.MlstmSpec
public import proofs.«01_k».proof.Proof.MlstmRefStages
public import Idealize.ShloMosaic.Lib.IdealHost
public import Idealize.ShloMosaic.Lib.Pointwise

@[expose] public section

set_option maxRecDepth 16384

noncomputable section

namespace Cert.MlstmRefIdeal.Inputs

open Cert.MlstmRefIdeal Cert.MlstmRefIdeal.Gen Cert.MlstmRefIdeal.Step Cert.Layer Idealize.ShloMosaic Idealize.ShloMosaic.TcCoe

variable (a0 : S16x4096x2560.Idx → EReal) (a1 : S16x4096x128.Idx → EReal) (a2 : S3x1024.Idx → EReal) (a3 : S16.Idx → EReal)
  (a4 : S16x4x128x128.Idx → EReal) (a5 : S16x4x128.Idx → EReal) (a6 : S16x4.Idx → EReal) (a7 : S16x4x128x128.Idx → EReal) (a8 : S16x4x128.Idx → EReal) (a9 : S16x4.Idx → EReal)

/-- Column `n` of the stream's part that is read for keys and values. -/
theorem v3_at (b : Fin 16) (t : Fin 4096) (n : Fin 1040) (hn : n.val < 1024) :
    (A_main_v3 (F := Ideal) a0 a1 a2 a3 a4 a5 a6 a7 a8 a9 : S16x4096x1040.Idx → EReal) (ix3 b t n) = a0 (ix3 b t ⟨1536 + n, by omega⟩) := by
  unfold A_main_v3
  refine (cat_lo _ _ b t n hn).trans ?_
  unfold A_main_v1 A_main_v0
  pointwise

theorem v39_at (b : Fin 16) (p : Fin 4098) (x : Fin 512) :
    (A_main_v39 (F := Ideal) a0 a1 a2 a3 a4 a5 a6 a7 a8 a9 : S16x4098x512.Idx → EReal) (ix3 b p x) = edged (fun t => a0 (ix3 b t ⟨1024 + x, by omega⟩)) p := by
  unfold A_main_v39
  refine (pad_at _ _ (fun i => ?_) b p x).trans (congrArg (fun f => edged f p) (funext fun t => ?_))
  · unfold K_main_call2_v0 K_main_c_1
    exact zero_word
  · unfold A_main_v4 A_main_v0
    pointwise

theorem v7_at (b : Fin 16) (p : Fin 4098) (x : Fin 512) :
    (A_main_v7 (F := Ideal) a0 a1 a2 a3 a4 a5 a6 a7 a8 a9 : S16x4098x512.Idx → EReal) (ix3 b p x) = edged (fun t => a0 (ix3 b t ⟨1536 + x, by omega⟩)) p := by
  unfold A_main_v7
  refine (pad_at _ _ (fun i => ?_) b p x).trans (congrArg (fun f => edged f p) (funext fun t => ?_))
  · unfold K_main_call0_v0 K_main_c
    exact zero_word
  · unfold A_main_v5
    refine Eq.trans ?_ (v3_at a0 a1 a2 a3 a4 a5 a6 a7 a8 a9 b t ⟨x, by omega⟩ (by show x.val < 1024; omega))
    pointwise

theorem v61_at (b : Fin 16) (t : Fin 4096) (x : Fin 512) :
    (A_main_v61 (F := Ideal) a0 a1 a2 a3 a4 a5 a6 a7 a8 a9 : S16x4096x512.Idx → EReal) (ix3 b t x) = conv3 (fun t => a0 (ix3 b t ⟨1024 + x, by omega⟩)) (a2 (ix2 0 ⟨x, by omega⟩)) (a2 (ix2 1 ⟨x, by omega⟩)) (a2 (ix2 2 ⟨x, by omega⟩)) t := by
  have w (k : Fin 3) : (A_main_v38 (F := Ideal) a0 a1 a2 a3 a4 a5 a6 a7 a8 a9 : S3x512.Idx → EReal) (ix2 k x) = a2 (ix2 k ⟨x, by omega⟩) := by
    unfold A_main_v38
    pointwise
  unfold A_main_v61 A_main_v60 A_main_v59 A_main_v58 A_main_v57 A_main_v56 A_main_v55 A_main_v54 A_main_v53 A_main_v52 A_main_v51 A_main_v50 A_main_v49 A_main_v48 A_main_v47 K_main_v46 K_main_cst_2 A_main_v45 A_main_v44 A_main_v43 A_main_v42 A_main_v41 A_main_v40
  refine (taps _ _ b t x).trans ?_
  rw [w, w, w, v39_at, v39_at, v39_at]
  rfl

theorem v29_at (b : Fin 16) (t : Fin 4096) (x : Fin 512) :
    (A_main_v29 (F := Ideal) a0 a1 a2 a3 a4 a5 a6 a7 a8 a9 : S16x4096x512.Idx → EReal) (ix3 b t x) = conv3 (fun t => a0 (ix3 b t ⟨1536 + x, by omega⟩)) (a2 (ix2 0 ⟨512 + x, by omega⟩)) (a2 (ix2 1 ⟨512 + x, by omega⟩)) (a2 (ix2 2 ⟨512 + x, by omega⟩)) t := by
  have w (k : Fin 3) : (A_main_v6 (F := Ideal) a0 a1 a2 a3 a4 a5 a6 a7 a8 a9 : S3x512.Idx → EReal) (ix2 k x) = a2 (ix2 k ⟨512 + x, by omega⟩) := by
    unfold A_main_v6
    pointwise
  unfold A_main_v29 A_main_v28 A_main_v27 A_main_v26 A_main_v25 A_main_v24 A_main_v23 A_main_v22 A_main_v21 A_main_v20 A_main_v19 A_main_v18 A_main_v17 A_main_v16 A_main_v15 K_main_v14 K_main_cst A_main_v13 A_main_v12 A_main_v11 A_main_v10 A_main_v9 A_main_v8
  refine (taps _ _ b t x).trans ?_
  rw [w, w, w, v7_at, v7_at, v7_at]
  rfl

/-- The queries. -/
theorem v64_at (b : Fin 16) (h : Fin 4) (t : Fin 4096) (l : Fin 128) :
    (A_main_v64 (F := Ideal) a0 a1 a2 a3 a4 a5 a6 a7 a8 a9 : S16x4x4096x128.Idx → EReal) (ix4 b h t l) = active a0 a2 b ⟨1024 + 128 * h + l, by omega⟩ ⟨128 * h + l, by omega⟩ t := by
  unfold A_main_v64 A_main_v63 A_main_v62 A_main_call3_v5 A_main_call3_v3 A_main_call3_v1 A_main_call3_v0 K_main_call3_v2 K_main_call3_v4 K_main_call3_cst K_main_call3_cst_0
  refine (acts _ b h t l).trans ?_
  rw [v61_at]
  unfold active
  simp only [← Nat.add_assoc]

/-- The keys. -/
theorem v34_at (b : Fin 16) (h : Fin 4) (t : Fin 4096) (l : Fin 128) :
    (A_main_v34 (F := Ideal) a0 a1 a2 a3 a4 a5 a6 a7 a8 a9 : S16x4x4096x128.Idx → EReal) (ix4 b h t l) = active a0 a2 b ⟨1536 + 128 * h + l, by omega⟩ ⟨512 + 128 * h + l, by omega⟩ t * Ideal.ofBits .f32 0x3DB504F3#32 := by
  unfold A_main_v34
  refine congrArg₂ (HMul.hMul (α := EReal) (β := EReal)) ?_ rfl
  unfold A_main_v32 A_main_v31 A_main_v30 A_main_call1_v5 A_main_call1_v3 A_main_call1_v1 A_main_call1_v0 K_main_call1_v2 K_main_call1_v4 K_main_call1_cst K_main_call1_cst_0
  refine (acts _ b h t l).trans ?_
  rw [v29_at]
  unfold active
  simp only [← Nat.add_assoc]

theorem v37_at (b : Fin 16) (h : Fin 4) (t : Fin 4096) (l : Fin 128) :
    (A_main_v37 (F := Ideal) a0 a1 a2 a3 a4 a5 a6 a7 a8 a9 : S16x4x4096x128.Idx → EReal) (ix4 b h t l) = a0 (ix3 b t ⟨2048 + 128 * h + l, by omega⟩) := by
  have e := v3_at a0 a1 a2 a3 a4 a5 a6 a7 a8 a9 b t ⟨512 + (h * 128 + l), by omega⟩ (by show 512 + (h.val * 128 + l.val) < 1024; omega)
  unfold A_main_v37 A_main_v36 A_main_v35
  pointwise
  refine e.trans (congrArg a0 ?_)
  congr 1
  exact Fin.ext (by show 1536 + (512 + (h.val * 128 + l.val)) = 2048 + 128 * h.val + l.val; omega)

theorem v3_gate (b : Fin 16) (t : Fin 4096) (n : Fin 16) :
    (A_main_v3 (F := Ideal) a0 a1 a2 a3 a4 a5 a6 a7 a8 a9 : S16x4096x1040.Idx → EReal) (ix3 b t ⟨1024 + n, by omega⟩) = a1 (ix3 b t ⟨n, by omega⟩) := by
  unfold A_main_v3
  refine (cat_hi _ _ b t n).trans ?_
  unfold A_main_v2
  pointwise

/-- The gates by direction and kind. -/
theorem v70_at (d k : Fin 2) (b : Fin 16) (h : Fin 4) (t : Fin 4096) :
    (A_main_v70 (F := Ideal) a0 a1 a2 a3 a4 a5 a6 a7 a8 a9 : S2x2x16x4x4096.Idx → EReal) (ix5 d k b h t) = gate a1 a3 b h ⟨2 * d + k, by omega⟩ t := by
  unfold A_main_v70 A_main_v69 A_main_v68 A_main_v67 A_main_v66 A_main_v65
  have e : d.val * 8 + k.val * 4 + h.val = 4 * (2 * d.val + k.val) + h.val := by omega
  have e' := v3_gate a0 a1 a2 a3 a4 a5 a6 a7 a8 a9 b t ⟨4 * (2 * d.val + k.val) + h.val, by omega⟩
  pointwise
  simp only [e]
  exact congrArg (· + a3 (ix1 ⟨4 * (2 * d.val + k.val) + h.val, by omega⟩)) e'

theorem v72_at (d : Fin 2) (b : Fin 16) (h : Fin 4) (t : Fin 4096) :
    (A_main_v72 (F := Ideal) a0 a1 a2 a3 a4 a5 a6 a7 a8 a9 : S2x16x4x4096.Idx → EReal) (ix4 d b h t) = gate a1 a3 b h ⟨2 * d, by omega⟩ t := by
  unfold A_main_v72 A_main_v71
  pointwise
  simp only [v70_at]
  rfl

theorem v77_at (d : Fin 2) (b : Fin 16) (h : Fin 4) (t : Fin 4096) :
    (A_main_v77 (F := Ideal) a0 a1 a2 a3 a4 a5 a6 a7 a8 a9 : S2x16x4x4096.Idx → EReal) (ix4 d b h t) = logsig (gate a1 a3 b h ⟨2 * d + 1, by omega⟩ t) := by
  unfold A_main_v77 A_main_v76 A_main_call4_v11 A_main_call4_v10 A_main_call4_v9 A_main_call4_v8 A_main_call4_v7 A_main_call4_v6 A_main_call4_v4 A_main_call4_v3 A_main_call4_v1 A_main_v75 A_main_v74 A_main_v73 K_main_call4_v0 K_main_call4_v2 K_main_call4_v5 K_main_call4_cst
  pointwise
  simp only [v70_at, ne_eq, not_true_eq_false, if_false]
  exact logsig_soft _

/-- The stream sample and direction `B` reads. -/
def strm (B : Fin 32) (h : Fin 4) : Layer.Stream :=
  if hB : B.val < 16 then stream a0 a1 a2 a3 ⟨B, hB⟩ h 0 1 else (stream a0 a1 a2 a3 ⟨B - 16, by omega⟩ h 2 3).rev

/-- The memory sample and direction `B` begins with. -/
def mem0 (B : Fin 32) (h : Fin 4) : Mem :=
  if hB : B.val < 16 then begin a4 a5 a6 ⟨B, hB⟩ h else begin a7 a8 a9 ⟨B - 16, by omega⟩ h

theorem v102_at (i : Fin 32) (B : Fin 32) (h : Fin 4) (r l : Fin 128) :
    (A_main_v102 (F := Ideal) a0 a1 a2 a3 a4 a5 a6 a7 a8 a9 : S32x32x4x128x128.Idx → EReal) (ix5 i B h r l) = ((strm a0 a1 a2 a3 B h).chunk i).k r l := by
  unfold A_main_v102 A_main_v101 A_main_v81 A_main_v80
  refine (cut4 _ i B h r l).trans ?_
  unfold strm
  by_cases hB : B.val < 16
  · rw [dif_pos hB]
    exact (two4_lo _ _ B hB h _ l).trans (v34_at a0 a1 a2 a3 a4 a5 a6 a7 a8 a9 _ h _ l)
  · rw [dif_neg hB]
    exact (two4_hi _ _ B hB h _ l).trans ((rev4 _ _ h _ l).trans (v34_at a0 a1 a2 a3 a4 a5 a6 a7 a8 a9 _ h _ l))

theorem v104_at (i : Fin 32) (B : Fin 32) (h : Fin 4) (r l : Fin 128) :
    (A_main_v104 (F := Ideal) a0 a1 a2 a3 a4 a5 a6 a7 a8 a9 : S32x32x4x128x128.Idx → EReal) (ix5 i B h r l) = ((strm a0 a1 a2 a3 B h).chunk i).v r l := by
  unfold A_main_v104 A_main_v103 A_main_v83 A_main_v82
  refine (cut4 _ i B h r l).trans ?_
  unfold strm
  by_cases hB : B.val < 16
  · rw [dif_pos hB]
    exact (two4_lo _ _ B hB h _ l).trans (v37_at a0 a1 a2 a3 a4 a5 a6 a7 a8 a9 _ h _ l)
  · rw [dif_neg hB]
    exact (two4_hi _ _ B hB h _ l).trans ((rev4 _ _ h _ l).trans (v37_at a0 a1 a2 a3 a4 a5 a6 a7 a8 a9 _ h _ l))

theorem v110_at (i : Fin 32) (B : Fin 32) (h : Fin 4) (r l : Fin 128) :
    (A_main_v110 (F := Ideal) a0 a1 a2 a3 a4 a5 a6 a7 a8 a9 : S32x32x4x128x128.Idx → EReal) (ix5 i B h r l) = ((strm a0 a1 a2 a3 B h).chunk i).q r l := by
  unfold A_main_v110 A_main_v109 A_main_v79 A_main_v78
  refine (cut4 _ i B h r l).trans ?_
  unfold strm
  by_cases hB : B.val < 16
  · rw [dif_pos hB]
    exact (two4_lo _ _ B hB h _ l).trans (v64_at a0 a1 a2 a3 a4 a5 a6 a7 a8 a9 _ h _ l)
  · rw [dif_neg hB]
    exact (two4_hi _ _ B hB h _ l).trans ((rev4 _ _ h _ l).trans (v64_at a0 a1 a2 a3 a4 a5 a6 a7 a8 a9 _ h _ l))

theorem v106_at (i : Fin 32) (B : Fin 32) (h : Fin 4) (r : Fin 128) :
    (A_main_v106 (F := Ideal) a0 a1 a2 a3 a4 a5 a6 a7 a8 a9 : S32x32x4x128.Idx → EReal) (ix4 i B h r) = ((strm a0 a1 a2 a3 B h).chunk i).ig r := by
  unfold A_main_v106 A_main_v105 A_main_v89 A_main_v88 A_main_v87 A_main_v86 A_main_v85 A_main_v84
  refine (cut3 _ i B h r).trans ?_
  unfold strm
  by_cases hB : B.val < 16
  · rw [dif_pos hB]
    exact (two3_lo _ _ B hB h _).trans ((dir_lo _ _ h _).trans (v72_at a0 a1 a2 a3 a4 a5 a6 a7 a8 a9 0 _ h _))
  · rw [dif_neg hB]
    exact (two3_hi _ _ B hB h _).trans ((rev3 _ _ h _).trans ((dir_hi _ _ h _).trans (v72_at a0 a1 a2 a3 a4 a5 a6 a7 a8 a9 1 _ h _)))

theorem v108_at (i : Fin 32) (B : Fin 32) (h : Fin 4) (r : Fin 128) :
    (A_main_v108 (F := Ideal) a0 a1 a2 a3 a4 a5 a6 a7 a8 a9 : S32x32x4x128.Idx → EReal) (ix4 i B h r) = ((strm a0 a1 a2 a3 B h).chunk i).lf r := by
  unfold A_main_v108 A_main_v107 A_main_v95 A_main_v94 A_main_v93 A_main_v92 A_main_v91 A_main_v90
  refine (cut3 _ i B h r).trans ?_
  unfold strm
  by_cases hB : B.val < 16
  · rw [dif_pos hB]
    exact (two3_lo _ _ B hB h _).trans ((dir_lo _ _ h _).trans (v77_at a0 a1 a2 a3 a4 a5 a6 a7 a8 a9 0 _ h _))
  · rw [dif_neg hB]
    exact (two3_hi _ _ B hB h _).trans ((rev3 _ _ h _).trans ((dir_hi _ _ h _).trans (v77_at a0 a1 a2 a3 a4 a5 a6 a7 a8 a9 1 _ h _)))

theorem v96_at (B : Fin 32) (h : Fin 4) (a l : Fin 128) :
    (A_main_v96 (F := Ideal) a0 a1 a2 a3 a4 a5 a6 a7 a8 a9 : S32x4x128x128.Idx → EReal) (ix4 B h a l) = (mem0 a4 a5 a6 a7 a8 a9 B h).C a l := by
  unfold A_main_v96
  refine (mem4 _ _ B h a l).trans ?_
  unfold mem0
  split <;> rfl

theorem v97_at (B : Fin 32) (h : Fin 4) (a : Fin 128) :
    (A_main_v97 (F := Ideal) a0 a1 a2 a3 a4 a5 a6 a7 a8 a9 : S32x4x128.Idx → EReal) (ix3 B h a) = (mem0 a4 a5 a6 a7 a8 a9 B h).n a := by
  unfold A_main_v97
  refine (mem3 _ _ B h a).trans ?_
  unfold mem0
  split <;> rfl

theorem v98_at (B : Fin 32) (h : Fin 4) :
    (A_main_v98 (F := Ideal) a0 a1 a2 a3 a4 a5 a6 a7 a8 a9 : S32x4.Idx → EReal) (ix2 B h) = (mem0 a4 a5 a6 a7 a8 a9 B h).m := by
  unfold A_main_v98
  refine (mem2 _ _ B h).trans ?_
  unfold mem0
  split <;> rfl

end Cert.MlstmRefIdeal.Inputs
-- ==== Proof.MlstmRefTrip.lean ====
/- One trip of the mLSTM's plain form over the extended reals, at one sample, direction and head: the chunk recurrence. -/
module

public import proofs.«01_k».proof.Proof.Gen.MlstmRefIdeal.Step
public import proofs.«01_k».proof.Proof.MlstmSpec
public import Idealize.ShloMosaic.Lib.DynamicIndex
public import Idealize.ShloMosaic.Lib.Pointwise

@[expose] public section

set_option maxRecDepth 16384

noncomputable section

namespace Cert.MlstmRefIdeal.Trip

open Cert.MlstmRefIdeal Cert.MlstmRefIdeal.Gen Cert.MlstmRefIdeal.Step Cert.Layer Idealize.ShloMosaic Idealize.ShloMosaic.TcCoe

/-- A left fold of additions from zero is a sum. -/
theorem fold_add {N : ℕ} (g : Fin N → EReal) : (List.finRange N).foldl (fun r n => r + g n) 0 = ∑ n, g n := by
  rw [Fin.sum_univ_def, List.sum_eq_foldl, List.foldl_map]

/-- An index of a row of 128 elements is its last coordinate. -/
def rowEquiv : (⟨3, ![1, 1, 128]⟩ : Shape).Idx ≃ Fin 128 where
  toFun k := k 2
  invFun n := ix3 0 0 n
  left_inv k := by
    idx_vars k
    obtain rfl : k0 = 0 := Fin.fin_one_eq_zero k0
    obtain rfl : k1 = 0 := Fin.fin_one_eq_zero k1
    rfl
  right_inv n := rfl

/-- A running sum along the last axis, as a window of the whole length with zeros before it. -/
theorem running (x : S32x4x128.Idx → EReal) (init : S_.Idx → EReal) (h0 : init (Shape.Idx.first h_S_) = 0)
    (hw : S32x4x128.ReduceWindows (![1, 1, 128] : Fin 3 → ℕ) ![1, 1, 1] ![0, 0, 127] ![0, 0, 0] S32x4x128) (B : Fin 32) (h : Fin 4) (j : Fin 128) :
    Host.reduceWindow (· + ·) ![1, 1, 128] ![1, 1, 1] ![0, 0, 127] ![0, 0, 0] x init hw h_S_ (ix3 B h j)
      = ∑ s, if s ≤ j then x (ix3 B h s) else 0 := by
  unfold Host.reduceWindow
  dsimp only
  rw [h0]
  refine (fold_add _).trans ?_
  refine Fintype.sum_equiv (((⟨3, ![1, 1, 128]⟩ : Shape).rowMajor.symm.trans rowEquiv).trans (Equiv.addRight (j + 1))) _ _ fun n => ?_
  obtain ⟨k, rfl⟩ := (⟨3, ![1, 1, 128]⟩ : Shape).rowMajor.surjective n
  simp only [Equiv.trans_apply, Equiv.symm_apply_apply, Equiv.coe_addRight]
  idx_vars k
  obtain rfl : k0 = 0 := Fin.fin_one_eq_zero k0
  obtain rfl : k1 = 0 := Fin.fin_one_eq_zero k1
  have e : rowEquiv (ix3 0 0 k2) = k2 := rfl
  rw [e]
  have hv : (k2 + (j + 1) : Fin 128).val = (k2.val + (j.val + 1) % 128) % 128 := by rw [Fin.val_add, Fin.val_add]; rfl
  have hk := k2.isLt
  have hj := j.isLt
  by_cases hc : 127 ≤ j.val + k2.val
  · have hin : ∀ a : Fin 3, (![0, 0, 127] : Fin 3 → ℕ) a ≤ ((ix3 B h j : S32x4x128.Idx) a).val * (![1, 1, 1] : Fin 3 → ℕ) a + ((ix3 0 0 k2 : (⟨3, ![1, 1, 128]⟩ : Shape).Idx) a).val
        ∧ ((ix3 B h j : S32x4x128.Idx) a).val * (![1, 1, 1] : Fin 3 → ℕ) a + ((ix3 0 0 k2 : (⟨3, ![1, 1, 128]⟩ : Shape).Idx) a).val - (![0, 0, 127] : Fin 3 → ℕ) a < S32x4x128.size a := fun a => by
      match a with
      | 0 => exact ⟨Nat.zero_le _, by show B.val * 1 + 0 - 0 < 32; omega⟩
      | 1 => exact ⟨Nat.zero_le _, by show h.val * 1 + 0 - 0 < 4; omega⟩
      | 2 => exact ⟨by show 127 ≤ j.val * 1 + k2.val; omega, by show j.val * 1 + k2.val - 127 < 128; omega⟩
    refine (dif_pos hin).trans ?_
    rw [if_pos (by rw [Fin.le_def, hv]; omega)]
    refine congrArg x (funext fun a => Fin.ext ?_)
    match a with
    | 0 => show B.val * 1 + 0 - 0 = B.val; omega
    | 1 => show h.val * 1 + 0 - 0 = h.val; omega
    | 2 => show j.val * 1 + k2.val - 127 = (k2 + (j + 1) : Fin 128).val; rw [hv]; omega
  · refine (dif_neg fun hin => hc ?_).trans ?_
    · have := (hin 2).1
      change 127 ≤ j.val * 1 + k2.val at this
      omega
    · rw [if_neg (by rw [Fin.le_def, hv]; omega)]

/-- Slab `j` of a stack of 32 slabs. -/
theorem slab5 (x : S32x32x4x128x128.Idx → EReal) (j : ℕ) (hj : j < 32) (st : Fin 5 → Int) (h0 : st 0 = j) (h1 : st 1 = 0) (h2 : st 2 = 0) (h3 : st 3 = 0) (h4 : st 4 = 0)
    (hf : S32x32x4x128x128.Slices (fun _ => 0) S1x32x4x128x128) (B : Fin 32) (h : Fin 4) (r l : Fin 128) :
    Host.dynamicSlice S1x32x4x128x128 x st hf (ix5 0 B h r l) = x (ix5 ⟨j, hj⟩ B h r l) := by
  unfold Host.dynamicSlice extractStridedSlice
  refine congrArg x (funext fun a => Fin.ext ?_)
  match a with
  | 0 => show (min (max (st 0) 0) ((32 - 1 : ℕ) : ℤ)).toNat + 0 = j; rw [h0]; omega
  | 1 => show (min (max (st 1) 0) ((32 - 32 : ℕ) : ℤ)).toNat + B.val = B.val; rw [h1]; omega
  | 2 => show (min (max (st 2) 0) ((4 - 4 : ℕ) : ℤ)).toNat + h.val = h.val; rw [h2]; omega
  | 3 => show (min (max (st 3) 0) ((128 - 128 : ℕ) : ℤ)).toNat + r.val = r.val; rw [h3]; omega
  | 4 => show (min (max (st 4) 0) ((128 - 128 : ℕ) : ℤ)).toNat + l.val = l.val; rw [h4]; omega

/-- Slab `j` of a stack of 32 slabs of rows. -/
theorem slab4 (x : S32x32x4x128.Idx → EReal) (j : ℕ) (hj : j < 32) (st : Fin 4 → Int) (h0 : st 0 = j) (h1 : st 1 = 0) (h2 : st 2 = 0) (h3 : st 3 = 0)
    (hf : S32x32x4x128.Slices (fun _ => 0) S1x32x4x128) (B : Fin 32) (h : Fin 4) (r : Fin 128) :
    Host.dynamicSlice S1x32x4x128 x st hf (ix4 0 B h r) = x (ix4 ⟨j, hj⟩ B h r) := by
  unfold Host.dynamicSlice extractStridedSlice
  refine congrArg x (funext fun a => Fin.ext ?_)
  match a with
  | 0 => show (min (max (st 0) 0) ((32 - 1 : ℕ) : ℤ)).toNat + 0 = j; rw [h0]; omega
  | 1 => show (min (max (st 1) 0) ((32 - 32 : ℕ) : ℤ)).toNat + B.val = B.val; rw [h1]; omega
  | 2 => show (min (max (st 2) 0) ((4 - 4 : ℕ) : ℤ)).toNat + h.val = h.val; rw [h2]; omega
  | 3 => show (min (max (st 3) 0) ((128 - 128 : ℕ) : ℤ)).toNat + r.val = r.val; rw [h3]; omega

theorem word_of (j : ℕ) (hj : j < 32) : (BitVec.ofNat 32 j).toInt = j := by
  have : ∀ j : Fin 32, (BitVec.ofNat 32 j.val).toInt = j.val := by decide
  exact this ⟨j, hj⟩

/-- The greatest of a row. -/
theorem top_at (X : S32x4x128x128.Idx → EReal) (B : Fin 32) (h : Fin 4) (r : Fin 128) :
    (Host.reduce (α := Ideal .f32) FloatOps.maximumf X (constant S_ .f32 0xFF800000#32) reducesTo_S32x4x128x128_S32x4x128_d3 h_S_ : S32x4x128.Idx → EReal) (ix3 B h r)
      = greatest (fun t => X (ix4 B h r t)) := by
  pointwise
  rfl

theorem select_if' (p : Bool) (x y : EReal) : Scalar.select (if p then 1#1 else 0#1) x y = if p then x else y := by cases p <;> rfl

theorem low_bot : Ideal.ofBits .f32 0xFF800000#32 = ⊥ := by simp [Ideal.ofBits, Ideal.ieee]

theorem word_tri : ∀ r t : Fin 128, IntOp.cmpi .sge (BitVec.ofNat 32 r + 0#32) (BitVec.ofNat 32 t) = if fwd t r then 1#1 else 0#1 := by decide +kernel

/-- The mask of the tokens up to a token. -/
theorem tri_at (r t : Fin 128) : (K_main_v100 (F := Ideal) : S128x128.Idx → BitVec 1) (ix2 r t) = if fwd t r then 1#1 else 0#1 := by
  unfold K_main_v100 K_main_v99 K_main_c_3 K_main_call10_v5 K_main_call10_c_0 K_main_call10_v4 K_main_call10_v3 K_main_call10_v2 K_main_call10_v1 K_main_call10_c K_main_call10_v0
  pointwise
  rw [show IntOp.addi (BitVec.ofNat 32 r.val) 0#32 = BitVec.ofNat 32 r.val + 0#32 from rfl, word_tri r t]
  cases fwd t r <;> rfl

/-- The state before trip `j` holds, at one sample, direction and head, chunk `c` and the memory `M`. -/
structure Holds (j : ℕ) (hj : j < 32) (s : State Ideal) (B : Fin 32) (h : Fin 4) (c : Chunk) (M : Mem) : Prop where
  k : ∀ r l, (s.main_v112_0 : S32x32x4x128x128.Idx → EReal) (ix5 ⟨j, hj⟩ B h r l) = c.k r l
  v : ∀ r l, (s.main_v112_1 : S32x32x4x128x128.Idx → EReal) (ix5 ⟨j, hj⟩ B h r l) = c.v r l
  ig : ∀ r, (s.main_v112_2 : S32x32x4x128.Idx → EReal) (ix4 ⟨j, hj⟩ B h r) = c.ig r
  lf : ∀ r, (s.main_v112_3 : S32x32x4x128.Idx → EReal) (ix4 ⟨j, hj⟩ B h r) = c.lf r
  q : ∀ r l, (s.main_v112_4 : S32x32x4x128x128.Idx → EReal) (ix5 ⟨j, hj⟩ B h r l) = c.q r l
  C : ∀ a l, (s.main_v112_7 : S32x4x128x128.Idx → EReal) (ix4 B h a l) = M.C a l
  n : ∀ a, (s.main_v112_8 : S32x4x128.Idx → EReal) (ix3 B h a) = M.n a
  m : (s.main_v112_9 : S32x4.Idx → EReal) (ix2 B h) = M.m

variable {j : ℕ} {hj : j < 32} {s : State Ideal} {B : Fin 32} {h : Fin 4} {c : Chunk} {M : Mem} (H : Holds j hj s B h c M)

include H

theorem b5_at (r l : Fin 128) : (b5 j s : S32x4x128x128.Idx → EReal) (ix4 B h r l) = c.k r l := by
  unfold b5
  pointwise
  unfold b4
  exact (slab5 _ j hj _ (word_of j hj) rfl rfl rfl rfl _ B h r l).trans (H.k r l)

theorem b11_at (r l : Fin 128) : (b11 j s : S32x4x128x128.Idx → EReal) (ix4 B h r l) = c.v r l := by
  unfold b11
  pointwise
  unfold b10
  exact (slab5 _ j hj _ (word_of j hj) rfl rfl rfl rfl _ B h r l).trans (H.v r l)

theorem b27_at (r l : Fin 128) : (b27 j s : S32x4x128x128.Idx → EReal) (ix4 B h r l) = c.q r l := by
  unfold b27
  pointwise
  unfold b26
  exact (slab5 _ j hj _ (word_of j hj) rfl rfl rfl rfl _ B h r l).trans (H.q r l)

theorem b16_at (r : Fin 128) : (b16 j s : S32x4x128.Idx → EReal) (ix3 B h r) = c.ig r := by
  unfold b16
  pointwise
  unfold b15
  exact (slab4 _ j hj _ (word_of j hj) rfl rfl rfl _ B h r).trans (H.ig r)

theorem b21_at (r : Fin 128) : (b21 j s : S32x4x128.Idx → EReal) (ix3 B h r) = c.lf r := by
  unfold b21
  pointwise
  unfold b20
  exact (slab4 _ j hj _ (word_of j hj) rfl rfl rfl _ B h r).trans (H.lf r)

theorem b30_at (r : Fin 128) : (b30 j s : S32x4x128.Idx → EReal) (ix3 B h r) = c.cum fwd r := by
  unfold b30
  refine (running (b21 j s) (b29 j s) ?_ reduceWindows_S32x4x128_S32x4x128_w1s1p0_0_w1s1p0_0_w128s1p127_0 B h r).trans ?_
  · unfold b29 b28
    pointwise
  · simp only [b21_at H, Chunk.cum, fwd, decide_eq_true_eq]

theorem b34_at (r : Fin 128) : (b34 j s : S32x4x128.Idx → EReal) (ix3 B h r) = c.gend fwd 127 r := by
  unfold b34 b33 b32 b31
  pointwise
  simp only [b30_at H, b16_at H]
  rfl

theorem b40_at : (b40 j s : S32x4.Idx → EReal) (ix2 B h) = c.mNew fwd 127 M := by
  unfold b40 b39 b38 b37 b36 b35
  pointwise
  simp only [b30_at H, b34_at H, H.m]
  rfl

theorem b45_at : (b45 j s : S32x4.Idx → EReal) (ix2 B h) = c.wPrev fwd 127 M := by
  unfold b45 b44 b43 b42 b41
  pointwise
  simp only [b30_at H, b40_at H, H.m]
  rfl

theorem b49_at (r : Fin 128) : (b49 j s : S32x4x128.Idx → EReal) (ix3 B h r) = c.wRow fwd 127 M r := by
  unfold b49 b48 b47 b46
  pointwise
  simp only [b34_at H, b40_at H]
  rfl

theorem b57_at (a l : Fin 128) : (b57 j s : S32x4x128x128.Idx → EReal) (ix4 B h a l) = (c.next fwd 127 M).C a l := by
  unfold b57 b56 b55 b54 b53 b52 b51 b50
  pointwise
  simp only [b45_at H, b49_at H, b5_at H, b11_at H, H.C, mul_comm (c.wRow fwd 127 M _)]
  rfl

theorem b62_at (a : Fin 128) : (b62 j s : S32x4x128.Idx → EReal) (ix3 B h a) = (c.next fwd 127 M).n a := by
  unfold b62 b61 b60 b59 b58
  pointwise
  simp only [b45_at H, b49_at H, b5_at H, H.n, mul_comm (c.wRow fwd 127 M _)]
  rfl

theorem b75_at (r t : Fin 128) : (b75 j s : S32x4x128x128.Idx → EReal) (ix4 B h r t) = c.dmat fwd r t := by
  unfold b75 b74 b73 b72 b71 b70 b69 b68 b67 b66 b65 b64 b63
  pointwise
  simp only [b30_at H, b16_at H, tri_at, select_if', low_bot]
  rfl

theorem b78_at (r : Fin 128) : (b78 j s : S32x4x128.Idx → EReal) (ix3 B h r) = c.cum fwd r + M.m := by
  unfold b78 b77 b76
  pointwise
  simp only [b30_at H, H.m]

theorem b81_at (r : Fin 128) : (b81 j s : S32x4x128.Idx → EReal) (ix3 B h r) = c.mj fwd M r := by
  unfold b81 b80 b79
  have h1 := top_at (b75 j s) B h r
  simp only [b75_at H] at h1
  exact congr (congrArg max (b78_at H r)) h1

theorem b83_at (r : Fin 128) : (b83 j s : S32x4x128.Idx → EReal) (ix3 B h r) = c.win fwd M r := by
  unfold b83 b82
  pointwise
  simp only [b78_at H, b81_at H]
  unfold Chunk.win
  rfl

theorem b89_at (r t : Fin 128) : (b89 j s : S32x4x128x128.Idx → EReal) (ix4 B h r t) = c.score fwd M r t := by
  unfold b89 b88 b87 b86 b85 b84
  pointwise
  simp only [b27_at H, b5_at H, b75_at H, b81_at H]
  rfl

theorem b95_at (r l : Fin 128) : (b95 j s : S32x4x128x128.Idx → EReal) (ix4 B h r l) = c.num fwd M r l := by
  unfold b95 b94 b93 b92 b91 b90
  pointwise
  simp only [b27_at H, b89_at H, b11_at H, b83_at H, H.C]
  rfl

theorem b100_at (r : Fin 128) : (b100 j s : S32x4x128.Idx → EReal) (ix3 B h r) = c.den fwd M r := by
  unfold b100 b99 b98 b97 b96
  pointwise
  simp only [b27_at H, b89_at H, b83_at H, H.n]
  rfl

theorem b107_at (r l : Fin 128) : (b107 j s : S32x4x128x128.Idx → EReal) (ix4 B h r l) = c.out fwd M r l := by
  unfold b107 b106 b105 b104 b103 b102 b101
  pointwise
  simp only [b95_at H, b100_at H, b81_at H]
  rfl

end Cert.MlstmRefIdeal.Trip
-- ==== Proof.MlstmRefIter.lean ====
/- The mLSTM's plain form over the extended reals: its loop computes the recurrence of every stream, and its result is the specification's. -/
module

public import proofs.«01_k».proof.Proof.Gen.MlstmRefIdeal.Step
public import proofs.«01_k».proof.Proof.MlstmSpec
public import proofs.«01_k».proof.Proof.MlstmRefInit
public import proofs.«01_k».proof.Proof.MlstmRefTrip
public import proofs.«01_k».proof.Proof.Gen.MlstmRefIdeal.Step
public import Idealize.ShloMosaic.Lib.IdealHost
public import Idealize.ShloMosaic.Lib.Pointwise

@[expose] public section

set_option maxRecDepth 16384

noncomputable section

namespace Cert.MlstmRefIdeal.Inputs

open Cert.MlstmRefIdeal Cert.MlstmRefIdeal.Gen Cert.MlstmRefIdeal.Step Cert.Layer Idealize.ShloMosaic Idealize.ShloMosaic.TcCoe Idealize.SL.Sem

/-- A slab written into a stack. -/
theorem upd5 (x : S32x32x4x128x128.Idx → EReal) (u : S1x32x4x128x128.Idx → EReal) (j : ℕ) (hj : j < 32) (st : Fin 5 → Int) (h0 : st 0 = j) (h1 : st 1 = 0) (h2 : st 2 = 0) (h3 : st 3 = 0) (h4 : st 4 = 0)
    (hf : S32x32x4x128x128.Slices (fun _ => 0) S1x32x4x128x128) (i B : Fin 32) (h : Fin 4) (r l : Fin 128) :
    Host.dynamicUpdateSlice x u st hf (ix5 i B h r l) = if i.val = j then u (ix5 0 B h r l) else x (ix5 i B h r l) := by
  have c0 : Host.clampedStart S32x32x4x128x128 S1x32x4x128x128 hf.1 st 0 = j := by show (min (max (st 0) 0) ((32 - 1 : ℕ) : ℤ)).toNat = j; rw [h0]; omega
  have c1 : Host.clampedStart S32x32x4x128x128 S1x32x4x128x128 hf.1 st 1 = 0 := by show (min (max (st 1) 0) ((32 - 32 : ℕ) : ℤ)).toNat = 0; rw [h1]; omega
  have c2 : Host.clampedStart S32x32x4x128x128 S1x32x4x128x128 hf.1 st 2 = 0 := by show (min (max (st 2) 0) ((4 - 4 : ℕ) : ℤ)).toNat = 0; rw [h2]; omega
  have c3 : Host.clampedStart S32x32x4x128x128 S1x32x4x128x128 hf.1 st 3 = 0 := by show (min (max (st 3) 0) ((128 - 128 : ℕ) : ℤ)).toNat = 0; rw [h3]; omega
  have c4 : Host.clampedStart S32x32x4x128x128 S1x32x4x128x128 hf.1 st 4 = 0 := by show (min (max (st 4) 0) ((128 - 128 : ℕ) : ℤ)).toNat = 0; rw [h4]; omega
  rw [Host.dynamicUpdateSlice_apply]
  by_cases e : i.val = j
  · rw [if_pos e, dif_pos]
    · refine congrArg u (funext fun a => Fin.ext ?_)
      match a with
      | 0 => show i.val - Host.clampedStart S32x32x4x128x128 S1x32x4x128x128 hf.1 st 0 = 0; rw [c0]; omega
      | 1 => show B.val - Host.clampedStart S32x32x4x128x128 S1x32x4x128x128 hf.1 st 1 = B.val; rw [c1]; omega
      | 2 => show h.val - Host.clampedStart S32x32x4x128x128 S1x32x4x128x128 hf.1 st 2 = h.val; rw [c2]; omega
      | 3 => show r.val - Host.clampedStart S32x32x4x128x128 S1x32x4x128x128 hf.1 st 3 = r.val; rw [c3]; omega
      | 4 => show l.val - Host.clampedStart S32x32x4x128x128 S1x32x4x128x128 hf.1 st 4 = l.val; rw [c4]; omega
    · intro a
      match a with
      | 0 => show Host.clampedStart S32x32x4x128x128 S1x32x4x128x128 hf.1 st 0 ≤ i.val ∧ i.val < Host.clampedStart S32x32x4x128x128 S1x32x4x128x128 hf.1 st 0 + 1; rw [c0]; omega
      | 1 => show Host.clampedStart S32x32x4x128x128 S1x32x4x128x128 hf.1 st 1 ≤ B.val ∧ B.val < Host.clampedStart S32x32x4x128x128 S1x32x4x128x128 hf.1 st 1 + 32; rw [c1]; omega
      | 2 => show Host.clampedStart S32x32x4x128x128 S1x32x4x128x128 hf.1 st 2 ≤ h.val ∧ h.val < Host.clampedStart S32x32x4x128x128 S1x32x4x128x128 hf.1 st 2 + 4; rw [c2]; omega
      | 3 => show Host.clampedStart S32x32x4x128x128 S1x32x4x128x128 hf.1 st 3 ≤ r.val ∧ r.val < Host.clampedStart S32x32x4x128x128 S1x32x4x128x128 hf.1 st 3 + 128; rw [c3]; omega
      | 4 => show Host.clampedStart S32x32x4x128x128 S1x32x4x128x128 hf.1 st 4 ≤ l.val ∧ l.val < Host.clampedStart S32x32x4x128x128 S1x32x4x128x128 hf.1 st 4 + 128; rw [c4]; omega
  · rw [if_neg e, dif_neg]
    intro hin
    have h' : Host.clampedStart S32x32x4x128x128 S1x32x4x128x128 hf.1 st 0 ≤ i.val ∧ i.val < Host.clampedStart S32x32x4x128x128 S1x32x4x128x128 hf.1 st 0 + 1 := hin 0
    rw [c0] at h'
    omega

/-- The two directions' outputs added, the second in the opposite order, behind the output gate. -/
theorem behind (o : S16x4096x2560.Idx → EReal) (x : S32x4x4096x128.Idx → EReal) (b : Fin 16) (t : Fin 4096) (h : Fin 4) (l : Fin 128) :
    (truncf (F := Ideal) (φ := .f32) .bf16 (mulf (F := Ideal) (φ := .f32) (Host.divf (F := Ideal) (φ := .f32) (broadcastInDim S16x4096x512 ![] bcast_S_S16x4096x512 (constant (F := Ideal) S_ .f32 0x3F800000#32)) (addf (F := Ideal) (φ := .f32) (broadcastInDim S16x4096x512 ![] bcast_S_S16x4096x512 (constant (F := Ideal) S_ .f32 0x3F800000#32)) (Host.exp (F := Ideal) (φ := .f32) (Host.negf (F := Ideal) (φ := .f32) (extf (F := Ideal) (φ := .bf16) .f32 (extractStridedSlice S16x4096x512 ![0, 0, 512] o slices_S16x4096x2560_S16x4096x512_0_0_512) bitsLt_bf16_f32)))))
      (shapeCast S16x4096x512 (transpose S16x4096x4x128 [0, 2, 1, 3] (addf (F := Ideal) (φ := .f32) (extractStridedSlice S16x4x4096x128 ![0, 0, 0, 0] x slices_S32x4x4096x128_S16x4x4096x128_0_0_0_0) (Host.reverse [2] (extractStridedSlice S16x4x4096x128 ![16, 0, 0, 0] x slices_S32x4x4096x128_S16x4x4096x128_16_0_0_0))) transposes_S16x4x4096x128_S16x4096x4x128_0_2_1_3) shapeCasts_S16x4096x4x128_S16x4096x512)) bitsLt_bf16_f32 : S16x4096x512.Idx → EReal) (ix3 b t ⟨128 * h + l, by omega⟩)
      = Ideal.logistic (o (ix3 b t ⟨512 + 128 * h + l, by omega⟩)) * (x (ix4 (lo b) h t l) + x (ix4 (hi b) h t.rev l)) := by
  pointwise
  simp only [← Nat.add_assoc]
  rfl

variable (a0 : S16x4096x2560.Idx → EReal) (a1 : S16x4096x128.Idx → EReal) (a2 : S3x1024.Idx → EReal) (a3 : S16.Idx → EReal)
  (a4 : S16x4x128x128.Idx → EReal) (a5 : S16x4x128.Idx → EReal) (a6 : S16x4.Idx → EReal) (a7 : S16x4x128x128.Idx → EReal) (a8 : S16x4x128.Idx → EReal) (a9 : S16x4.Idx → EReal)

/-- The loop's state after `n` trips. -/
def it : ℕ → State Ideal
  | 0 => init (F := Ideal) a0 a1 a2 a3 a4 a5 a6 a7 a8 a9
  | n + 1 => step n (it n)

theorem kept_0 (j : ℕ) (s : State Ideal) : (step j s).main_v112_0 = s.main_v112_0 := by unfold step; rfl
theorem kept_1 (j : ℕ) (s : State Ideal) : (step j s).main_v112_1 = s.main_v112_1 := by unfold step; rfl
theorem kept_2 (j : ℕ) (s : State Ideal) : (step j s).main_v112_2 = s.main_v112_2 := by unfold step; rfl
theorem kept_3 (j : ℕ) (s : State Ideal) : (step j s).main_v112_3 = s.main_v112_3 := by unfold step; rfl
theorem kept_4 (j : ℕ) (s : State Ideal) : (step j s).main_v112_4 = s.main_v112_4 := by unfold step; rfl

/-- The stacks no trip changes. -/
theorem inputs (n : ℕ) : (it a0 a1 a2 a3 a4 a5 a6 a7 a8 a9 n).main_v112_0 = A_main_v102 (F := Ideal) a0 a1 a2 a3 a4 a5 a6 a7 a8 a9 ∧ (it a0 a1 a2 a3 a4 a5 a6 a7 a8 a9 n).main_v112_1 = A_main_v104 (F := Ideal) a0 a1 a2 a3 a4 a5 a6 a7 a8 a9
    ∧ (it a0 a1 a2 a3 a4 a5 a6 a7 a8 a9 n).main_v112_2 = A_main_v106 (F := Ideal) a0 a1 a2 a3 a4 a5 a6 a7 a8 a9 ∧ (it a0 a1 a2 a3 a4 a5 a6 a7 a8 a9 n).main_v112_3 = A_main_v108 (F := Ideal) a0 a1 a2 a3 a4 a5 a6 a7 a8 a9 ∧ (it a0 a1 a2 a3 a4 a5 a6 a7 a8 a9 n).main_v112_4 = A_main_v110 (F := Ideal) a0 a1 a2 a3 a4 a5 a6 a7 a8 a9 := by
  induction n with
  | zero => unfold it init; exact ⟨rfl, rfl, rfl, rfl, rfl⟩
  | succ n ih =>
    unfold it
    exact ⟨(kept_0 _ _).trans ih.1, (kept_1 _ _).trans ih.2.1, (kept_2 _ _).trans ih.2.2.1, (kept_3 _ _).trans ih.2.2.2.1, (kept_4 _ _).trans ih.2.2.2.2⟩

/-- The memory part of a state. -/
structure Remembers (s : State Ideal) (B : Fin 32) (h : Fin 4) (M : Mem) : Prop where
  C : ∀ a l, (s.main_v112_7 : S32x4x128x128.Idx → EReal) (ix4 B h a l) = M.C a l
  n : ∀ a, (s.main_v112_8 : S32x4x128.Idx → EReal) (ix3 B h a) = M.n a
  m : (s.main_v112_9 : S32x4.Idx → EReal) (ix2 B h) = M.m

section Heads

variable (B : Fin 32) (h : Fin 4)

/-- A state that remembers the memory before a chunk holds the chunk's trip. -/
theorem holds_of (n : ℕ) (hn : n < 32) (M : Mem) (H : Remembers (it a0 a1 a2 a3 a4 a5 a6 a7 a8 a9 n) B h M) : Trip.Holds n hn (it a0 a1 a2 a3 a4 a5 a6 a7 a8 a9 n) B h ((strm a0 a1 a2 a3 B h).chunk n) M := by
  obtain ⟨i0, i1, i2, i3, i4⟩ := inputs a0 a1 a2 a3 a4 a5 a6 a7 a8 a9 n
  refine ⟨fun r l => ?_, fun r l => ?_, fun r => ?_, fun r => ?_, fun r l => ?_, H.C, H.n, H.m⟩
  · rw [i0]; exact v102_at a0 a1 a2 a3 a4 a5 a6 a7 a8 a9 ⟨n, hn⟩ B h r l
  · rw [i1]; exact v104_at a0 a1 a2 a3 a4 a5 a6 a7 a8 a9 ⟨n, hn⟩ B h r l
  · rw [i2]; exact v106_at a0 a1 a2 a3 a4 a5 a6 a7 a8 a9 ⟨n, hn⟩ B h r
  · rw [i3]; exact v108_at a0 a1 a2 a3 a4 a5 a6 a7 a8 a9 ⟨n, hn⟩ B h r
  · rw [i4]; exact v110_at a0 a1 a2 a3 a4 a5 a6 a7 a8 a9 ⟨n, hn⟩ B h r l

theorem remembers (n : ℕ) (hn : n ≤ 32) : Remembers (it a0 a1 a2 a3 a4 a5 a6 a7 a8 a9 n) B h ((strm a0 a1 a2 a3 B h).mem (mem0 a4 a5 a6 a7 a8 a9 B h) n) := by
  induction n with
  | zero =>
    unfold it init
    exact ⟨v96_at a0 a1 a2 a3 a4 a5 a6 a7 a8 a9 B h, v97_at a0 a1 a2 a3 a4 a5 a6 a7 a8 a9 B h, v98_at a0 a1 a2 a3 a4 a5 a6 a7 a8 a9 B h⟩
  | succ n ih =>
    have H := holds_of a0 a1 a2 a3 a4 a5 a6 a7 a8 a9 B h n (by omega) _ (ih (by omega))
    unfold it
    refine ⟨fun a l => ?_, fun a => ?_, ?_⟩
    · rw [step_main_v112_7]; exact Trip.b57_at H a l
    · rw [step_main_v112_8]; exact Trip.b62_at H a
    · rw [step_main_v112_9]; exact Trip.b40_at H

/-- After `n` trips the first `n` slabs hold their chunks' outputs. -/
theorem out_at (n : ℕ) (hn : n ≤ 32) (i : Fin 32) (hi : i.val < n) (r l : Fin 128) :
    ((it a0 a1 a2 a3 a4 a5 a6 a7 a8 a9 n).main_v112_10 : S32x32x4x128x128.Idx → EReal) (ix5 i B h r l)
      = ((strm a0 a1 a2 a3 B h).chunk i).out fwd ((strm a0 a1 a2 a3 B h).mem (mem0 a4 a5 a6 a7 a8 a9 B h) i) r l := by
  induction n with
  | zero => exact absurd hi (Nat.not_lt_zero _)
  | succ n ih =>
    unfold it
    rw [step_main_v112_10]
    unfold b113
    refine (upd5 _ _ n (by omega) _ (Trip.word_of n (by omega)) rfl rfl rfl rfl _ i B h r l).trans ?_
    by_cases e : i.val = n
    · rw [if_pos e]
      have H := holds_of a0 a1 a2 a3 a4 a5 a6 a7 a8 a9 B h n (by omega) _ (remembers a0 a1 a2 a3 a4 a5 a6 a7 a8 a9 B h n (by omega))
      rw [e]
      refine Eq.trans ?_ (Trip.b107_at H r l)
      unfold b108
      pointwise
    · rw [if_neg e]
      exact ih (by omega) (by omega)

end Heads

theorem strm_lo (b : Fin 16) (h : Fin 4) : strm a0 a1 a2 a3 (lo b) h = stream a0 a1 a2 a3 b h 0 1 := dif_pos b.isLt

theorem mem0_lo (b : Fin 16) (h : Fin 4) : mem0 a4 a5 a6 a7 a8 a9 (lo b) h = begin a4 a5 a6 b h := dif_pos b.isLt

theorem hi_sub (b : Fin 16) : (⟨(hi b).val - 16, by have := (hi b).isLt; omega⟩ : Fin 16) = b := Fin.ext (by show 16 + b.val - 16 = b.val; omega)

theorem strm_hi (b : Fin 16) (h : Fin 4) : strm a0 a1 a2 a3 (hi b) h = (stream a0 a1 a2 a3 b h 2 3).rev := by
  unfold strm
  rw [dif_neg (by show ¬ 16 + b.val < 16; omega), hi_sub]

theorem mem0_hi (b : Fin 16) (h : Fin 4) : mem0 a4 a5 a6 a7 a8 a9 (hi b) h = begin a7 a8 a9 b h := by
  unfold mem0
  rw [dif_neg (by show ¬ 16 + b.val < 16; omega), hi_sub]

/-- Element by element, the plain form's result is the specification's. -/
theorem res_at (b : Fin 16) (t : Fin 4096) (h : Fin 4) (l : Fin 128) :
    (R_main_v130 (F := Ideal) (it a0 a1 a2 a3 a4 a5 a6 a7 a8 a9 32) a0 : S16x4096x512.Idx → EReal) (ix3 b t ⟨128 * h + l, by omega⟩) = mixed a0 a1 a2 a3 a4 a5 a6 a7 a8 a9 b t h l := by
  unfold R_main_v130
  refine (behind a0 _ b t h l).trans ?_
  unfold mixed Stream.out
  rw [back4, back4, out_at a0 a1 a2 a3 a4 a5 a6 a7 a8 a9 (lo b) h 32 (le_refl _) _ (by show t.val / 128 < 32; omega), out_at a0 a1 a2 a3 a4 a5 a6 a7 a8 a9 (hi b) h 32 (le_refl _) _ (by show t.rev.val / 128 < 32; omega),
    strm_lo, strm_hi, mem0_lo, mem0_hi]

/-- The plain form's result as an array. -/
theorem res_eq : (R_main_v130 (F := Ideal) (it a0 a1 a2 a3 a4 a5 a6 a7 a8 a9 32) a0 : S16x4096x512.Idx → EReal) = fun i : S16x4096x512.Idx =>
    mixed a0 a1 a2 a3 a4 a5 a6 a7 a8 a9 (i 0) (i 1) ⟨(i 2).val / 128, by have : (i 2).val < 512 := (i 2).isLt; omega⟩ ⟨(i 2).val % 128, by omega⟩ := by
  funext i
  idx_vars i
  have hi2 : i2.val < 512 := i2.isLt
  have e : i2 = (⟨128 * (⟨i2.val / 128, by omega⟩ : Fin 4).val + (⟨i2.val % 128, by omega⟩ : Fin 128).val, by show 128 * (i2.val / 128) + i2.val % 128 < 512; omega⟩ : Fin 512) :=
    Fin.ext (by show i2.val = 128 * (i2.val / 128) + i2.val % 128; omega)
  refine (congrArg (fun k => (R_main_v130 (F := Ideal) (it a0 a1 a2 a3 a4 a5 a6 a7 a8 a9 32) a0 : S16x4096x512.Idx → EReal) (ix3 i0 i1 k)) e).trans ?_
  exact res_at a0 a1 a2 a3 a4 a5 a6 a7 a8 a9 i0 i1 ⟨i2.val / 128, by omega⟩ ⟨i2.val % 128, by omega⟩

end Cert.MlstmRefIdeal.Inputs
-- ==== Proof.MlstmRefRun.lean ====
/- The run of the recurrence's reference, as its trips: what each of the 32 trips leaves is `Step.step` of what it finds, and the
   result is `Step.R_main_v130` of the last state. -/
module

public import proofs.«01_k».proof.Proof.Gen.MlstmRefIdeal.Run
public import proofs.«01_k».proof.Proof.Gen.MlstmRefIdeal.Step

@[expose] public section

noncomputable section

namespace Cert.MlstmRefIdeal.Trips

open Idealize.ShloMosaic Idealize.ShloMosaic.TcCoe Idealize.SL.Sem Idealize.ShloMosaic.StableHlo
open Cert.MlstmRefIdeal Cert.MlstmRefIdeal.Gen Cert.MlstmRefIdeal.Value
open Cert.MlstmRefIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v112_7) = s.main_v112_7
  f_8 : V0 (Proc.devRef .tc main_v112_8) = s.main_v112_8
  f_9 : V0 (Proc.devRef .tc main_v112_9) = s.main_v112_9
  f_10 : V0 (Proc.devRef .tc main_v112_10) = s.main_v112_10
  f_0 : V0 (Proc.devRef .tc main_v112_0) = s.main_v112_0
  f_1 : V0 (Proc.devRef .tc main_v112_1) = s.main_v112_1
  f_2 : V0 (Proc.devRef .tc main_v112_2) = s.main_v112_2
  f_3 : V0 (Proc.devRef .tc main_v112_3) = s.main_v112_3
  f_4 : V0 (Proc.devRef .tc main_v112_4) = s.main_v112_4
  n_6 : V0 (Proc.devRef .tc main_v112_6) = constantI S_ 32 (BitVec.ofNat 32 j)
  k_5 : V0 (Proc.devRef .tc main_v112_5) = Cert.MlstmRefIdeal.Step.K_main_v100 (F := F)

variable {V0 s j}

set_option maxRecDepth 8192 in
theorem al_0 (h : Holds V0 s j) : (constantI S_ 32 0#32 : (Proc.devRef .tc main_while0b_call11_c : DevRef τ sig).ty.Contents (Elt F)) = Cert.MlstmRefIdeal.Step.b0 j s := by
  unfold Cert.MlstmRefIdeal.Step.b0
  rfl
set_option maxRecDepth 8192 in
theorem al_1 (h : Holds V0 s j) : (constantI S_ 32 0#32 : (Proc.devRef .tc main_while0b_call11_c_0 : DevRef τ sig).ty.Contents (Elt F)) = Cert.MlstmRefIdeal.Step.b1 j s := by
  unfold Cert.MlstmRefIdeal.Step.b1
  rfl
set_option maxRecDepth 8192 in
theorem al_2 (h : Holds V0 s j) : (constantI S_ 32 0#32 : (Proc.devRef .tc main_while0b_call11_c_1 : DevRef τ sig).ty.Contents (Elt F)) = Cert.MlstmRefIdeal.Step.b2 j s := by
  unfold Cert.MlstmRefIdeal.Step.b2
  rfl
set_option maxRecDepth 8192 in
theorem al_3 (h : Holds V0 s j) : (constantI S_ 32 0#32 : (Proc.devRef .tc main_while0b_call11_c_2 : DevRef τ sig).ty.Contents (Elt F)) = Cert.MlstmRefIdeal.Step.b3 j s := by
  unfold Cert.MlstmRefIdeal.Step.b3
  rfl
set_option maxRecDepth 8192 in
theorem al_4 (h : Holds V0 s j) : (Host.dynamicSlice S1x32x4x128x128 (V0 (Proc.devRef .tc main_v112_0)) (fun k => (((![V0 (Proc.devRef .tc main_v112_6), constantI S_ 32 0#32, constantI S_ 32 0#32, constantI S_ 32 0#32, constantI S_ 32 0#32] : Fin 5 → (⟨S_, .i32⟩ : BufTy).Contents (Elt F))) k (Shape.Idx.first h_S_)).toInt) sliceFits_S32x32x4x128x128_S1x32x4x128x128 : (Proc.devRef .tc main_while0b_call11_v0 : DevRef τ sig).ty.Contents (Elt F)) = Cert.MlstmRefIdeal.Step.b4 j s := by
  unfold Cert.MlstmRefIdeal.Step.b4
  rw [← al_0 h, ← al_1 h, ← al_2 h, ← al_3 h, h.f_0, h.n_6]
  try rfl
set_option maxRecDepth 8192 in
theorem al_5 (h : Holds V0 s j) : (res_main_while0b_v131 V0 : (Proc.devRef .tc main_while0b_v131 : DevRef τ sig).ty.Contents (Elt F)) = Cert.MlstmRefIdeal.Step.b5 j s := by
  unfold res_main_while0b_v131 Cert.MlstmRefIdeal.Step.b5
  rw [← al_4 h]
  try rfl
set_option maxRecDepth 8192 in
theorem al_6 (h : Holds V0 s j) : (constantI S_ 32 0#32 : (Proc.devRef .tc main_while0b_call12_c : DevRef τ sig).ty.Contents (Elt F)) = Cert.MlstmRefIdeal.Step.b6 j s := by
  unfold Cert.MlstmRefIdeal.Step.b6
  rfl
set_option maxRecDepth 8192 in
theorem al_7 (h : Holds V0 s j) : (constantI S_ 32 0#32 : (Proc.devRef .tc main_while0b_call12_c_0 : DevRef τ sig).ty.Contents (Elt F)) = Cert.MlstmRefIdeal.Step.b7 j s := by
  unfold Cert.MlstmRefIdeal.Step.b7
  rfl
set_option maxRecDepth 8192 in
theorem al_8 (h : Holds V0 s j) : (constantI S_ 32 0#32 : (Proc.devRef .tc main_while0b_call12_c_1 : DevRef τ sig).ty.Contents (Elt F)) = Cert.MlstmRefIdeal.Step.b8 j s := by
  unfold Cert.MlstmRefIdeal.Step.b8
  rfl
set_option maxRecDepth 8192 in
theorem al_9 (h : Holds V0 s j) : (constantI S_ 32 0#32 : (Proc.devRef .tc main_while0b_call12_c_2 : DevRef τ sig).ty.Contents (Elt F)) = Cert.MlstmRefIdeal.Step.b9 j s := by
  unfold Cert.MlstmRefIdeal.Step.b9
  rfl
set_option maxRecDepth 8192 in
theorem al_10 (h : Holds V0 s j) : (Host.dynamicSlice S1x32x4x128x128 (V0 (Proc.devRef .tc main_v112_1)) (fun k => (((![V0 (Proc.devRef .tc main_v112_6), constantI S_ 32 0#32, constantI S_ 32 0#32, constantI S_ 32 0#32, constantI S_ 32 0#32] : Fin 5 → (⟨S_, .i32⟩ : BufTy).Contents (Elt F))) k (Shape.Idx.first h_S_)).toInt) sliceFits_S32x32x4x128x128_S1x32x4x128x128 : (Proc.devRef .tc main_while0b_call12_v0 : DevRef τ sig).ty.Contents (Elt F)) = Cert.MlstmRefIdeal.Step.b10 j s := by
  unfold Cert.MlstmRefIdeal.Step.b10
  rw [← al_6 h, ← al_7 h, ← al_8 h, ← al_9 h, h.f_1, h.n_6]
  try rfl
set_option maxRecDepth 8192 in
theorem al_11 (h : Holds V0 s j) : (res_main_while0b_v132 V0 : (Proc.devRef .tc main_while0b_v132 : DevRef τ sig).ty.Contents (Elt F)) = Cert.MlstmRefIdeal.Step.b11 j s := by
  unfold res_main_while0b_v132 Cert.MlstmRefIdeal.Step.b11
  rw [← al_10 h]
  try rfl
set_option maxRecDepth 8192 in
theorem al_12 (h : Holds V0 s j) : (constantI S_ 32 0#32 : (Proc.devRef .tc main_while0b_call13_c : DevRef τ sig).ty.Contents (Elt F)) = Cert.MlstmRefIdeal.Step.b12 j s := by
  unfold Cert.MlstmRefIdeal.Step.b12
  rfl
set_option maxRecDepth 8192 in
theorem al_13 (h : Holds V0 s j) : (constantI S_ 32 0#32 : (Proc.devRef .tc main_while0b_call13_c_0 : DevRef τ sig).ty.Contents (Elt F)) = Cert.MlstmRefIdeal.Step.b13 j s := by
  unfold Cert.MlstmRefIdeal.Step.b13
  rfl
set_option maxRecDepth 8192 in
theorem al_14 (h : Holds V0 s j) : (constantI S_ 32 0#32 : (Proc.devRef .tc main_while0b_call13_c_1 : DevRef τ sig).ty.Contents (Elt F)) = Cert.MlstmRefIdeal.Step.b14 j s := by
  unfold Cert.MlstmRefIdeal.Step.b14
  rfl
set_option maxRecDepth 8192 in
theorem al_15 (h : Holds V0 s j) : (Host.dynamicSlice S1x32x4x128 (V0 (Proc.devRef .tc main_v112_2)) (fun k => (((![V0 (Proc.devRef .tc main_v112_6), constantI S_ 32 0#32, constantI S_ 32 0#32, constantI S_ 32 0#32] : Fin 4 → (⟨S_, .i32⟩ : BufTy).Contents (Elt F))) k (Shape.Idx.first h_S_)).toInt) sliceFits_S32x32x4x128_S1x32x4x128 : (Proc.devRef .tc main_while0b_call13_v0 : DevRef τ sig).ty.Contents (Elt F)) = Cert.MlstmRefIdeal.Step.b15 j s := by
  unfold Cert.MlstmRefIdeal.Step.b15
  rw [← al_12 h, ← al_13 h, ← al_14 h, h.f_2, h.n_6]
  try rfl
set_option maxRecDepth 8192 in
theorem al_16 (h : Holds V0 s j) : (res_main_while0b_v133 V0 : (Proc.devRef .tc main_while0b_v133 : DevRef τ sig).ty.Contents (Elt F)) = Cert.MlstmRefIdeal.Step.b16 j s := by
  unfold res_main_while0b_v133 Cert.MlstmRefIdeal.Step.b16
  rw [← al_15 h]
  try rfl
set_option maxRecDepth 8192 in
theorem al_17 (h : Holds V0 s j) : (constantI S_ 32 0#32 : (Proc.devRef .tc main_while0b_call14_c : DevRef τ sig).ty.Contents (Elt F)) = Cert.MlstmRefIdeal.Step.b17 j s := by
  unfold Cert.MlstmRefIdeal.Step.b17
  rfl
set_option maxRecDepth 8192 in
theorem al_18 (h : Holds V0 s j) : (constantI S_ 32 0#32 : (Proc.devRef .tc main_while0b_call14_c_0 : DevRef τ sig).ty.Contents (Elt F)) = Cert.MlstmRefIdeal.Step.b18 j s := by
  unfold Cert.MlstmRefIdeal.Step.b18
  rfl
set_option maxRecDepth 8192 in
theorem al_19 (h : Holds V0 s j) : (constantI S_ 32 0#32 : (Proc.devRef .tc main_while0b_call14_c_1 : DevRef τ sig).ty.Contents (Elt F)) = Cert.MlstmRefIdeal.Step.b19 j s := by
  unfold Cert.MlstmRefIdeal.Step.b19
  rfl
set_option maxRecDepth 8192 in
theorem al_20 (h : Holds V0 s j) : (Host.dynamicSlice S1x32x4x128 (V0 (Proc.devRef .tc main_v112_3)) (fun k => (((![V0 (Proc.devRef .tc main_v112_6), constantI S_ 32 0#32, constantI S_ 32 0#32, constantI S_ 32 0#32] : Fin 4 → (⟨S_, .i32⟩ : BufTy).Contents (Elt F))) k (Shape.Idx.first h_S_)).toInt) sliceFits_S32x32x4x128_S1x32x4x128 : (Proc.devRef .tc main_while0b_call14_v0 : DevRef τ sig).ty.Contents (Elt F)) = Cert.MlstmRefIdeal.Step.b20 j s := by
  unfold Cert.MlstmRefIdeal.Step.b20
  rw [← al_17 h, ← al_18 h, ← al_19 h, h.f_3, h.n_6]
  try rfl
set_option maxRecDepth 8192 in
theorem al_21 (h : Holds V0 s j) : (shapeCast S32x4x128 (Host.dynamicSlice S1x32x4x128 (V0 (Proc.devRef .tc main_v112_3)) (fun k => (((![V0 (Proc.devRef .tc main_v112_6), constantI S_ 32 0#32, constantI S_ 32 0#32, constantI S_ 32 0#32] : Fin 4 → (⟨S_, .i32⟩ : BufTy).Contents (Elt F))) k (Shape.Idx.first h_S_)).toInt) sliceFits_S32x32x4x128_S1x32x4x128) shapeCasts_S1x32x4x128_S32x4x128 : (Proc.devRef .tc main_while0b_v134 : DevRef τ sig).ty.Contents (Elt F)) = Cert.MlstmRefIdeal.Step.b21 j s := by
  unfold Cert.MlstmRefIdeal.Step.b21
  rw [← al_20 h]
  try rfl
set_option maxRecDepth 8192 in
theorem al_22 (h : Holds V0 s j) : (constantI S_ 32 0#32 : (Proc.devRef .tc main_while0b_call15_c : DevRef τ sig).ty.Contents (Elt F)) = Cert.MlstmRefIdeal.Step.b22 j s := by
  unfold Cert.MlstmRefIdeal.Step.b22
  rfl
set_option maxRecDepth 8192 in
theorem al_23 (h : Holds V0 s j) : (constantI S_ 32 0#32 : (Proc.devRef .tc main_while0b_call15_c_0 : DevRef τ sig).ty.Contents (Elt F)) = Cert.MlstmRefIdeal.Step.b23 j s := by
  unfold Cert.MlstmRefIdeal.Step.b23
  rfl
set_option maxRecDepth 8192 in
theorem al_24 (h : Holds V0 s j) : (constantI S_ 32 0#32 : (Proc.devRef .tc main_while0b_call15_c_1 : DevRef τ sig).ty.Contents (Elt F)) = Cert.MlstmRefIdeal.Step.b24 j s := by
  unfold Cert.MlstmRefIdeal.Step.b24
  rfl
set_option maxRecDepth 8192 in
theorem al_25 (h : Holds V0 s j) : (constantI S_ 32 0#32 : (Proc.devRef .tc main_while0b_call15_c_2 : DevRef τ sig).ty.Contents (Elt F)) = Cert.MlstmRefIdeal.Step.b25 j s := by
  unfold Cert.MlstmRefIdeal.Step.b25
  rfl
set_option maxRecDepth 8192 in
theorem al_26 (h : Holds V0 s j) : (Host.dynamicSlice S1x32x4x128x128 (V0 (Proc.devRef .tc main_v112_4)) (fun k => (((![V0 (Proc.devRef .tc main_v112_6), constantI S_ 32 0#32, constantI S_ 32 0#32, constantI S_ 32 0#32, constantI S_ 32 0#32] : Fin 5 → (⟨S_, .i32⟩ : BufTy).Contents (Elt F))) k (Shape.Idx.first h_S_)).toInt) sliceFits_S32x32x4x128x128_S1x32x4x128x128 : (Proc.devRef .tc main_while0b_call15_v0 : DevRef τ sig).ty.Contents (Elt F)) = Cert.MlstmRefIdeal.Step.b26 j s := by
  unfold Cert.MlstmRefIdeal.Step.b26
  rw [← al_22 h, ← al_23 h, ← al_24 h, ← al_25 h, h.f_4, h.n_6]
  try rfl
set_option maxRecDepth 8192 in
theorem al_27 (h : Holds V0 s j) : (res_main_while0b_v135 V0 : (Proc.devRef .tc main_while0b_v135 : DevRef τ sig).ty.Contents (Elt F)) = Cert.MlstmRefIdeal.Step.b27 j s := by
  unfold res_main_while0b_v135 Cert.MlstmRefIdeal.Step.b27
  rw [← al_26 h]
  try rfl
set_option maxRecDepth 8192 in
theorem al_28 (h : Holds V0 s j) : (constant S_ .f32 0x00000000#32 : (Proc.devRef .tc main_while0b_call16_call0_cst : DevRef τ sig).ty.Contents (Elt F)) = Cert.MlstmRefIdeal.Step.b28 j s := by
  unfold Cert.MlstmRefIdeal.Step.b28
  rfl
set_option maxRecDepth 8192 in
theorem al_29 (h : Holds V0 s j) : (broadcastInDim S_ ![] bcast_S_S_ (constant S_ .f32 0x00000000#32) : (Proc.devRef .tc main_while0b_call16_call0_v0 : DevRef τ sig).ty.Contents (Elt F)) = Cert.MlstmRefIdeal.Step.b29 j s := by
  unfold Cert.MlstmRefIdeal.Step.b29
  rw [← al_28 h]
  try rfl
set_option maxRecDepth 8192 in
theorem al_30 (h : Holds V0 s j) : (res_main_while0b_v136 V0 : (Proc.devRef .tc main_while0b_v136 : DevRef τ sig).ty.Contents (Elt F)) = Cert.MlstmRefIdeal.Step.b30 j s := by
  unfold res_main_while0b_v136 Cert.MlstmRefIdeal.Step.b30
  rw [← al_21 h, ← al_29 h]
  try rfl
set_option maxRecDepth 8192 in
theorem al_31 (h : Holds V0 s j) : (extractStridedSlice S32x4x1 ![0, 0, 127] (res_main_while0b_v136 V0) slices_S32x4x128_S32x4x1_0_0_127 : (Proc.devRef .tc main_while0b_v137 : DevRef τ sig).ty.Contents (Elt F)) = Cert.MlstmRefIdeal.Step.b31 j s := by
  unfold Cert.MlstmRefIdeal.Step.b31
  rw [← al_30 h]
  try rfl
set_option maxRecDepth 8192 in
theorem al_32 (h : Holds V0 s j) : (broadcastInDim S32x4x128 ![0, 1, 2] bcast_S32x4x1_S32x4x128_0_1_2 (extractStridedSlice S32x4x1 ![0, 0, 127] (res_main_while0b_v136 V0) slices_S32x4x128_S32x4x1_0_0_127) : (Proc.devRef .tc main_while0b_v138 : DevRef τ sig).ty.Contents (Elt F)) = Cert.MlstmRefIdeal.Step.b32 j s := by
  unfold Cert.MlstmRefIdeal.Step.b32
  rw [← al_31 h]
  try rfl
set_option maxRecDepth 8192 in
theorem al_33 (h : Holds V0 s j) : (subf (broadcastInDim S32x4x128 ![0, 1, 2] bcast_S32x4x1_S32x4x128_0_1_2 (extractStridedSlice S32x4x1 ![0, 0, 127] (res_main_while0b_v136 V0) slices_S32x4x128_S32x4x1_0_0_127)) (res_main_while0b_v136 V0) : (Proc.devRef .tc main_while0b_v139 : DevRef τ sig).ty.Contents (Elt F)) = Cert.MlstmRefIdeal.Step.b33 j s := by
  unfold Cert.MlstmRefIdeal.Step.b33
  rw [← al_32 h, ← al_30 h]
  try rfl
set_option maxRecDepth 8192 in
theorem al_34 (h : Holds V0 s j) : (res_main_while0b_v140 V0 : (Proc.devRef .tc main_while0b_v140 : DevRef τ sig).ty.Contents (Elt F)) = Cert.MlstmRefIdeal.Step.b34 j s := by
  unfold res_main_while0b_v140 Cert.MlstmRefIdeal.Step.b34
  rw [← al_33 h, ← al_16 h]
  try rfl
set_option maxRecDepth 8192 in
theorem al_35 (h : Holds V0 s j) : (extractStridedSlice S32x4x1 ![0, 0, 127] (res_main_while0b_v136 V0) slices_S32x4x128_S32x4x1_0_0_127 : (Proc.devRef .tc main_while0b_v141 : DevRef τ sig).ty.Contents (Elt F)) = Cert.MlstmRefIdeal.Step.b35 j s := by
  unfold Cert.MlstmRefIdeal.Step.b35
  rw [← al_30 h]
  try rfl
set_option maxRecDepth 8192 in
theorem al_36 (h : Holds V0 s j) : (shapeCast S32x4 (extractStridedSlice S32x4x1 ![0, 0, 127] (res_main_while0b_v136 V0) slices_S32x4x128_S32x4x1_0_0_127) shapeCasts_S32x4x1_S32x4 : (Proc.devRef .tc main_while0b_v142 : DevRef τ sig).ty.Contents (Elt F)) = Cert.MlstmRefIdeal.Step.b36 j s := by
  unfold Cert.MlstmRefIdeal.Step.b36
  rw [← al_35 h]
  try rfl
set_option maxRecDepth 8192 in
theorem al_37 (h : Holds V0 s j) : (addf (shapeCast S32x4 (extractStridedSlice S32x4x1 ![0, 0, 127] (res_main_while0b_v136 V0) slices_S32x4x128_S32x4x1_0_0_127) shapeCasts_S32x4x1_S32x4) (V0 (Proc.devRef .tc main_v112_9)) : (Proc.devRef .tc main_while0b_v143 : DevRef τ sig).ty.Contents (Elt F)) = Cert.MlstmRefIdeal.Step.b37 j s := by
  unfold Cert.MlstmRefIdeal.Step.b37
  rw [← al_36 h, h.f_9]
  try rfl
set_option maxRecDepth 8192 in
theorem al_38 (h : Holds V0 s j) : (constant S_ .f32 0xFF800000#32 : (Proc.devRef .tc main_while0b_cst_18 : DevRef τ sig).ty.Contents (Elt F)) = Cert.MlstmRefIdeal.Step.b38 j s := by
  unfold Cert.MlstmRefIdeal.Step.b38
  rfl
set_option maxRecDepth 8192 in
theorem al_39 (h : Holds V0 s j) : (Host.reduce FloatOps.maximumf (res_main_while0b_v140 V0) (constant S_ .f32 0xFF800000#32) reducesTo_S32x4x128_S32x4_d2 h_S_ : (Proc.devRef .tc main_while0b_v144 : DevRef τ sig).ty.Contents (Elt F)) = Cert.MlstmRefIdeal.Step.b39 j s := by
  unfold Cert.MlstmRefIdeal.Step.b39
  rw [← al_34 h, ← al_38 h]
  try rfl
set_option maxRecDepth 8192 in
theorem al_40 (h : Holds V0 s j) : (res_main_while0b_v145 V0 : (Proc.devRef .tc main_while0b_v145 : DevRef τ sig).ty.Contents (Elt F)) = Cert.MlstmRefIdeal.Step.b40 j s := by
  unfold res_main_while0b_v145 Cert.MlstmRefIdeal.Step.b40
  rw [← al_37 h, ← al_39 h]
  try rfl
set_option maxRecDepth 8192 in
theorem al_41 (h : Holds V0 s j) : (extractStridedSlice S32x4x1 ![0, 0, 127] (res_main_while0b_v136 V0) slices_S32x4x128_S32x4x1_0_0_127 : (Proc.devRef .tc main_while0b_v146 : DevRef τ sig).ty.Contents (Elt F)) = Cert.MlstmRefIdeal.Step.b41 j s := by
  unfold Cert.MlstmRefIdeal.Step.b41
  rw [← al_30 h]
  try rfl
set_option maxRecDepth 8192 in
theorem al_42 (h : Holds V0 s j) : (shapeCast S32x4 (extractStridedSlice S32x4x1 ![0, 0, 127] (res_main_while0b_v136 V0) slices_S32x4x128_S32x4x1_0_0_127) shapeCasts_S32x4x1_S32x4 : (Proc.devRef .tc main_while0b_v147 : DevRef τ sig).ty.Contents (Elt F)) = Cert.MlstmRefIdeal.Step.b42 j s := by
  unfold Cert.MlstmRefIdeal.Step.b42
  rw [← al_41 h]
  try rfl
set_option maxRecDepth 8192 in
theorem al_43 (h : Holds V0 s j) : (addf (shapeCast S32x4 (extractStridedSlice S32x4x1 ![0, 0, 127] (res_main_while0b_v136 V0) slices_S32x4x128_S32x4x1_0_0_127) shapeCasts_S32x4x1_S32x4) (V0 (Proc.devRef .tc main_v112_9)) : (Proc.devRef .tc main_while0b_v148 : DevRef τ sig).ty.Contents (Elt F)) = Cert.MlstmRefIdeal.Step.b43 j s := by
  unfold Cert.MlstmRefIdeal.Step.b43
  rw [← al_42 h, h.f_9]
  try rfl
set_option maxRecDepth 8192 in
theorem al_44 (h : Holds V0 s j) : (subf (addf (shapeCast S32x4 (extractStridedSlice S32x4x1 ![0, 0, 127] (res_main_while0b_v136 V0) slices_S32x4x128_S32x4x1_0_0_127) shapeCasts_S32x4x1_S32x4) (V0 (Proc.devRef .tc main_v112_9))) (res_main_while0b_v145 V0) : (Proc.devRef .tc main_while0b_v149 : DevRef τ sig).ty.Contents (Elt F)) = Cert.MlstmRefIdeal.Step.b44 j s := by
  unfold Cert.MlstmRefIdeal.Step.b44
  rw [← al_43 h, ← al_40 h]
  try rfl
set_option maxRecDepth 8192 in
theorem al_45 (h : Holds V0 s j) : (res_main_while0b_v150 V0 : (Proc.devRef .tc main_while0b_v150 : DevRef τ sig).ty.Contents (Elt F)) = Cert.MlstmRefIdeal.Step.b45 j s := by
  unfold res_main_while0b_v150 Cert.MlstmRefIdeal.Step.b45
  rw [← al_44 h]
  try rfl
set_option maxRecDepth 8192 in
theorem al_46 (h : Holds V0 s j) : (broadcastInDim S32x4x1 ![0, 1] bcast_S32x4_S32x4x1_0_1 (res_main_while0b_v145 V0) : (Proc.devRef .tc main_while0b_v151 : DevRef τ sig).ty.Contents (Elt F)) = Cert.MlstmRefIdeal.Step.b46 j s := by
  unfold Cert.MlstmRefIdeal.Step.b46
  rw [← al_40 h]
  try rfl
set_option maxRecDepth 8192 in
theorem al_47 (h : Holds V0 s j) : (broadcastInDim S32x4x128 ![0, 1, 2] bcast_S32x4x1_S32x4x128_0_1_2 (broadcastInDim S32x4x1 ![0, 1] bcast_S32x4_S32x4x1_0_1 (res_main_while0b_v145 V0)) : (Proc.devRef .tc main_while0b_v152 : DevRef τ sig).ty.Contents (Elt F)) = Cert.MlstmRefIdeal.Step.b47 j s := by
  unfold Cert.MlstmRefIdeal.Step.b47
  rw [← al_46 h]
  try rfl
set_option maxRecDepth 8192 in
theorem al_48 (h : Holds V0 s j) : (subf (res_main_while0b_v140 V0) (broadcastInDim S32x4x128 ![0, 1, 2] bcast_S32x4x1_S32x4x128_0_1_2 (broadcastInDim S32x4x1 ![0, 1] bcast_S32x4_S32x4x1_0_1 (res_main_while0b_v145 V0))) : (Proc.devRef .tc main_while0b_v153 : DevRef τ sig).ty.Contents (Elt F)) = Cert.MlstmRefIdeal.Step.b48 j s := by
  unfold Cert.MlstmRefIdeal.Step.b48
  rw [← al_34 h, ← al_47 h]
  try rfl
set_option maxRecDepth 8192 in
theorem al_49 (h : Holds V0 s j) : (res_main_while0b_v154 V0 : (Proc.devRef .tc main_while0b_v154 : DevRef τ sig).ty.Contents (Elt F)) = Cert.MlstmRefIdeal.Step.b49 j s := by
  unfold res_main_while0b_v154 Cert.MlstmRefIdeal.Step.b49
  rw [← al_48 h]
  try rfl
set_option maxRecDepth 8192 in
theorem al_50 (h : Holds V0 s j) : (broadcastInDim S32x4x1x1 ![0, 1] bcast_S32x4_S32x4x1x1_0_1 (res_main_while0b_v150 V0) : (Proc.devRef .tc main_while0b_v155 : DevRef τ sig).ty.Contents (Elt F)) = Cert.MlstmRefIdeal.Step.b50 j s := by
  unfold Cert.MlstmRefIdeal.Step.b50
  rw [← al_45 h]
  try rfl
set_option maxRecDepth 8192 in
theorem al_51 (h : Holds V0 s j) : (broadcastInDim S32x4x128x128 ![0, 1, 2, 3] bcast_S32x4x1x1_S32x4x128x128_0_1_2_3 (broadcastInDim S32x4x1x1 ![0, 1] bcast_S32x4_S32x4x1x1_0_1 (res_main_while0b_v150 V0)) : (Proc.devRef .tc main_while0b_v156 : DevRef τ sig).ty.Contents (Elt F)) = Cert.MlstmRefIdeal.Step.b51 j s := by
  unfold Cert.MlstmRefIdeal.Step.b51
  rw [← al_50 h]
  try rfl
set_option maxRecDepth 8192 in
theorem al_52 (h : Holds V0 s j) : (mulf (broadcastInDim S32x4x128x128 ![0, 1, 2, 3] bcast_S32x4x1x1_S32x4x128x128_0_1_2_3 (broadcastInDim S32x4x1x1 ![0, 1] bcast_S32x4_S32x4x1x1_0_1 (res_main_while0b_v150 V0))) (V0 (Proc.devRef .tc main_v112_7)) : (Proc.devRef .tc main_while0b_v157 : DevRef τ sig).ty.Contents (Elt F)) = Cert.MlstmRefIdeal.Step.b52 j s := by
  unfold Cert.MlstmRefIdeal.Step.b52
  rw [← al_51 h, h.f_7]
  try rfl
set_option maxRecDepth 8192 in
theorem al_53 (h : Holds V0 s j) : (broadcastInDim S32x4x128x1 ![0, 1, 2] bcast_S32x4x128_S32x4x128x1_0_1_2 (res_main_while0b_v154 V0) : (Proc.devRef .tc main_while0b_v158 : DevRef τ sig).ty.Contents (Elt F)) = Cert.MlstmRefIdeal.Step.b53 j s := by
  unfold Cert.MlstmRefIdeal.Step.b53
  rw [← al_49 h]
  try rfl
set_option maxRecDepth 8192 in
theorem al_54 (h : Holds V0 s j) : (broadcastInDim S32x4x128x128 ![0, 1, 2, 3] bcast_S32x4x128x1_S32x4x128x128_0_1_2_3 (broadcastInDim S32x4x128x1 ![0, 1, 2] bcast_S32x4x128_S32x4x128x1_0_1_2 (res_main_while0b_v154 V0)) : (Proc.devRef .tc main_while0b_v159 : DevRef τ sig).ty.Contents (Elt F)) = Cert.MlstmRefIdeal.Step.b54 j s := by
  unfold Cert.MlstmRefIdeal.Step.b54
  rw [← al_53 h]
  try rfl
set_option maxRecDepth 8192 in
theorem al_55 (h : Holds V0 s j) : (mulf (broadcastInDim S32x4x128x128 ![0, 1, 2, 3] bcast_S32x4x128x1_S32x4x128x128_0_1_2_3 (broadcastInDim S32x4x128x1 ![0, 1, 2] bcast_S32x4x128_S32x4x128x1_0_1_2 (res_main_while0b_v154 V0))) (res_main_while0b_v131 V0) : (Proc.devRef .tc main_while0b_v160 : DevRef τ sig).ty.Contents (Elt F)) = Cert.MlstmRefIdeal.Step.b55 j s := by
  unfold Cert.MlstmRefIdeal.Step.b55
  rw [← al_54 h, ← al_5 h]
  try rfl
set_option maxRecDepth 8192 in
theorem al_56 (h : Holds V0 s j) : (Host.dotGeneral dot_S32x4x128x128_S32x4x128x128_S32x4x128x128_2_2_3_3_01_01 none (mulf (broadcastInDim S32x4x128x128 ![0, 1, 2, 3] bcast_S32x4x128x1_S32x4x128x128_0_1_2_3 (broadcastInDim S32x4x128x1 ![0, 1, 2] bcast_S32x4x128_S32x4x128x1_0_1_2 (res_main_while0b_v154 V0))) (res_main_while0b_v131 V0)) (res_main_while0b_v132 V0) : (Proc.devRef .tc main_while0b_v161 : DevRef τ sig).ty.Contents (Elt F)) = Cert.MlstmRefIdeal.Step.b56 j s := by
  unfold Cert.MlstmRefIdeal.Step.b56
  rw [← al_55 h, ← al_11 h]
  try rfl
set_option maxRecDepth 8192 in
theorem al_57 (h : Holds V0 s j) : (addf (mulf (broadcastInDim S32x4x128x128 ![0, 1, 2, 3] bcast_S32x4x1x1_S32x4x128x128_0_1_2_3 (broadcastInDim S32x4x1x1 ![0, 1] bcast_S32x4_S32x4x1x1_0_1 (res_main_while0b_v150 V0))) (V0 (Proc.devRef .tc main_v112_7))) (Host.dotGeneral dot_S32x4x128x128_S32x4x128x128_S32x4x128x128_2_2_3_3_01_01 none (mulf (broadcastInDim S32x4x128x128 ![0, 1, 2, 3] bcast_S32x4x128x1_S32x4x128x128_0_1_2_3 (broadcastInDim S32x4x128x1 ![0, 1, 2] bcast_S32x4x128_S32x4x128x1_0_1_2 (res_main_while0b_v154 V0))) (res_main_while0b_v131 V0)) (res_main_while0b_v132 V0)) : (Proc.devRef .tc main_while0b_v162 : DevRef τ sig).ty.Contents (Elt F)) = Cert.MlstmRefIdeal.Step.b57 j s := by
  unfold Cert.MlstmRefIdeal.Step.b57
  rw [← al_52 h, ← al_56 h]
  try rfl
set_option maxRecDepth 8192 in
theorem al_58 (h : Holds V0 s j) : (broadcastInDim S32x4x1 ![0, 1] bcast_S32x4_S32x4x1_0_1 (res_main_while0b_v150 V0) : (Proc.devRef .tc main_while0b_v163 : DevRef τ sig).ty.Contents (Elt F)) = Cert.MlstmRefIdeal.Step.b58 j s := by
  unfold Cert.MlstmRefIdeal.Step.b58
  rw [← al_45 h]
  try rfl
set_option maxRecDepth 8192 in
theorem al_59 (h : Holds V0 s j) : (broadcastInDim S32x4x128 ![0, 1, 2] bcast_S32x4x1_S32x4x128_0_1_2 (broadcastInDim S32x4x1 ![0, 1] bcast_S32x4_S32x4x1_0_1 (res_main_while0b_v150 V0)) : (Proc.devRef .tc main_while0b_v164 : DevRef τ sig).ty.Contents (Elt F)) = Cert.MlstmRefIdeal.Step.b59 j s := by
  unfold Cert.MlstmRefIdeal.Step.b59
  rw [← al_58 h]
  try rfl
set_option maxRecDepth 8192 in
theorem al_60 (h : Holds V0 s j) : (mulf (broadcastInDim S32x4x128 ![0, 1, 2] bcast_S32x4x1_S32x4x128_0_1_2 (broadcastInDim S32x4x1 ![0, 1] bcast_S32x4_S32x4x1_0_1 (res_main_while0b_v150 V0))) (V0 (Proc.devRef .tc main_v112_8)) : (Proc.devRef .tc main_while0b_v165 : DevRef τ sig).ty.Contents (Elt F)) = Cert.MlstmRefIdeal.Step.b60 j s := by
  unfold Cert.MlstmRefIdeal.Step.b60
  rw [← al_59 h, h.f_8]
  try rfl
set_option maxRecDepth 8192 in
theorem al_61 (h : Holds V0 s j) : (Host.dotGeneral dot_S32x4x128_S32x4x128x128_S32x4x128_2_2_n_3_01_01 none (res_main_while0b_v154 V0) (res_main_while0b_v131 V0) : (Proc.devRef .tc main_while0b_v166 : DevRef τ sig).ty.Contents (Elt F)) = Cert.MlstmRefIdeal.Step.b61 j s := by
  unfold Cert.MlstmRefIdeal.Step.b61
  rw [← al_49 h, ← al_5 h]
  try rfl
set_option maxRecDepth 8192 in
theorem al_62 (h : Holds V0 s j) : (addf (mulf (broadcastInDim S32x4x128 ![0, 1, 2] bcast_S32x4x1_S32x4x128_0_1_2 (broadcastInDim S32x4x1 ![0, 1] bcast_S32x4_S32x4x1_0_1 (res_main_while0b_v150 V0))) (V0 (Proc.devRef .tc main_v112_8))) (Host.dotGeneral dot_S32x4x128_S32x4x128x128_S32x4x128_2_2_n_3_01_01 none (res_main_while0b_v154 V0) (res_main_while0b_v131 V0)) : (Proc.devRef .tc main_while0b_v167 : DevRef τ sig).ty.Contents (Elt F)) = Cert.MlstmRefIdeal.Step.b62 j s := by
  unfold Cert.MlstmRefIdeal.Step.b62
  rw [← al_60 h, ← al_61 h]
  try rfl
set_option maxRecDepth 8192 in
theorem al_63 (h : Holds V0 s j) : (broadcastInDim S32x4x128x1 ![0, 1, 2] bcast_S32x4x128_S32x4x128x1_0_1_2 (res_main_while0b_v136 V0) : (Proc.devRef .tc main_while0b_v168 : DevRef τ sig).ty.Contents (Elt F)) = Cert.MlstmRefIdeal.Step.b63 j s := by
  unfold Cert.MlstmRefIdeal.Step.b63
  rw [← al_30 h]
  try rfl
set_option maxRecDepth 8192 in
theorem al_64 (h : Holds V0 s j) : (broadcastInDim S32x4x1x128 ![0, 1, 3] bcast_S32x4x128_S32x4x1x128_0_1_3 (res_main_while0b_v136 V0) : (Proc.devRef .tc main_while0b_v169 : DevRef τ sig).ty.Contents (Elt F)) = Cert.MlstmRefIdeal.Step.b64 j s := by
  unfold Cert.MlstmRefIdeal.Step.b64
  rw [← al_30 h]
  try rfl
set_option maxRecDepth 8192 in
theorem al_65 (h : Holds V0 s j) : (broadcastInDim S32x4x128x128 ![0, 1, 2, 3] bcast_S32x4x128x1_S32x4x128x128_0_1_2_3 (broadcastInDim S32x4x128x1 ![0, 1, 2] bcast_S32x4x128_S32x4x128x1_0_1_2 (res_main_while0b_v136 V0)) : (Proc.devRef .tc main_while0b_v170 : DevRef τ sig).ty.Contents (Elt F)) = Cert.MlstmRefIdeal.Step.b65 j s := by
  unfold Cert.MlstmRefIdeal.Step.b65
  rw [← al_63 h]
  try rfl
set_option maxRecDepth 8192 in
theorem al_66 (h : Holds V0 s j) : (broadcastInDim S32x4x128x128 ![0, 1, 2, 3] bcast_S32x4x1x128_S32x4x128x128_0_1_2_3 (broadcastInDim S32x4x1x128 ![0, 1, 3] bcast_S32x4x128_S32x4x1x128_0_1_3 (res_main_while0b_v136 V0)) : (Proc.devRef .tc main_while0b_v171 : DevRef τ sig).ty.Contents (Elt F)) = Cert.MlstmRefIdeal.Step.b66 j s := by
  unfold Cert.MlstmRefIdeal.Step.b66
  rw [← al_64 h]
  try rfl
set_option maxRecDepth 8192 in
theorem al_67 (h : Holds V0 s j) : (subf (broadcastInDim S32x4x128x128 ![0, 1, 2, 3] bcast_S32x4x128x1_S32x4x128x128_0_1_2_3 (broadcastInDim S32x4x128x1 ![0, 1, 2] bcast_S32x4x128_S32x4x128x1_0_1_2 (res_main_while0b_v136 V0))) (broadcastInDim S32x4x128x128 ![0, 1, 2, 3] bcast_S32x4x1x128_S32x4x128x128_0_1_2_3 (broadcastInDim S32x4x1x128 ![0, 1, 3] bcast_S32x4x128_S32x4x1x128_0_1_3 (res_main_while0b_v136 V0))) : (Proc.devRef .tc main_while0b_v172 : DevRef τ sig).ty.Contents (Elt F)) = Cert.MlstmRefIdeal.Step.b67 j s := by
  unfold Cert.MlstmRefIdeal.Step.b67
  rw [← al_65 h, ← al_66 h]
  try rfl
set_option maxRecDepth 8192 in
theorem al_68 (h : Holds V0 s j) : (broadcastInDim S32x4x1x128 ![0, 1, 3] bcast_S32x4x128_S32x4x1x128_0_1_3 (res_main_while0b_v133 V0) : (Proc.devRef .tc main_while0b_v173 : DevRef τ sig).ty.Contents (Elt F)) = Cert.MlstmRefIdeal.Step.b68 j s := by
  unfold Cert.MlstmRefIdeal.Step.b68
  rw [← al_16 h]
  try rfl
set_option maxRecDepth 8192 in
theorem al_69 (h : Holds V0 s j) : (broadcastInDim S32x4x128x128 ![0, 1, 2, 3] bcast_S32x4x1x128_S32x4x128x128_0_1_2_3 (broadcastInDim S32x4x1x128 ![0, 1, 3] bcast_S32x4x128_S32x4x1x128_0_1_3 (res_main_while0b_v133 V0)) : (Proc.devRef .tc main_while0b_v174 : DevRef τ sig).ty.Contents (Elt F)) = Cert.MlstmRefIdeal.Step.b69 j s := by
  unfold Cert.MlstmRefIdeal.Step.b69
  rw [← al_68 h]
  try rfl
set_option maxRecDepth 8192 in
theorem al_70 (h : Holds V0 s j) : (addf (subf (broadcastInDim S32x4x128x128 ![0, 1, 2, 3] bcast_S32x4x128x1_S32x4x128x128_0_1_2_3 (broadcastInDim S32x4x128x1 ![0, 1, 2] bcast_S32x4x128_S32x4x128x1_0_1_2 (res_main_while0b_v136 V0))) (broadcastInDim S32x4x128x128 ![0, 1, 2, 3] bcast_S32x4x1x128_S32x4x128x128_0_1_2_3 (broadcastInDim S32x4x1x128 ![0, 1, 3] bcast_S32x4x128_S32x4x1x128_0_1_3 (res_main_while0b_v136 V0)))) (broadcastInDim S32x4x128x128 ![0, 1, 2, 3] bcast_S32x4x1x128_S32x4x128x128_0_1_2_3 (broadcastInDim S32x4x1x128 ![0, 1, 3] bcast_S32x4x128_S32x4x1x128_0_1_3 (res_main_while0b_v133 V0))) : (Proc.devRef .tc main_while0b_v175 : DevRef τ sig).ty.Contents (Elt F)) = Cert.MlstmRefIdeal.Step.b70 j s := by
  unfold Cert.MlstmRefIdeal.Step.b70
  rw [← al_67 h, ← al_69 h]
  try rfl
set_option maxRecDepth 8192 in
theorem al_71 (h : Holds V0 s j) : (constant S_ .f32 0xFF800000#32 : (Proc.devRef .tc main_while0b_cst_19 : DevRef τ sig).ty.Contents (Elt F)) = Cert.MlstmRefIdeal.Step.b71 j s := by
  unfold Cert.MlstmRefIdeal.Step.b71
  rfl
set_option maxRecDepth 8192 in
theorem al_72 (h : Holds V0 s j) : (id (constant S_ .f32 0xFF800000#32) : (Proc.devRef .tc main_while0b_call17_v0 : DevRef τ sig).ty.Contents (Elt F)) = Cert.MlstmRefIdeal.Step.b72 j s := by
  unfold Cert.MlstmRefIdeal.Step.b72
  rw [← al_71 h]
  try rfl
set_option maxRecDepth 8192 in
theorem al_73 (h : Holds V0 s j) : (broadcastInDim S32x4x128x128 ![2, 3] bcast_S128x128_S32x4x128x128_2_3 (V0 (Proc.devRef .tc main_v112_5)) : (Proc.devRef .tc main_while0b_call17_v1 : DevRef τ sig).ty.Contents (Elt F)) = Cert.MlstmRefIdeal.Step.b73 j s := by
  unfold Cert.MlstmRefIdeal.Step.b73
  rw [h.k_5]
  try rfl
set_option maxRecDepth 8192 in
theorem al_74 (h : Holds V0 s j) : (broadcastInDim S32x4x128x128 ![] bcast_S_S32x4x128x128 (id (constant S_ .f32 0xFF800000#32)) : (Proc.devRef .tc main_while0b_call17_v2 : DevRef τ sig).ty.Contents (Elt F)) = Cert.MlstmRefIdeal.Step.b74 j s := by
  unfold Cert.MlstmRefIdeal.Step.b74
  rw [← al_72 h]
  try rfl
set_option maxRecDepth 8192 in
theorem al_75 (h : Holds V0 s j) : (res_main_while0b_v176 V0 : (Proc.devRef .tc main_while0b_v176 : DevRef τ sig).ty.Contents (Elt F)) = Cert.MlstmRefIdeal.Step.b75 j s := by
  unfold res_main_while0b_v176 Cert.MlstmRefIdeal.Step.b75
  rw [← al_73 h, ← al_70 h, ← al_74 h]
  try rfl
set_option maxRecDepth 8192 in
theorem al_76 (h : Holds V0 s j) : (broadcastInDim S32x4x1 ![0, 1] bcast_S32x4_S32x4x1_0_1 (V0 (Proc.devRef .tc main_v112_9)) : (Proc.devRef .tc main_while0b_v177 : DevRef τ sig).ty.Contents (Elt F)) = Cert.MlstmRefIdeal.Step.b76 j s := by
  unfold Cert.MlstmRefIdeal.Step.b76
  rw [h.f_9]
  try rfl
set_option maxRecDepth 8192 in
theorem al_77 (h : Holds V0 s j) : (broadcastInDim S32x4x128 ![0, 1, 2] bcast_S32x4x1_S32x4x128_0_1_2 (broadcastInDim S32x4x1 ![0, 1] bcast_S32x4_S32x4x1_0_1 (V0 (Proc.devRef .tc main_v112_9))) : (Proc.devRef .tc main_while0b_v178 : DevRef τ sig).ty.Contents (Elt F)) = Cert.MlstmRefIdeal.Step.b77 j s := by
  unfold Cert.MlstmRefIdeal.Step.b77
  rw [← al_76 h]
  try rfl
set_option maxRecDepth 8192 in
theorem al_78 (h : Holds V0 s j) : (res_main_while0b_v179 V0 : (Proc.devRef .tc main_while0b_v179 : DevRef τ sig).ty.Contents (Elt F)) = Cert.MlstmRefIdeal.Step.b78 j s := by
  unfold res_main_while0b_v179 Cert.MlstmRefIdeal.Step.b78
  rw [← al_30 h, ← al_77 h]
  try rfl
set_option maxRecDepth 8192 in
theorem al_79 (h : Holds V0 s j) : (constant S_ .f32 0xFF800000#32 : (Proc.devRef .tc main_while0b_cst_20 : DevRef τ sig).ty.Contents (Elt F)) = Cert.MlstmRefIdeal.Step.b79 j s := by
  unfold Cert.MlstmRefIdeal.Step.b79
  rfl
set_option maxRecDepth 8192 in
theorem al_80 (h : Holds V0 s j) : (Host.reduce FloatOps.maximumf (res_main_while0b_v176 V0) (constant S_ .f32 0xFF800000#32) reducesTo_S32x4x128x128_S32x4x128_d3 h_S_ : (Proc.devRef .tc main_while0b_v180 : DevRef τ sig).ty.Contents (Elt F)) = Cert.MlstmRefIdeal.Step.b80 j s := by
  unfold Cert.MlstmRefIdeal.Step.b80
  rw [← al_75 h, ← al_79 h]
  try rfl
set_option maxRecDepth 8192 in
theorem al_81 (h : Holds V0 s j) : (res_main_while0b_v181 V0 : (Proc.devRef .tc main_while0b_v181 : DevRef τ sig).ty.Contents (Elt F)) = Cert.MlstmRefIdeal.Step.b81 j s := by
  unfold res_main_while0b_v181 Cert.MlstmRefIdeal.Step.b81
  rw [← al_78 h, ← al_80 h]
  try rfl
set_option maxRecDepth 8192 in
theorem al_82 (h : Holds V0 s j) : (subf (res_main_while0b_v179 V0) (res_main_while0b_v181 V0) : (Proc.devRef .tc main_while0b_v182 : DevRef τ sig).ty.Contents (Elt F)) = Cert.MlstmRefIdeal.Step.b82 j s := by
  unfold Cert.MlstmRefIdeal.Step.b82
  rw [← al_78 h, ← al_81 h]
  try rfl
set_option maxRecDepth 8192 in
theorem al_83 (h : Holds V0 s j) : (res_main_while0b_v183 V0 : (Proc.devRef .tc main_while0b_v183 : DevRef τ sig).ty.Contents (Elt F)) = Cert.MlstmRefIdeal.Step.b83 j s := by
  unfold res_main_while0b_v183 Cert.MlstmRefIdeal.Step.b83
  rw [← al_82 h]
  try rfl
set_option maxRecDepth 8192 in
theorem al_84 (h : Holds V0 s j) : (Host.dotGeneral dot_S32x4x128x128_S32x4x128x128_S32x4x128x128_3_3_2_2_01_01 none (res_main_while0b_v135 V0) (res_main_while0b_v131 V0) : (Proc.devRef .tc main_while0b_v184 : DevRef τ sig).ty.Contents (Elt F)) = Cert.MlstmRefIdeal.Step.b84 j s := by
  unfold Cert.MlstmRefIdeal.Step.b84
  rw [← al_27 h, ← al_5 h]
  try rfl
set_option maxRecDepth 8192 in
theorem al_85 (h : Holds V0 s j) : (broadcastInDim S32x4x128x1 ![0, 1, 2] bcast_S32x4x128_S32x4x128x1_0_1_2 (res_main_while0b_v181 V0) : (Proc.devRef .tc main_while0b_v185 : DevRef τ sig).ty.Contents (Elt F)) = Cert.MlstmRefIdeal.Step.b85 j s := by
  unfold Cert.MlstmRefIdeal.Step.b85
  rw [← al_81 h]
  try rfl
set_option maxRecDepth 8192 in
theorem al_86 (h : Holds V0 s j) : (broadcastInDim S32x4x128x128 ![0, 1, 2, 3] bcast_S32x4x128x1_S32x4x128x128_0_1_2_3 (broadcastInDim S32x4x128x1 ![0, 1, 2] bcast_S32x4x128_S32x4x128x1_0_1_2 (res_main_while0b_v181 V0)) : (Proc.devRef .tc main_while0b_v186 : DevRef τ sig).ty.Contents (Elt F)) = Cert.MlstmRefIdeal.Step.b86 j s := by
  unfold Cert.MlstmRefIdeal.Step.b86
  rw [← al_85 h]
  try rfl
set_option maxRecDepth 8192 in
theorem al_87 (h : Holds V0 s j) : (subf (res_main_while0b_v176 V0) (broadcastInDim S32x4x128x128 ![0, 1, 2, 3] bcast_S32x4x128x1_S32x4x128x128_0_1_2_3 (broadcastInDim S32x4x128x1 ![0, 1, 2] bcast_S32x4x128_S32x4x128x1_0_1_2 (res_main_while0b_v181 V0))) : (Proc.devRef .tc main_while0b_v187 : DevRef τ sig).ty.Contents (Elt F)) = Cert.MlstmRefIdeal.Step.b87 j s := by
  unfold Cert.MlstmRefIdeal.Step.b87
  rw [← al_75 h, ← al_86 h]
  try rfl
set_option maxRecDepth 8192 in
theorem al_88 (h : Holds V0 s j) : (Host.exp (subf (res_main_while0b_v176 V0) (broadcastInDim S32x4x128x128 ![0, 1, 2, 3] bcast_S32x4x128x1_S32x4x128x128_0_1_2_3 (broadcastInDim S32x4x128x1 ![0, 1, 2] bcast_S32x4x128_S32x4x128x1_0_1_2 (res_main_while0b_v181 V0)))) : (Proc.devRef .tc main_while0b_v188 : DevRef τ sig).ty.Contents (Elt F)) = Cert.MlstmRefIdeal.Step.b88 j s := by
  unfold Cert.MlstmRefIdeal.Step.b88
  rw [← al_87 h]
  try rfl
set_option maxRecDepth 8192 in
theorem al_89 (h : Holds V0 s j) : (res_main_while0b_v189 V0 : (Proc.devRef .tc main_while0b_v189 : DevRef τ sig).ty.Contents (Elt F)) = Cert.MlstmRefIdeal.Step.b89 j s := by
  unfold res_main_while0b_v189 Cert.MlstmRefIdeal.Step.b89
  rw [← al_84 h, ← al_88 h]
  try rfl
set_option maxRecDepth 8192 in
theorem al_90 (h : Holds V0 s j) : (broadcastInDim S32x4x128x1 ![0, 1, 2] bcast_S32x4x128_S32x4x128x1_0_1_2 (res_main_while0b_v183 V0) : (Proc.devRef .tc main_while0b_v190 : DevRef τ sig).ty.Contents (Elt F)) = Cert.MlstmRefIdeal.Step.b90 j s := by
  unfold Cert.MlstmRefIdeal.Step.b90
  rw [← al_83 h]
  try rfl
set_option maxRecDepth 8192 in
theorem al_91 (h : Holds V0 s j) : (Host.dotGeneral dot_S32x4x128x128_S32x4x128x128_S32x4x128x128_3_2_2_3_01_01 none (res_main_while0b_v135 V0) (V0 (Proc.devRef .tc main_v112_7)) : (Proc.devRef .tc main_while0b_v191 : DevRef τ sig).ty.Contents (Elt F)) = Cert.MlstmRefIdeal.Step.b91 j s := by
  unfold Cert.MlstmRefIdeal.Step.b91
  rw [← al_27 h, h.f_7]
  try rfl
set_option maxRecDepth 8192 in
theorem al_92 (h : Holds V0 s j) : (broadcastInDim S32x4x128x128 ![0, 1, 2, 3] bcast_S32x4x128x1_S32x4x128x128_0_1_2_3 (broadcastInDim S32x4x128x1 ![0, 1, 2] bcast_S32x4x128_S32x4x128x1_0_1_2 (res_main_while0b_v183 V0)) : (Proc.devRef .tc main_while0b_v192 : DevRef τ sig).ty.Contents (Elt F)) = Cert.MlstmRefIdeal.Step.b92 j s := by
  unfold Cert.MlstmRefIdeal.Step.b92
  rw [← al_90 h]
  try rfl
set_option maxRecDepth 8192 in
theorem al_93 (h : Holds V0 s j) : (mulf (broadcastInDim S32x4x128x128 ![0, 1, 2, 3] bcast_S32x4x128x1_S32x4x128x128_0_1_2_3 (broadcastInDim S32x4x128x1 ![0, 1, 2] bcast_S32x4x128_S32x4x128x1_0_1_2 (res_main_while0b_v183 V0))) (Host.dotGeneral dot_S32x4x128x128_S32x4x128x128_S32x4x128x128_3_2_2_3_01_01 none (res_main_while0b_v135 V0) (V0 (Proc.devRef .tc main_v112_7))) : (Proc.devRef .tc main_while0b_v193 : DevRef τ sig).ty.Contents (Elt F)) = Cert.MlstmRefIdeal.Step.b93 j s := by
  unfold Cert.MlstmRefIdeal.Step.b93
  rw [← al_92 h, ← al_91 h]
  try rfl
set_option maxRecDepth 8192 in
theorem al_94 (h : Holds V0 s j) : (Host.dotGeneral dot_S32x4x128x128_S32x4x128x128_S32x4x128x128_3_2_2_3_01_01 none (res_main_while0b_v189 V0) (res_main_while0b_v132 V0) : (Proc.devRef .tc main_while0b_v194 : DevRef τ sig).ty.Contents (Elt F)) = Cert.MlstmRefIdeal.Step.b94 j s := by
  unfold Cert.MlstmRefIdeal.Step.b94
  rw [← al_89 h, ← al_11 h]
  try rfl
set_option maxRecDepth 8192 in
theorem al_95 (h : Holds V0 s j) : (addf (mulf (broadcastInDim S32x4x128x128 ![0, 1, 2, 3] bcast_S32x4x128x1_S32x4x128x128_0_1_2_3 (broadcastInDim S32x4x128x1 ![0, 1, 2] bcast_S32x4x128_S32x4x128x1_0_1_2 (res_main_while0b_v183 V0))) (Host.dotGeneral dot_S32x4x128x128_S32x4x128x128_S32x4x128x128_3_2_2_3_01_01 none (res_main_while0b_v135 V0) (V0 (Proc.devRef .tc main_v112_7)))) (Host.dotGeneral dot_S32x4x128x128_S32x4x128x128_S32x4x128x128_3_2_2_3_01_01 none (res_main_while0b_v189 V0) (res_main_while0b_v132 V0)) : (Proc.devRef .tc main_while0b_v195 : DevRef τ sig).ty.Contents (Elt F)) = Cert.MlstmRefIdeal.Step.b95 j s := by
  unfold Cert.MlstmRefIdeal.Step.b95
  rw [← al_93 h, ← al_94 h]
  try rfl
set_option maxRecDepth 8192 in
theorem al_96 (h : Holds V0 s j) : (Host.dotGeneral dot_S32x4x128x128_S32x4x128_S32x4x128_3_2_2_n_01_01 none (res_main_while0b_v135 V0) (V0 (Proc.devRef .tc main_v112_8)) : (Proc.devRef .tc main_while0b_v196 : DevRef τ sig).ty.Contents (Elt F)) = Cert.MlstmRefIdeal.Step.b96 j s := by
  unfold Cert.MlstmRefIdeal.Step.b96
  rw [← al_27 h, h.f_8]
  try rfl
set_option maxRecDepth 8192 in
theorem al_97 (h : Holds V0 s j) : (mulf (res_main_while0b_v183 V0) (Host.dotGeneral dot_S32x4x128x128_S32x4x128_S32x4x128_3_2_2_n_01_01 none (res_main_while0b_v135 V0) (V0 (Proc.devRef .tc main_v112_8))) : (Proc.devRef .tc main_while0b_v197 : DevRef τ sig).ty.Contents (Elt F)) = Cert.MlstmRefIdeal.Step.b97 j s := by
  unfold Cert.MlstmRefIdeal.Step.b97
  rw [← al_83 h, ← al_96 h]
  try rfl
set_option maxRecDepth 8192 in
theorem al_98 (h : Holds V0 s j) : (constant S_ .f32 0x00000000#32 : (Proc.devRef .tc main_while0b_cst_21 : DevRef τ sig).ty.Contents (Elt F)) = Cert.MlstmRefIdeal.Step.b98 j s := by
  unfold Cert.MlstmRefIdeal.Step.b98
  rfl
set_option maxRecDepth 8192 in
theorem al_99 (h : Holds V0 s j) : (Host.reduceAdd (res_main_while0b_v189 V0) (constant S_ .f32 0x00000000#32) reducesTo_S32x4x128x128_S32x4x128_d3 h_S_ : (Proc.devRef .tc main_while0b_v198 : DevRef τ sig).ty.Contents (Elt F)) = Cert.MlstmRefIdeal.Step.b99 j s := by
  unfold Cert.MlstmRefIdeal.Step.b99
  rw [← al_89 h, ← al_98 h]
  try rfl
set_option maxRecDepth 8192 in
theorem al_100 (h : Holds V0 s j) : (addf (mulf (res_main_while0b_v183 V0) (Host.dotGeneral dot_S32x4x128x128_S32x4x128_S32x4x128_3_2_2_n_01_01 none (res_main_while0b_v135 V0) (V0 (Proc.devRef .tc main_v112_8)))) (Host.reduceAdd (res_main_while0b_v189 V0) (constant S_ .f32 0x00000000#32) reducesTo_S32x4x128x128_S32x4x128_d3 h_S_) : (Proc.devRef .tc main_while0b_v199 : DevRef τ sig).ty.Contents (Elt F)) = Cert.MlstmRefIdeal.Step.b100 j s := by
  unfold Cert.MlstmRefIdeal.Step.b100
  rw [← al_97 h, ← al_99 h]
  try rfl
set_option maxRecDepth 8192 in
theorem al_101 (h : Holds V0 s j) : (Host.absf (addf (mulf (res_main_while0b_v183 V0) (Host.dotGeneral dot_S32x4x128x128_S32x4x128_S32x4x128_3_2_2_n_01_01 none (res_main_while0b_v135 V0) (V0 (Proc.devRef .tc main_v112_8)))) (Host.reduceAdd (res_main_while0b_v189 V0) (constant S_ .f32 0x00000000#32) reducesTo_S32x4x128x128_S32x4x128_d3 h_S_)) : (Proc.devRef .tc main_while0b_v200 : DevRef τ sig).ty.Contents (Elt F)) = Cert.MlstmRefIdeal.Step.b101 j s := by
  unfold Cert.MlstmRefIdeal.Step.b101
  rw [← al_100 h]
  try rfl
set_option maxRecDepth 8192 in
theorem al_102 (h : Holds V0 s j) : (Host.negf (res_main_while0b_v181 V0) : (Proc.devRef .tc main_while0b_v201 : DevRef τ sig).ty.Contents (Elt F)) = Cert.MlstmRefIdeal.Step.b102 j s := by
  unfold Cert.MlstmRefIdeal.Step.b102
  rw [← al_81 h]
  try rfl
set_option maxRecDepth 8192 in
theorem al_103 (h : Holds V0 s j) : (Host.exp (Host.negf (res_main_while0b_v181 V0)) : (Proc.devRef .tc main_while0b_v202 : DevRef τ sig).ty.Contents (Elt F)) = Cert.MlstmRefIdeal.Step.b103 j s := by
  unfold Cert.MlstmRefIdeal.Step.b103
  rw [← al_102 h]
  try rfl
set_option maxRecDepth 8192 in
theorem al_104 (h : Holds V0 s j) : (maximumf (Host.absf (addf (mulf (res_main_while0b_v183 V0) (Host.dotGeneral dot_S32x4x128x128_S32x4x128_S32x4x128_3_2_2_n_01_01 none (res_main_while0b_v135 V0) (V0 (Proc.devRef .tc main_v112_8)))) (Host.reduceAdd (res_main_while0b_v189 V0) (constant S_ .f32 0x00000000#32) reducesTo_S32x4x128x128_S32x4x128_d3 h_S_))) (Host.exp (Host.negf (res_main_while0b_v181 V0))) : (Proc.devRef .tc main_while0b_v203 : DevRef τ sig).ty.Contents (Elt F)) = Cert.MlstmRefIdeal.Step.b104 j s := by
  unfold Cert.MlstmRefIdeal.Step.b104
  rw [← al_101 h, ← al_103 h]
  try rfl
set_option maxRecDepth 8192 in
theorem al_105 (h : Holds V0 s j) : (broadcastInDim S32x4x128x1 ![0, 1, 2] bcast_S32x4x128_S32x4x128x1_0_1_2 (maximumf (Host.absf (addf (mulf (res_main_while0b_v183 V0) (Host.dotGeneral dot_S32x4x128x128_S32x4x128_S32x4x128_3_2_2_n_01_01 none (res_main_while0b_v135 V0) (V0 (Proc.devRef .tc main_v112_8)))) (Host.reduceAdd (res_main_while0b_v189 V0) (constant S_ .f32 0x00000000#32) reducesTo_S32x4x128x128_S32x4x128_d3 h_S_))) (Host.exp (Host.negf (res_main_while0b_v181 V0)))) : (Proc.devRef .tc main_while0b_v204 : DevRef τ sig).ty.Contents (Elt F)) = Cert.MlstmRefIdeal.Step.b105 j s := by
  unfold Cert.MlstmRefIdeal.Step.b105
  rw [← al_104 h]
  try rfl
set_option maxRecDepth 8192 in
theorem al_106 (h : Holds V0 s j) : (broadcastInDim S32x4x128x128 ![0, 1, 2, 3] bcast_S32x4x128x1_S32x4x128x128_0_1_2_3 (broadcastInDim S32x4x128x1 ![0, 1, 2] bcast_S32x4x128_S32x4x128x1_0_1_2 (maximumf (Host.absf (addf (mulf (res_main_while0b_v183 V0) (Host.dotGeneral dot_S32x4x128x128_S32x4x128_S32x4x128_3_2_2_n_01_01 none (res_main_while0b_v135 V0) (V0 (Proc.devRef .tc main_v112_8)))) (Host.reduceAdd (res_main_while0b_v189 V0) (constant S_ .f32 0x00000000#32) reducesTo_S32x4x128x128_S32x4x128_d3 h_S_))) (Host.exp (Host.negf (res_main_while0b_v181 V0))))) : (Proc.devRef .tc main_while0b_v205 : DevRef τ sig).ty.Contents (Elt F)) = Cert.MlstmRefIdeal.Step.b106 j s := by
  unfold Cert.MlstmRefIdeal.Step.b106
  rw [← al_105 h]
  try rfl
set_option maxRecDepth 8192 in
theorem al_107 (h : Holds V0 s j) : (Host.divf (addf (mulf (broadcastInDim S32x4x128x128 ![0, 1, 2, 3] bcast_S32x4x128x1_S32x4x128x128_0_1_2_3 (broadcastInDim S32x4x128x1 ![0, 1, 2] bcast_S32x4x128_S32x4x128x1_0_1_2 (res_main_while0b_v183 V0))) (Host.dotGeneral dot_S32x4x128x128_S32x4x128x128_S32x4x128x128_3_2_2_3_01_01 none (res_main_while0b_v135 V0) (V0 (Proc.devRef .tc main_v112_7)))) (Host.dotGeneral dot_S32x4x128x128_S32x4x128x128_S32x4x128x128_3_2_2_3_01_01 none (res_main_while0b_v189 V0) (res_main_while0b_v132 V0))) (broadcastInDim S32x4x128x128 ![0, 1, 2, 3] bcast_S32x4x128x1_S32x4x128x128_0_1_2_3 (broadcastInDim S32x4x128x1 ![0, 1, 2] bcast_S32x4x128_S32x4x128x1_0_1_2 (maximumf (Host.absf (addf (mulf (res_main_while0b_v183 V0) (Host.dotGeneral dot_S32x4x128x128_S32x4x128_S32x4x128_3_2_2_n_01_01 none (res_main_while0b_v135 V0) (V0 (Proc.devRef .tc main_v112_8)))) (Host.reduceAdd (res_main_while0b_v189 V0) (constant S_ .f32 0x00000000#32) reducesTo_S32x4x128x128_S32x4x128_d3 h_S_))) (Host.exp (Host.negf (res_main_while0b_v181 V0)))))) : (Proc.devRef .tc main_while0b_v206 : DevRef τ sig).ty.Contents (Elt F)) = Cert.MlstmRefIdeal.Step.b107 j s := by
  unfold Cert.MlstmRefIdeal.Step.b107
  rw [← al_95 h, ← al_106 h]
  try rfl
set_option maxRecDepth 8192 in
theorem al_108 (h : Holds V0 s j) : (broadcastInDim S1x32x4x128x128 ![1, 2, 3, 4] bcast_S32x4x128x128_S1x32x4x128x128_1_2_3_4 (Host.divf (addf (mulf (broadcastInDim S32x4x128x128 ![0, 1, 2, 3] bcast_S32x4x128x1_S32x4x128x128_0_1_2_3 (broadcastInDim S32x4x128x1 ![0, 1, 2] bcast_S32x4x128_S32x4x128x1_0_1_2 (res_main_while0b_v183 V0))) (Host.dotGeneral dot_S32x4x128x128_S32x4x128x128_S32x4x128x128_3_2_2_3_01_01 none (res_main_while0b_v135 V0) (V0 (Proc.devRef .tc main_v112_7)))) (Host.dotGeneral dot_S32x4x128x128_S32x4x128x128_S32x4x128x128_3_2_2_3_01_01 none (res_main_while0b_v189 V0) (res_main_while0b_v132 V0))) (broadcastInDim S32x4x128x128 ![0, 1, 2, 3] bcast_S32x4x128x1_S32x4x128x128_0_1_2_3 (broadcastInDim S32x4x128x1 ![0, 1, 2] bcast_S32x4x128_S32x4x128x1_0_1_2 (maximumf (Host.absf (addf (mulf (res_main_while0b_v183 V0) (Host.dotGeneral dot_S32x4x128x128_S32x4x128_S32x4x128_3_2_2_n_01_01 none (res_main_while0b_v135 V0) (V0 (Proc.devRef .tc main_v112_8)))) (Host.reduceAdd (res_main_while0b_v189 V0) (constant S_ .f32 0x00000000#32) reducesTo_S32x4x128x128_S32x4x128_d3 h_S_))) (Host.exp (Host.negf (res_main_while0b_v181 V0))))))) : (Proc.devRef .tc main_while0b_call18_v0 : DevRef τ sig).ty.Contents (Elt F)) = Cert.MlstmRefIdeal.Step.b108 j s := by
  unfold Cert.MlstmRefIdeal.Step.b108
  rw [← al_107 h]
  try rfl
set_option maxRecDepth 8192 in
theorem al_109 (h : Holds V0 s j) : (constantI S_ 32 0#32 : (Proc.devRef .tc main_while0b_call18_c : DevRef τ sig).ty.Contents (Elt F)) = Cert.MlstmRefIdeal.Step.b109 j s := by
  unfold Cert.MlstmRefIdeal.Step.b109
  rfl
set_option maxRecDepth 8192 in
theorem al_110 (h : Holds V0 s j) : (constantI S_ 32 0#32 : (Proc.devRef .tc main_while0b_call18_c_0 : DevRef τ sig).ty.Contents (Elt F)) = Cert.MlstmRefIdeal.Step.b110 j s := by
  unfold Cert.MlstmRefIdeal.Step.b110
  rfl
set_option maxRecDepth 8192 in
theorem al_111 (h : Holds V0 s j) : (constantI S_ 32 0#32 : (Proc.devRef .tc main_while0b_call18_c_1 : DevRef τ sig).ty.Contents (Elt F)) = Cert.MlstmRefIdeal.Step.b111 j s := by
  unfold Cert.MlstmRefIdeal.Step.b111
  rfl
set_option maxRecDepth 8192 in
theorem al_112 (h : Holds V0 s j) : (constantI S_ 32 0#32 : (Proc.devRef .tc main_while0b_call18_c_2 : DevRef τ sig).ty.Contents (Elt F)) = Cert.MlstmRefIdeal.Step.b112 j s := by
  unfold Cert.MlstmRefIdeal.Step.b112
  rfl
set_option maxRecDepth 8192 in
theorem al_113 (h : Holds V0 s j) : (Host.dynamicUpdateSlice (V0 (Proc.devRef .tc main_v112_10)) (broadcastInDim S1x32x4x128x128 ![1, 2, 3, 4] bcast_S32x4x128x128_S1x32x4x128x128_1_2_3_4 (Host.divf (addf (mulf (broadcastInDim S32x4x128x128 ![0, 1, 2, 3] bcast_S32x4x128x1_S32x4x128x128_0_1_2_3 (broadcastInDim S32x4x128x1 ![0, 1, 2] bcast_S32x4x128_S32x4x128x1_0_1_2 (res_main_while0b_v183 V0))) (Host.dotGeneral dot_S32x4x128x128_S32x4x128x128_S32x4x128x128_3_2_2_3_01_01 none (res_main_while0b_v135 V0) (V0 (Proc.devRef .tc main_v112_7)))) (Host.dotGeneral dot_S32x4x128x128_S32x4x128x128_S32x4x128x128_3_2_2_3_01_01 none (res_main_while0b_v189 V0) (res_main_while0b_v132 V0))) (broadcastInDim S32x4x128x128 ![0, 1, 2, 3] bcast_S32x4x128x1_S32x4x128x128_0_1_2_3 (broadcastInDim S32x4x128x1 ![0, 1, 2] bcast_S32x4x128_S32x4x128x1_0_1_2 (maximumf (Host.absf (addf (mulf (res_main_while0b_v183 V0) (Host.dotGeneral dot_S32x4x128x128_S32x4x128_S32x4x128_3_2_2_n_01_01 none (res_main_while0b_v135 V0) (V0 (Proc.devRef .tc main_v112_8)))) (Host.reduceAdd (res_main_while0b_v189 V0) (constant S_ .f32 0x00000000#32) reducesTo_S32x4x128x128_S32x4x128_d3 h_S_))) (Host.exp (Host.negf (res_main_while0b_v181 V0)))))))) (fun k => (((![V0 (Proc.devRef .tc main_v112_6), constantI S_ 32 0#32, constantI S_ 32 0#32, constantI S_ 32 0#32, constantI S_ 32 0#32] : Fin 5 → (⟨S_, .i32⟩ : BufTy).Contents (Elt F))) k (Shape.Idx.first h_S_)).toInt) updateFits_S32x32x4x128x128_S1x32x4x128x128 : (Proc.devRef .tc main_while0b_v207 : DevRef τ sig).ty.Contents (Elt F)) = Cert.MlstmRefIdeal.Step.b113 j s := by
  unfold Cert.MlstmRefIdeal.Step.b113
  rw [← al_108 h, ← al_109 h, ← al_110 h, ← al_111 h, ← al_112 h, h.f_10, h.n_6]
  try rfl

/-! One trip's step of the carried values is `step`, field by field; a counter steps to the next number. -/

theorem step_7 (h : Holds V0 s j) : step_main_v112_7 V0 = (step j s).main_v112_7 := by
  unfold step_main_v112_7 Cert.MlstmRefIdeal.Step.step
  show id (addf (mulf (broadcastInDim S32x4x128x128 ![0, 1, 2, 3] bcast_S32x4x1x1_S32x4x128x128_0_1_2_3 (broadcastInDim S32x4x1x1 ![0, 1] bcast_S32x4_S32x4x1x1_0_1 (res_main_while0b_v150 V0))) (V0 (Proc.devRef .tc main_v112_7))) (Host.dotGeneral dot_S32x4x128x128_S32x4x128x128_S32x4x128x128_2_2_3_3_01_01 none (mulf (broadcastInDim S32x4x128x128 ![0, 1, 2, 3] bcast_S32x4x128x1_S32x4x128x128_0_1_2_3 (broadcastInDim S32x4x128x1 ![0, 1, 2] bcast_S32x4x128_S32x4x128x1_0_1_2 (res_main_while0b_v154 V0))) (res_main_while0b_v131 V0)) (res_main_while0b_v132 V0))) = _
  rw [al_57 h]
  try rfl
theorem step_8 (h : Holds V0 s j) : step_main_v112_8 V0 = (step j s).main_v112_8 := by
  unfold step_main_v112_8 Cert.MlstmRefIdeal.Step.step
  show id (addf (mulf (broadcastInDim S32x4x128 ![0, 1, 2] bcast_S32x4x1_S32x4x128_0_1_2 (broadcastInDim S32x4x1 ![0, 1] bcast_S32x4_S32x4x1_0_1 (res_main_while0b_v150 V0))) (V0 (Proc.devRef .tc main_v112_8))) (Host.dotGeneral dot_S32x4x128_S32x4x128x128_S32x4x128_2_2_n_3_01_01 none (res_main_while0b_v154 V0) (res_main_while0b_v131 V0))) = _
  rw [al_62 h]
  try rfl
theorem step_9 (h : Holds V0 s j) : step_main_v112_9 V0 = (step j s).main_v112_9 := by
  unfold step_main_v112_9 Cert.MlstmRefIdeal.Step.step
  show id (res_main_while0b_v145 V0) = _
  rw [al_40 h]
  try rfl
theorem step_10 (h : Holds V0 s j) : step_main_v112_10 V0 = (step j s).main_v112_10 := by
  unfold step_main_v112_10 Cert.MlstmRefIdeal.Step.step
  show id (Host.dynamicUpdateSlice (V0 (Proc.devRef .tc main_v112_10)) (broadcastInDim S1x32x4x128x128 ![1, 2, 3, 4] bcast_S32x4x128x128_S1x32x4x128x128_1_2_3_4 (Host.divf (addf (mulf (broadcastInDim S32x4x128x128 ![0, 1, 2, 3] bcast_S32x4x128x1_S32x4x128x128_0_1_2_3 (broadcastInDim S32x4x128x1 ![0, 1, 2] bcast_S32x4x128_S32x4x128x1_0_1_2 (res_main_while0b_v183 V0))) (Host.dotGeneral dot_S32x4x128x128_S32x4x128x128_S32x4x128x128_3_2_2_3_01_01 none (res_main_while0b_v135 V0) (V0 (Proc.devRef .tc main_v112_7)))) (Host.dotGeneral dot_S32x4x128x128_S32x4x128x128_S32x4x128x128_3_2_2_3_01_01 none (res_main_while0b_v189 V0) (res_main_while0b_v132 V0))) (broadcastInDim S32x4x128x128 ![0, 1, 2, 3] bcast_S32x4x128x1_S32x4x128x128_0_1_2_3 (broadcastInDim S32x4x128x1 ![0, 1, 2] bcast_S32x4x128_S32x4x128x1_0_1_2 (maximumf (Host.absf (addf (mulf (res_main_while0b_v183 V0) (Host.dotGeneral dot_S32x4x128x128_S32x4x128_S32x4x128_3_2_2_n_01_01 none (res_main_while0b_v135 V0) (V0 (Proc.devRef .tc main_v112_8)))) (Host.reduceAdd (res_main_while0b_v189 V0) (constant S_ .f32 0x00000000#32) reducesTo_S32x4x128x128_S32x4x128_d3 h_S_))) (Host.exp (Host.negf (res_main_while0b_v181 V0)))))))) (fun k => (((![V0 (Proc.devRef .tc main_v112_6), constantI S_ 32 0#32, constantI S_ 32 0#32, constantI S_ 32 0#32, constantI S_ 32 0#32] : Fin 5 → (⟨S_, .i32⟩ : BufTy).Contents (Elt F))) k (Shape.Idx.first h_S_)).toInt) updateFits_S32x32x4x128x128_S1x32x4x128x128) = _
  exact al_113 h
theorem step_6 (h : Holds V0 s j) : step_main_v112_6 V0 = constantI S_ 32 (BitVec.ofNat 32 (j + 1)) := by
  unfold step_main_v112_6
  rw [h.n_6]
  funext i
  show BitVec.ofNat 32 j + 1#32 = BitVec.ofNat 32 (j + 1)
  simp only [BitVec.ofNat_add]

set_option maxRecDepth 8192 in
theorem out_main_v130_holds (h : Holds V0 s j) {x_main_arg0 : (⟨S16x4096x2560, .bf16⟩ : BufTy).Contents (Elt F)} (h_main_arg0 : V0 (Proc.devRef .tc main_arg0) = x_main_arg0) : out_main_v130 V0 = Cert.MlstmRefIdeal.Step.R_main_v130 s x_main_arg0 := by
  unfold out_main_v130 Cert.MlstmRefIdeal.Step.R_main_v130
  rw [h.f_10, h_main_arg0]
  try rfl

/-- One trip keeps the valuation holding: `step` of the state, the same set-up values, the next number. -/
theorem holds_step (h : Holds V0 s j) : Holds (STEP V0) (step j s) (j + 1) where
  f_7 := (STEP_main_v112_7 V0).trans (step_7 h)
  f_8 := (STEP_main_v112_8 V0).trans (step_8 h)
  f_9 := (STEP_main_v112_9 V0).trans (step_9 h)
  f_10 := (STEP_main_v112_10 V0).trans (step_10 h)
  n_6 := (STEP_main_v112_6 V0).trans (step_6 h)
  k_5 := (STEP_main_v112_5 V0).trans h.k_5
  f_0 := (STEP_main_v112_0 V0).trans h.f_0
  f_1 := (STEP_main_v112_1 V0).trans h.f_1
  f_2 := (STEP_main_v112_2 V0).trans h.f_2
  f_3 := (STEP_main_v112_3 V0).trans h.f_3
  f_4 := (STEP_main_v112_4 V0).trans h.f_4

/-- Two stacks of sixteen samples, one above the other. -/
def two4 {α : Type} (a b : S16x4x4096x128.Idx → α) : S32x4x4096x128.Idx → α :=
  concatenate S32x4x4096x128 0 [⟨S16x4x4096x128, a⟩, ⟨S16x4x4096x128, b⟩] concatenates_S16x4x4096x128_S16x4x4096x128_S32x4x4096x128_d0

theorem two4_eq {α : Type} (a b : S16x4x4096x128.Idx → α) :
    concatenate S32x4x4096x128 0 [⟨S16x4x4096x128, a⟩, ⟨S16x4x4096x128, b⟩] concatenates_S16x4x4096x128_S16x4x4096x128_S32x4x4096x128_d0 = two4 a b := rfl

def two3 {α : Type} (a b : S16x4x4096.Idx → α) : S32x4x4096.Idx → α :=
  concatenate S32x4x4096 0 [⟨S16x4x4096, a⟩, ⟨S16x4x4096, b⟩] concatenates_S16x4x4096_S16x4x4096_S32x4x4096_d0

theorem two3_eq {α : Type} (a b : S16x4x4096.Idx → α) :
    concatenate S32x4x4096 0 [⟨S16x4x4096, a⟩, ⟨S16x4x4096, b⟩] concatenates_S16x4x4096_S16x4x4096_S32x4x4096_d0 = two3 a b := rfl

/-- The stream's columns and the gates' side by side. -/
def side {α : Type} (a : S16x4096x1024.Idx → α) (b : S16x4096x16.Idx → α) : S16x4096x1040.Idx → α :=
  concatenate S16x4096x1040 2 [⟨S16x4096x1024, a⟩, ⟨S16x4096x16, b⟩] concatenates_S16x4096x1024_S16x4096x16_S16x4096x1040_d2

theorem side_eq {α : Type} (a : S16x4096x1024.Idx → α) (b : S16x4096x16.Idx → α) :
    concatenate S16x4096x1040 2 [⟨S16x4096x1024, a⟩, ⟨S16x4096x16, b⟩] concatenates_S16x4096x1024_S16x4096x16_S16x4096x1040_d2 = side a b := rfl

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

variable (m : (ℓ : Loc nD τ sig) → Buf (Elt F) ℓ) (c : Dev nD)

set_option maxRecDepth 65536 in
set_option maxHeartbeats 1000000 in
theorem entry_f_7 : entryContents preI m c (Proc.devRef .tc main_v112_7) = (initState m c).main_v112_7 := by
  simp only [entryContents, afterL_cons, afterL_nil]; after_reads_simp
  rfl

set_option maxRecDepth 65536 in
set_option maxHeartbeats 1000000 in
theorem entry_f_8 : entryContents preI m c (Proc.devRef .tc main_v112_8) = (initState m c).main_v112_8 := by
  simp only [entryContents, afterL_cons, afterL_nil]; after_reads_simp
  rfl

set_option maxRecDepth 65536 in
set_option maxHeartbeats 1000000 in
theorem entry_f_9 : entryContents preI m c (Proc.devRef .tc main_v112_9) = (initState m c).main_v112_9 := by
  simp only [entryContents, afterL_cons, afterL_nil]; after_reads_simp
  rfl

set_option maxRecDepth 65536 in
set_option maxHeartbeats 1000000 in
theorem entry_f_10 : entryContents preI m c (Proc.devRef .tc main_v112_10) = (initState m c).main_v112_10 := by
  simp only [entryContents, afterL_cons, afterL_nil]; after_reads_simp
  rfl

set_option maxRecDepth 65536 in
set_option maxHeartbeats 1000000 in
theorem entry_f_0 : entryContents preI m c (Proc.devRef .tc main_v112_0) = (initState m c).main_v112_0 := by
  simp only [entryContents, afterL_cons, afterL_nil]; after_reads_simp
  simp only [two4_eq, two3_eq, side_eq]
  after_reads_simp
  try simp only [two4_eq, two3_eq, side_eq]
  try after_reads_simp
  unfold initState init
  dsimp only
  simp only [Cert.MlstmRefIdeal.Step.A_main_v102, Cert.MlstmRefIdeal.Step.A_main_v101, Cert.MlstmRefIdeal.Step.A_main_v81, Cert.MlstmRefIdeal.Step.A_main_v34, Cert.MlstmRefIdeal.Step.A_main_v32, Cert.MlstmRefIdeal.Step.A_main_v31, Cert.MlstmRefIdeal.Step.A_main_v30, Cert.MlstmRefIdeal.Step.A_main_v29, Cert.MlstmRefIdeal.Step.A_main_v22, Cert.MlstmRefIdeal.Step.A_main_v15, Cert.MlstmRefIdeal.Step.K_main_v14, Cert.MlstmRefIdeal.Step.K_main_cst, Cert.MlstmRefIdeal.Step.A_main_v13, Cert.MlstmRefIdeal.Step.A_main_v8, Cert.MlstmRefIdeal.Step.A_main_v7, Cert.MlstmRefIdeal.Step.A_main_v5, Cert.MlstmRefIdeal.Step.A_main_v3, Cert.MlstmRefIdeal.Step.A_main_v1, Cert.MlstmRefIdeal.Step.A_main_v0, Cert.MlstmRefIdeal.Step.A_main_v2, Cert.MlstmRefIdeal.Step.K_main_call0_v0, Cert.MlstmRefIdeal.Step.K_main_c, Cert.MlstmRefIdeal.Step.A_main_v12, Cert.MlstmRefIdeal.Step.A_main_v11, Cert.MlstmRefIdeal.Step.A_main_v10, Cert.MlstmRefIdeal.Step.A_main_v9, Cert.MlstmRefIdeal.Step.A_main_v6, Cert.MlstmRefIdeal.Step.A_main_v21, Cert.MlstmRefIdeal.Step.A_main_v16, Cert.MlstmRefIdeal.Step.A_main_v20, Cert.MlstmRefIdeal.Step.A_main_v19, Cert.MlstmRefIdeal.Step.A_main_v18, Cert.MlstmRefIdeal.Step.A_main_v17, Cert.MlstmRefIdeal.Step.A_main_v28, Cert.MlstmRefIdeal.Step.A_main_v23, Cert.MlstmRefIdeal.Step.A_main_v27, Cert.MlstmRefIdeal.Step.A_main_v26, Cert.MlstmRefIdeal.Step.A_main_v25, Cert.MlstmRefIdeal.Step.A_main_v24, Cert.MlstmRefIdeal.Step.A_main_call1_v5, Cert.MlstmRefIdeal.Step.K_main_call1_v4, Cert.MlstmRefIdeal.Step.K_main_call1_cst_0, Cert.MlstmRefIdeal.Step.A_main_call1_v3, Cert.MlstmRefIdeal.Step.K_main_call1_v2, Cert.MlstmRefIdeal.Step.K_main_call1_cst, Cert.MlstmRefIdeal.Step.A_main_call1_v1, Cert.MlstmRefIdeal.Step.A_main_call1_v0, Cert.MlstmRefIdeal.Step.K_main_v33, Cert.MlstmRefIdeal.Step.K_main_cst_0, Cert.MlstmRefIdeal.Step.A_main_v80, two4_eq, two3_eq, side_eq]
  rfl

set_option maxRecDepth 65536 in
set_option maxHeartbeats 1000000 in
theorem entry_f_1 : entryContents preI m c (Proc.devRef .tc main_v112_1) = (initState m c).main_v112_1 := by
  simp only [entryContents, afterL_cons, afterL_nil]; after_reads_simp
  simp only [two4_eq, two3_eq, side_eq]
  after_reads_simp
  try simp only [two4_eq, two3_eq, side_eq]
  try after_reads_simp
  unfold initState init
  dsimp only
  simp only [Cert.MlstmRefIdeal.Step.A_main_v104, Cert.MlstmRefIdeal.Step.A_main_v103, Cert.MlstmRefIdeal.Step.A_main_v83, Cert.MlstmRefIdeal.Step.A_main_v37, Cert.MlstmRefIdeal.Step.A_main_v36, Cert.MlstmRefIdeal.Step.A_main_v35, Cert.MlstmRefIdeal.Step.A_main_v3, Cert.MlstmRefIdeal.Step.A_main_v1, Cert.MlstmRefIdeal.Step.A_main_v0, Cert.MlstmRefIdeal.Step.A_main_v2, Cert.MlstmRefIdeal.Step.A_main_v82, two4_eq, two3_eq, side_eq]
  have h0 : launchContents m c (Proc.devRef .tc main_arg0) = m ((c.tc : Thread nD τ).loc main_arg0) := rfl
  have h1 : launchContents m c (Proc.devRef .tc main_arg1) = m ((c.tc : Thread nD τ).loc main_arg1) := rfl
  rw [h0, h1]
  generalize side _ _ = X
  refine congrArg (fun z => transpose S32x32x4x128x128 [2, 0, 1, 3, 4] (shapeCast S32x4x32x128x128 z shapeCasts_S32x4x4096x128_S32x4x32x128x128) transposes_S32x4x32x128x128_S32x32x4x128x128_2_0_1_3_4) (congrArg (two4 _) ?_)
  refine Eq.trans (cast_eq _ _) ?_
  refine congrArg (Host.reverse [2]) ?_
  exact cast_eq _ _

set_option maxRecDepth 65536 in
set_option maxHeartbeats 1000000 in
theorem entry_f_2 : entryContents preI m c (Proc.devRef .tc main_v112_2) = (initState m c).main_v112_2 := by
  simp only [entryContents, afterL_cons, afterL_nil]; after_reads_simp
  simp only [two4_eq, two3_eq, side_eq]
  after_reads_simp
  try simp only [two4_eq, two3_eq, side_eq]
  try after_reads_simp
  unfold initState init
  dsimp only
  simp only [Cert.MlstmRefIdeal.Step.A_main_v106, Cert.MlstmRefIdeal.Step.A_main_v105, Cert.MlstmRefIdeal.Step.A_main_v89, Cert.MlstmRefIdeal.Step.A_main_v85, Cert.MlstmRefIdeal.Step.A_main_v84, Cert.MlstmRefIdeal.Step.A_main_v72, Cert.MlstmRefIdeal.Step.A_main_v71, Cert.MlstmRefIdeal.Step.A_main_v70, Cert.MlstmRefIdeal.Step.A_main_v69, Cert.MlstmRefIdeal.Step.A_main_v68, Cert.MlstmRefIdeal.Step.A_main_v65, Cert.MlstmRefIdeal.Step.A_main_v3, Cert.MlstmRefIdeal.Step.A_main_v1, Cert.MlstmRefIdeal.Step.A_main_v0, Cert.MlstmRefIdeal.Step.A_main_v2, Cert.MlstmRefIdeal.Step.A_main_v67, Cert.MlstmRefIdeal.Step.A_main_v66, Cert.MlstmRefIdeal.Step.A_main_v88, Cert.MlstmRefIdeal.Step.A_main_v87, Cert.MlstmRefIdeal.Step.A_main_v86, two4_eq, two3_eq, side_eq]
  rfl

set_option maxRecDepth 65536 in
set_option maxHeartbeats 1000000 in
theorem entry_f_3 : entryContents preI m c (Proc.devRef .tc main_v112_3) = (initState m c).main_v112_3 := by
  simp only [entryContents, afterL_cons, afterL_nil]; after_reads_simp
  simp only [two4_eq, two3_eq, side_eq]
  after_reads_simp
  try simp only [two4_eq, two3_eq, side_eq]
  try after_reads_simp
  unfold initState init
  dsimp only
  simp only [Cert.MlstmRefIdeal.Step.A_main_v108, Cert.MlstmRefIdeal.Step.A_main_v107, Cert.MlstmRefIdeal.Step.A_main_v95, Cert.MlstmRefIdeal.Step.A_main_v91, Cert.MlstmRefIdeal.Step.A_main_v90, Cert.MlstmRefIdeal.Step.A_main_v77, Cert.MlstmRefIdeal.Step.A_main_v76, Cert.MlstmRefIdeal.Step.A_main_call4_v4, Cert.MlstmRefIdeal.Step.A_main_call4_v3, Cert.MlstmRefIdeal.Step.A_main_v75, Cert.MlstmRefIdeal.Step.A_main_v74, Cert.MlstmRefIdeal.Step.A_main_v73, Cert.MlstmRefIdeal.Step.A_main_v70, Cert.MlstmRefIdeal.Step.A_main_v69, Cert.MlstmRefIdeal.Step.A_main_v68, Cert.MlstmRefIdeal.Step.A_main_v65, Cert.MlstmRefIdeal.Step.A_main_v3, Cert.MlstmRefIdeal.Step.A_main_v1, Cert.MlstmRefIdeal.Step.A_main_v0, Cert.MlstmRefIdeal.Step.A_main_v2, Cert.MlstmRefIdeal.Step.A_main_v67, Cert.MlstmRefIdeal.Step.A_main_v66, Cert.MlstmRefIdeal.Step.K_main_call4_v2, Cert.MlstmRefIdeal.Step.K_main_call4_cst, Cert.MlstmRefIdeal.Step.A_main_call4_v6, Cert.MlstmRefIdeal.Step.K_main_call4_v5, Cert.MlstmRefIdeal.Step.A_main_call4_v11, Cert.MlstmRefIdeal.Step.A_main_call4_v1, Cert.MlstmRefIdeal.Step.K_main_call4_v0, Cert.MlstmRefIdeal.Step.A_main_call4_v10, Cert.MlstmRefIdeal.Step.A_main_call4_v9, Cert.MlstmRefIdeal.Step.A_main_call4_v8, Cert.MlstmRefIdeal.Step.A_main_call4_v7, Cert.MlstmRefIdeal.Step.A_main_v94, Cert.MlstmRefIdeal.Step.A_main_v93, Cert.MlstmRefIdeal.Step.A_main_v92, two4_eq, two3_eq, side_eq]
  rfl

set_option maxRecDepth 65536 in
set_option maxHeartbeats 1000000 in
theorem entry_f_4 : entryContents preI m c (Proc.devRef .tc main_v112_4) = (initState m c).main_v112_4 := by
  simp only [entryContents, afterL_cons, afterL_nil]; after_reads_simp
  simp only [two4_eq, two3_eq, side_eq]
  after_reads_simp
  try simp only [two4_eq, two3_eq, side_eq]
  try after_reads_simp
  unfold initState init
  dsimp only
  simp only [Cert.MlstmRefIdeal.Step.A_main_v110, Cert.MlstmRefIdeal.Step.A_main_v109, Cert.MlstmRefIdeal.Step.A_main_v79, Cert.MlstmRefIdeal.Step.A_main_v64, Cert.MlstmRefIdeal.Step.A_main_v63, Cert.MlstmRefIdeal.Step.A_main_v62, Cert.MlstmRefIdeal.Step.A_main_v61, Cert.MlstmRefIdeal.Step.A_main_v54, Cert.MlstmRefIdeal.Step.A_main_v47, Cert.MlstmRefIdeal.Step.K_main_v46, Cert.MlstmRefIdeal.Step.K_main_cst_2, Cert.MlstmRefIdeal.Step.A_main_v45, Cert.MlstmRefIdeal.Step.A_main_v40, Cert.MlstmRefIdeal.Step.A_main_v39, Cert.MlstmRefIdeal.Step.A_main_v4, Cert.MlstmRefIdeal.Step.A_main_v0, Cert.MlstmRefIdeal.Step.K_main_call2_v0, Cert.MlstmRefIdeal.Step.K_main_c_1, Cert.MlstmRefIdeal.Step.A_main_v44, Cert.MlstmRefIdeal.Step.A_main_v43, Cert.MlstmRefIdeal.Step.A_main_v42, Cert.MlstmRefIdeal.Step.A_main_v41, Cert.MlstmRefIdeal.Step.A_main_v38, Cert.MlstmRefIdeal.Step.A_main_v53, Cert.MlstmRefIdeal.Step.A_main_v48, Cert.MlstmRefIdeal.Step.A_main_v52, Cert.MlstmRefIdeal.Step.A_main_v51, Cert.MlstmRefIdeal.Step.A_main_v50, Cert.MlstmRefIdeal.Step.A_main_v49, Cert.MlstmRefIdeal.Step.A_main_v60, Cert.MlstmRefIdeal.Step.A_main_v55, Cert.MlstmRefIdeal.Step.A_main_v59, Cert.MlstmRefIdeal.Step.A_main_v58, Cert.MlstmRefIdeal.Step.A_main_v57, Cert.MlstmRefIdeal.Step.A_main_v56, Cert.MlstmRefIdeal.Step.A_main_call3_v5, Cert.MlstmRefIdeal.Step.K_main_call3_v4, Cert.MlstmRefIdeal.Step.K_main_call3_cst_0, Cert.MlstmRefIdeal.Step.A_main_call3_v3, Cert.MlstmRefIdeal.Step.K_main_call3_v2, Cert.MlstmRefIdeal.Step.K_main_call3_cst, Cert.MlstmRefIdeal.Step.A_main_call3_v1, Cert.MlstmRefIdeal.Step.A_main_call3_v0, Cert.MlstmRefIdeal.Step.A_main_v78, two4_eq, two3_eq, side_eq]
  rfl

set_option maxRecDepth 65536 in
set_option maxHeartbeats 1000000 in
theorem entry_n_6 : entryContents preI m c (Proc.devRef .tc main_v112_6) = constantI S_ 32 (BitVec.ofNat 32 0) := by
  simp only [entryContents, afterL_cons, afterL_nil]; after_reads_simp
  rfl

set_option maxRecDepth 65536 in
set_option maxHeartbeats 1000000 in
theorem entry_k_5 : entryContents preI m c (Proc.devRef .tc main_v112_5) = Cert.MlstmRefIdeal.Step.K_main_v100 (F := F) := by
  simp only [entryContents, afterL_cons, afterL_nil]; after_reads_simp
  rfl

/-- What the operations before the loop leave: the first state, the trip's number 0 and the table of zeros. -/
theorem entry_holds : Holds (entryContents preI m c) (initState m c) 0 :=
  ⟨entry_f_7 m c, entry_f_8 m c, entry_f_9 m c, entry_f_10 m c, entry_f_0 m c, entry_f_1 m c, entry_f_2 m c, entry_f_3 m c, entry_f_4 m c, entry_n_6 m c, entry_k_5 m c⟩

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `MlstmRefIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v130) = Cert.MlstmRefIdeal.Step.R_main_v130 (it c 32) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have hk := holds_iter m c (it c) (h0 c) (hs c) 32
    ⟨(h c).1.trans (out_main_v130_holds hk (iter_main_arg0 m c 32)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩) (Value.run m ρ)

end Cert.MlstmRefIdeal.Trips

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.ProjIn.Frame
public import proofs.«01_k».proof.Proof.Gen.ProjInIdeal.Frame
public import proofs.«01_k».proof.Proof.Gen.ProjInIdeal.Value
public import proofs.«01_k».proof.Proof.Gen.ProjInRefIdeal.Run
public import proofs.«01_k».proof.Proof.Gen.ProjInRefIdeal.Read
public import proofs.«01_k».proof.Proof.Gen.ProjOut.Frame
public import proofs.«01_k».proof.Proof.Gen.ProjOutIdeal.Frame
public import proofs.«01_k».proof.Proof.Gen.ProjOutIdeal.Value
public import proofs.«01_k».proof.Proof.Gen.ProjOutRefIdeal.Run
public import proofs.«01_k».proof.Proof.Gen.ProjOutRefIdeal.Read
public import proofs.«01_k».proof.Proof.Gen.Mlstm
public import proofs.«01_k».proof.Proof.Gen.Mlstm.Skeleton
public import proofs.«01_k».proof.Proof.Gen.Mlstm.Loops
public import proofs.«01_k».proof.Proof.Gen.Mlstm.Frame
public import proofs.«01_k».proof.Proof.Gen.MlstmIdeal
public import proofs.«01_k».proof.Proof.Gen.MlstmIdeal.Skeleton
public import proofs.«01_k».proof.Proof.Gen.MlstmIdeal.Loops
public import proofs.«01_k».proof.Proof.Gen.MlstmIdeal.Frame
public import proofs.«01_k».proof.Proof.Gen.MlstmRefIdeal.Run
public import proofs.«01_k».proof.Proof.Gen.MlstmRefIdeal.Step
public import proofs.«01_k».proof.Proof.FfnValue
public import proofs.«01_k».proof.Proof.FfnRef
public import proofs.«01_k».proof.Proof.ProjInValue
public import proofs.«01_k».proof.Proof.ProjOutValue
public import proofs.«01_k».proof.Proof.ProjRef
public import proofs.«01_k».proof.Proof.MlstmFrame
public import proofs.«01_k».proof.Proof.MlstmValue
public import proofs.«01_k».proof.Proof.MlstmRefIter
public import proofs.«01_k».proof.Proof.MlstmRefRun
public import Idealize.ShloMosaic.Lib.Claim
public import Idealize.ShloMosaic.Adequacy
public import Idealize.ShloMosaic.Init

@[expose] public section

noncomputable section

namespace Cert.Proof

open Idealize.ShloMosaic Idealize.SL.Sem Cert.Ffn

/-- The ConvFFN's kernel and its plain form leave the same array. -/
theorem algebraic_ffn : Cert.algebraic_FfnIdeal_FfnRefIdeal (hFfnIdeal := Cert.FfnIdeal.Gen.facts) (hFfnRefIdeal := Cert.FfnRefIdeal.Gen.facts) := by
  intro m g m' g' _ hagree
  refine ⟨fun c => fun i : Cert.FfnIdeal.S16x4096x1024.Idx =>
    Cert.Layer.ffn (Cert.FfnIdeal.Value.xs m c) (Cert.FfnIdeal.Value.shifts m c) (Cert.FfnIdeal.Value.scales m c) (Cert.FfnIdeal.Value.gates m c)
      (Cert.FfnIdeal.Value.wUps m c) (Cert.FfnIdeal.Value.wConvs m c) (Cert.FfnIdeal.Value.bConvs m c) (Cert.FfnIdeal.Value.wDowns m c)
      (Cert.FfnIdeal.Value.lnGs m c) (Cert.FfnIdeal.Value.lnBs m c) (i 0) (i 1) (i 2), ?_, ?_⟩
  · exact (θ_run Cert.FfnIdeal.defs _ _).mono (fun r h c => ⟨(h c).1.trans (Cert.FfnIdeal.Value.final_eq m c), (h c).2⟩)
      (Cert.FfnIdeal.Value.run_blocks m g)
  · refine (θ_run Cert.FfnRefIdeal.defs _ _).mono (fun r h c => ⟨(h c).1.trans ?_, (h c).2⟩) (Cert.FfnRefIdeal.Value.run m' g')
    obtain ⟨e0, e1, e2, e3, e4, e5, e6, e7, e8, e9⟩ := hagree c
    exact (Cert.FfnRefIdeal.Read.val_main_v98_eq _).trans
      (Cert.FfnRefIdeal.Spec.ffn_all _ _ _ _ _ _ _ _ _ _ _ _ _ _ _ _ _ _ _ _ e0 e1 e2 e3 e4 e5 e6 e7 e8 e9)

/-- The plain ConvFFN runs and keeps its arguments; it declares no semaphore. -/
theorem frame_ref_ffn : Cert.quiescent_FfnRefIdeal (hFfnRefIdeal := Cert.FfnRefIdeal.Gen.facts) := fun m g _ =>
  (θ_run Cert.FfnRefIdeal.defs _ _).mono (fun r h => ⟨fun c => (h c).2, Idealize.ShloMosaic.sem_eq_zero_of_no_sems (by decide) r.2⟩)
    (Cert.FfnRefIdeal.Value.run m g)

/-- The input projection's kernel and its plain form leave the same two arrays. -/
theorem algebraic_projIn :
    Cert.algebraic_ProjInIdeal_ProjInRefIdeal (hProjInIdeal := Cert.ProjInIdeal.Gen.facts) (hProjInRefIdeal := Cert.ProjInRefIdeal.Gen.facts) := by
  intro m g m' g' _ hagree
  refine ⟨fun c => fun i : Cert.ProjInIdeal.S16x4096x2560.Idx =>
    Cert.Layer.projIn (Cert.ProjInIdeal.Value.xs m c) (Cert.ProjInIdeal.Value.shifts m c) (Cert.ProjInIdeal.Value.scales m c)
      (Cert.ProjInIdeal.Value.wMains m c) (i 0) (i 1) (i 2), fun c => fun i : Cert.ProjInIdeal.S16x4096x128.Idx =>
    Cert.Layer.projIn (Cert.ProjInIdeal.Value.xs m c) (Cert.ProjInIdeal.Value.shifts m c) (Cert.ProjInIdeal.Value.scales m c)
      (Cert.ProjInIdeal.Value.wGates m c) (i 0) (i 1) (i 2), ?_, ?_⟩
  · exact (θ_run Cert.ProjInIdeal.defs _ _).mono
      (fun r h c => ⟨(h c).1.trans (Cert.ProjInIdeal.Value.final5_eq m c), (h c).2.1.trans (Cert.ProjInIdeal.Value.final6_eq m c), (h c).2.2⟩)
      (Cert.ProjInIdeal.Value.run_blocks m g)
  · refine (θ_run Cert.ProjInRefIdeal.defs _ _).mono (fun r h c => ⟨(h c).1.trans ?_, (h c).2.1.trans ?_, (h c).2.2⟩) (Cert.ProjInRefIdeal.Value.run m' g')
    · obtain ⟨e0, e1, e2, e3, e4⟩ := hagree c
      exact (Cert.ProjInRefIdeal.Read.val_main_v26_eq _ _ _ _).trans (Cert.ProjInRefIdeal.Spec.main_all _ _ _ _ _ _ _ _ e0 e1 e2 e3)
    · obtain ⟨e0, e1, e2, e3, e4⟩ := hagree c
      exact (Cert.ProjInRefIdeal.Read.val_main_v28_eq _ _ _ _).trans (Cert.ProjInRefIdeal.Spec.gate_all _ _ _ _ _ _ _ _ e0 e1 e2 e4)

/-- The plain input projection runs and keeps its arguments; it declares no semaphore. -/
theorem frame_ref_projIn : Cert.quiescent_ProjInRefIdeal (hProjInRefIdeal := Cert.ProjInRefIdeal.Gen.facts) := fun m g _ =>
  (θ_run Cert.ProjInRefIdeal.defs _ _).mono (fun r h => ⟨fun c => (h c).2.2, Idealize.ShloMosaic.sem_eq_zero_of_no_sems (by decide) r.2⟩)
    (Cert.ProjInRefIdeal.Value.run m g)

/-- The output projection's kernel and its plain form leave the same array. -/
theorem algebraic_projOut :
    Cert.algebraic_ProjOutIdeal_ProjOutRefIdeal (hProjOutIdeal := Cert.ProjOutIdeal.Gen.facts) (hProjOutRefIdeal := Cert.ProjOutRefIdeal.Gen.facts) := by
  intro m g m' g' _ hagree
  refine ⟨fun c => fun i : Cert.ProjOutIdeal.S16x4096x1024.Idx =>
    Cert.Layer.projOut (Cert.ProjOutIdeal.Value.yps m c) (Cert.ProjOutIdeal.Value.yfs m c) (Cert.ProjOutIdeal.Value.yms m c)
      (Cert.ProjOutIdeal.Value.xs m c) (Cert.ProjOutIdeal.Value.gates m c) (Cert.ProjOutIdeal.Value.ws m c) (Cert.ProjOutIdeal.Value.lnGs m c)
      (Cert.ProjOutIdeal.Value.lnBs m c) (i 0) (i 1) (i 2), ?_, ?_⟩
  · exact (θ_run Cert.ProjOutIdeal.defs _ _).mono (fun r h c => ⟨(h c).1.trans (Cert.ProjOutIdeal.Value.final_eq m c), (h c).2⟩)
      (Cert.ProjOutIdeal.Value.run_blocks m g)
  · refine (θ_run Cert.ProjOutRefIdeal.defs _ _).mono (fun r h c => ⟨(h c).1.trans ?_, (h c).2⟩) (Cert.ProjOutRefIdeal.Value.run m' g')
    obtain ⟨e0, e1, e2, e3, e4, e5, e6, e7⟩ := hagree c
    exact (Cert.ProjOutRefIdeal.Read.val_main_v32_eq m' c).trans
      (Cert.ProjOutRefIdeal.Spec.out_all _ _ _ _ _ _ _ _ _ _ _ _ _ _ _ _ e0 e1 e2 e3 e4 e5 e6 e7)

/-- The plain output projection runs and keeps its arguments; it declares no semaphore. -/
theorem frame_ref_projOut : Cert.quiescent_ProjOutRefIdeal (hProjOutRefIdeal := Cert.ProjOutRefIdeal.Gen.facts) := fun m g _ =>
  (θ_run Cert.ProjOutRefIdeal.defs _ _).mono (fun r h => ⟨fun c => (h c).2, Idealize.ShloMosaic.sem_eq_zero_of_no_sems (by decide) r.2⟩)
    (Cert.ProjOutRefIdeal.Value.run m g)

/-- The mask's constant is named: its value is −∞. -/
theorem preserves_mlstm : Cert.preserves_Mlstm_MlstmIdeal := IdealRules.named_const.statement _ _ _ _ _ rfl

/-- The states of the plain recurrence's loop, of the memory it runs from. -/
def states (m : (ℓ : Loc Cert.MlstmRefIdeal.nD Cert.MlstmRefIdeal.τ Cert.MlstmRefIdeal.sig) → Buf (Elt Ideal) ℓ) (c : Dev Cert.MlstmRefIdeal.nD) :
    ℕ → Cert.MlstmRefIdeal.Step.State Ideal :=
  Cert.MlstmRefIdeal.Inputs.it (m ((c.tc : Thread Cert.MlstmRefIdeal.nD Cert.MlstmRefIdeal.τ).loc Cert.MlstmRefIdeal.main_arg0))
    (m ((c.tc : Thread Cert.MlstmRefIdeal.nD Cert.MlstmRefIdeal.τ).loc Cert.MlstmRefIdeal.main_arg1))
    (m ((c.tc : Thread Cert.MlstmRefIdeal.nD Cert.MlstmRefIdeal.τ).loc Cert.MlstmRefIdeal.main_arg2))
    (m ((c.tc : Thread Cert.MlstmRefIdeal.nD Cert.MlstmRefIdeal.τ).loc Cert.MlstmRefIdeal.main_arg3))
    (m ((c.tc : Thread Cert.MlstmRefIdeal.nD Cert.MlstmRefIdeal.τ).loc Cert.MlstmRefIdeal.main_arg4))
    (m ((c.tc : Thread Cert.MlstmRefIdeal.nD Cert.MlstmRefIdeal.τ).loc Cert.MlstmRefIdeal.main_arg5))
    (m ((c.tc : Thread Cert.MlstmRefIdeal.nD Cert.MlstmRefIdeal.τ).loc Cert.MlstmRefIdeal.main_arg6))
    (m ((c.tc : Thread Cert.MlstmRefIdeal.nD Cert.MlstmRefIdeal.τ).loc Cert.MlstmRefIdeal.main_arg7))
    (m ((c.tc : Thread Cert.MlstmRefIdeal.nD Cert.MlstmRefIdeal.τ).loc Cert.MlstmRefIdeal.main_arg8))
    (m ((c.tc : Thread Cert.MlstmRefIdeal.nD Cert.MlstmRefIdeal.τ).loc Cert.MlstmRefIdeal.main_arg9))

/-- The plain recurrence's result, of equal arguments, is what the kernel's asks for. -/
theorem mlstm_all (m : (ℓ : Loc Cert.MlstmIdeal.nD Cert.MlstmIdeal.τ Cert.MlstmIdeal.sig) → Buf (Elt Ideal) ℓ) (c : Dev Cert.MlstmIdeal.nD)
    (a0 : Cert.MlstmRefIdeal.S16x4096x2560.Idx → EReal)
    (a1 : Cert.MlstmRefIdeal.S16x4096x128.Idx → EReal)
    (a2 : Cert.MlstmRefIdeal.S3x1024.Idx → EReal)
    (a3 : Cert.MlstmRefIdeal.S16.Idx → EReal)
    (a4 : Cert.MlstmRefIdeal.S16x4x128x128.Idx → EReal)
    (a5 : Cert.MlstmRefIdeal.S16x4x128.Idx → EReal)
    (a6 : Cert.MlstmRefIdeal.S16x4.Idx → EReal)
    (a7 : Cert.MlstmRefIdeal.S16x4x128x128.Idx → EReal)
    (a8 : Cert.MlstmRefIdeal.S16x4x128.Idx → EReal)
    (a9 : Cert.MlstmRefIdeal.S16x4.Idx → EReal)
    (e0 : a0 = m ((c.tc : Thread Cert.MlstmIdeal.nD Cert.MlstmIdeal.τ).loc Cert.MlstmIdeal.main_arg0))
    (e1 : a1 = m ((c.tc : Thread Cert.MlstmIdeal.nD Cert.MlstmIdeal.τ).loc Cert.MlstmIdeal.main_arg1))
    (e2 : a2 = m ((c.tc : Thread Cert.MlstmIdeal.nD Cert.MlstmIdeal.τ).loc Cert.MlstmIdeal.main_arg2))
    (e3 : a3 = m ((c.tc : Thread Cert.MlstmIdeal.nD Cert.MlstmIdeal.τ).loc Cert.MlstmIdeal.main_arg3))
    (e4 : a4 = m ((c.tc : Thread Cert.MlstmIdeal.nD Cert.MlstmIdeal.τ).loc Cert.MlstmIdeal.main_arg4))
    (e5 : a5 = m ((c.tc : Thread Cert.MlstmIdeal.nD Cert.MlstmIdeal.τ).loc Cert.MlstmIdeal.main_arg5))
    (e6 : a6 = m ((c.tc : Thread Cert.MlstmIdeal.nD Cert.MlstmIdeal.τ).loc Cert.MlstmIdeal.main_arg6))
    (e7 : a7 = m ((c.tc : Thread Cert.MlstmIdeal.nD Cert.MlstmIdeal.τ).loc Cert.MlstmIdeal.main_arg7))
    (e8 : a8 = m ((c.tc : Thread Cert.MlstmIdeal.nD Cert.MlstmIdeal.τ).loc Cert.MlstmIdeal.main_arg8))
    (e9 : a9 = m ((c.tc : Thread Cert.MlstmIdeal.nD Cert.MlstmIdeal.τ).loc Cert.MlstmIdeal.main_arg9)) :
    (Cert.MlstmRefIdeal.Step.R_main_v130 (F := Ideal) (Cert.MlstmRefIdeal.Inputs.it a0 a1 a2 a3 a4 a5 a6 a7 a8 a9 32) a0 : Cert.MlstmIdeal.S16x4096x512.Idx → EReal) =
    fun i : Cert.MlstmIdeal.S16x4096x512.Idx => Cert.MlstmIdeal.Scan.want m c (i 0) (i 1)
      ⟨(i 2).val / 128, by have : (i 2).val < 512 := (i 2).isLt; omega⟩ ⟨(i 2).val % 128, by omega⟩ := by
  subst e0 e1 e2 e3 e4 e5 e6 e7 e8 e9
  exact Cert.MlstmRefIdeal.Inputs.res_eq _ _ _ _ _ _ _ _ _ _

/-- The recurrence's kernel and its plain form leave the same array. -/
theorem algebraic_mlstm :
    Cert.algebraic_MlstmIdeal_MlstmRefIdeal (hMlstmIdeal := Cert.MlstmIdeal.Gen.facts) (hMlstmRefIdeal := Cert.MlstmRefIdeal.Gen.facts) := by
  intro m g m' g' _ hagree
  refine ⟨fun c => fun i : Cert.MlstmIdeal.S16x4096x512.Idx => Cert.MlstmIdeal.Scan.want m c (i 0) (i 1)
    ⟨(i 2).val / 128, by have : (i 2).val < 512 := (i 2).isLt; omega⟩ ⟨(i 2).val % 128, by omega⟩, Cert.MlstmIdeal.Scan.run_value m g, ?_⟩
  refine (θ_run Cert.MlstmRefIdeal.defs _ _).mono (fun r h c => ⟨(h c).1.trans ?_, (h c).2⟩)
    (Cert.MlstmRefIdeal.Trips.run_iter m' g' (states m') (fun c => rfl) (fun c n => rfl))
  obtain ⟨e0, e1, e2, e3, e4, e5, e6, e7, e8, e9⟩ := hagree c
  exact mlstm_all m c _ _ _ _ _ _ _ _ _ _ e0 e1 e2 e3 e4 e5 e6 e7 e8 e9

/-- The plain recurrence runs and keeps its arguments; it declares no semaphore. -/
theorem frame_ref_mlstm : Cert.quiescent_MlstmRefIdeal (hMlstmRefIdeal := Cert.MlstmRefIdeal.Gen.facts) := fun m g _ =>
  (θ_run Cert.MlstmRefIdeal.defs _ _).mono (fun r h => ⟨fun c => (h c).2, Idealize.ShloMosaic.sem_eq_zero_of_no_sems (by decide) r.2⟩)
    (Cert.MlstmRefIdeal.Value.run m g)

theorem claim : Cert.Claim := ⟨Cert.Ffn.Gen.facts, Cert.FfnIdeal.Gen.facts, Cert.FfnRefIdeal.Gen.facts,
  Cert.ProjIn.Gen.facts, Cert.ProjInIdeal.Gen.facts, Cert.ProjInRefIdeal.Gen.facts,
  Cert.ProjOut.Gen.facts, Cert.ProjOutIdeal.Gen.facts, Cert.ProjOutRefIdeal.Gen.facts,
  Cert.Mlstm.Gen.facts, Cert.MlstmIdeal.Gen.facts, Cert.MlstmRefIdeal.Gen.facts,
  fun m g _ => Cert.Ffn.Gen.frame m g, fun m g _ => Cert.FfnIdeal.Gen.frame m g, frame_ref_ffn,
  fun m g _ => Cert.ProjIn.Gen.frame m g, fun m g _ => Cert.ProjInIdeal.Gen.frame m g, frame_ref_projIn,
  fun m g _ => Cert.ProjOut.Gen.frame m g, fun m g _ => Cert.ProjOutIdeal.Gen.frame m g, frame_ref_projOut,
  fun m g _ => Cert.Mlstm.Scan.frame m g, fun m g _ => Cert.MlstmIdeal.Scan.frame m g, frame_ref_mlstm,
  trivial, algebraic_ffn, trivial, algebraic_projIn, trivial, algebraic_projOut, preserves_mlstm, algebraic_mlstm⟩

end Cert.Proof

end
